-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_inputs [hPre_fox_inputs : Cert.Pre_fox_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_fox_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_fox_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_fox_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_fox_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_inputs [hPre_fox_inputs : Cert.Pre_fox_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_fox_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_fox_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_fox_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gla_inputs [hPre_gla_inputs : Cert.Pre_gla_inputs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gla_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gla_inputs [hPre_gla_inputs : Cert.Pre_gla_inputs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gla_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fox_inputs [hKernelIdeal : Cert.KernelIdeal.Facts] [hPre_fox_inputs : Cert.Pre_fox_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fox_inputs [hReferenceIdeal : Cert.ReferenceIdeal.Facts] [hPre_fox_inputs : Cert.Pre_fox_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_gla_inputs [hKernel7Ideal : Cert.Kernel7Ideal.Facts] [hPre_gla_inputs : Cert.Pre_gla_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gla_inputs m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_gla_inputs [hReference7Ideal : Cert.Reference7Ideal.Facts] [hPre_gla_inputs : Cert.Pre_gla_inputs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gla_inputs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_fox_inputs [hKernelIdeal : Cert.KernelIdeal.Facts] [hReferenceIdeal : Cert.ReferenceIdeal.Facts] [hPre_fox_inputs : Cert.Pre_fox_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0_3)) (v1 : (c : Dev Cert.Kernel4Ideal.nD) → Buf (Elt Ideal) ((c.tc : Thread Cert.Kernel4Ideal.nD Cert.Kernel4Ideal.τ).loc Cert.Kernel4Ideal.main_v0_4)) (v2 : (c : Dev Cert.Kernel4Ideal.nD) → Buf (Elt Ideal) ((c.tc : Thread Cert.Kernel4Ideal.nD Cert.Kernel4Ideal.τ).loc Cert.Kernel4Ideal.main_v0_5)) (v3 : (c : Dev Cert.Kernel4Ideal.nD) → Buf (Elt Ideal) ((c.tc : Thread Cert.Kernel4Ideal.nD Cert.Kernel4Ideal.τ).loc Cert.Kernel4Ideal.main_v0_6)) (v4 : (c : Dev Cert.Kernel4Ideal.nD) → Buf (Elt Ideal) ((c.tc : Thread Cert.Kernel4Ideal.nD Cert.Kernel4Ideal.τ).loc Cert.Kernel4Ideal.main_v0_7)) (v5 : (c : Dev Cert.Kernel4Ideal.nD) → Buf (Elt Ideal) ((c.tc : Thread Cert.Kernel4Ideal.nD Cert.Kernel4Ideal.τ).loc Cert.Kernel4Ideal.main_v0_8)) (v6 : (c : Dev Cert.Kernel4Ideal.nD) → Buf (Elt Ideal) ((c.tc : Thread Cert.Kernel4Ideal.nD Cert.Kernel4Ideal.τ).loc Cert.Kernel4Ideal.main_v0_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_3) = v0 c
          ∧ r.2.mem ((c.tc : Thread Cert.Kernel4Ideal.nD Cert.Kernel4Ideal.τ).loc Cert.Kernel4Ideal.main_v0_4) = v1 c
          ∧ r.2.mem ((c.tc : Thread Cert.Kernel4Ideal.nD Cert.Kernel4Ideal.τ).loc Cert.Kernel4Ideal.main_v0_5) = v2 c
          ∧ r.2.mem ((c.tc : Thread Cert.Kernel4Ideal.nD Cert.Kernel4Ideal.τ).loc Cert.Kernel4Ideal.main_v0_6) = v3 c
          ∧ r.2.mem ((c.tc : Thread Cert.Kernel4Ideal.nD Cert.Kernel4Ideal.τ).loc Cert.Kernel4Ideal.main_v0_7) = v4 c
          ∧ r.2.mem ((c.tc : Thread Cert.Kernel4Ideal.nD Cert.Kernel4Ideal.τ).loc Cert.Kernel4Ideal.main_v0_8) = v5 c
          ∧ r.2.mem ((c.tc : Thread Cert.Kernel4Ideal.nD Cert.Kernel4Ideal.τ).loc Cert.Kernel4Ideal.main_v0_9) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_v55) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_gla_inputs [hKernel7Ideal : Cert.Kernel7Ideal.Facts] [hReference7Ideal : Cert.Reference7Ideal.Facts] [hPre_gla_inputs : Cert.Pre_gla_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gla_inputs m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_fox_inputs : Cert.Pre_fox_inputs.Facts) (hPre_gla_inputs : Cert.Pre_gla_inputs.Facts),
    quiescent_Kernel (hKernel := hKernel)
    ∧ quiescent_KernelIdeal (hKernelIdeal := hKernelIdeal)
    ∧ quiescent_KernelIdeal_pre_fox_inputs (hKernelIdeal := hKernelIdeal) (hPre_fox_inputs := hPre_fox_inputs)
    ∧ quiescent_ReferenceIdeal (hReferenceIdeal := hReferenceIdeal)
    ∧ quiescent_ReferenceIdeal_pre_fox_inputs (hReferenceIdeal := hReferenceIdeal) (hPre_fox_inputs := hPre_fox_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gla_inputs (hKernel7Ideal := hKernel7Ideal) (hPre_gla_inputs := hPre_gla_inputs)
    ∧ quiescent_Reference7Ideal (hReference7Ideal := hReference7Ideal)
    ∧ quiescent_Reference7Ideal_pre_gla_inputs (hReference7Ideal := hReference7Ideal) (hPre_gla_inputs := hPre_gla_inputs)
    ∧ preserves_Kernel_KernelIdeal
    ∧ algebraic_KernelIdeal_ReferenceIdeal_pre_fox_inputs (hKernelIdeal := hKernelIdeal) (hReferenceIdeal := hReferenceIdeal) (hPre_fox_inputs := hPre_fox_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gla_inputs (hKernel7Ideal := hKernel7Ideal) (hReference7Ideal := hReference7Ideal) (hPre_gla_inputs := hPre_gla_inputs)
-- ==== Pre_fox_inputs.lean ====
abbrev S2x8x8448x128 : Shape := ⟨4, ![2, 8, 8448, 128]⟩
abbrev S2x8x66x128x128 : Shape := ⟨5, ![2, 8, 66, 128, 128]⟩
abbrev S_ : Shape := ⟨0, ![]⟩
abbrev S2x4x66x1x128 : Shape := ⟨5, ![2, 4, 66, 1, 128]⟩
abbrev S2x4x66x128 : Shape := ⟨4, ![2, 4, 66, 128]⟩

class Facts : Prop where
  bitsLt_bf16_f32 : FTy.bits .bf16 < FTy.bits .f32
  bcast_S_S2x8x8448x128 : S_.BroadcastsInDim S2x8x8448x128 (![] : Fin 0 → Fin S2x8x8448x128.rank)
  slicesBy_S2x8x66x128x128_S2x4x66x1x128_0s1_0s2_0s1_64s1_0s1 : S2x8x66x128x128.SlicesBy (![0, 0, 0, 64, 0] : Fin 5 → Nat) ![1, 2, 1, 1, 1] S2x4x66x1x128
  shapeCasts_S2x4x66x1x128_S2x4x66x128 : S2x4x66x1x128.ShapeCasts S2x4x66x128
  bcast_S_S2x4x66x128 : S_.BroadcastsInDim S2x4x66x128 (![] : Fin 0 → Fin S2x4x66x128.rank)
  slicesBy_S2x8x66x128x128_S2x4x66x1x128_0s1_1s2_0s1_0s1_0s1 : S2x8x66x128x128.SlicesBy (![0, 1, 0, 0, 0] : Fin 5 → Nat) ![1, 2, 1, 1, 1] S2x4x66x1x128

variable [Facts]

def fn {F : FTy → Type} [FloatOps F] (main_arg0 : FVec F S2x8x8448x128 .bf16) (main_arg1 : FVec F S2x8x8448x128 .bf16) (main_arg2 : FVec F S2x8x66x128x128 .bf16) : IVec S2x8x8448x128 1 × IVec S2x8x8448x128 1 × IVec S2x4x66x128 1 × IVec S2x4x66x128 1 :=
  let main_v0 : FVec F S2x8x8448x128 .f32 := (extf .f32 · bitsLt_bf16_f32) main_arg0
  let main_v1 : FVec F S2x8x8448x128 .f32 := Host.absf main_v0
  let main_cst : FVec F S_ .f32 := constant S_ .f32 0x7F800000#32
  let main_v2 : FVec F S2x8x8448x128 .f32 := broadcastInDim S2x8x8448x128 ![] bcast_S_S2x8x8448x128 main_cst
  let main_v3 : IVec S2x8x8448x128 1 := cmpf .olt main_v1 main_v2
  let main_v4 : FVec F S2x8x8448x128 .f32 := (extf .f32 · bitsLt_bf16_f32) main_arg1
  let main_v5 : FVec F S2x8x8448x128 .f32 := Host.absf main_v4
  let main_cst_0 : FVec F S_ .f32 := constant S_ .f32 0x7F800000#32
  let main_v6 : FVec F S2x8x8448x128 .f32 := broadcastInDim S2x8x8448x128 ![] bcast_S_S2x8x8448x128 main_cst_0
  let main_v7 : IVec S2x8x8448x128 1 := cmpf .olt main_v5 main_v6
  let main_v8 : FVec F S2x4x66x1x128 .bf16 := (Host.slice S2x4x66x1x128 ![0, 0, 0, 64, 0] ![1, 2, 1, 1, 1] · slicesBy_S2x8x66x128x128_S2x4x66x1x128_0s1_0s2_0s1_64s1_0s1) main_arg2
  let main_v9 : FVec F S2x4x66x128 .bf16 := shapeCast S2x4x66x128 main_v8 shapeCasts_S2x4x66x1x128_S2x4x66x128
  let main_v10 : FVec F S2x4x66x128 .f32 := (extf .f32 · bitsLt_bf16_f32) main_v9
  let main_cst_1 : FVec F S_ .f32 := constant S_ .f32 0x3F800000#32
  let main_v11 : FVec F S2x4x66x128 .f32 := broadcastInDim S2x4x66x128 ![] bcast_S_S2x4x66x128 main_cst_1
  let main_v12 : IVec S2x4x66x128 1 := cmpf .oeq main_v10 main_v11
  let main_v13 : FVec F S2x4x66x1x128 .bf16 := (Host.slice S2x4x66x1x128 ![0, 1, 0, 0, 0] ![1, 2, 1, 1, 1] · slicesBy_S2x8x66x128x128_S2x4x66x1x128_0s1_1s2_0s1_0s1_0s1) main_arg2
  let main_v14 : FVec F S2x4x66x128 .bf16 := shapeCast S2x4x66x128 main_v13 shapeCasts_S2x4x66x1x128_S2x4x66x128
  let main_v15 : FVec F S2x4x66x128 .f32 := (extf .f32 · bitsLt_bf16_f32) main_v14
  let main_cst_2 : FVec F S_ .f32 := constant S_ .f32 0x3F800000#32
  let main_v16 : FVec F S2x4x66x128 .f32 := broadcastInDim S2x4x66x128 ![] bcast_S_S2x4x66x128 main_cst_2
  let main_v17 : IVec S2x4x66x128 1 := cmpf .oeq main_v15 main_v16
  (main_v3, main_v7, main_v12, main_v17)
-- ==== Pre_gla_inputs.lean ====
abbrev S2x8448x256 : Shape := ⟨3, ![2, 8448, 256]⟩
abbrev S2x8448x512 : Shape := ⟨3, ![2, 8448, 512]⟩
abbrev S896x128 : Shape := ⟨2, ![896, 128]⟩
abbrev S8x256x128 : Shape := ⟨3, ![8, 256, 128]⟩
abbrev S_ : Shape := ⟨0, ![]⟩

class Facts : Prop where
  bcast_S_S2x8448x256 : S_.BroadcastsInDim S2x8448x256 (![] : Fin 0 → Fin S2x8448x256.rank)

variable [Facts]

def fn {F : FTy → Type} [FloatOps F] (main_arg0 : FVec F S2x8448x256 .f32) (main_arg1 : FVec F S2x8448x256 .f32) (main_arg2 : FVec F S2x8448x256 .f32) (main_arg3 : FVec F S2x8448x512 .bf16) (main_arg4 : FVec F S896x128 .bf16) (main_arg5 : FVec F S8x256x128 .f32) : IVec S2x8448x256 1 :=
  let main_v0 : FVec F S2x8448x256 .f32 := Host.absf main_arg2
  let main_cst : FVec F S_ .f32 := constant S_ .f32 0x7F800000#32
  let main_v1 : FVec F S2x8448x256 .f32 := broadcastInDim S2x8448x256 ![] bcast_S_S2x8448x256 main_cst
  let main_v2 : IVec S2x8448x256 1 := cmpf .olt main_v0 main_v1
  main_v2
-- ==== Kernel.lean ====
abbrev S2x8x8448x128 : Shape := ⟨4, ![2, 8, 8448, 128]⟩
abbrev S2x8x66x128x128 : Shape := ⟨5, ![2, 8, 66, 128, 128]⟩
abbrev S2x8448x512 : Shape := ⟨3, ![2, 8448, 512]⟩
abbrev S1x2x768x128 : Shape := ⟨4, ![1, 2, 768, 128]⟩
abbrev S1x2x8448x128 : Shape := ⟨4, ![1, 2, 8448, 128]⟩
abbrev S1x2x66x128x128 : Shape := ⟨5, ![1, 2, 66, 128, 128]⟩
abbrev S1x768x128 : Shape := ⟨3, ![1, 768, 128]⟩
abbrev S2x128x768 : Shape := ⟨3, ![2, 128, 768]⟩
abbrev S2x1x768 : Shape := ⟨3, ![2, 1, 768]⟩
abbrev S3x2x1x768 : Shape := ⟨4, ![3, 2, 1, 768]⟩
abbrev S2x256x768 : Shape := ⟨3, ![2, 256, 768]⟩
abbrev S1x768 : Shape := ⟨2, ![1, 768]⟩
abbrev S1x1x768 : Shape := ⟨3, ![1, 1, 768]⟩
abbrev S128x768 : Shape := ⟨2, ![128, 768]⟩
abbrev S1x128x768 : Shape := ⟨3, ![1, 128, 768]⟩
abbrev S256x1 : Shape := ⟨2, ![256, 1]⟩
abbrev S1x256 : Shape := ⟨2, ![1, 256]⟩
abbrev S256x256 : Shape := ⟨2, ![256, 256]⟩
abbrev S1x1x256x128 : Shape := ⟨4, ![1, 1, 256, 128]⟩
abbrev S256x128 : Shape := ⟨2, ![256, 128]⟩
abbrev S1x1x768x128 : Shape := ⟨4, ![1, 1, 768, 128]⟩
abbrev S768x128 : Shape := ⟨2, ![768, 128]⟩
abbrev S256x768 : Shape := ⟨2, ![256, 768]⟩
abbrev S1x256x768 : Shape := ⟨3, ![1, 256, 768]⟩
abbrev S768 : Shape := ⟨1, ![768]⟩
abbrev S1x1x1x768 : Shape := ⟨4, ![1, 1, 1, 768]⟩
abbrev S1x256x256 : Shape := ⟨3, ![1, 256, 256]⟩
abbrev S1x1x1x256 : Shape := ⟨4, ![1, 1, 1, 256]⟩
abbrev S1x1x256 : Shape := ⟨3, ![1, 1, 256]⟩
abbrev S1x128x256 : Shape := ⟨3, ![1, 128, 256]⟩
abbrev S128x256 : Shape := ⟨2, ![128, 256]⟩
abbrev S1x1x1x128x128 : Shape := ⟨5, ![1, 1, 1, 128, 128]⟩
abbrev S128x128 : Shape := ⟨2, ![128, 128]⟩
abbrev S1x1x512x128 : Shape := ⟨4, ![1, 1, 512, 128]⟩
abbrev S512x128 : Shape := ⟨2, ![512, 128]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S1x1x1x512 : Shape := ⟨4, ![1, 1, 1, 512]⟩
abbrev S256 : Shape := ⟨1, ![256]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S2x8x8448x128, .bf16⟩
  | .hbm, ⟨1, _⟩ => ⟨S2x8x8448x128, .bf16⟩
  | .hbm, ⟨2, _⟩ => ⟨S2x8x66x128x128, .bf16⟩
  | .hbm, ⟨3, _⟩ => ⟨S2x8448x512, .bf16⟩
  | .local _ .vmem, ⟨0, _⟩ => ⟨S1x2x768x128, .bf16⟩
  | .local _ .vmem, ⟨1, _⟩ => ⟨S1x2x768x128, .bf16⟩
  | .local _ .vmem, ⟨2, _⟩ => ⟨S1x2x8448x128, .bf16⟩
  | .local _ .vmem, ⟨3, _⟩ => ⟨S1x2x8448x128, .bf16⟩
  | .local _ .vmem, ⟨4, _⟩ => ⟨S1x2x66x128x128, .bf16⟩
  | .local _ .vmem, ⟨5, _⟩ => ⟨S1x2x66x128x128, .bf16⟩
  | .local _ .vmem, ⟨6, _⟩ => ⟨S1x768x128, .bf16⟩
  | .local _ .vmem, ⟨7, _⟩ => ⟨S1x768x128, .bf16⟩
  | .local _ .vmem, ⟨8, _⟩ => ⟨S2x128x768, .f32⟩
  | .local _ .vmem, ⟨9, _⟩ => ⟨S2x1x768, .f32⟩
  | .local _ .vmem, ⟨10, _⟩ => ⟨S3x2x1x768, .f32⟩
  | .local _ .vmem, ⟨11, _⟩ => ⟨S2x256x768, .f32⟩
  | .local _ .vmem, ⟨12, _⟩ => ⟨S2x256x768, .f32⟩
  | .local _ .vmem, ⟨13, _⟩ => ⟨S2x256x768, .f32⟩
  | _, _ => ⟨S2x8x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 11], ![false, false, false]⟩

@[reducible] def k0_t1_loop (i : grid0.Coords) : Scf.Loop 32 :=
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_48 : BitVec 32 := 1#32
  ⟨c0_i32_47, v51, c1_i32_48⟩
def k0_mult1 (i : grid0.Coords) (k0_t1 : Fin (k0_t1_loop i).trips) : BitVec 32 :=
  let c3_i32_499 : BitVec 32 := 3#32
  let c0_i32_47 : BitVec 32 := 0#32
  let c1_i32_48 : BitVec 32 := 1#32
  let arg13 : BitVec 32 := Scf.iv c0_i32_47 c1_i32_48 k0_t1
  let v585 : BitVec 32 := Scalar.muli c3_i32_499 arg13
  let c0_i32_500 : BitVec 32 := 0#32
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  v588
def k0_off1 (i : grid0.Coords) (k0_t1 : Fin (k0_t1_loop i).trips) (c0_i32_500 : BitVec 32) : Fin 4 → Nat :=
  let c0_503 : Index := 0#32
  let c0_504 : Index := 0#32
  let c3_i32_499 : BitVec 32 := 3#32
  let c0_i32_47 : BitVec 32 := 0#32
  let c1_i32_48 : BitVec 32 := 1#32
  let arg13 : BitVec 32 := Scf.iv c0_i32_47 c1_i32_48 k0_t1
  let v585 : BitVec 32 := Scalar.muli c3_i32_499 arg13
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  let v589 : BitVec 32 := v588
  let v590 : Index := Scalar.indexCast v589
  let c0_505 : Index := 0#32
  ![0, 0, v590.toNat, 0]
def k0_off2 (i : grid0.Coords) (k0_t1 : Fin (k0_t1_loop i).trips) (c0_i32_500 : BitVec 32) : Fin 4 → Nat :=
  let c0_519 : Index := 0#32
  let c1_520 : Index := 1#32
  let c3_i32_499 : BitVec 32 := 3#32
  let c0_i32_47 : BitVec 32 := 0#32
  let c1_i32_48 : BitVec 32 := 1#32
  let arg13 : BitVec 32 := Scf.iv c0_i32_47 c1_i32_48 k0_t1
  let v585 : BitVec 32 := Scalar.muli c3_i32_499 arg13
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  let v589 : BitVec 32 := v588
  let v604 : Index := Scalar.indexCast v589
  let c0_521 : Index := 0#32
  ![0, 1, v604.toNat, 0]
def k0_off3 (i : grid0.Coords) (k0_t1 : Fin (k0_t1_loop i).trips) (c0_i32_500 : BitVec 32) (c0_i32_549 : BitVec 32) : Fin 5 → Nat :=
  let c0_550 : Index := 0#32
  let c0_551 : Index := 0#32
  let c2_i32_548 : BitVec 32 := 2#32
  let c3_i32_499 : BitVec 32 := 3#32
  let c0_i32_47 : BitVec 32 := 0#32
  let c1_i32_48 : BitVec 32 := 1#32
  let arg13 : BitVec 32 := Scf.iv c0_i32_47 c1_i32_48 k0_t1
  let v585 : BitVec 32 := Scalar.muli c3_i32_499 arg13
  let v586 : BitVec 32 := Scalar.addi v585 c0_i32_500
  let v635 : BitVec 32 := Scalar.muli c2_i32_548 v586
  let v636 : BitVec 32 := Scalar.addi v635 c0_i32_549
  let v637 : Index := Scalar.indexCast v636
  let c0_552 : Index := 0#32
  let c0_553 : Index := 0#32
  ![0, 0, v637.toNat, 0, 0]
def k0_off4 (i : grid0.Coords) (k0_t1 : Fin (k0_t1_loop i).trips) (c0_i32_500 : BitVec 32) (c0_i32_645 : BitVec 32) : Fin 5 → Nat :=
  let c0_646 : Index := 0#32
  let c1_647 : Index := 1#32
  let c2_i32_644 : BitVec 32 := 2#32
  let c3_i32_499 : BitVec 32 := 3#32
  let c0_i32_47 : BitVec 32 := 0#32
  let c1_i32_48 : BitVec 32 := 1#32
  let arg13 : BitVec 32 := Scf.iv c0_i32_47 c1_i32_48 k0_t1
  let v585 : BitVec 32 := Scalar.muli c3_i32_499 arg13
  let v586 : BitVec 32 := Scalar.addi v585 c0_i32_500
  let v743 : BitVec 32 := Scalar.muli c2_i32_644 v586
  let v744 : BitVec 32 := Scalar.addi v743 c0_i32_645
  let v745 : Index := Scalar.indexCast v744
  let c0_648 : Index := 0#32
  let c0_649 : Index := 0#32
  ![0, 1, v745.toNat, 0, 0]
def k0_mult2 (i : grid0.Coords) (k0_t1 : Fin (k0_t1_loop i).trips) : BitVec 32 :=
  let c3_i32_727 : BitVec 32 := 3#32
  let c0_i32_47 : BitVec 32 := 0#32
  let c1_i32_48 : BitVec 32 := 1#32
  let arg13 : BitVec 32 := Scf.iv c0_i32_47 c1_i32_48 k0_t1
  let v834 : BitVec 32 := Scalar.muli c3_i32_727 arg13
  let c1_i32_728 : BitVec 32 := 1#32
  let v835 : BitVec 32 := Scalar.addi v834 c1_i32_728
  let c1_i32_729 : BitVec 32 := 1#32
  let v836 : BitVec 32 := Scalar.addi v835 c1_i32_729
  let c256_i32_730 : BitVec 32 := 256#32
  let v837 : BitVec 32 := Scalar.muli v836 c256_i32_730
  v837
def k0_mult3 (i : grid0.Coords) (k0_t1 : Fin (k0_t1_loop i).trips) : BitVec 32 :=
  let c3_i32_955 : BitVec 32 := 3#32
  let c0_i32_47 : BitVec 32 := 0#32
  let c1_i32_48 : BitVec 32 := 1#32
  let arg13 : BitVec 32 := Scf.iv c0_i32_47 c1_i32_48 k0_t1
  let v1083 : BitVec 32 := Scalar.muli c3_i32_955 arg13
  let c2_i32_956 : BitVec 32 := 2#32
  let v1084 : BitVec 32 := Scalar.addi v1083 c2_i32_956
  let c1_i32_957 : BitVec 32 := 1#32
  let v1085 : BitVec 32 := Scalar.addi v1084 c1_i32_957
  let c256_i32_958 : BitVec 32 := 256#32
  let v1086 : BitVec 32 := Scalar.muli v1085 c256_i32_958
  v1086
@[reducible] def k0_t2_loop (i : grid0.Coords) : Scf.Loop 32 :=
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let v48 : BitVec 32 := Scalar.addi c0_i32_47 v47
  let c1_i32_49 : BitVec 32 := 1#32
  ⟨v51, v48, c1_i32_49⟩
def k0_mult4 (i : grid0.Coords) (k0_t2 : Fin (k0_t2_loop i).trips) : BitVec 32 :=
  let c3_i32_499 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v585 : BitVec 32 := Scalar.muli c3_i32_499 arg13
  let c0_i32_500 : BitVec 32 := 0#32
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  v588
def k0_off5 (i : grid0.Coords) (k0_t2 : Fin (k0_t2_loop i).trips) (c0_i32_500 : BitVec 32) : Fin 4 → Nat :=
  let c0_503 : Index := 0#32
  let c0_504 : Index := 0#32
  let c3_i32_499 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v585 : BitVec 32 := Scalar.muli c3_i32_499 arg13
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  let v589 : BitVec 32 := v588
  let v590 : Index := Scalar.indexCast v589
  let c0_505 : Index := 0#32
  ![0, 0, v590.toNat, 0]
def k0_off6 (i : grid0.Coords) (k0_t2 : Fin (k0_t2_loop i).trips) (c0_i32_500 : BitVec 32) : Fin 4 → Nat :=
  let c0_519 : Index := 0#32
  let c1_520 : Index := 1#32
  let c3_i32_499 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v585 : BitVec 32 := Scalar.muli c3_i32_499 arg13
  let v586 : BitVec 32 := Scalar.addi v585 c0_i32_500
  let c1_i32_501 : BitVec 32 := 1#32
  let v587 : BitVec 32 := Scalar.addi v586 c1_i32_501
  let c256_i32_502 : BitVec 32 := 256#32
  let v588 : BitVec 32 := Scalar.muli v587 c256_i32_502
  let v589 : BitVec 32 := v588
  let v604 : Index := Scalar.indexCast v589
  let c0_521 : Index := 0#32
  ![0, 1, v604.toNat, 0]
def k0_off7 (i : grid0.Coords) (k0_t2 : Fin (k0_t2_loop i).trips) (c0_i32_500 : BitVec 32) (c0_i32_549 : BitVec 32) : Fin 5 → Nat :=
  let c0_550 : Index := 0#32
  let c0_551 : Index := 0#32
  let c2_i32_548 : BitVec 32 := 2#32
  let c3_i32_499 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v585 : BitVec 32 := Scalar.muli c3_i32_499 arg13
  let v586 : BitVec 32 := Scalar.addi v585 c0_i32_500
  let v635 : BitVec 32 := Scalar.muli c2_i32_548 v586
  let v636 : BitVec 32 := Scalar.addi v635 c0_i32_549
  let v637 : Index := Scalar.indexCast v636
  let c0_552 : Index := 0#32
  let c0_553 : Index := 0#32
  ![0, 0, v637.toNat, 0, 0]
def k0_off8 (i : grid0.Coords) (k0_t2 : Fin (k0_t2_loop i).trips) (c0_i32_500 : BitVec 32) (c0_i32_645 : BitVec 32) : Fin 5 → Nat :=
  let c0_646 : Index := 0#32
  let c1_647 : Index := 1#32
  let c2_i32_644 : BitVec 32 := 2#32
  let c3_i32_499 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v585 : BitVec 32 := Scalar.muli c3_i32_499 arg13
  let v586 : BitVec 32 := Scalar.addi v585 c0_i32_500
  let v743 : BitVec 32 := Scalar.muli c2_i32_644 v586
  let v744 : BitVec 32 := Scalar.addi v743 c0_i32_645
  let v745 : Index := Scalar.indexCast v744
  let c0_648 : Index := 0#32
  let c0_649 : Index := 0#32
  ![0, 1, v745.toNat, 0, 0]
def k0_mult5 (i : grid0.Coords) (k0_t2 : Fin (k0_t2_loop i).trips) : BitVec 32 :=
  let c3_i32_727 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v834 : BitVec 32 := Scalar.muli c3_i32_727 arg13
  let c1_i32_728 : BitVec 32 := 1#32
  let v835 : BitVec 32 := Scalar.addi v834 c1_i32_728
  let c1_i32_729 : BitVec 32 := 1#32
  let v836 : BitVec 32 := Scalar.addi v835 c1_i32_729
  let c256_i32_730 : BitVec 32 := 256#32
  let v837 : BitVec 32 := Scalar.muli v836 c256_i32_730
  v837
def k0_mult6 (i : grid0.Coords) (k0_t2 : Fin (k0_t2_loop i).trips) : BitVec 32 :=
  let c3_i32_955 : BitVec 32 := 3#32
  let c0_i32_47 : BitVec 32 := 0#32
  let arg2 : BitVec 32 := BitVec.ofNat 32 (i 2).val
  let v47 : BitVec 32 := Scalar.subi arg2 c0_i32_47
  let c1_i32 : BitVec 32 := 1#32
  let v49 : BitVec 32 := Scalar.divsi v47 c1_i32
  let v50 : BitVec 32 := Scalar.muli v49 c1_i32
  let v51 : BitVec 32 := Scalar.addi c0_i32_47 v50
  let c1_i32_49 : BitVec 32 := 1#32
  let arg13 : BitVec 32 := Scf.iv v51 c1_i32_49 k0_t2
  let v1083 : BitVec 32 := Scalar.muli c3_i32_955 arg13
  let c2_i32_956 : BitVec 32 := 2#32
  let v1084 : BitVec 32 := Scalar.addi v1083 c2_i32_956
  let c1_i32_957 : BitVec 32 := 1#32
  let v1085 : BitVec 32 := Scalar.addi v1084 c1_i32_957
  let c256_i32_958 : BitVec 32 := 256#32
  let v1086 : BitVec 32 := Scalar.muli v1085 c256_i32_958
  v1086
def k0_mult7 (i : grid0.Coords) : BitVec 32 :=
  let c3_i32 : BitVec 32 := 3#32
  let arg2 : BitVec 32 := BitVec.ofNat 32 (i 2).val
  let v52 : BitVec 32 := Scalar.muli c3_i32 arg2
  let c0_i32_50 : BitVec 32 := 0#32
  let v53 : BitVec 32 := Scalar.addi v52 c0_i32_50
  let c1_i32_51 : BitVec 32 := 1#32
  let v54 : BitVec 32 := Scalar.addi v53 c1_i32_51
  let c256_i32 : BitVec 32 := 256#32
  let v55 : BitVec 32 := Scalar.muli v54 c256_i32
  v55
def k0_off9 (i : grid0.Coords) (c0_i32_50 : BitVec 32) : Fin 4 → Nat :=
  let c0_52 : Index := 0#32
  let c0_53 : Index := 0#32
  let c3_i32 : BitVec 32 := 3#32
  let arg2 : BitVec 32 := BitVec.ofNat 32 (i 2).val
  let v52 : BitVec 32 := Scalar.muli c3_i32 arg2
  let v53 : BitVec 32 := Scalar.addi v52 c0_i32_50
  let c1_i32_51 : BitVec 32 := 1#32
  let v54 : BitVec 32 := Scalar.addi v53 c1_i32_51
  let c256_i32 : BitVec 32 := 256#32
  let v55 : BitVec 32 := Scalar.muli v54 c256_i32
  let v56 : BitVec 32 := v55
  let v57 : Index := Scalar.indexCast v56
  let c0_54 : Index := 0#32
  ![0, 0, v57.toNat, 0]
def k0_off10 (i : grid0.Coords) (c0_i32_50 : BitVec 32) : Fin 4 → Nat :=
  let c0_67 : Index := 0#32
  let c1_68 : Index := 1#32
  let c3_i32 : BitVec 32 := 3#32
  let arg2 : BitVec 32 := BitVec.ofNat 32 (i 2).val
  let v52 : BitVec 32 := Scalar.muli c3_i32 arg2
  let v53 : BitVec 32 := Scalar.addi v52 c0_i32_50
  let c1_i32_51 : BitVec 32 := 1#32
  let v54 : BitVec 32 := Scalar.addi v53 c1_i32_51
  let c256_i32 : BitVec 32 := 256#32
  let v55 : BitVec 32 := Scalar.muli v54 c256_i32
  let v56 : BitVec 32 := v55
  let v71 : Index := Scalar.indexCast v56
  let c0_69 : Index := 0#32
  ![0, 1, v71.toNat, 0]
def k0_off11 (i : grid0.Coords) (c0_i32_50 : BitVec 32) (c0_i32_94 : BitVec 32) : Fin 5 → Nat :=
  let c0_95 : Index := 0#32
  let c0_96 : Index := 0#32
  let c2_i32 : BitVec 32 := 2#32
  let c3_i32 : BitVec 32 := 3#32
  let arg2 : BitVec 32 := BitVec.ofNat 32 (i 2).val
  let v52 : BitVec 32 := Scalar.muli c3_i32 arg2
  let v53 : BitVec 32 := Scalar.addi v52 c0_i32_50
  let v104 : BitVec 32 := Scalar.muli c2_i32 v53
  let v105 : BitVec 32 := Scalar.addi v104 c0_i32_94
  let v106 : Index := Scalar.indexCast v105
  let c0_97 : Index := 0#32
  let c0_98 : Index := 0#32
  ![0, 0, v106.toNat, 0, 0]
def k0_off12 (i : grid0.Coords) (c0_i32_50 : BitVec 32) (c0_i32_187 : BitVec 32) : Fin 5 → Nat :=
  let c0_188 : Index := 0#32
  let c1_189 : Index := 1#32
  let c2_i32_186 : BitVec 32 := 2#32
  let c3_i32 : BitVec 32 := 3#32
  let arg2 : BitVec 32 := BitVec.ofNat 32 (i 2).val
  let v52 : BitVec 32 := Scalar.muli c3_i32 arg2
  let v53 : BitVec 32 := Scalar.addi v52 c0_i32_50
  let v214 : BitVec 32 := Scalar.muli c2_i32_186 v53
  let v215 : BitVec 32 := Scalar.addi v214 c0_i32_187
  let v216 : Index := Scalar.indexCast v215
  let c0_190 : Index := 0#32
  let c0_191 : Index := 0#32
  ![0, 1, v216.toNat, 0, 0]
def k0_mult8 (i : grid0.Coords) : BitVec 32 :=
  let c3_i32_269 : BitVec 32 := 3#32
  let arg2 : BitVec 32 := BitVec.ofNat 32 (i 2).val
  let v305 : BitVec 32 := Scalar.muli c3_i32_269 arg2
  let c1_i32_270 : BitVec 32 := 1#32
  let v306 : BitVec 32 := Scalar.addi v305 c1_i32_270
  let c1_i32_271 : BitVec 32 := 1#32
  let v307 : BitVec 32 := Scalar.addi v306 c1_i32_271
  let c256_i32_272 : BitVec 32 := 256#32
  let v308 : BitVec 32 := Scalar.muli v307 c256_i32_272
  v308
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x66x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8x8448x128 : Shape := ⟨4, ![2, 8, 8448, 128]⟩
abbrev S2x8x66x128x128 : Shape := ⟨5, ![2, 8, 66, 128, 128]⟩
abbrev S2x4x8448x64 : Shape := ⟨4, ![2, 4, 8448, 64]⟩
abbrev S2x4x1x8448x64 : Shape := ⟨5, ![2, 4, 1, 8448, 64]⟩
abbrev S2x4x2x8448x64 : Shape := ⟨5, ![2, 4, 2, 8448, 64]⟩
abbrev S2x8x8448x64 : Shape := ⟨4, ![2, 8, 8448, 64]⟩
abbrev S2x8x8448x8448 : Shape := ⟨4, ![2, 8, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S_ : Shape := ⟨0, ![]⟩
abbrev S2x8x8448 : Shape := ⟨3, ![2, 8, 8448]⟩
abbrev S2x8x8448x1 : Shape := ⟨4, ![2, 8, 8448, 1]⟩
abbrev S2x8x64x8448 : Shape := ⟨4, ![2, 8, 64, 8448]⟩
abbrev S2x8448x8x64 : Shape := ⟨4, ![2, 8448, 8, 64]⟩
abbrev S2x8448x512 : Shape := ⟨3, ![2, 8448, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x8x8448x128, .bf16⟩
  | .hbm, ⟨1, _⟩ => ⟨S2x8x8448x128, .bf16⟩
  | .hbm, ⟨2, _⟩ => ⟨S2x8x66x128x128, .bf16⟩
  | .hbm, ⟨3, _⟩ => ⟨S2x8x8448x128, .f32⟩
  | .hbm, ⟨4, _⟩ => ⟨S2x8x8448x128, .f32⟩
  | .hbm, ⟨5, _⟩ => ⟨S2x8x66x128x128, .f32⟩
  | .hbm, ⟨6, _⟩ => ⟨S2x8x66x128x128, .f32⟩
  | .hbm, ⟨7, _⟩ => ⟨S2x8x8448x128, .f32⟩
  | .hbm, ⟨8, _⟩ => ⟨S2x4x8448x64, .f32⟩
  | .hbm, ⟨9, _⟩ => ⟨S2x4x8448x64, .f32⟩
  | .hbm, ⟨10, _⟩ => ⟨S2x4x1x8448x64, .f32⟩
  | .hbm, ⟨11, _⟩ => ⟨S2x4x1x8448x64, .f32⟩
  | .hbm, ⟨12, _⟩ => ⟨S2x4x2x8448x64, .f32⟩
  | .hbm, ⟨13, _⟩ => ⟨S2x8x8448x64, .f32⟩
  | .hbm, ⟨14, _⟩ => ⟨S2x8x8448x8448, .f32⟩
  | .hbm, ⟨15, _⟩ => ⟨S8448, .i32⟩
  | .hbm, ⟨16, _⟩ => ⟨S1x8448, .i32⟩
  | .hbm, ⟨17, _⟩ => ⟨S8448x1, .i32⟩
  | .hbm, ⟨18, _⟩ => ⟨S8448x8448, .i32⟩
  | .hbm, ⟨19, _⟩ => ⟨S8448x8448, .i32⟩
  | .hbm, ⟨20, _⟩ => ⟨S8448x8448, .i1⟩
  | .hbm, ⟨21, _⟩ => ⟨S_, .f32⟩
  | .hbm, ⟨22, _⟩ => ⟨S_, .f32⟩
  | .hbm, ⟨23, _⟩ => ⟨S2x8x8448x8448, .i1⟩
  | .hbm, ⟨24, _⟩ => ⟨S2x8x8448x8448, .f32⟩
  | .hbm, ⟨25, _⟩ => ⟨S2x8x8448x8448, .f32⟩
  | .hbm, ⟨26, _⟩ => ⟨S_, .f32⟩
  | .hbm, ⟨27, _⟩ => ⟨S2x8x8448, .f32⟩
  | .hbm, ⟨28, _⟩ => ⟨S2x8x8448x1, .f32⟩
  | .hbm, ⟨29, _⟩ => ⟨S2x8x8448x8448, .f32⟩
  | .hbm, ⟨30, _⟩ => ⟨S2x8x8448x8448, .f32⟩
  | .hbm, ⟨31, _⟩ => ⟨S_, .f32⟩
  | .hbm, ⟨32, _⟩ => ⟨S2x8x8448x8448, .f32⟩
  | .hbm, ⟨33, _⟩ => ⟨S2x8x8448x8448, .f32⟩
  | .hbm, ⟨34, _⟩ => ⟨S_, .f32⟩
  | .hbm, ⟨35, _⟩ => ⟨S2x8x8448, .f32⟩
  | .hbm, ⟨36, _⟩ => ⟨S2x8x8448x1, .f32⟩
  | .hbm, ⟨37, _⟩ => ⟨S2x8x8448x8448, .f32⟩
  | .hbm, ⟨38, _⟩ => ⟨S2x8x8448x8448, .f32⟩
  | .hbm, ⟨39, _⟩ => ⟨S2x8x8448x8448, .bf16⟩
  | .hbm, ⟨40, _⟩ => ⟨S2x8x8448x8448, .f32⟩
  | .hbm, ⟨41, _⟩ => ⟨S2x8x64x8448, .f32⟩
  | .hbm, ⟨42, _⟩ => ⟨S2x8448x8x64, .f32⟩
  | .hbm, ⟨43, _⟩ => ⟨S2x8448x512, .f32⟩
  | .hbm, ⟨44, _⟩ => ⟨S2x8448x512, .bf16⟩
  | _, _ => ⟨S2x8x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel2.lean ====
abbrev S16896x1024 : Shape := ⟨2, ![16896, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S1024x2816 : Shape := ⟨2, ![1024, 2816]⟩
abbrev S512x2816 : Shape := ⟨2, ![512, 2816]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16896x1024, .f32⟩
  | .hbm, ⟨1, _⟩ => ⟨S2x1024x2816, .bf16⟩
  | .hbm, ⟨2, _⟩ => ⟨S2x1024x2816, .bf16⟩
  | .hbm, ⟨3, _⟩ => ⟨S2x2816x1024, .bf16⟩
  | .hbm, ⟨4, _⟩ => ⟨S2x1x1024, .f32⟩
  | .hbm, ⟨5, _⟩ => ⟨S2x1x1024, .f32⟩
  | .hbm, ⟨6, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16896x1024 : Shape := ⟨2, ![16896, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16896x2816 : Shape := ⟨2, ![16896, 2816]⟩
abbrev S_ : Shape := ⟨0, ![]⟩
abbrev S16896 : Shape := ⟨1, ![16896]⟩
abbrev S16896x1 : Shape := ⟨2, ![16896, 1]⟩
abbrev S1x1x1024 : Shape := ⟨3, ![1, 1, 1024]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x1024x2816, .bf16⟩
  | .hbm, ⟨2, _⟩ => ⟨S2x1024x2816, .bf16⟩
  | .hbm, ⟨3, _⟩ => ⟨S2x2816x1024, .bf16⟩
  | .hbm, ⟨4, _⟩ => ⟨S2x1x1024, .f32⟩
  | .hbm, ⟨5, _⟩ => ⟨S2x1x1024, .f32⟩
  | .hbm, ⟨6, _⟩ => ⟨S1x1024x2816, .bf16⟩
  | .hbm, ⟨7, _⟩ => ⟨S1024x2816, .bf16⟩
  | .hbm, ⟨8, _⟩ => ⟨S1024x2816, .f32⟩
  | .hbm, ⟨9, _⟩ => ⟨S1x1024x2816, .bf16⟩
  | .hbm, ⟨10, _⟩ => ⟨S1024x2816, .bf16⟩
  | .hbm, ⟨11, _⟩ => ⟨S1024x2816, .f32⟩
  | .hbm, ⟨12, _⟩ => ⟨S1x2816x1024, .bf16⟩
  | .hbm, ⟨13, _⟩ => ⟨S2816x1024, .bf16⟩
  | .hbm, ⟨14, _⟩ => ⟨S2816x1024, .f32⟩
  | .hbm, ⟨15, _⟩ => ⟨S16896x2816, .f32⟩
  | .hbm, ⟨16, _⟩ => ⟨S16896x2816, .f32⟩
  | .hbm, ⟨17, _⟩ => ⟨S16896x2816, .f32⟩
  | .hbm, ⟨18, _⟩ => ⟨S_, .f32⟩
  | .hbm, ⟨19, _⟩ => ⟨S16896x2816, .f32⟩
  | .hbm, ⟨20, _⟩ => ⟨S16896x2816, .f32⟩
  | .hbm, ⟨21, _⟩ => ⟨S_, .f32⟩
  | .hbm, ⟨22, _⟩ => ⟨S16896x2816, .f32⟩
  | .hbm, ⟨23, _⟩ => ⟨S16896x2816, .f32⟩
  | .hbm, ⟨24, _⟩ => ⟨S16896x2816, .f32⟩
  | .hbm, ⟨25, _⟩ => ⟨S16896x2816, .f32⟩
  | .hbm, ⟨26, _⟩ => ⟨S16896x2816, .f32⟩
  | .hbm, ⟨27, _⟩ => ⟨S_, .f32⟩
  | .hbm, ⟨28, _⟩ => ⟨S16896x1024, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S_, .f32⟩
  | .hbm, ⟨33, _⟩ => ⟨S16896, .f32⟩
  | .hbm, ⟨34, _⟩ => ⟨S16896x1, .f32⟩
  | .hbm, ⟨35, _⟩ => ⟨S_, .f32⟩
  | .hbm, ⟨36, _⟩ => ⟨S16896x1, .f32⟩
  | .hbm, ⟨37, _⟩ => ⟨S16896x1, .f32⟩
  | .hbm, ⟨38, _⟩ => ⟨S16896x1024, .f32⟩
  | .hbm, ⟨39, _⟩ => ⟨S16896x1024, .f32⟩
  | .hbm, ⟨40, _⟩ => ⟨S16896x1024, .f32⟩
  | .hbm, ⟨41, _⟩ => ⟨S_, .f32⟩
  | .hbm, ⟨42, _⟩ => ⟨S16896, .f32⟩
  | .hbm, ⟨43, _⟩ => ⟨S16896x1, .f32⟩
  | .hbm, ⟨44, _⟩ => ⟨S_, .f32⟩
  | .hbm, ⟨45, _⟩ => ⟨S16896x1, .f32⟩
  | .hbm, ⟨46, _⟩ => ⟨S16896x1, .f32⟩
  | .hbm, ⟨47, _⟩ => ⟨S16896x1024, .f32⟩
  | .hbm, ⟨48, _⟩ => ⟨S16896x1024, .f32⟩
  | .hbm, ⟨49, _⟩ => ⟨S_, .f32⟩
  | .hbm, ⟨50, _⟩ => ⟨S16896x1, .f32⟩
  | .hbm, ⟨51, _⟩ => ⟨S16896x1, .f32⟩
  | .hbm, ⟨52, _⟩ => ⟨S16896x1, .f32⟩
  | .hbm, ⟨53, _⟩ => ⟨S16896x1024, .f32⟩
  | .hbm, ⟨54, _⟩ => ⟨S16896x1024, .f32⟩
  | .hbm, ⟨55, _⟩ => ⟨S1x1x1024, .f32⟩
  | .hbm, ⟨56, _⟩ => ⟨S1x1024, .f32⟩
  | .hbm, ⟨57, _⟩ => ⟨S16896x1024, .f32⟩
  | .hbm, ⟨58, _⟩ => ⟨S16896x1024, .f32⟩
  | .hbm, ⟨59, _⟩ => ⟨S1x1x1024, .f32⟩
  | .hbm, ⟨60, _⟩ => ⟨S1x1024, .f32⟩
  | .hbm, ⟨61, _⟩ => ⟨S16896x1024, .f32⟩
  | .hbm, ⟨62, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel3.lean ====
abbrev S16896x1024 : Shape := ⟨2, ![16896, 1024]⟩
abbrev S16896x512 : Shape := ⟨2, ![16896, 512]⟩
abbrev S2x1024x2560 : Shape := ⟨3, ![2, 1024, 2560]⟩
abbrev S2x512x1024 : Shape := ⟨3, ![2, 512, 1024]⟩
abbrev S2x1024x1024 : Shape := ⟨3, ![2, 1024, 1024]⟩
abbrev S2x1x128 : Shape := ⟨3, ![2, 1, 128]⟩
abbrev S2x1x1024 : Shape := ⟨3, ![2, 1, 1024]⟩
abbrev S512x1024 : Shape := ⟨2, ![512, 1024]⟩
abbrev S512x512 : Shape := ⟨2, ![512, 512]⟩
abbrev S1x1024x2560 : Shape := ⟨3, ![1, 1024, 2560]⟩
abbrev S1x512x1024 : Shape := ⟨3, ![1, 512, 1024]⟩
abbrev S1x1024x1024 : Shape := ⟨3, ![1, 1024, 1024]⟩
abbrev S1x1x128 : Shape := ⟨3, ![1, 1, 128]⟩
abbrev S1x1x1024 : Shape := ⟨3, ![1, 1, 1024]⟩
abbrev S1024x2560 : Shape := ⟨2, ![1024, 2560]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1024x1024 : Shape := ⟨2, ![1024, 1024]⟩
abbrev S1x1024 : Shape := ⟨2, ![1, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .f32⟩
  | .hbm, ⟨3, _⟩ => ⟨S2x1024x2560, .bf16⟩
  | .hbm, ⟨4, _⟩ => ⟨S2x512x1024, .bf16⟩
  | .hbm, ⟨5, _⟩ => ⟨S2x512x1024, .bf16⟩
  | .hbm, ⟨6, _⟩ => ⟨S2x1024x1024, .bf16⟩
  | .hbm, ⟨7, _⟩ => ⟨S2x1x128, .f32⟩
  | .hbm, ⟨8, _⟩ => ⟨S2x1x1024, .f32⟩
  | .hbm, ⟨9, _⟩ => ⟨S2x1x1024, .f32⟩
  | .hbm, ⟨10, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x1024x2560, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x1024, .bf16⟩
  | .local _ .vmem, ⟨10, _⟩ => ⟨S1x1x128, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16896x1024 : Shape := ⟨2, ![16896, 1024]⟩
abbrev S16896x512 : Shape := ⟨2, ![16896, 512]⟩
abbrev S2x1024x2560 : Shape := ⟨3, ![2, 1024, 2560]⟩
abbrev S2x512x1024 : Shape := ⟨3, ![2, 512, 1024]⟩
abbrev S2x1024x1024 : Shape := ⟨3, ![2, 1024, 1024]⟩
abbrev S2x1x128 : Shape := ⟨3, ![2, 1, 128]⟩
abbrev S2x1x1024 : Shape := ⟨3, ![2, 1, 1024]⟩
abbrev S1x1024x2560 : Shape := ⟨3, ![1, 1024, 2560]⟩
abbrev S1024x2560 : Shape := ⟨2, ![1024, 2560]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16896x2560 : Shape := ⟨2, ![16896, 2560]⟩
abbrev S16896x4x128 : Shape := ⟨3, ![16896, 4, 128]⟩
abbrev S_ : Shape := ⟨0, ![]⟩
abbrev S16896x4 : Shape := ⟨2, ![16896, 4]⟩
abbrev S16896x4x1 : Shape := ⟨3, ![16896, 4, 1]⟩
abbrev S1x1x128 : Shape := ⟨3, ![1, 1, 128]⟩
abbrev S1x128 : Shape := ⟨2, ![1, 128]⟩
abbrev S16896 : Shape := ⟨1, ![16896]⟩
abbrev S16896x1 : Shape := ⟨2, ![16896, 1]⟩
abbrev S1x1x1024 : Shape := ⟨3, ![1, 1, 1024]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .f32⟩
  | .hbm, ⟨3, _⟩ => ⟨S2x1024x2560, .bf16⟩
  | .hbm, ⟨4, _⟩ => ⟨S2x512x1024, .bf16⟩
  | .hbm, ⟨5, _⟩ => ⟨S2x512x1024, .bf16⟩
  | .hbm, ⟨6, _⟩ => ⟨S2x1024x1024, .bf16⟩
  | .hbm, ⟨7, _⟩ => ⟨S2x1x128, .f32⟩
  | .hbm, ⟨8, _⟩ => ⟨S2x1x1024, .f32⟩
  | .hbm, ⟨9, _⟩ => ⟨S2x1x1024, .f32⟩
  | .hbm, ⟨10, _⟩ => ⟨S16896x512, .f32⟩
  | .hbm, ⟨11, _⟩ => ⟨S1x1024x2560, .bf16⟩
  | .hbm, ⟨12, _⟩ => ⟨S1024x2560, .bf16⟩
  | .hbm, ⟨13, _⟩ => ⟨S1024x2560, .f32⟩
  | .hbm, ⟨14, _⟩ => ⟨S1x512x1024, .bf16⟩
  | .hbm, ⟨15, _⟩ => ⟨S512x1024, .bf16⟩
  | .hbm, ⟨16, _⟩ => ⟨S512x1024, .f32⟩
  | .hbm, ⟨17, _⟩ => ⟨S1x512x1024, .bf16⟩
  | .hbm, ⟨18, _⟩ => ⟨S512x1024, .bf16⟩
  | .hbm, ⟨19, _⟩ => ⟨S512x1024, .f32⟩
  | .hbm, ⟨20, _⟩ => ⟨S1x1024x1024, .bf16⟩
  | .hbm, ⟨21, _⟩ => ⟨S1024x1024, .bf16⟩
  | .hbm, ⟨22, _⟩ => ⟨S1024x1024, .f32⟩
  | .hbm, ⟨23, _⟩ => ⟨S16896x2560, .f32⟩
  | .hbm, ⟨24, _⟩ => ⟨S16896x512, .f32⟩
  | .hbm, ⟨25, _⟩ => ⟨S16896x1024, .f32⟩
  | .hbm, ⟨26, _⟩ => ⟨S16896x1024, .f32⟩
  | .hbm, ⟨27, _⟩ => ⟨S16896x4x128, .f32⟩
  | .hbm, ⟨28, _⟩ => ⟨S16896x4x128, .f32⟩
  | .hbm, ⟨29, _⟩ => ⟨S_, .f32⟩
  | .hbm, ⟨30, _⟩ => ⟨S16896x4, .f32⟩
  | .hbm, ⟨31, _⟩ => ⟨S16896x4x1, .f32⟩
  | .hbm, ⟨32, _⟩ => ⟨S_, .f32⟩
  | .hbm, ⟨33, _⟩ => ⟨S16896x4x1, .f32⟩
  | .hbm, ⟨34, _⟩ => ⟨S16896x4x1, .f32⟩
  | .hbm, ⟨35, _⟩ => ⟨S_, .f32⟩
  | .hbm, ⟨36, _⟩ => ⟨S16896x4x1, .f32⟩
  | .hbm, ⟨37, _⟩ => ⟨S16896x4x1, .f32⟩
  | .hbm, ⟨38, _⟩ => ⟨S16896x4x1, .f32⟩
  | .hbm, ⟨39, _⟩ => ⟨S16896x4x128, .f32⟩
  | .hbm, ⟨40, _⟩ => ⟨S16896x4x128, .f32⟩
  | .hbm, ⟨41, _⟩ => ⟨S1x1x128, .f32⟩
  | .hbm, ⟨42, _⟩ => ⟨S1x128, .f32⟩
  | .hbm, ⟨43, _⟩ => ⟨S1x1x128, .f32⟩
  | .hbm, ⟨44, _⟩ => ⟨S16896x4x128, .f32⟩
  | .hbm, ⟨45, _⟩ => ⟨S16896x4x128, .f32⟩
  | .hbm, ⟨46, _⟩ => ⟨S16896x512, .f32⟩
  | .hbm, ⟨47, _⟩ => ⟨S16896x512, .f32⟩
  | .hbm, ⟨48, _⟩ => ⟨S16896x512, .f32⟩
  | .hbm, ⟨49, _⟩ => ⟨S_, .f32⟩
  | .hbm, ⟨50, _⟩ => ⟨S16896x512, .f32⟩
  | .hbm, ⟨51, _⟩ => ⟨S16896x512, .f32⟩
  | .hbm, ⟨52, _⟩ => ⟨S_, .f32⟩
  | .hbm, ⟨53, _⟩ => ⟨S16896x512, .f32⟩
  | .hbm, ⟨54, _⟩ => ⟨S16896x512, .f32⟩
  | .hbm, ⟨55, _⟩ => ⟨S16896x512, .f32⟩
  | .hbm, ⟨56, _⟩ => ⟨S16896x512, .f32⟩
  | .hbm, ⟨57, _⟩ => ⟨S16896x1024, .f32⟩
  | .hbm, ⟨58, _⟩ => ⟨S16896x1024, .f32⟩
  | .hbm, ⟨59, _⟩ => ⟨S_, .f32⟩
  | .hbm, ⟨60, _⟩ => ⟨S16896x1024, .f32⟩
  | .hbm, ⟨61, _⟩ => ⟨S16896x1024, .f32⟩
  | .hbm, ⟨62, _⟩ => ⟨S_, .f32⟩
  | .hbm, ⟨63, _⟩ => ⟨S16896x1024, .f32⟩
  | .hbm, ⟨64, _⟩ => ⟨S16896x1024, .f32⟩
  | .hbm, ⟨65, _⟩ => ⟨S16896x1024, .f32⟩
  | .hbm, ⟨66, _⟩ => ⟨S16896x1024, .f32⟩
  | .hbm, ⟨67, _⟩ => ⟨S16896x1024, .f32⟩
  | .hbm, ⟨68, _⟩ => ⟨S16896x1024, .f32⟩
  | .hbm, ⟨69, _⟩ => ⟨S_, .f32⟩
  | .hbm, ⟨70, _⟩ => ⟨S16896x1024, .f32⟩
  | .hbm, ⟨71, _⟩ => ⟨S16896x1024, .f32⟩
  | .hbm, ⟨72, _⟩ => ⟨S_, .f32⟩
  | .hbm, ⟨73, _⟩ => ⟨S16896x1024, .f32⟩
  | .hbm, ⟨74, _⟩ => ⟨S16896x1024, .f32⟩
  | .hbm, ⟨75, _⟩ => ⟨S16896x1024, .f32⟩
  | .hbm, ⟨76, _⟩ => ⟨S16896x1024, .f32⟩
  | .hbm, ⟨77, _⟩ => ⟨S16896x1024, .f32⟩
  | .hbm, ⟨78, _⟩ => ⟨S_, .f32⟩
  | .hbm, ⟨79, _⟩ => ⟨S16896x1024, .f32⟩
  | .hbm, ⟨80, _⟩ => ⟨S16896x1024, .f32⟩
  | .hbm, ⟨81, _⟩ => ⟨S16896x1024, .f32⟩
  | .hbm, ⟨82, _⟩ => ⟨S16896x1024, .f32⟩
  | .hbm, ⟨83, _⟩ => ⟨S_, .f32⟩
  | .hbm, ⟨84, _⟩ => ⟨S16896, .f32⟩
  | .hbm, ⟨85, _⟩ => ⟨S16896x1, .f32⟩
  | .hbm, ⟨86, _⟩ => ⟨S_, .f32⟩
  | .hbm, ⟨87, _⟩ => ⟨S16896x1, .f32⟩
  | .hbm, ⟨88, _⟩ => ⟨S16896x1, .f32⟩
  | .hbm, ⟨89, _⟩ => ⟨S16896x1024, .f32⟩
  | .hbm, ⟨90, _⟩ => ⟨S16896x1024, .f32⟩
  | .hbm, ⟨91, _⟩ => ⟨S16896x1024, .f32⟩
  | .hbm, ⟨92, _⟩ => ⟨S_, .f32⟩
  | .hbm, ⟨93, _⟩ => ⟨S16896, .f32⟩
  | .hbm, ⟨94, _⟩ => ⟨S16896x1, .f32⟩
  | .hbm, ⟨95, _⟩ => ⟨S_, .f32⟩
  | .hbm, ⟨96, _⟩ => ⟨S16896x1, .f32⟩
  | .hbm, ⟨97, _⟩ => ⟨S16896x1, .f32⟩
  | .hbm, ⟨98, _⟩ => ⟨S16896x1024, .f32⟩
  | .hbm, ⟨99, _⟩ => ⟨S16896x1024, .f32⟩
  | .hbm, ⟨100, _⟩ => ⟨S_, .f32⟩
  | .hbm, ⟨101, _⟩ => ⟨S16896x1, .f32⟩
  | .hbm, ⟨102, _⟩ => ⟨S16896x1, .f32⟩
  | .hbm, ⟨103, _⟩ => ⟨S16896x1, .f32⟩
  | .hbm, ⟨104, _⟩ => ⟨S16896x1024, .f32⟩
  | .hbm, ⟨105, _⟩ => ⟨S16896x1024, .f32⟩
  | .hbm, ⟨106, _⟩ => ⟨S1x1x1024, .f32⟩
  | .hbm, ⟨107, _⟩ => ⟨S1x1024, .f32⟩
  | .hbm, ⟨108, _⟩ => ⟨S16896x1024, .f32⟩
  | .hbm, ⟨109, _⟩ => ⟨S16896x1024, .f32⟩
  | .hbm, ⟨110, _⟩ => ⟨S1x1x1024, .f32⟩
  | .hbm, ⟨111, _⟩ => ⟨S1x1024, .f32⟩
  | .hbm, ⟨112, _⟩ => ⟨S16896x1024, .f32⟩
  | .hbm, ⟨113, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel4.lean ====
abbrev S2x8448x1024 : Shape := ⟨3, ![2, 8448, 1024]⟩
abbrev S2x1024x1536 : Shape := ⟨3, ![2, 1024, 1536]⟩
abbrev S2x1024x1024 : Shape := ⟨3, ![2, 1024, 1024]⟩
abbrev S2x1024x128 : Shape := ⟨3, ![2, 1024, 128]⟩
abbrev S2x128x256 : Shape := ⟨3, ![2, 128, 256]⟩
abbrev S2x1x128 : Shape := ⟨3, ![2, 1, 128]⟩
abbrev S2x1x256 : Shape := ⟨3, ![2, 1, 256]⟩
abbrev S128x128 : Shape := ⟨2, ![128, 128]⟩
abbrev S128x2048 : Shape := ⟨2, ![128, 2048]⟩
abbrev S2x2x512x8208 : Shape := ⟨4, ![2, 2, 512, 8208]⟩
abbrev S2x8x8448x128 : Shape := ⟨4, ![2, 8, 8448, 128]⟩
abbrev S2x8x66x128x128 : Shape := ⟨5, ![2, 8, 66, 128, 128]⟩
abbrev S2x8448x8 : Shape := ⟨3, ![2, 8448, 8]⟩
abbrev S2x8448x256 : Shape := ⟨3, ![2, 8448, 256]⟩
abbrev S2x8448x512 : Shape := ⟨3, ![2, 8448, 512]⟩
abbrev S1x384x1024 : Shape := ⟨3, ![1, 384, 1024]⟩
abbrev S1x1024x1536 : Shape := ⟨3, ![1, 1024, 1536]⟩
abbrev S1x1024x1024 : Shape := ⟨3, ![1, 1024, 1024]⟩
abbrev S1x1024x128 : Shape := ⟨3, ![1, 1024, 128]⟩
abbrev S1x128x256 : Shape := ⟨3, ![1, 128, 256]⟩
abbrev S1x1x128 : Shape := ⟨3, ![1, 1, 128]⟩
abbrev S1x1x256 : Shape := ⟨3, ![1, 1, 256]⟩
abbrev S1x8x384x128 : Shape := ⟨4, ![1, 8, 384, 128]⟩
abbrev S1x8x3x128x128 : Shape := ⟨5, ![1, 8, 3, 128, 128]⟩
abbrev S1x1x512x384 : Shape := ⟨4, ![1, 1, 512, 384]⟩
abbrev S1x384x8 : Shape := ⟨3, ![1, 384, 8]⟩
abbrev S1x384x256 : Shape := ⟨3, ![1, 384, 256]⟩
abbrev S1x384x512 : Shape := ⟨3, ![1, 384, 512]⟩
abbrev S1x128 : Shape := ⟨2, ![1, 128]⟩
abbrev S384x1 : Shape := ⟨2, ![384, 1]⟩
abbrev S384x1024 : Shape := ⟨2, ![384, 1024]⟩
abbrev S1024x128 : Shape := ⟨2, ![1024, 128]⟩
abbrev S384x128 : Shape := ⟨2, ![384, 128]⟩
abbrev S384x8 : Shape := ⟨2, ![384, 8]⟩
abbrev S128x256 : Shape := ⟨2, ![128, 256]⟩
abbrev S384x256 : Shape := ⟨2, ![384, 256]⟩
abbrev S1x256 : Shape := ⟨2, ![1, 256]⟩
abbrev S1024x1536 : Shape := ⟨2, ![1024, 1536]⟩
abbrev S384x1536 : Shape := ⟨2, ![384, 1536]⟩
abbrev S384x512 : Shape := ⟨2, ![384, 512]⟩
abbrev S512x384 : Shape := ⟨2, ![512, 384]⟩
abbrev S384x2048 : Shape := ⟨2, ![384, 2048]⟩
abbrev S1x1x384x128 : Shape := ⟨4, ![1, 1, 384, 128]⟩
abbrev S1x1x1x128x128 : Shape := ⟨5, ![1, 1, 1, 128, 128]⟩
abbrev S1024x1024 : Shape := ⟨2, ![1024, 1024]⟩

abbrev nBuf : Space → Nat
  | .hbm => 21
  | .vmem => 31
  | .smem => 0
  | _ => 0

abbrev bufTy : (tb : Table) → Fin (tcTables nBuf tb) → BufTy
  | .hbm, ⟨0, _⟩ => ⟨S2x8448x1024, .f32⟩
  | .hbm, ⟨1, _⟩ => ⟨S2x1024x1536, .bf16⟩
  | .hbm, ⟨2, _⟩ => ⟨S2x1024x1024, .bf16⟩
  | .hbm, ⟨3, _⟩ => ⟨S2x1024x128, .bf16⟩
  | .hbm, ⟨4, _⟩ => ⟨S2x128x256, .bf16⟩
  | .hbm, ⟨5, _⟩ => ⟨S2x1x128, .f32⟩
  | .hbm, ⟨6, _⟩ => ⟨S2x1x256, .f32⟩
  | .hbm, ⟨7, _⟩ => ⟨S128x128, .bf16⟩
  | .hbm, ⟨8, _⟩ => ⟨S128x2048, .bf16⟩
  | .hbm, ⟨9, _⟩ => ⟨S2x2x512x8208, .f32⟩
  | .hbm, ⟨10, _⟩ => ⟨S2x2x512x8208, .f32⟩
  | .hbm, ⟨11, _⟩ => ⟨S2x8x8448x128, .bf16⟩
  | .hbm, ⟨12, _⟩ => ⟨S2x8x8448x128, .bf16⟩
  | .hbm, ⟨13, _⟩ => ⟨S2x8x66x128x128, .bf16⟩
  | .hbm, ⟨14, _⟩ => ⟨S2x2x512x8208, .f32⟩
  | .hbm, ⟨15, _⟩ => ⟨S2x2x512x8208, .f32⟩
  | .hbm, ⟨16, _⟩ => ⟨S2x8448x8, .f32⟩
  | .hbm, ⟨17, _⟩ => ⟨S2x8448x256, .f32⟩
  | .hbm, ⟨18, _⟩ => ⟨S2x8448x256, .f32⟩
  | .hbm, ⟨19, _⟩ => ⟨S2x8448x512, .bf16⟩
  | .hbm, ⟨20, _⟩ => ⟨S2x8448x256, .f32⟩
  | .local _ .vmem, ⟨0, _⟩ => ⟨S1x384x1024, .f32⟩
  | .local _ .vmem, ⟨1, _⟩ => ⟨S1x384x1024, .f32⟩
  | .local _ .vmem, ⟨2, _⟩ => ⟨S1x1024x1536, .bf16⟩
  | .local _ .vmem, ⟨3, _⟩ => ⟨S1x1024x1024, .bf16⟩
  | .local _ .vmem, ⟨4, _⟩ => ⟨S1x1024x128, .bf16⟩
  | .local _ .vmem, ⟨5, _⟩ => ⟨S1x128x256, .bf16⟩
  | .local _ .vmem, ⟨6, _⟩ => ⟨S1x1x128, .f32⟩
  | .local _ .vmem, ⟨7, _⟩ => ⟨S1x1x256, .f32⟩
  | .local _ .vmem, ⟨8, _⟩ => ⟨S128x128, .bf16⟩
  | .local _ .vmem, ⟨9, _⟩ => ⟨S128x2048, .bf16⟩
  | .local _ .vmem, ⟨10, _⟩ => ⟨S1x8x384x128, .bf16⟩
  | .local _ .vmem, ⟨11, _⟩ => ⟨S1x8x384x128, .bf16⟩
  | .local _ .vmem, ⟨12, _⟩ => ⟨S1x8x384x128, .bf16⟩
  | .local _ .vmem, ⟨13, _⟩ => ⟨S1x8x384x128, .bf16⟩
  | .local _ .vmem, ⟨14, _⟩ => ⟨S1x8x3x128x128, .bf16⟩
  | .local _ .vmem, ⟨15, _⟩ => ⟨S1x8x3x128x128, .bf16⟩
  | .local _ .vmem, ⟨16, _⟩ => ⟨S1x1x512x384, .f32⟩
  | .local _ .vmem, ⟨17, _⟩ => ⟨S1x1x512x384, .f32⟩
  | .local _ .vmem, ⟨18, _⟩ => ⟨S1x1x512x384, .f32⟩
  | .local _ .vmem, ⟨19, _⟩ => ⟨S1x1x512x384, .f32⟩
  | .local _ .vmem, ⟨20, _⟩ => ⟨S1x384x8, .f32⟩
  | .local _ .vmem, ⟨21, _⟩ => ⟨S1x384x8, .f32⟩
  | .local _ .vmem, ⟨22, _⟩ => ⟨S1x384x256, .f32⟩
  | .local _ .vmem, ⟨23, _⟩ => ⟨S1x384x256, .f32⟩
  | .local _ .vmem, ⟨24, _⟩ => ⟨S1x384x256, .f32⟩
  | .local _ .vmem, ⟨25, _⟩ => ⟨S1x384x256, .f32⟩
  | .local _ .vmem, ⟨26, _⟩ => ⟨S1x384x512, .bf16⟩
  | .local _ .vmem, ⟨27, _⟩ => ⟨S1x384x512, .bf16⟩
  | .local _ .vmem, ⟨28, _⟩ => ⟨S1x384x256, .f32⟩
  | .local _ .vmem, ⟨29, _⟩ => ⟨S1x384x256, .f32⟩
  | .local _ .vmem, ⟨30, _⟩ => ⟨S1x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x3x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x384x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x384x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x384x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x384x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x384x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S2x8448x1024 : Shape := ⟨3, ![2, 8448, 1024]⟩
abbrev S2x1024x1536 : Shape := ⟨3, ![2, 1024, 1536]⟩
abbrev S2x1024x1024 : Shape := ⟨3, ![2, 1024, 1024]⟩
abbrev S2x1024x128 : Shape := ⟨3, ![2, 1024, 128]⟩
abbrev S2x128x256 : Shape := ⟨3, ![2, 128, 256]⟩
abbrev S2x1x128 : Shape := ⟨3, ![2, 1, 128]⟩
abbrev S2x1x256 : Shape := ⟨3, ![2, 1, 256]⟩
abbrev S128x128 : Shape := ⟨2, ![128, 128]⟩
abbrev S128x2048 : Shape := ⟨2, ![128, 2048]⟩
abbrev S2x2x512x8208 : Shape := ⟨4, ![2, 2, 512, 8208]⟩
abbrev S2x8208x1024 : Shape := ⟨3, ![2, 8208, 1024]⟩
abbrev S1x1024x1536 : Shape := ⟨3, ![1, 1024, 1536]⟩
abbrev S1024x1536 : Shape := ⟨2, ![1024, 1536]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩
abbrev S1x128x256 : Shape := ⟨3, ![1, 128, 256]⟩
abbrev S128x256 : Shape := ⟨2, ![128, 256]⟩
abbrev S2x8208x1536 : Shape := ⟨3, ![2, 8208, 1536]⟩
abbrev S2x8208x512 : Shape := ⟨3, ![2, 8208, 512]⟩
abbrev S2x8208x256 : Shape := ⟨3, ![2, 8208, 256]⟩
abbrev S2x8208x128 : Shape := ⟨3, ![2, 8208, 128]⟩
abbrev S1x1x128 : Shape := ⟨3, ![1, 1, 128]⟩
abbrev S1x128 : Shape := ⟨2, ![1, 128]⟩
abbrev S2x8208x8 : Shape := ⟨3, ![2, 8208, 8]⟩
abbrev S_ : Shape := ⟨0, ![]⟩
abbrev S1x1x256 : Shape := ⟨3, ![1, 1, 256]⟩
abbrev S1x256 : Shape := ⟨2, ![1, 256]⟩
abbrev S1x2x512x8208 : Shape := ⟨4, ![1, 2, 512, 8208]⟩
abbrev S2x512x8208 : Shape := ⟨3, ![2, 512, 8208]⟩
abbrev S2x8448x8 : Shape := ⟨3, ![2, 8448, 8]⟩
abbrev S2x8448x256 : Shape := ⟨3, ![2, 8448, 256]⟩
abbrev S2x8448x512 : Shape := ⟨3, ![2, 8448, 512]⟩

abbrev nBuf : Space → Nat
  | .hbm => 108
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x1024x1536, .bf16⟩
  | .hbm, ⟨2, _⟩ => ⟨S2x1024x1024, .bf16⟩
  | .hbm, ⟨3, _⟩ => ⟨S2x1024x128, .bf16⟩
  | .hbm, ⟨4, _⟩ => ⟨S2x128x256, .bf16⟩
  | .hbm, ⟨5, _⟩ => ⟨S2x1x128, .f32⟩
  | .hbm, ⟨6, _⟩ => ⟨S2x1x256, .f32⟩
  | .hbm, ⟨7, _⟩ => ⟨S128x128, .bf16⟩
  | .hbm, ⟨8, _⟩ => ⟨S128x2048, .bf16⟩
  | .hbm, ⟨9, _⟩ => ⟨S2x2x512x8208, .f32⟩
  | .hbm, ⟨10, _⟩ => ⟨S2x2x512x8208, .f32⟩
  | .hbm, ⟨11, _⟩ => ⟨S2x8208x1024, .f32⟩
  | .hbm, ⟨12, _⟩ => ⟨S1x1024x1536, .bf16⟩
  | .hbm, ⟨13, _⟩ => ⟨S1024x1536, .bf16⟩
  | .hbm, ⟨14, _⟩ => ⟨S1024x1536, .f32⟩
  | .hbm, ⟨15, _⟩ => ⟨S1x1024x1024, .bf16⟩
  | .hbm, ⟨16, _⟩ => ⟨S1024x1024, .bf16⟩
  | .hbm, ⟨17, _⟩ => ⟨S1024x1024, .f32⟩
  | .hbm, ⟨18, _⟩ => ⟨S1x1024x128, .bf16⟩
  | .hbm, ⟨19, _⟩ => ⟨S1024x128, .bf16⟩
  | .hbm, ⟨20, _⟩ => ⟨S1024x128, .f32⟩
  | .hbm, ⟨21, _⟩ => ⟨S1x128x256, .bf16⟩
  | .hbm, ⟨22, _⟩ => ⟨S128x256, .bf16⟩
  | .hbm, ⟨23, _⟩ => ⟨S128x256, .f32⟩
  | .hbm, ⟨24, _⟩ => ⟨S2x8208x1536, .f32⟩
  | .hbm, ⟨25, _⟩ => ⟨S2x8208x512, .f32⟩
  | .hbm, ⟨26, _⟩ => ⟨S2x8208x512, .f32⟩
  | .hbm, ⟨27, _⟩ => ⟨S2x8208x512, .f32⟩
  | .hbm, ⟨28, _⟩ => ⟨S2x8208x1024, .f32⟩
  | .hbm, ⟨29, _⟩ => ⟨S2x8208x256, .f32⟩
  | .hbm, ⟨30, _⟩ => ⟨S2x8208x256, .f32⟩
  | .hbm, ⟨31, _⟩ => ⟨S2x8208x512, .f32⟩
  | .hbm, ⟨32, _⟩ => ⟨S2x8208x128, .f32⟩
  | .hbm, ⟨33, _⟩ => ⟨S1x1x128, .f32⟩
  | .hbm, ⟨34, _⟩ => ⟨S1x128, .f32⟩
  | .hbm, ⟨35, _⟩ => ⟨S1x1x128, .f32⟩
  | .hbm, ⟨36, _⟩ => ⟨S2x8208x128, .f32⟩
  | .hbm, ⟨37, _⟩ => ⟨S2x8208x128, .f32⟩
  | .hbm, ⟨38, _⟩ => ⟨S2x8208x8, .f32⟩
  | .hbm, ⟨39, _⟩ => ⟨S2x8208x8, .f32⟩
  | .hbm, ⟨40, _⟩ => ⟨S_, .f32⟩
  | .hbm, ⟨41, _⟩ => ⟨S2x8208x8, .f32⟩
  | .hbm, ⟨42, _⟩ => ⟨S2x8208x8, .f32⟩
  | .hbm, ⟨43, _⟩ => ⟨S2x8208x8, .f32⟩
  | .hbm, ⟨44, _⟩ => ⟨S2x8208x8, .f32⟩
  | .hbm, ⟨45, _⟩ => ⟨S2x8208x8, .i1⟩
  | .hbm, ⟨46, _⟩ => ⟨S2x8208x8, .f32⟩
  | .hbm, ⟨47, _⟩ => ⟨S2x8208x8, .f32⟩
  | .hbm, ⟨48, _⟩ => ⟨S2x8208x8, .f32⟩
  | .hbm, ⟨49, _⟩ => ⟨S2x8208x8, .f32⟩
  | .hbm, ⟨50, _⟩ => ⟨S2x8208x8, .f32⟩
  | .hbm, ⟨51, _⟩ => ⟨S2x8208x8, .f32⟩
  | .hbm, ⟨52, _⟩ => ⟨S2x8208x8, .f32⟩
  | .hbm, ⟨53, _⟩ => ⟨S2x8208x8, .f32⟩
  | .hbm, ⟨54, _⟩ => ⟨S2x8208x8, .f32⟩
  | .hbm, ⟨55, _⟩ => ⟨S2x8208x256, .f32⟩
  | .hbm, ⟨56, _⟩ => ⟨S1x1x256, .f32⟩
  | .hbm, ⟨57, _⟩ => ⟨S1x256, .f32⟩
  | .hbm, ⟨58, _⟩ => ⟨S1x1x256, .f32⟩
  | .hbm, ⟨59, _⟩ => ⟨S2x8208x256, .f32⟩
  | .hbm, ⟨60, _⟩ => ⟨S2x8208x256, .f32⟩
  | .hbm, ⟨61, _⟩ => ⟨S2x8208x256, .f32⟩
  | .hbm, ⟨62, _⟩ => ⟨S_, .f32⟩
  | .hbm, ⟨63, _⟩ => ⟨S2x8208x256, .f32⟩
  | .hbm, ⟨64, _⟩ => ⟨S2x8208x256, .f32⟩
  | .hbm, ⟨65, _⟩ => ⟨S2x8208x256, .f32⟩
  | .hbm, ⟨66, _⟩ => ⟨S2x8208x256, .f32⟩
  | .hbm, ⟨67, _⟩ => ⟨S2x8208x256, .i1⟩
  | .hbm, ⟨68, _⟩ => ⟨S2x8208x256, .f32⟩
  | .hbm, ⟨69, _⟩ => ⟨S2x8208x256, .f32⟩
  | .hbm, ⟨70, _⟩ => ⟨S2x8208x256, .f32⟩
  | .hbm, ⟨71, _⟩ => ⟨S2x8208x256, .f32⟩
  | .hbm, ⟨72, _⟩ => ⟨S2x8208x256, .f32⟩
  | .hbm, ⟨73, _⟩ => ⟨S2x8208x256, .f32⟩
  | .hbm, ⟨74, _⟩ => ⟨S2x8208x256, .f32⟩
  | .hbm, ⟨75, _⟩ => ⟨S2x8208x256, .f32⟩
  | .hbm, ⟨76, _⟩ => ⟨S2x8208x256, .f32⟩
  | .hbm, ⟨77, _⟩ => ⟨S_, .f32⟩
  | .hbm, ⟨78, _⟩ => ⟨S2x8208x256, .f32⟩
  | .hbm, ⟨79, _⟩ => ⟨S2x8208x256, .f32⟩
  | .hbm, ⟨80, _⟩ => ⟨S1x2x512x8208, .f32⟩
  | .hbm, ⟨81, _⟩ => ⟨S2x512x8208, .f32⟩
  | .hbm, ⟨82, _⟩ => ⟨S2x512x8208, .f32⟩
  | .hbm, ⟨83, _⟩ => ⟨S1x2x512x8208, .f32⟩
  | .hbm, ⟨84, _⟩ => ⟨S1x2x512x8208, .f32⟩
  | .hbm, ⟨85, _⟩ => ⟨S2x2x512x8208, .f32⟩
  | .hbm, ⟨86, _⟩ => ⟨S1x2x512x8208, .f32⟩
  | .hbm, ⟨87, _⟩ => ⟨S2x512x8208, .f32⟩
  | .hbm, ⟨88, _⟩ => ⟨S2x512x8208, .f32⟩
  | .hbm, ⟨89, _⟩ => ⟨S1x2x512x8208, .f32⟩
  | .hbm, ⟨90, _⟩ => ⟨S1x2x512x8208, .f32⟩
  | .hbm, ⟨91, _⟩ => ⟨S2x2x512x8208, .f32⟩
  | .hbm, ⟨92, _⟩ => ⟨S_, .i32⟩
  | .hbm, ⟨93, _⟩ => ⟨S_, .f32⟩
  | .hbm, ⟨94, _⟩ => ⟨S2x8448x8, .f32⟩
  | .hbm, ⟨95, _⟩ => ⟨S_, .i32⟩
  | .hbm, ⟨96, _⟩ => ⟨S_, .f32⟩
  | .hbm, ⟨97, _⟩ => ⟨S2x8448x256, .f32⟩
  | .hbm, ⟨98, _⟩ => ⟨S_, .i32⟩
  | .hbm, ⟨99, _⟩ => ⟨S_, .f32⟩
  | .hbm, ⟨100, _⟩ => ⟨S2x8448x256, .f32⟩
  | .hbm, ⟨101, _⟩ => ⟨S2x8208x512, .bf16⟩
  | .hbm, ⟨102, _⟩ => ⟨S_, .i32⟩
  | .hbm, ⟨103, _⟩ => ⟨S_, .bf16⟩
  | .hbm, ⟨104, _⟩ => ⟨S2x8448x512, .bf16⟩
  | .hbm, ⟨105, _⟩ => ⟨S_, .i32⟩
  | .hbm, ⟨106, _⟩ => ⟨S_, .f32⟩
  | .hbm, ⟨107, _⟩ => ⟨S2x8448x256, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v35 : Ref sig .tc := ⟨.hbm, 76, rfl⟩
abbrev main_cst : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c : Ref sig .tc := ⟨.hbm, 92, rfl⟩
abbrev main_call2_v0 : Ref sig .tc := ⟨.hbm, 93, rfl⟩
abbrev main_v50 : Ref sig .tc := ⟨.hbm, 94, rfl⟩
abbrev main_c_0 : Ref sig .tc := ⟨.hbm, 95, rfl⟩
abbrev main_call3_v0 : Ref sig .tc := ⟨.hbm, 96, rfl⟩
abbrev main_v51 : Ref sig .tc := ⟨.hbm, 97, rfl⟩
abbrev main_c_1 : Ref sig .tc := ⟨.hbm, 98, rfl⟩
abbrev main_call4_v0 : Ref sig .tc := ⟨.hbm, 99, rfl⟩
abbrev main_v52 : Ref sig .tc := ⟨.hbm, 100, rfl⟩
abbrev main_v53 : Ref sig .tc := ⟨.hbm, 101, rfl⟩
abbrev main_c_2 : Ref sig .tc := ⟨.hbm, 102, rfl⟩
abbrev main_call5_v0 : Ref sig .tc := ⟨.hbm, 103, rfl⟩
abbrev main_v54 : Ref sig .tc := ⟨.hbm, 104, rfl⟩
abbrev main_c_3 : Ref sig .tc := ⟨.hbm, 105, rfl⟩
abbrev main_call6_v0 : Ref sig .tc := ⟨.hbm, 106, rfl⟩
abbrev main_v55 : Ref sig .tc := ⟨.hbm, 107, rfl⟩

abbrev nD : Nat := 1
abbrev τ : Topo := Topo.v7x

variable {F : FTy → Type} [FloatOps F]
-- ==== Kernel5.lean ====
abbrev S32x1024 : Shape := ⟨2, ![32, 1024]⟩
abbrev S2x1024x1536 : Shape := ⟨3, ![2, 1024, 1536]⟩
abbrev S2x1024x1024 : Shape := ⟨3, ![2, 1024, 1024]⟩
abbrev S2x1024x128 : Shape := ⟨3, ![2, 1024, 128]⟩
abbrev S2x128x256 : Shape := ⟨3, ![2, 128, 256]⟩
abbrev S2x1x128 : Shape := ⟨3, ![2, 1, 128]⟩
abbrev S2x1x256 : Shape := ⟨3, ![2, 1, 256]⟩
abbrev S32x1536 : Shape := ⟨2, ![32, 1536]⟩
abbrev S32x128 : Shape := ⟨2, ![32, 128]⟩
abbrev S32x256 : Shape := ⟨2, ![32, 256]⟩
abbrev S1x1024x1536 : Shape := ⟨3, ![1, 1024, 1536]⟩
abbrev S1x1024x1024 : Shape := ⟨3, ![1, 1024, 1024]⟩
abbrev S1x1024x128 : Shape := ⟨3, ![1, 1024, 128]⟩
abbrev S1x128x256 : Shape := ⟨3, ![1, 128, 256]⟩
abbrev S1x1x128 : Shape := ⟨3, ![1, 1, 128]⟩
abbrev S1x1x256 : Shape := ⟨3, ![1, 1, 256]⟩
abbrev S1024x1536 : Shape := ⟨2, ![1024, 1536]⟩
abbrev S1024x1024 : Shape := ⟨2, ![1024, 1024]⟩
abbrev S1024x128 : Shape := ⟨2, ![1024, 128]⟩
abbrev S1x128 : Shape := ⟨2, ![1, 128]⟩
abbrev S128x256 : Shape := ⟨2, ![128, 256]⟩
abbrev S1x256 : Shape := ⟨2, ![1, 256]⟩

abbrev nBuf : Space → Nat
  | .hbm => 11
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S2x1024x1536, .bf16⟩
  | .hbm, ⟨2, _⟩ => ⟨S2x1024x1024, .bf16⟩
  | .hbm, ⟨3, _⟩ => ⟨S2x1024x128, .bf16⟩
  | .hbm, ⟨4, _⟩ => ⟨S2x128x256, .bf16⟩
  | .hbm, ⟨5, _⟩ => ⟨S2x1x128, .f32⟩
  | .hbm, ⟨6, _⟩ => ⟨S2x1x256, .f32⟩
  | .hbm, ⟨7, _⟩ => ⟨S32x1536, .f32⟩
  | .hbm, ⟨8, _⟩ => ⟨S32x1024, .f32⟩
  | .hbm, ⟨9, _⟩ => ⟨S32x128, .f32⟩
  | .hbm, ⟨10, _⟩ => ⟨S32x256, .f32⟩
  | .local _ .vmem, ⟨0, _⟩ => ⟨S32x1024, .f32⟩
  | .local _ .vmem, ⟨1, _⟩ => ⟨S1x1024x1536, .bf16⟩
  | .local _ .vmem, ⟨2, _⟩ => ⟨S1x1024x1024, .bf16⟩
  | .local _ .vmem, ⟨3, _⟩ => ⟨S1x1024x128, .bf16⟩
  | .local _ .vmem, ⟨4, _⟩ => ⟨S1x128x256, .bf16⟩
  | .local _ .vmem, ⟨5, _⟩ => ⟨S1x1x128, .f32⟩
  | .local _ .vmem, ⟨6, _⟩ => ⟨S1x1x256, .f32⟩
  | .local _ .vmem, ⟨7, _⟩ => ⟨S32x1536, .f32⟩
  | .local _ .vmem, ⟨8, _⟩ => ⟨S32x1024, .f32⟩
  | .local _ .vmem, ⟨9, _⟩ => ⟨S32x128, .f32⟩
  | .local _ .vmem, ⟨10, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S32x1024 : Shape := ⟨2, ![32, 1024]⟩
abbrev S2x1024x1536 : Shape := ⟨3, ![2, 1024, 1536]⟩
abbrev S2x1024x1024 : Shape := ⟨3, ![2, 1024, 1024]⟩
abbrev S2x1024x128 : Shape := ⟨3, ![2, 1024, 128]⟩
abbrev S2x128x256 : Shape := ⟨3, ![2, 128, 256]⟩
abbrev S2x1x128 : Shape := ⟨3, ![2, 1, 128]⟩
abbrev S2x1x256 : Shape := ⟨3, ![2, 1, 256]⟩
abbrev S1x1024x1536 : Shape := ⟨3, ![1, 1024, 1536]⟩
abbrev S1024x1536 : Shape := ⟨2, ![1024, 1536]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩
abbrev S1x128x256 : Shape := ⟨3, ![1, 128, 256]⟩
abbrev S128x256 : Shape := ⟨2, ![128, 256]⟩
abbrev S32x128 : Shape := ⟨2, ![32, 128]⟩
abbrev S1x1x128 : Shape := ⟨3, ![1, 1, 128]⟩
abbrev S1x128 : Shape := ⟨2, ![1, 128]⟩
abbrev S_ : Shape := ⟨0, ![]⟩
abbrev S32x256 : Shape := ⟨2, ![32, 256]⟩
abbrev S1x1x256 : Shape := ⟨3, ![1, 1, 256]⟩
abbrev S1x256 : Shape := ⟨2, ![1, 256]⟩
abbrev S32x1536 : Shape := ⟨2, ![32, 1536]⟩

abbrev nBuf : Space → Nat
  | .hbm => 66
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x1536, .bf16⟩
  | .hbm, ⟨2, _⟩ => ⟨S2x1024x1024, .bf16⟩
  | .hbm, ⟨3, _⟩ => ⟨S2x1024x128, .bf16⟩
  | .hbm, ⟨4, _⟩ => ⟨S2x128x256, .bf16⟩
  | .hbm, ⟨5, _⟩ => ⟨S2x1x128, .f32⟩
  | .hbm, ⟨6, _⟩ => ⟨S2x1x256, .f32⟩
  | .hbm, ⟨7, _⟩ => ⟨S1x1024x1536, .bf16⟩
  | .hbm, ⟨8, _⟩ => ⟨S1024x1536, .bf16⟩
  | .hbm, ⟨9, _⟩ => ⟨S1024x1536, .f32⟩
  | .hbm, ⟨10, _⟩ => ⟨S1x1024x1024, .bf16⟩
  | .hbm, ⟨11, _⟩ => ⟨S1024x1024, .bf16⟩
  | .hbm, ⟨12, _⟩ => ⟨S1024x1024, .f32⟩
  | .hbm, ⟨13, _⟩ => ⟨S1x1024x128, .bf16⟩
  | .hbm, ⟨14, _⟩ => ⟨S1024x128, .bf16⟩
  | .hbm, ⟨15, _⟩ => ⟨S1024x128, .f32⟩
  | .hbm, ⟨16, _⟩ => ⟨S1x128x256, .bf16⟩
  | .hbm, ⟨17, _⟩ => ⟨S128x256, .bf16⟩
  | .hbm, ⟨18, _⟩ => ⟨S128x256, .f32⟩
  | .hbm, ⟨19, _⟩ => ⟨S32x128, .f32⟩
  | .hbm, ⟨20, _⟩ => ⟨S1x1x128, .f32⟩
  | .hbm, ⟨21, _⟩ => ⟨S1x128, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S32x128, .i1⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x256, .f32⟩
  | .hbm, ⟨41, _⟩ => ⟨S1x1x256, .f32⟩
  | .hbm, ⟨42, _⟩ => ⟨S1x256, .f32⟩
  | .hbm, ⟨43, _⟩ => ⟨S32x256, .f32⟩
  | .hbm, ⟨44, _⟩ => ⟨S32x256, .f32⟩
  | .hbm, ⟨45, _⟩ => ⟨S32x256, .f32⟩
  | .hbm, ⟨46, _⟩ => ⟨S_, .f32⟩
  | .hbm, ⟨47, _⟩ => ⟨S32x256, .f32⟩
  | .hbm, ⟨48, _⟩ => ⟨S32x256, .f32⟩
  | .hbm, ⟨49, _⟩ => ⟨S32x256, .f32⟩
  | .hbm, ⟨50, _⟩ => ⟨S32x256, .f32⟩
  | .hbm, ⟨51, _⟩ => ⟨S32x256, .i1⟩
  | .hbm, ⟨52, _⟩ => ⟨S32x256, .f32⟩
  | .hbm, ⟨53, _⟩ => ⟨S32x256, .f32⟩
  | .hbm, ⟨54, _⟩ => ⟨S32x256, .f32⟩
  | .hbm, ⟨55, _⟩ => ⟨S32x256, .f32⟩
  | .hbm, ⟨56, _⟩ => ⟨S32x256, .f32⟩
  | .hbm, ⟨57, _⟩ => ⟨S32x256, .f32⟩
  | .hbm, ⟨58, _⟩ => ⟨S32x256, .f32⟩
  | .hbm, ⟨59, _⟩ => ⟨S32x256, .f32⟩
  | .hbm, ⟨60, _⟩ => ⟨S32x256, .f32⟩
  | .hbm, ⟨61, _⟩ => ⟨S_, .f32⟩
  | .hbm, ⟨62, _⟩ => ⟨S32x256, .f32⟩
  | .hbm, ⟨63, _⟩ => ⟨S32x256, .f32⟩
  | .hbm, ⟨64, _⟩ => ⟨S32x1536, .f32⟩
  | .hbm, ⟨65, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_call0_cst : Ref sig .tc := ⟨.hbm, 46, rfl⟩
abbrev main_call1_call0_v0 : Ref sig .tc := ⟨.hbm, 47, rfl⟩
abbrev main_call1_call0_v1 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_v8 : Ref sig .tc := ⟨.hbm, 55, rfl⟩
abbrev main_call1_call0_v9 : Ref sig .tc := ⟨.hbm, 56, rfl⟩
abbrev main_call1_call0_v10 : Ref sig .tc := ⟨.hbm, 57, rfl⟩
abbrev main_call1_call0_v11 : Ref sig .tc := ⟨.hbm, 58, rfl⟩
abbrev main_call1_v1 : Ref sig .tc := ⟨.hbm, 59, rfl⟩
abbrev main_v23 : Ref sig .tc := ⟨.hbm, 60, rfl⟩
abbrev main_cst : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩

abbrev nD : Nat := 1
abbrev τ : Topo := Topo.v7x

variable {F : FTy → Type} [FloatOps F]
-- ==== Kernel6.lean ====
abbrev S32x4x64 : Shape := ⟨3, ![32, 4, 64]⟩
abbrev S32x4x128 : Shape := ⟨3, ![32, 4, 128]⟩
abbrev S32x4x64x128 : Shape := ⟨4, ![32, 4, 64, 128]⟩
abbrev S8x4x64 : Shape := ⟨3, ![8, 4, 64]⟩
abbrev S8x4x128 : Shape := ⟨3, ![8, 4, 128]⟩
abbrev S8x4x64x128 : Shape := ⟨4, ![8, 4, 64, 128]⟩
abbrev S64x64 : Shape := ⟨2, ![64, 64]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S1x1x64x128 : Shape := ⟨4, ![1, 1, 64, 128]⟩
abbrev S64x128 : Shape := ⟨2, ![64, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S32x4x64, .f32⟩
  | .hbm, ⟨1, _⟩ => ⟨S32x4x64, .f32⟩
  | .hbm, ⟨2, _⟩ => ⟨S32x4x64, .f32⟩
  | .hbm, ⟨3, _⟩ => ⟨S32x4x128, .f32⟩
  | .hbm, ⟨4, _⟩ => ⟨S32x4x64x128, .f32⟩
  | .hbm, ⟨5, _⟩ => ⟨S32x4x128, .f32⟩
  | .hbm, ⟨6, _⟩ => ⟨S32x4x64x128, .f32⟩
  | .local _ .vmem, ⟨0, _⟩ => ⟨S8x4x64, .f32⟩
  | .local _ .vmem, ⟨1, _⟩ => ⟨S8x4x64, .f32⟩
  | .local _ .vmem, ⟨2, _⟩ => ⟨S8x4x64, .f32⟩
  | .local _ .vmem, ⟨3, _⟩ => ⟨S8x4x64, .f32⟩
  | .local _ .vmem, ⟨4, _⟩ => ⟨S8x4x64, .f32⟩
  | .local _ .vmem, ⟨5, _⟩ => ⟨S8x4x64, .f32⟩
  | .local _ .vmem, ⟨6, _⟩ => ⟨S8x4x128, .f32⟩
  | .local _ .vmem, ⟨7, _⟩ => ⟨S8x4x128, .f32⟩
  | .local _ .vmem, ⟨8, _⟩ => ⟨S8x4x64x128, .f32⟩
  | .local _ .vmem, ⟨9, _⟩ => ⟨S8x4x64x128, .f32⟩
  | .local _ .vmem, ⟨10, _⟩ => ⟨S8x4x128, .f32⟩
  | .local _ .vmem, ⟨11, _⟩ => ⟨S8x4x128, .f32⟩
  | .local _ .vmem, ⟨12, _⟩ => ⟨S8x4x64x128, .f32⟩
  | .local _ .vmem, ⟨13, _⟩ => ⟨S8x4x64x128, .f32⟩
  | _, _ => ⟨S32x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32x4x64 : Shape := ⟨3, ![32, 4, 64]⟩
abbrev S32x4x128 : Shape := ⟨3, ![32, 4, 128]⟩
abbrev S32x4x64x128 : Shape := ⟨4, ![32, 4, 64, 128]⟩
abbrev S32x4x64x1 : Shape := ⟨4, ![32, 4, 64, 1]⟩
abbrev S32x4x1x128 : Shape := ⟨4, ![32, 4, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S32x4x64, .f32⟩
  | .hbm, ⟨1, _⟩ => ⟨S32x4x64, .f32⟩
  | .hbm, ⟨2, _⟩ => ⟨S32x4x64, .f32⟩
  | .hbm, ⟨3, _⟩ => ⟨S32x4x128, .f32⟩
  | .hbm, ⟨4, _⟩ => ⟨S32x4x64x128, .f32⟩
  | .hbm, ⟨5, _⟩ => ⟨S32x4x64, .f32⟩
  | .hbm, ⟨6, _⟩ => ⟨S32x4x64x1, .f32⟩
  | .hbm, ⟨7, _⟩ => ⟨S32x4x64x128, .f32⟩
  | .hbm, ⟨8, _⟩ => ⟨S32x4x64x128, .f32⟩
  | .hbm, ⟨9, _⟩ => ⟨S32x4x64x1, .f32⟩
  | .hbm, ⟨10, _⟩ => ⟨S32x4x1x128, .f32⟩
  | .hbm, ⟨11, _⟩ => ⟨S32x4x64x128, .f32⟩
  | .hbm, ⟨12, _⟩ => ⟨S32x4x64x128, .f32⟩
  | .hbm, ⟨13, _⟩ => ⟨S32x4x64x128, .f32⟩
  | .hbm, ⟨14, _⟩ => ⟨S32x4x64x128, .f32⟩
  | .hbm, ⟨15, _⟩ => ⟨S32x4x128, .f32⟩
  | _, _ => ⟨S32x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S2x8448x256 : Shape := ⟨3, ![2, 8448, 256]⟩
abbrev S2x8448x512 : Shape := ⟨3, ![2, 8448, 512]⟩
abbrev S896x128 : Shape := ⟨2, ![896, 128]⟩
abbrev S8x256x128 : Shape := ⟨3, ![8, 256, 128]⟩
abbrev S128x128 : Shape := ⟨2, ![128, 128]⟩
abbrev S256x128 : Shape := ⟨2, ![256, 128]⟩
abbrev S1152x128 : Shape := ⟨2, ![1152, 128]⟩
abbrev S2x4x64x128 : Shape := ⟨4, ![2, 4, 64, 128]⟩
abbrev S1x768x256 : Shape := ⟨3, ![1, 768, 256]⟩
abbrev S1x768x512 : Shape := ⟨3, ![1, 768, 512]⟩
abbrev S1x4x64x128 : Shape := ⟨4, ![1, 4, 64, 128]⟩
abbrev S4x128x128 : Shape := ⟨3, ![4, 128, 128]⟩
abbrev S1x128 : Shape := ⟨2, ![1, 128]⟩
abbrev S1x128x128 : Shape := ⟨3, ![1, 128, 128]⟩
abbrev S128x256 : Shape := ⟨2, ![128, 256]⟩
abbrev S1152x256 : Shape := ⟨2, ![1152, 256]⟩
abbrev S1x256x128 : Shape := ⟨3, ![1, 256, 128]⟩
abbrev S64x128 : Shape := ⟨2, ![64, 128]⟩
abbrev S1x1x64x128 : Shape := ⟨4, ![1, 1, 64, 128]⟩

abbrev nBuf : Space → Nat
  | .hbm => 17
  | .vmem => 15
  | .smem => 0
  | _ => 0

abbrev bufTy : (tb : Table) → Fin (tcTables nBuf tb) → BufTy
  | .hbm, ⟨0, _⟩ => ⟨S2x8448x256, .f32⟩
  | .hbm, ⟨1, _⟩ => ⟨S2x8448x256, .f32⟩
  | .hbm, ⟨2, _⟩ => ⟨S2x8448x256, .f32⟩
  | .hbm, ⟨3, _⟩ => ⟨S2x8448x512, .bf16⟩
  | .hbm, ⟨4, _⟩ => ⟨S896x128, .bf16⟩
  | .hbm, ⟨5, _⟩ => ⟨S8x256x128, .f32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x128, .i1⟩
  | .hbm, ⟨11, _⟩ => ⟨S128x128, .f32⟩
  | .hbm, ⟨12, _⟩ => ⟨S256x128, .f32⟩
  | .hbm, ⟨13, _⟩ => ⟨S256x128, .bf16⟩
  | .hbm, ⟨14, _⟩ => ⟨S1152x128, .bf16⟩
  | .hbm, ⟨15, _⟩ => ⟨S2x8448x512, .f32⟩
  | .hbm, ⟨16, _⟩ => ⟨S2x4x64x128, .f32⟩
  | .local _ .vmem, ⟨0, _⟩ => ⟨S1x768x256, .f32⟩
  | .local _ .vmem, ⟨1, _⟩ => ⟨S1x768x256, .f32⟩
  | .local _ .vmem, ⟨2, _⟩ => ⟨S1x768x256, .f32⟩
  | .local _ .vmem, ⟨3, _⟩ => ⟨S1x768x256, .f32⟩
  | .local _ .vmem, ⟨4, _⟩ => ⟨S1x768x256, .f32⟩
  | .local _ .vmem, ⟨5, _⟩ => ⟨S1x768x256, .f32⟩
  | .local _ .vmem, ⟨6, _⟩ => ⟨S1x768x512, .bf16⟩
  | .local _ .vmem, ⟨7, _⟩ => ⟨S1x768x512, .bf16⟩
  | .local _ .vmem, ⟨8, _⟩ => ⟨S1152x128, .bf16⟩
  | .local _ .vmem, ⟨9, _⟩ => ⟨S8x256x128, .f32⟩
  | .local _ .vmem, ⟨10, _⟩ => ⟨S1x768x512, .f32⟩
  | .local _ .vmem, ⟨11, _⟩ => ⟨S1x768x512, .f32⟩
  | .local _ .vmem, ⟨12, _⟩ => ⟨S1x4x64x128, .f32⟩
  | .local _ .vmem, ⟨13, _⟩ => ⟨S1x4x64x128, .f32⟩
  | .local _ .vmem, ⟨14, _⟩ => ⟨S4x128x128, .f32⟩
  | _, _ => ⟨S2x8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v3164 : BitVec 1 := Scalar.cmpi .eq arg1 c10_i32
  let v3165 : BitVec 32 := Scalar.extui v3164
  let c0_i32_1212 : BitVec 32 := 0#32
  let v3166 : BitVec 1 := Scalar.cmpi .ne v3165 c0_i32_1212
  v3166

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1152x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S2x8448x256 : Shape := ⟨3, ![2, 8448, 256]⟩
abbrev S2x8448x512 : Shape := ⟨3, ![2, 8448, 512]⟩
abbrev S896x128 : Shape := ⟨2, ![896, 128]⟩
abbrev S8x256x128 : Shape := ⟨3, ![8, 256, 128]⟩
abbrev S2x8448x4x64 : Shape := ⟨4, ![2, 8448, 4, 64]⟩
abbrev S2x8448x4x128 : Shape := ⟨4, ![2, 8448, 4, 128]⟩
abbrev S_ : Shape := ⟨0, ![]⟩
abbrev S2x1x4x64 : Shape := ⟨4, ![2, 1, 4, 64]⟩
abbrev S2x4x64x128 : Shape := ⟨4, ![2, 4, 64, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x8448x256, .f32⟩
  | .hbm, ⟨1, _⟩ => ⟨S2x8448x256, .f32⟩
  | .hbm, ⟨2, _⟩ => ⟨S2x8448x256, .f32⟩
  | .hbm, ⟨3, _⟩ => ⟨S2x8448x512, .bf16⟩
  | .hbm, ⟨4, _⟩ => ⟨S896x128, .bf16⟩
  | .hbm, ⟨5, _⟩ => ⟨S8x256x128, .f32⟩
  | .hbm, ⟨6, _⟩ => ⟨S2x8448x4x64, .f32⟩
  | .hbm, ⟨7, _⟩ => ⟨S2x8448x4x64, .f32⟩
  | .hbm, ⟨8, _⟩ => ⟨S2x8448x512, .f32⟩
  | .hbm, ⟨9, _⟩ => ⟨S2x8448x4x128, .f32⟩
  | .hbm, ⟨10, _⟩ => ⟨S_, .f32⟩
  | .hbm, ⟨11, _⟩ => ⟨S_, .f32⟩
  | .hbm, ⟨12, _⟩ => ⟨S2x8448x4x64, .f32⟩
  | .hbm, ⟨13, _⟩ => ⟨S2x1x4x64, .f32⟩
  | .hbm, ⟨14, _⟩ => ⟨S2x8448x4x64, .f32⟩
  | .hbm, ⟨15, _⟩ => ⟨S2x8448x4x64, .f32⟩
  | .hbm, ⟨16, _⟩ => ⟨S2x8448x4x64, .f32⟩
  | .hbm, ⟨17, _⟩ => ⟨S2x8448x4x64, .f32⟩
  | .hbm, ⟨18, _⟩ => ⟨S2x4x64x128, .f32⟩
  | _, _ => ⟨S2x8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.KernelTrip.lean ====
/-
  One trip of the attention kernel's key loop at any float semantics: the kernel's scratch buffers are held at some
  contents before and after it, the three operands unchanged.
-/
module

public import proofs.«01_k».proof.Proof.Gen.Kernel.Skeleton
public import proofs.«01_k».proof.Proof.Gen.Kernel.Loops
public import proofs.«01_k».proof.Proof.Gen.Kernel.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- A memref's buffer on core `c`, whole, at contents `f`. -/
abbrev pt (c : Dev nD) {S : Shape} {e : EltTy} (M : Memref sig .tc .vmem S e)
    (f : Buf (Elt F) (M.view.loc (c : Thread nD τ))) : sProp 𝕄 :=
  M.view.loc (c : Thread nD τ) ↦[M.view.set]{fullShare} f

section

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x66x128x128 .bf16) (harg5 : arg5.IsWhole) (arg6 : Memref sig .tc .vmem S1x768x128 .bf16) (harg6 : arg6.IsWhole) (arg7 : Memref sig .tc .vmem S2x128x768 .f32) (harg7 : arg7.IsWhole) (arg8 : Memref sig .tc .vmem S2x1x768 .f32) (harg8 : arg8.IsWhole) (arg9 : Memref sig .tc .vmem S3x2x1x768 .f32) (harg9 : arg9.IsWhole) (arg10 : Memref sig .tc .vmem S2x256x768 .f32) (harg10 : arg10.IsWhole) (arg11 : Memref sig .tc .vmem S2x256x768 .f32) (harg11 : arg11.IsWhole) (arg12 : Memref sig .tc .vmem S2x256x768 .f32) (harg12 : arg12.IsWhole) (arg2 : BitVec 32) (v25 : FVec F S256x768 .f32)

/-- The operands at their contents and the six scratch buffers at some contents. -/
def tripRes (X3 : Buf (Elt F) (arg3.view.loc (c : Thread nD τ))) (X4 : Buf (Elt F) (arg4.view.loc (c : Thread nD τ)))
    (X5 : Buf (Elt F) (arg5.view.loc (c : Thread nD τ))) : sProp 𝕄 :=
  iprop(pt c arg3 X3 ∗ pt c arg4 X4 ∗ pt c arg5 X5 ∗ (∃ f, pt c arg7 f) ∗ (∃ f, pt c arg8 f) ∗ (∃ f, pt c arg9 f)
    ∗ (∃ f, pt c arg10 f) ∗ (∃ f, pt c arg11 f) ∗ (∃ f, pt c arg12 f))

set_option maxHeartbeats 2000000 in
theorem trip (X3 : Buf (Elt F) (arg3.view.loc (c : Thread nD τ))) (X4 : Buf (Elt F) (arg4.view.loc (c : Thread nD τ)))
    (X5 : Buf (Elt F) (arg5.view.loc (c : Thread nD τ))) (k : Fin (k0_t1_loop i).trips) :
    tripRes c arg3 arg4 arg5 arg7 arg8 arg9 arg10 arg11 arg12 X3 X4 X5
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 arg2 v25 k ())
          (fun _ => tripRes c arg3 arg4 arg5 arg7 arg8 arg9 arg10 arg11 arg12 X3 X4 X5) := by
  unfold tripRes k0_t1_body
  iintro ⟨H3, H4, H5, ⟨%f7, H7⟩, ⟨%f8, H8⟩, ⟨%f9, H9⟩, ⟨%f10, H10⟩, ⟨%f11, H11⟩, ⟨%f12, H12⟩⟩
  sl_exec
  sl_step
  isplitl [H3]; · iexact H3
  isplitl [H4]; · iexact H4
  isplitl [H5]; · iexact H5
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- The remainder loop has no trips. -/
theorem trips2_eq : (k0_t2_loop i).trips = 0 := by
  have h : ∀ j : Fin 11, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by decide +kernel
  exact h (i 2)

set_option warn.classDefReducibility false in
/-- The key loop's invariant: the same resources before and after each trip. -/
@[sl_loop] def loopInv1 (X3 : Buf (Elt F) (arg3.view.loc (c : Thread nD τ))) (X4 : Buf (Elt F) (arg4.view.loc (c : Thread nD τ)))
    (X5 : Buf (Elt F) (arg5.view.loc (c : Thread nD τ))) :
    LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg2 v25 where
  inv _ _ := tripRes c arg3 arg4 arg5 arg7 arg8 arg9 arg10 arg11 arg12 X3 X4 X5
  step k _ := trip c i arg3 harg3 arg4 harg4 arg5 harg5 arg6 harg6 arg7 harg7 arg8 harg8 arg9 harg9 arg10 harg10 arg11 harg11 arg12 harg12 arg2 v25 X3 X4 X5 k

set_option warn.classDefReducibility false in
/-- The remainder loop's: its step is vacuous. -/
@[sl_loop] def loopInv2 (v51 : BitVec 32) (X3 : Buf (Elt F) (arg3.view.loc (c : Thread nD τ))) (X4 : Buf (Elt F) (arg4.view.loc (c : Thread nD τ)))
    (X5 : Buf (Elt F) (arg5.view.loc (c : Thread nD τ))) :
    LoopInvTy_k0_t2 (F := F) Unit ℕ (UU nD τ) ℕ 𝒱₀ c none Set.univ i arg3 harg3 arg4 harg4 arg5 harg5 arg6 harg6 arg7 harg7 arg8 harg8 arg9 harg9 arg10 harg10 arg11 harg11 arg12 harg12 arg2 v25 v51 where
  inv _ _ := tripRes c arg3 arg4 arg5 arg7 arg8 arg9 arg10 arg11 arg12 X3 X4 X5
  step k _ := (Nat.not_lt_zero _ (Nat.lt_of_lt_of_eq k.isLt (trips2_eq i))).elim

end

/-! ## The body, once -/

set_option maxHeartbeats 4000000 in
/-- The kernel's body on whole buffers: the operands' are unchanged, the result's and the scratch's hold something. -/
theorem body_run (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x66x128x128 .bf16) (harg5 : arg5.IsWhole) (arg6 : Memref sig .tc .vmem S1x768x128 .bf16) (harg6 : arg6.IsWhole) (arg7 : Memref sig .tc .vmem S2x128x768 .f32) (harg7 : arg7.IsWhole) (arg8 : Memref sig .tc .vmem S2x1x768 .f32) (harg8 : arg8.IsWhole) (arg9 : Memref sig .tc .vmem S3x2x1x768 .f32) (harg9 : arg9.IsWhole) (arg10 : Memref sig .tc .vmem S2x256x768 .f32) (harg10 : arg10.IsWhole) (arg11 : Memref sig .tc .vmem S2x256x768 .f32) (harg11 : arg11.IsWhole) (arg12 : Memref sig .tc .vmem S2x256x768 .f32) (harg12 : arg12.IsWhole)
    (x3 : Vec F S1x2x768x128 .bf16) (x4 : Vec F S1x2x8448x128 .bf16) (x5 : Vec F S1x2x66x128x128 .bf16) (E : Set ℕ) (K : PUnit → sProp 𝕄) (hE : E = Set.univ) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ (∃ d, owns (c : Thread nD τ) arg12 fullShare d)) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  subst hE
  simp only [cc0_fox_prompt_eq_skeleton]; unfold cc0_fox_prompt_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf3; obtain rfl := harg4.eq_unread hf4; obtain rfl := harg5.eq_unread hf5
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Proof.Kernel

end
-- ==== Proof.KernelFrame.lean ====
/-
  The attention kernel's frame at any float semantics: the launch over `body_run`, which hands each of the three
  operands back as it found it. What the kernel leaves in its result is not named here.
-/
module

public import proofs.«01_k».proof.Proof.KernelTrip
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one output window, whose contents are not named. -/
def outs : Fin 4 → Bool := fun w => w.val == 3

/-- After each point the operands' buffers hold their blocks, as before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- The staging memrefs of the four windows at a point. -/
abbrev st0 (t : Fin cfg0.N) : Memref sig .tc .vmem S1x2x768x128 .bf16 := win0_0.stage (cfg0.slots t 0)
abbrev st1 (t : Fin cfg0.N) : Memref sig .tc .vmem S1x2x8448x128 .bf16 := win0_1.stage (cfg0.slots t 1)
abbrev st2 (t : Fin cfg0.N) : Memref sig .tc .vmem S1x2x66x128x128 .bf16 := win0_2.stage (cfg0.slots t 2)
abbrev st3 (t : Fin cfg0.N) : Memref sig .tc .vmem S1x768x128 .bf16 := win0_3.stage (cfg0.slots t 3)

/-- The six scratch buffers at some contents. -/
def scratch (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))

theorem invariant_eq (c : Dev nD) :
    (Pipeline.ΦA spec0 c : sProp 𝕄) = iprop(scratch (F := F) c ∗ (∃ r, prngReg c r)) := by
  unfold Pipeline.ΦA scratch; rw [scopedRest0_eq]; simp only [owns_whole]; try rfl

/-- What the body is called with at a point, the windows one by one, and what it returns. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare d))

def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ (∃ d, owns (c : Thread nD τ) (st3 t) fullShare d))

theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl, invariant_eq]
  unfold scratch
  iintro ⟨⟨⟨S0, S1, S2, S3, S4, S5⟩, Hg⟩, Ho, ⟨%d0, H0⟩, ⟨%d1, H1⟩, ⟨%d2, H2⟩, ⟨%d3, H3⟩⟩
  iapply (body_run c (grid0.coords t) _ _ _ _ _ _ _ _ _ _ _ _ _ _ _ _ _ _ _ _ (iblk m c 0 t) (iblk m c 1 t) (iblk m c 2 t) Set.univ _ rfl)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outs := fun t => by
  rw [bigSep_W0, bigSep_W0, row_eq]
  exact triple_restated (body_sound m c t) rfl .rfl fun _ => .rfl

set_option backward.isDefEq.respectTransparency.types false in
theorem launched : θ_run defs (onTc (τ := τ) (main (F := F))) (s₀ m ρ)
    (fun r => (Pipeline.RDat.FramePost (cfgs 0) (fun c => (dats m 0 c).toRForget outs) (V m)) r ∧ r.2.sem = fun _ => 0) :=
  Pipeline.θ_run_frame_forget (Q' := _) cfgs (dats m) (0 : Fin 1) launch0 defs₀ Variants.none outs m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: every argument ends unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((dats_A m c 0).trans (V_main_arg0 m c)),
     (Pipeline.RDat.FramePost.arr_in h.1 c 1 rfl).trans ((dats_A m c 1).trans (V_main_arg1 m c)),
     (Pipeline.RDat.FramePost.arr_in h.1 c 2 rfl).trans ((dats_A m c 2).trans (V_main_arg2 m c))⟩, h.2⟩) (launched m ρ)

end Cert.Proof.Kernel

end
-- ==== Proof.Offsets.lean ====
/-
  The key loop's trip count and the offsets of the loads whose positions the kernel computes, in closed form.
-/
module

public import proofs.«01_k».proof.KernelIdeal

@[expose] public section

namespace Cert.Proof.Offsets

open Cert.KernelIdeal
open Idealize.ShloMosaic

variable (i : grid0.Coords)

theorem trips1_eq : (k0_t1_loop i).trips = (i 2).val := by
  have h : ∀ j : Fin 11, Scf.trips 0#32 (Scalar.addi 0#32 (Scalar.muli (Scalar.divsi (Scalar.subi (BitVec.ofNat 32 j.val) 0#32) 1#32) 1#32)) 1#32
      = j.val := by decide +kernel
  exact h (i 2)

/-- The remainder loop has no trips. -/
theorem trips2_eq : (k0_t2_loop i).trips = 0 := by
  have h : ∀ j : Fin 11, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by decide +kernel
  exact h (i 2)

theorem trip_lt (k : Fin (k0_t1_loop i).trips) : k.val < (i 2).val := Nat.lt_of_lt_of_eq k.isLt (trips1_eq i)

theorem trip_lt' (k : Fin (k0_t1_loop i).trips) : k.val < 11 := (trip_lt i k).trans (i 2).isLt

/-- The first key of the block after block `s` of group `j`. -/
theorem key_word (s : Fin 3) : ∀ j : Fin 11,
    (Scalar.indexCast (Scalar.muli (Scalar.addi (Scalar.addi (Scalar.muli 3#32 (BitVec.ofNat 32 j.val)) (BitVec.ofNat 32 s.val)) 1#32) 256#32)).toNat
      = 768 * j.val + 256 * s.val + 256 := by
  revert s; decide +kernel

theorem key_word' (s : Fin 3) : ∀ j : Fin 11,
    (Scalar.indexCast (Scalar.muli (Scalar.addi (Scalar.addi (Scalar.muli 3#32 (Scf.iv 0#32 1#32 j.val)) (BitVec.ofNat 32 s.val)) 1#32) 256#32)).toNat
      = 768 * j.val + 256 * s.val + 256 := by
  revert s; decide +kernel

/-- The number of the half `a` of block `s` of group `j`. -/
theorem half_word (s : Fin 3) (a : Fin 2) : ∀ j : Fin 11,
    (Scalar.indexCast (Scalar.addi (Scalar.muli 2#32 (Scalar.addi (Scalar.muli 3#32 (BitVec.ofNat 32 j.val)) (BitVec.ofNat 32 s.val))) (BitVec.ofNat 32 a.val))).toNat
      = 6 * j.val + 2 * s.val + a.val := by
  revert s a; decide +kernel

theorem half_word' (s : Fin 3) (a : Fin 2) : ∀ j : Fin 11,
    (Scalar.indexCast (Scalar.addi (Scalar.muli 2#32 (Scalar.addi (Scalar.muli 3#32 (Scf.iv 0#32 1#32 j.val)) (BitVec.ofNat 32 s.val))) (BitVec.ofNat 32 a.val))).toNat
      = 6 * j.val + 2 * s.val + a.val := by
  revert s a; decide +kernel

theorem off1 (k : Fin (k0_t1_loop i).trips) (s : ℕ) (hs : s < 3) :
    k0_off1 i k (BitVec.ofNat 32 s) = ![0, 0, 768 * k.val + 256 * s + 256, 0] :=
  congrArg (fun n => (![0, 0, n, 0] : Fin 4 → ℕ)) (key_word' ⟨s, hs⟩ ⟨k.val, trip_lt' i k⟩)

theorem off2 (k : Fin (k0_t1_loop i).trips) (s : ℕ) (hs : s < 3) :
    k0_off2 i k (BitVec.ofNat 32 s) = ![0, 1, 768 * k.val + 256 * s + 256, 0] :=
  congrArg (fun n => (![0, 1, n, 0] : Fin 4 → ℕ)) (key_word' ⟨s, hs⟩ ⟨k.val, trip_lt' i k⟩)

theorem off3 (k : Fin (k0_t1_loop i).trips) (s a : ℕ) (hs : s < 3) (ha : a < 2) :
    k0_off3 i k (BitVec.ofNat 32 s) (BitVec.ofNat 32 a) = ![0, 0, 6 * k.val + 2 * s + a, 0, 0] :=
  congrArg (fun n => (![0, 0, n, 0, 0] : Fin 5 → ℕ)) (half_word' ⟨s, hs⟩ ⟨a, ha⟩ ⟨k.val, trip_lt' i k⟩)

theorem off4 (k : Fin (k0_t1_loop i).trips) (s a : ℕ) (hs : s < 3) (ha : a < 2) :
    k0_off4 i k (BitVec.ofNat 32 s) (BitVec.ofNat 32 a) = ![0, 1, 6 * k.val + 2 * s + a, 0, 0] :=
  congrArg (fun n => (![0, 1, n, 0, 0] : Fin 5 → ℕ)) (half_word' ⟨s, hs⟩ ⟨a, ha⟩ ⟨k.val, trip_lt' i k⟩)

theorem off9 (s : ℕ) (hs : s < 3) : k0_off9 i (BitVec.ofNat 32 s) = ![0, 0, 768 * (i 2).val + 256 * s + 256, 0] :=
  congrArg (fun n => (![0, 0, n, 0] : Fin 4 → ℕ)) (key_word ⟨s, hs⟩ (i 2))

theorem off10 (s : ℕ) (hs : s < 3) : k0_off10 i (BitVec.ofNat 32 s) = ![0, 1, 768 * (i 2).val + 256 * s + 256, 0] :=
  congrArg (fun n => (![0, 1, n, 0] : Fin 4 → ℕ)) (key_word ⟨s, hs⟩ (i 2))

theorem off11 (s a : ℕ) (hs : s < 3) (ha : a < 2) :
    k0_off11 i (BitVec.ofNat 32 s) (BitVec.ofNat 32 a) = ![0, 0, 6 * (i 2).val + 2 * s + a, 0, 0] :=
  congrArg (fun n => (![0, 0, n, 0, 0] : Fin 5 → ℕ)) (half_word ⟨s, hs⟩ ⟨a, ha⟩ (i 2))

theorem off12 (s a : ℕ) (hs : s < 3) (ha : a < 2) :
    k0_off12 i (BitVec.ofNat 32 s) (BitVec.ofNat 32 a) = ![0, 1, 6 * (i 2).val + 2 * s + a, 0, 0] :=
  congrArg (fun n => (![0, 1, n, 0, 0] : Fin 5 → ℕ)) (half_word ⟨s, hs⟩ ⟨a, ha⟩ (i 2))

end Cert.Proof.Offsets
-- ==== Proof.Online.lean ====
/-
  The running softmax over the extended reals: the weighted sum of a prefix of the keys under the running maximum, and
  what one further block of keys does to it. No score need be finite.
-/
module

public import Idealize.ShloMosaic.PureOps.Ideal
public import Idealize.ShloMosaic.PureOps.Ideal.Laws

@[expose] public section

noncomputable section

namespace Cert.Proof.Online

open Idealize.ShloMosaic
open scoped BigOperators

/-- The greatest of the first `n` scores. -/
def top (S : ℕ → EReal) (n : ℕ) : EReal := (Finset.range n).sup S

/-- The greatest of the `b` scores from `n` on. -/
def blockTop (S : ℕ → EReal) (b n : ℕ) : EReal := (Finset.range b).sup fun r => S (n + r)

/-- The first `n` values, each weighted by two to the power of its score less the greatest. -/
def acc (S W : ℕ → EReal) (n : ℕ) : EReal := ∑ k ∈ Finset.range n, W k * Ideal.exp2 (S k - top S n)

theorem top_zero (S : ℕ → EReal) : top S 0 = ⊥ := by simp [top]

theorem acc_zero (S W : ℕ → EReal) : acc S W 0 = 0 := by simp [acc]

theorem le_top {S : ℕ → EReal} {n k : ℕ} (h : k < n) : S k ≤ top S n :=
  Finset.le_sup (f := S) (Finset.mem_range.mpr h)

theorem top_add (S : ℕ → EReal) (n b : ℕ) : top S (n + b) = max (top S n) (blockTop S b n) := by
  apply le_antisymm
  · refine Finset.sup_le fun k hk => ?_
    rw [Finset.mem_range] at hk
    by_cases h : k < n
    · exact le_max_of_le_left (le_top h)
    · refine le_max_of_le_right ?_
      have e : k = n + (k - n) := by omega
      rw [e]
      exact Finset.le_sup (f := fun r => S (n + r)) (Finset.mem_range.mpr (by omega))
  · refine max_le (Finset.sup_mono (Finset.range_mono (by omega))) (Finset.sup_le fun r hr => ?_)
    rw [Finset.mem_range] at hr
    exact le_top (by omega)

theorem exp2_nonneg (x : EReal) : 0 ≤ Ideal.exp2 x := by
  induction x using EReal.rec with
  | bot => exact le_refl _
  | top => exact le_top'
  | coe r => exact EReal.coe_nonneg.mpr (Real.rpow_nonneg (by norm_num) r)
where le_top' : (0 : EReal) ≤ ⊤ := _root_.le_top

theorem exp2_ne_top {x : EReal} (h : x ≠ ⊤) : Ideal.exp2 x ≠ ⊤ := by
  induction x using EReal.rec with
  | bot => exact EReal.zero_ne_top
  | top => exact absurd rfl h
  | coe r => exact EReal.coe_ne_top _

/-- A difference of something and something no less is not plus infinity. -/
theorem sub_ne_top {x y : EReal} (h : x ≤ y) : x - y ≠ ⊤ := by
  induction y using EReal.rec with
  | bot => rw [le_bot_iff.mp h]; decide
  | top =>
    induction x using EReal.rec with
    | bot => decide
    | top => decide
    | coe r => rw [EReal.sub_top]; exact bot_ne_top
  | coe r =>
    induction x using EReal.rec with
    | bot => rw [EReal.bot_sub]; exact bot_ne_top
    | top => exact absurd (top_le_iff.mp h) (EReal.coe_ne_top r)
    | coe q => rw [← EReal.coe_sub]; exact EReal.coe_ne_top _

/-- A weight under an older maximum, rescaled, is the weight under the newer. -/
theorem rescale {s m m' : EReal} (h : s ≤ m) (h' : m ≤ m') :
    Ideal.exp2 (m - m') * Ideal.exp2 (s - m) = Ideal.exp2 (s - m') := by
  have z : Ideal.exp2 ⊥ = 0 := rfl
  induction s using EReal.rec with
  | bot => rw [EReal.bot_sub, EReal.bot_sub, z, mul_zero]
  | top =>
    obtain rfl := top_le_iff.mp h
    obtain rfl := top_le_iff.mp h'
    rw [EReal.sub_top, z, mul_zero]
  | coe q =>
    induction m' using EReal.rec with
    | bot => exact absurd (le_bot_iff.mp (h.trans h')) (EReal.coe_ne_bot q)
    | top => rw [EReal.sub_top, EReal.sub_top, z, zero_mul]
    | coe r' =>
      induction m using EReal.rec with
      | bot => exact absurd (le_bot_iff.mp h) (EReal.coe_ne_bot q)
      | top => exact absurd (top_le_iff.mp h') (EReal.coe_ne_top r')
      | coe r =>
        rw [← EReal.coe_sub, ← EReal.coe_sub, ← EReal.coe_sub]
        show ((Real.rpow 2 (r - r') : ℝ) : EReal) * ((Real.rpow 2 (q - r) : ℝ) : EReal) = ((Real.rpow 2 (q - r') : ℝ) : EReal)
        rw [← EReal.coe_mul]
        congr 1
        show (2 : ℝ) ^ (r - r') * (2 : ℝ) ^ (q - r) = (2 : ℝ) ^ (q - r')
        rw [← Real.rpow_add (by norm_num : (0 : ℝ) < 2)]
        congr 1
        ring

theorem mul_sum_of_nonneg {ι : Type} (t : Finset ι) (a : EReal) (h : 0 ≤ a) (h' : a ≠ ⊤) (f : ι → EReal) :
    a * ∑ i ∈ t, f i = ∑ i ∈ t, a * f i := by
  classical
  induction t using Finset.induction_on with
  | empty => simp
  | insert i t hi ih => rw [Finset.sum_insert hi, Finset.sum_insert hi, EReal.left_distrib_of_nonneg_of_ne_top h h', ih]

/-- The sum of a prefix, rescaled to a greater maximum. -/
theorem rescale_sum (S W : ℕ → EReal) (n : ℕ) {m' : EReal} (h : top S n ≤ m') :
    Ideal.exp2 (top S n - m') * acc S W n = ∑ k ∈ Finset.range n, W k * Ideal.exp2 (S k - m') := by
  rw [acc, mul_sum_of_nonneg _ _ (exp2_nonneg _) (exp2_ne_top (sub_ne_top h))]
  refine Finset.sum_congr rfl fun k hk => ?_
  rw [← rescale (le_top (Finset.mem_range.mp hk)) h, mul_left_comm]

/-- One more block of keys: the old sum rescaled, plus the block's own. -/
theorem acc_add (S W : ℕ → EReal) (n b : ℕ) :
    acc S W (n + b) = Ideal.exp2 (top S n - max (top S n) (blockTop S b n)) * acc S W n
      + ∑ r ∈ Finset.range b, W (n + r) * Ideal.exp2 (S (n + r) - max (top S n) (blockTop S b n)) := by
  rw [rescale_sum S W n (le_max_left _ _), acc, Finset.sum_range_add, top_add]

/-- Keys whose scores are minus infinity change nothing. -/
theorem top_masked {S : ℕ → EReal} {n N : ℕ} (h : n ≤ N) (hS : ∀ k, n ≤ k → S k = ⊥) : top S N = top S n := by
  obtain ⟨b, rfl⟩ := Nat.exists_eq_add_of_le h
  rw [top_add]
  refine max_eq_left (le_trans (Finset.sup_le fun r _ => ?_) bot_le)
  rw [hS _ (by omega)]

theorem acc_masked {S W : ℕ → EReal} {n N : ℕ} (h : n ≤ N) (hS : ∀ k, n ≤ k → S k = ⊥) : acc S W N = acc S W n := by
  rw [acc, acc, top_masked h hS]
  symm
  refine Finset.sum_subset (Finset.range_mono h) fun k _ hk => ?_
  rw [hS k (by simpa using hk), EReal.bot_sub]
  exact mul_zero _

theorem top_congr {S S' : ℕ → EReal} {n : ℕ} (h : ∀ k, k < n → S k = S' k) : top S n = top S' n :=
  Finset.sup_congr rfl fun k hk => h k (Finset.mem_range.mp hk)

theorem acc_congr {S S' W W' : ℕ → EReal} {n : ℕ} (h : ∀ k, k < n → S k = S' k) (hW : ∀ k, k < n → W k = W' k) :
    acc S W n = acc S' W' n := by
  rw [acc, acc, top_congr h]
  exact Finset.sum_congr rfl fun k hk => by rw [h k (Finset.mem_range.mp hk), hW k (Finset.mem_range.mp hk)]

end Cert.Proof.Online

end
-- ==== Proof.Tiles.lean ====
/-
  What the attention kernel's vectors and buffers hold, in terms of the scores and the values of its keys: a buffer is
  described by how many keys each of its tiles has seen, and a store of one tile changes that tile's number alone.

  Scores are written `S e c k` (head `e` of the pair, query column `c`, key `k`), values `W e d k` (lane `d`).
-/
module

public import proofs.«01_k».proof.KernelIdeal
public import proofs.«01_k».proof.Proof.Online
public import Idealize.ShloMosaic.Lib.Tactic
public import Idealize.ShloMosaic.Lib.Pointwise
public import Idealize.ShloMosaic.Lib.WritesUnit
public import Idealize.ShloMosaic.Lib.Exec.Geometry

@[expose] public section

set_option maxRecDepth 4096

noncomputable section

namespace Cert.Proof.Tiles

open Cert.KernelIdeal
open Idealize.ShloMosaic
open Cert.Proof.Online
open scoped BigOperators

variable [Facts₀] (S W : ℕ → ℕ → ℕ → EReal)

/-! ## Vectors -/

/-- A block of 256 keys from `n` on, by the query columns from `c` on. -/
def Scores (e c n : ℕ) {w : ℕ} (s : (⟨2, ![256, w]⟩ : Shape).Idx → EReal) : Prop :=
  ∀ x, s x = S e (c + (x 1).val) (n + (x 0).val)

/-- The greatest of each column's first `n` scores. -/
def Tops (e c n : ℕ) (m : S1x256.Idx → EReal) : Prop := ∀ x, m x = top (S e (c + (x 1).val)) n

/-- The greatest of each column's 256 scores from `n` on. -/
def BlockTops (e c n : ℕ) {w : ℕ} (m : (⟨2, ![1, w]⟩ : Shape).Idx → EReal) : Prop :=
  ∀ x, m x = blockTop (S e (c + (x 1).val)) 256 n

/-- Each column's weighted sum over its first `n` keys. -/
def Accs (e c n : ℕ) (a : S128x256.Idx → EReal) : Prop :=
  ∀ x, a x = acc (S e (c + (x 1).val)) (W e (x 0).val) n

/-- The values of the 256 keys from `n` on. -/
def Vals (e n : ℕ) (v : S128x256.Idx → EReal) : Prop := ∀ x, v x = W e (x 0).val (n + (x 1).val)

/-- A query column's scores with those of later keys at minus infinity, the columns starting at query `t`. -/
def causal (t : ℕ) : ℕ → ℕ → ℕ → EReal := fun e c k => if k ≤ t + c then S e c k else ⊥

variable {S W} {e c n : ℕ}

theorem Tops.step {m mb : FVec Ideal S1x256 .f32} {n' : ℕ} (hm : Tops S e c n m) (hb : BlockTops S e c n mb)
    (hn : n' = n + 256 := by omega) : Tops S e c n' (maximumf m mb) := fun x => by
  subst hn
  rw [maximumf_apply, hm x, hb x, Online.top_add]
  rfl

/-- A row broadcast over the keys. -/
theorem row_apply (m : FVec Ideal S1x256 .f32) (h : S1x256.Broadcasts S256x256) (y : S256x256.Idx) :
    broadcastTo S256x256 m h y = m (ix2 0 (y 1)) := by
  simp only [pointwise]
  rfl

/-- A row broadcast over the lanes. -/
theorem row_apply' (m : FVec Ideal S1x256 .f32) (h : S1x256.Broadcasts S128x256) (y : S128x256.Idx) :
    broadcastTo S128x256 m h y = m (ix2 0 (y 1)) := by
  simp only [pointwise]
  rfl

/-- The values times the weights of one block of keys. -/
theorem values_apply (v : FVec Ideal S128x256 .bf16) (p : FVec Ideal S256x256 .bf16) (x : S128x256.Idx) :
    matmul dot_S128x256_S256x256_S128x256_1_0_0_1_n_n none v p (constant S128x256 .f32 0x00000000#32) x
      = ∑ r : Fin 256, v (ix2 (x 0) r) * p (ix2 r (x 1)) := by
  simp only [pointwise]
  exact zero_add _

theorem Accs.step {m mb : FVec Ideal S1x256 .f32} {s : FVec Ideal S256x256 .f32} {a : FVec Ideal S128x256 .f32}
    {v : FVec Ideal S128x256 .bf16} {z : FVec Ideal S128x256 .f32} {n' : ℕ}
    {h1 : S1x256.Broadcasts S128x256} {h2 : S1x256.Broadcasts S256x256} {h3 : FTy.bf16.bits < FTy.f32.bits}
    (hm : Tops S e c n m) (hb : BlockTops S e c n mb) (hs : Scores S e c n s) (ha : Accs S W e c n a)
    (hv : Vals W e n v) (hz : z = constant S128x256 .f32 0x00000000#32) (hn : n' = n + 256 := by omega) :
    Accs S W e c n'
      (addf (mulf (broadcastTo S128x256 (exp2 (subf m (maximumf m mb))) h1) a)
        (matmul dot_S128x256_S256x256_S128x256_1_0_0_1_n_n none v
          (truncf .bf16 (exp2 (subf s (broadcastTo S256x256 (maximumf m mb) h2))) h3) z)) := fun x => by
  subst hz hn
  have hM := hm.step hb rfl
  have hp (y : S256x256.Idx) : truncf .bf16 (exp2 (subf s (broadcastTo S256x256 (maximumf m mb) h2))) h3 y
      = Ideal.exp2 (S e (c + (y 1).val) (n + (y 0).val) - top (S e (c + (y 1).val)) (n + 256)) := by
    have hbc : broadcastTo S256x256 (maximumf m mb) h2 y = maximumf m mb (ix2 0 (y 1)) := row_apply _ h2 y
    show Ideal.exp2 (s y - broadcastTo S256x256 (maximumf m mb) h2 y) = _
    rw [hbc, hs, hM]
    rfl
  have hα : broadcastTo S128x256 (exp2 (subf m (maximumf m mb))) h1 x
      = Ideal.exp2 (top (S e (c + (x 1).val)) n - top (S e (c + (x 1).val)) (n + 256)) := by
    refine (row_apply' _ h1 x).trans ?_
    show Ideal.exp2 (m (ix2 0 (x 1)) - maximumf m mb (ix2 0 (x 1))) = _
    rw [hm, hM]
    rfl
  rw [acc_add, ← Online.top_add]
  show broadcastTo S128x256 (exp2 (subf m (maximumf m mb))) h1 x * a x + matmul _ none v _ _ x = _
  rw [hα, ha, values_apply, Finset.sum_range]
  congr 1
  refine Finset.sum_congr rfl fun r _ => ?_
  rw [hv, hp]
  rfl

/-- The greatest score of each column of a block. -/
theorem blockTop_fold (f : ℕ → EReal) (n : ℕ) :
    (Finset.univ : Finset (Fin 256)).fold max (⊥ : EReal) (fun r => f (n + r.val)) = blockTop f 256 n := by
  rw [blockTop, Finset.range_eq_Ico]
  show Finset.sup Finset.univ (fun r : Fin 256 => f (n + r.val)) = _
  apply le_antisymm
  · exact Finset.sup_le fun r _ => Finset.le_sup (f := fun r => f (n + r)) (Finset.mem_Ico.mpr ⟨Nat.zero_le _, r.isLt⟩)
  · exact Finset.sup_le fun r hr =>
      Finset.le_sup (f := fun r : Fin 256 => f (n + r.val)) (Finset.mem_univ (⟨r, (Finset.mem_Ico.mp hr).2⟩ : Fin 256))

/-- The bits of minus infinity. -/
theorem ofBits_bot : FloatOps.ofBits (F := Ideal) .f32 0xFF800000#32 = (⊥ : EReal) := by
  simp [Ideal.ofBits, Ideal.ieee]

theorem BlockTops.of_scores {w : ℕ} {s : FVec Ideal ⟨2, ![256, w]⟩ .f32} (hs : Scores S e c n s) {b : BitVec FTy.f32.bits}
    {h : (⟨2, ![256, w]⟩ : Shape).Reduces [0] ⟨1, ![w]⟩} {hφ : FKind.Formats .f32} {hacc : b = FKind.maximumf.neutral .f32 hφ}
    {hc : (⟨1, ![w]⟩ : Shape).ShapeCasts ⟨2, ![1, w]⟩} (hbot : FloatOps.ofBits (F := Ideal) .f32 b = (⊥ : EReal)) :
    BlockTops S e c n (shapeCast ⟨2, ![1, w]⟩ (multiReduction .maximumf [0] ⟨1, ![w]⟩ s b h hφ hacc) hc) := fun x => by
  refine (shapeCast_addUnit_apply ![w] _ hc x).trans ?_
  refine (multiReduction_maximumf_eq_fold s b h hφ hacc _).trans ?_
  refine (h.fold_fiber_r2_a0 _ _ _ s).trans ?_
  rw [hbot, ← blockTop_fold]
  refine congrArg (Finset.fold max ⊥ · Finset.univ) (funext fun r => ?_)
  exact hs _

/-! ## Scores of a block -/

/-- The score of a query column against a key: the inner product of their 128 lanes. -/
def raw (q kk : ℕ → ℕ → ℕ → EReal) (e c k : ℕ) : EReal := ∑ l : Fin 128, kk e k l.val * q e c l.val

/-- Rows of queries or of keys, from row `n` on. -/
def Rows (q : ℕ → ℕ → ℕ → EReal) (e n : ℕ) {w : ℕ} (v : (⟨2, ![w, 128]⟩ : Shape).Idx → EReal) : Prop :=
  ∀ x, v x = q e (n + (x 0).val) (x 1).val

variable {q kk : ℕ → ℕ → ℕ → EReal}

theorem Scores.of_rows768 {K : FVec Ideal S256x128 .bf16} {Q : FVec Ideal S768x128 .bf16} {z : FVec Ideal S256x768 .f32}
    (hK : Rows kk e n K) (hQ : Rows q e c Q) (hz : z = constant S256x768 .f32 0x00000000#32) :
    Scores (raw q kk) e c n (matmul dot_S256x128_S768x128_S256x768_1_1_0_0_n_n none K Q z) := fun x => by
  subst hz
  have h : matmul dot_S256x128_S768x128_S256x768_1_1_0_0_n_n none K Q (constant S256x768 .f32 0x00000000#32) x
      = ∑ l : Fin 128, K (ix2 (x 0) l) * Q (ix2 (x 1) l) := by simp only [pointwise]; exact zero_add _
  exact h.trans (Finset.sum_congr rfl fun l _ => by rw [hK, hQ]; rfl)

theorem Scores.of_rows512 {K : FVec Ideal S256x128 .bf16} {Q : FVec Ideal S512x128 .bf16} {z : FVec Ideal S256x512 .f32}
    (hK : Rows kk e n K) (hQ : Rows q e c Q) (hz : z = constant S256x512 .f32 0x00000000#32) :
    Scores (raw q kk) e c n (matmul dot_S256x128_S512x128_S256x512_1_1_0_0_n_n none K Q z) := fun x => by
  subst hz
  have h : matmul dot_S256x128_S512x128_S256x512_1_1_0_0_n_n none K Q (constant S256x512 .f32 0x00000000#32) x
      = ∑ l : Fin 128, K (ix2 (x 0) l) * Q (ix2 (x 1) l) := by simp only [pointwise]; exact zero_add _
  exact h.trans (Finset.sum_congr rfl fun l _ => by rw [hK, hQ]; rfl)

theorem Scores.of_rows256 {K : FVec Ideal S256x128 .bf16} {Q : FVec Ideal S256x128 .bf16} {z : FVec Ideal S256x256 .f32}
    (hK : Rows kk e n K) (hQ : Rows q e c Q) (hz : z = constant S256x256 .f32 0x00000000#32) :
    Scores (raw q kk) e c n (matmul dot_S256x128_S256x128_S256x256_1_1_0_0_n_n none K Q z) := fun x => by
  subst hz
  have h : matmul dot_S256x128_S256x128_S256x256_1_1_0_0_n_n none K Q (constant S256x256 .f32 0x00000000#32) x
      = ∑ l : Fin 128, K (ix2 (x 0) l) * Q (ix2 (x 1) l) := by simp only [pointwise]; exact zero_add _
  exact h.trans (Finset.sum_congr rfl fun l _ => by rw [hK, hQ]; rfl)

/-- Two half-blocks of values side by side. -/
theorem Vals.of_halves {u v : FVec Ideal S128x128 .bf16} {n' : ℕ} {h : Shape.Concatenates [S128x128, S128x128] S128x256 1}
    (hu : ∀ x, u x = W e (x 0).val (n + (x 1).val)) (hv : ∀ x, v x = W e (x 0).val (n' + (x 1).val))
    (hn : n' = n + 128 := by omega) :
    Vals W e n (concatenate S128x256 1 [⟨S128x128, u⟩, ⟨S128x128, v⟩] h) := fun x => by
  subst hn
  simp only [pointwise]
  split
  · exact hu _
  · rename_i hx
    have hx : ¬ (x 1).val < 128 := hx
    refine (hv _).trans ?_
    show W e (x 0).val (n + 128 + ((x 1).val - 128)) = _
    rw [show n + 128 + ((x 1).val - 128) = n + (x 1).val by omega]

/-- One tile's step: the new maxima and the new weighted sums. -/
theorem tile {m mb : FVec Ideal S1x256 .f32} {s : FVec Ideal S256x256 .f32} {a : FVec Ideal S128x256 .f32}
    {u v : FVec Ideal S128x128 .bf16} {n' nv : ℕ} {h1 : S1x256.Broadcasts S128x256} {h2 : S1x256.Broadcasts S256x256}
    {h3 : FTy.bf16.bits < FTy.f32.bits} {h4 : Shape.Concatenates [S128x128, S128x128] S128x256 1}
    (hm : Tops S e c n m) (hb : BlockTops S e c n mb) (hs : Scores S e c n s) (ha : Accs S W e c n a)
    (hu : ∀ x, u x = W e (x 0).val (n + (x 1).val)) (hv : ∀ x, v x = W e (x 0).val (nv + (x 1).val))
    (hn : n' = n + 256 := by omega) (hnv : nv = n + 128 := by omega) :
    Tops S e c n' (maximumf m mb) ∧ Accs S W e c n'
      (addf (mulf (broadcastTo S128x256 (exp2 (subf m (maximumf m mb))) h1) a)
        (matmul dot_S128x256_S256x256_S128x256_1_0_0_1_n_n none (concatenate S128x256 1 [⟨S128x128, u⟩, ⟨S128x128, v⟩] h4)
          (truncf .bf16 (exp2 (subf s (broadcastTo S256x256 (maximumf m mb) h2))) h3) (constant S128x256 .f32 0x00000000#32))) :=
  ⟨hm.step hb hn, .step hm hb hs ha (.of_halves hu hv hnv) rfl hn⟩

/-! ## Buffers -/

/-- How many keys each tile has seen, by head and by block of 256 query columns; nothing is claimed of a tile not in the
book. -/
abbrev Book : Type := ℕ → ℕ → Option ℕ

/-- The book with no tile. -/
def none₀ : Book := fun _ _ => none

/-- The book with all tiles at `n`. -/
def all (n : ℕ) : Book := fun _ _ => some n

/-- The book after a store to one tile. -/
def put (P : Book) (e b n : ℕ) : Book := fun e' b' => if e' = e ∧ b' = b then some n else P e' b'

/-- The book after a store to a head's tiles from block `b` on. -/
def putFrom (P : Book) (e b n : ℕ) : Book := fun e' b' => if e' = e ∧ b ≤ b' then some n else P e' b'

section Buffers

variable {sp : Space}

/-- The weighted sums' buffer. -/
def AccBuf (S W : ℕ → ℕ → ℕ → EReal) (v : View sig .tc sp S2x128x768 .f32) (f : v.ty.Contents (Elt Ideal)) (P : Book) : Prop :=
  ∀ (y : S2x128x768.Idx) (n : ℕ), P (y 0).val ((y 2).val / 256) = some n →
    v.read (Elt Ideal) f y = acc (S (y 0).val (y 2).val) (W (y 0).val (y 1).val) n

/-- The running maxima's buffer. -/
def TopBuf (S : ℕ → ℕ → ℕ → EReal) (v : View sig .tc sp S2x1x768 .f32) (f : v.ty.Contents (Elt Ideal)) (P : Book) : Prop :=
  ∀ (y : S2x1x768.Idx) (n : ℕ), P (y 0).val ((y 2).val / 256) = some n →
    v.read (Elt Ideal) f y = top (S (y 0).val (y 2).val) n

/-- A buffer of block scores, whose book tells each tile's first key. -/
def ScoreBuf (S : ℕ → ℕ → ℕ → EReal) (v : View sig .tc sp S2x256x768 .f32) (f : v.ty.Contents (Elt Ideal)) (P : Book) : Prop :=
  ∀ (y : S2x256x768.Idx) (n : ℕ), P (y 0).val ((y 2).val / 256) = some n →
    v.read (Elt Ideal) f y = S (y 0).val (y 2).val (n + (y 1).val)

/-- The block maxima's buffer: a book for each of its three slots. -/
def BlockBuf (S : ℕ → ℕ → ℕ → EReal) (v : View sig .tc sp S3x2x1x768 .f32) (f : v.ty.Contents (Elt Ideal)) (P : ℕ → Book) : Prop :=
  ∀ (y : S3x2x1x768.Idx) (n : ℕ), P (y 0).val (y 1).val ((y 3).val / 256) = some n →
    v.read (Elt Ideal) f y = blockTop (S (y 1).val (y 3).val) 256 n

variable {S W : ℕ → ℕ → ℕ → EReal} {e b n : ℕ} {P : Book}

theorem AccBuf.put {v : View sig .tc sp S2x128x768 .f32} {L : List (View.Piece (Elt Ideal) S2x128x768 .f32)}
    (hL : ∀ f, AccBuf S W v (v.writes (Elt Ideal) f L) P) {off : Fin 3 → ℕ}
    {inb : ∀ a, off a + S1x128x256.size a ≤ S2x128x768.size a} {a : FVec Ideal S128x256 .f32}
    {h : S128x256.ShapeCasts S1x128x256} (hoff : off = ![e, 0, 256 * b]) (ha : Accs S W e (256 * b) n a) :
    ∀ f, AccBuf S W v (v.writes (Elt Ideal) f ((⟨Rect.unit (s := S2x128x768) off S1x128x256.size inb, shapeCast S1x128x256 a h⟩ : View.Piece (Elt Ideal) S2x128x768 .f32) :: L))
      (put P e b n) := fun f y m hm => by
  subst hoff
  have h1 : (y 1).val < 128 := (y 1).isLt
  by_cases hy : (y 0).val = e ∧ (y 2).val / 256 = b
  · obtain ⟨h0, h2⟩ := hy
    simp only [Tiles.put, h0, h2, and_self, if_true, Option.some.injEq] at hm
    subst hm
    refine (View.read_writes_cons_unit_of_mem v f inb _ L y (ix3 0 (y 1) ⟨(y 2).val - 256 * b, by omega⟩) rfl ?_).trans ?_
    · intro a
      match a with
      | ⟨0, _⟩ => exact h0
      | ⟨1, _⟩ => exact (Nat.zero_add _).symm
      | ⟨2, _⟩ => show (y 2).val = 256 * b + ((y 2).val - 256 * b); omega
    · refine (shapeCast_addUnit_apply ![128, 256] a h _).trans ((ha _).trans ?_)
      show acc (S e (256 * b + ((y 2).val - 256 * b))) (W e (y 1).val) n = _
      rw [h0, show 256 * b + ((y 2).val - 256 * b) = (y 2).val by omega]
  · have hm' : P (y 0).val ((y 2).val / 256) = some m := by simpa only [Tiles.put, hy, if_false] using hm
    rw [← hL f y m hm']
    by_cases h0 : (y 0).val = e
    · refine View.read_writes_cons_unit_of_not_mem v f inb _ L y rfl 2 ?_
      have : (y 2).val / 256 ≠ b := fun h2 => hy ⟨h0, h2⟩
      show (y 2).val < 256 * b ∨ 256 * b + 256 ≤ (y 2).val
      omega
    · refine View.read_writes_cons_unit_of_not_mem v f inb _ L y rfl 0 ?_
      show (y 0).val < e ∨ e + 1 ≤ (y 0).val
      omega

theorem AccBuf.load {v : View sig .tc sp S2x128x768 .f32} {f : v.ty.Contents (Elt Ideal)} (hf : AccBuf S W v f P)
    {off : Fin 3 → ℕ} {inb : ∀ a, off a + S1x128x256.size a ≤ S2x128x768.size a} {h : S1x128x256.ShapeCasts S128x256}
    (hoff : off = ![e, 0, 256 * b]) (hP : P e b = some n) :
    Accs S W e (256 * b) n (shapeCast S128x256 (View.readAt (Elt Ideal) v (Rect.unit (s := S2x128x768) off S1x128x256.size inb).toLoadRect f) h) := fun x => by
  subst hoff
  refine (shapeCast_dropUnit_apply ![128, 256] _ h x).trans ?_
  have h1 : (x 1).val < 256 := (x 1).isLt
  refine (hf _ n ?_).trans ?_
  · show P (e + 1 * 0) ((256 * b + 1 * (x 1).val) / 256) = some n
    rw [← hP]
    congr 1
    omega
  · show acc (S (e + 1 * 0) (256 * b + 1 * (x 1).val)) (W (e + 1 * 0) (0 + 1 * (x 0).val)) n = _
    simp only [Nat.mul_zero, Nat.add_zero, Nat.one_mul, Nat.zero_add]

theorem TopBuf.put {v : View sig .tc sp S2x1x768 .f32} {L : List (View.Piece (Elt Ideal) S2x1x768 .f32)}
    (hL : ∀ f, TopBuf S v (v.writes (Elt Ideal) f L) P) {off : Fin 3 → ℕ}
    {inb : ∀ a, off a + S1x1x256.size a ≤ S2x1x768.size a} {m : FVec Ideal S1x256 .f32}
    {h : S1x256.ShapeCasts S1x1x256} (hoff : off = ![e, 0, 256 * b]) (ha : Tops S e (256 * b) n m) :
    ∀ f, TopBuf S v (v.writes (Elt Ideal) f ((⟨Rect.unit (s := S2x1x768) off S1x1x256.size inb, shapeCast S1x1x256 m h⟩ : View.Piece (Elt Ideal) S2x1x768 .f32) :: L))
      (put P e b n) := fun f y k hk => by
  subst hoff
  by_cases hy : (y 0).val = e ∧ (y 2).val / 256 = b
  · obtain ⟨h0, h2⟩ := hy
    simp only [Tiles.put, h0, h2, and_self, if_true, Option.some.injEq] at hk
    subst hk
    refine (View.read_writes_cons_unit_of_mem v f inb _ L y (ix3 0 (y 1) ⟨(y 2).val - 256 * b, by omega⟩) rfl ?_).trans ?_
    · intro a
      match a with
      | ⟨0, _⟩ => exact h0
      | ⟨1, _⟩ => exact (Nat.zero_add _).symm
      | ⟨2, _⟩ => show (y 2).val = 256 * b + ((y 2).val - 256 * b); omega
    · refine (shapeCast_addUnit_apply ![1, 256] m h _).trans ((ha _).trans ?_)
      show top (S e (256 * b + ((y 2).val - 256 * b))) n = _
      rw [h0, show 256 * b + ((y 2).val - 256 * b) = (y 2).val by omega]
  · have hk' : P (y 0).val ((y 2).val / 256) = some k := by simpa only [Tiles.put, hy, if_false] using hk
    rw [← hL f y k hk']
    by_cases h0 : (y 0).val = e
    · refine View.read_writes_cons_unit_of_not_mem v f inb _ L y rfl 2 ?_
      have : (y 2).val / 256 ≠ b := fun h2 => hy ⟨h0, h2⟩
      show (y 2).val < 256 * b ∨ 256 * b + 256 ≤ (y 2).val
      omega
    · refine View.read_writes_cons_unit_of_not_mem v f inb _ L y rfl 0 ?_
      show (y 0).val < e ∨ e + 1 ≤ (y 0).val
      omega

theorem TopBuf.load {v : View sig .tc sp S2x1x768 .f32} {f : v.ty.Contents (Elt Ideal)} (hf : TopBuf S v f P)
    {off : Fin 3 → ℕ} {inb : ∀ a, off a + S1x1x256.size a ≤ S2x1x768.size a} {h : S1x1x256.ShapeCasts S1x256}
    (hoff : off = ![e, 0, 256 * b]) (hP : P e b = some n) :
    Tops S e (256 * b) n (shapeCast S1x256 (View.readAt (Elt Ideal) v (Rect.unit (s := S2x1x768) off S1x1x256.size inb).toLoadRect f) h) := fun x => by
  subst hoff
  refine (shapeCast_dropUnit_apply ![1, 256] _ h x).trans ?_
  have h1 : (x 1).val < 256 := (x 1).isLt
  refine (hf _ n ?_).trans ?_
  · show P (e + 1 * 0) ((256 * b + 1 * (x 1).val) / 256) = some n
    rw [← hP]
    congr 1
    omega
  · show top (S (e + 1 * 0) (256 * b + 1 * (x 1).val)) n = _
    simp only [Nat.mul_zero, Nat.add_zero, Nat.one_mul]

theorem ScoreBuf.put {v : View sig .tc sp S2x256x768 .f32} {L : List (View.Piece (Elt Ideal) S2x256x768 .f32)}
    (hL : ∀ f, ScoreBuf S v (v.writes (Elt Ideal) f L) P) {off : Fin 3 → ℕ} {w : ℕ}
    {inb : ∀ a, off a + (⟨3, ![1, 256, w]⟩ : Shape).size a ≤ S2x256x768.size a} {s : FVec Ideal ⟨2, ![256, w]⟩ .f32}
    {h : (⟨2, ![256, w]⟩ : Shape).ShapeCasts ⟨3, ![1, 256, w]⟩} (hoff : off = ![e, 0, 256 * b]) (hw : 256 * b + w = 768)
    (hs : Scores S e (256 * b) n s) :
    ∀ f, ScoreBuf S v (v.writes (Elt Ideal) f ((⟨Rect.unit (s := S2x256x768) off (⟨3, ![1, 256, w]⟩ : Shape).size inb, shapeCast ⟨3, ![1, 256, w]⟩ s h⟩ : View.Piece (Elt Ideal) S2x256x768 .f32) :: L))
      (putFrom P e b n) := fun f y k hk => by
  subst hoff
  have h1 : (y 1).val < 256 := (y 1).isLt
  have h3 : (y 2).val < 768 := (y 2).isLt
  by_cases hy : (y 0).val = e ∧ b ≤ (y 2).val / 256
  · obtain ⟨h0, h2⟩ := hy
    simp only [Tiles.putFrom, h0, h2, and_self, if_true, Option.some.injEq] at hk
    subst hk
    refine (View.read_writes_cons_unit_of_mem v f inb _ L y (ix3 0 (y 1) ⟨(y 2).val - 256 * b, by omega⟩) rfl ?_).trans ?_
    · intro a
      match a with
      | ⟨0, _⟩ => exact h0
      | ⟨1, _⟩ => exact (Nat.zero_add _).symm
      | ⟨2, _⟩ => show (y 2).val = 256 * b + ((y 2).val - 256 * b); omega
    · refine (shapeCast_addUnit_apply ![256, w] s h _).trans ((hs _).trans ?_)
      show S e (256 * b + ((y 2).val - 256 * b)) (n + (y 1).val) = _
      rw [h0, show 256 * b + ((y 2).val - 256 * b) = (y 2).val by omega]
  · have hk' : P (y 0).val ((y 2).val / 256) = some k := by simpa only [Tiles.putFrom, hy, if_false] using hk
    rw [← hL f y k hk']
    by_cases h0 : (y 0).val = e
    · refine View.read_writes_cons_unit_of_not_mem v f inb _ L y rfl 2 ?_
      have : ¬ b ≤ (y 2).val / 256 := fun h2 => hy ⟨h0, h2⟩
      show (y 2).val < 256 * b ∨ 256 * b + w ≤ (y 2).val
      omega
    · refine View.read_writes_cons_unit_of_not_mem v f inb _ L y rfl 0 ?_
      show (y 0).val < e ∨ e + 1 ≤ (y 0).val
      omega

theorem ScoreBuf.load {v : View sig .tc sp S2x256x768 .f32} {f : v.ty.Contents (Elt Ideal)} (hf : ScoreBuf S v f P)
    {off : Fin 3 → ℕ} {inb : ∀ a, off a + S1x256x256.size a ≤ S2x256x768.size a} {h : S1x256x256.ShapeCasts S256x256}
    (hoff : off = ![e, 0, 256 * b]) (hP : P e b = some n) :
    Scores S e (256 * b) n (shapeCast S256x256 (View.readAt (Elt Ideal) v (Rect.unit (s := S2x256x768) off S1x256x256.size inb).toLoadRect f) h) := fun x => by
  subst hoff
  refine (shapeCast_dropUnit_apply ![256, 256] _ h x).trans ?_
  have h1 : (x 1).val < 256 := (x 1).isLt
  refine (hf _ n ?_).trans ?_
  · show P (e + 1 * 0) ((256 * b + 1 * (x 1).val) / 256) = some n
    rw [← hP]
    congr 1
    omega
  · show S (e + 1 * 0) (256 * b + 1 * (x 1).val) (n + (0 + 1 * (x 0).val)) = _
    simp only [Nat.mul_zero, Nat.add_zero, Nat.one_mul, Nat.zero_add]

/-- The books of the three slots after one slot's changes. -/
def slot (Q : ℕ → Book) (j : ℕ) (P : Book) : ℕ → Book := fun j' => if j' = j then P else Q j'

theorem BlockBuf.put {Q : ℕ → Book} {j : ℕ} {v : View sig .tc sp S3x2x1x768 .f32} {L : List (View.Piece (Elt Ideal) S3x2x1x768 .f32)}
    (hL : ∀ f, BlockBuf S v (v.writes (Elt Ideal) f L) Q) {off : Fin 4 → ℕ} {w : ℕ}
    {inb : ∀ a, off a + (⟨4, ![1, 1, 1, w]⟩ : Shape).size a ≤ S3x2x1x768.size a} {m : FVec Ideal ⟨2, ![1, w]⟩ .f32}
    {h : (⟨2, ![1, w]⟩ : Shape).ShapeCasts ⟨4, ![1, 1, 1, w]⟩} (hoff : off = ![j, e, 0, 256 * b]) (hw : 256 * b + w = 768)
    (hm : BlockTops S e (256 * b) n m) :
    ∀ f, BlockBuf S v (v.writes (Elt Ideal) f ((⟨Rect.unit (s := S3x2x1x768) off (⟨4, ![1, 1, 1, w]⟩ : Shape).size inb, shapeCast ⟨4, ![1, 1, 1, w]⟩ m h⟩ : View.Piece (Elt Ideal) S3x2x1x768 .f32) :: L))
      (slot Q j (putFrom (Q j) e b n)) := fun f y k hk => by
  subst hoff
  have h3 : (y 3).val < 768 := (y 3).isLt
  have h1 : (y 2).val < 1 := (y 2).isLt
  by_cases hy : (y 0).val = j ∧ (y 1).val = e ∧ b ≤ (y 3).val / 256
  · obtain ⟨hj, h0, h2⟩ := hy
    simp only [Tiles.slot, Tiles.putFrom, hj, h0, h2, and_self, if_true, Option.some.injEq] at hk
    subst hk
    refine (View.read_writes_cons_unit_of_mem v f inb _ L y (ix4 0 0 0 ⟨(y 3).val - 256 * b, by omega⟩) rfl ?_).trans ?_
    · intro a
      match a with
      | ⟨0, _⟩ => exact hj
      | ⟨1, _⟩ => exact h0
      | ⟨2, _⟩ => show (y 2).val = 0 + 0; omega
      | ⟨3, _⟩ => show (y 3).val = 256 * b + ((y 3).val - 256 * b); omega
    · refine (shapeCast_apply m h _ (ix2 0 ⟨(y 3).val - 256 * b, by omega⟩) ?_).trans ((hm _).trans ?_)
      · rw [Shape.rowMajor_val_two, Shape.rowMajor_val_four]
        simp
      · show blockTop (S e (256 * b + ((y 3).val - 256 * b))) 256 n = _
        rw [h0, show 256 * b + ((y 3).val - 256 * b) = (y 3).val by omega]
  · have hk' : Q (y 0).val (y 1).val ((y 3).val / 256) = some k := by
      rw [← hk]
      unfold Tiles.slot Tiles.putFrom
      by_cases hj : (y 0).val = j
      · rw [if_pos hj, if_neg fun h => hy ⟨hj, h⟩, hj]
      · rw [if_neg hj]
    rw [← hL f y k hk']
    by_cases hj : (y 0).val = j
    · by_cases h0 : (y 1).val = e
      · refine View.read_writes_cons_unit_of_not_mem v f inb _ L y rfl 3 ?_
        have : ¬ b ≤ (y 3).val / 256 := fun h2 => hy ⟨hj, h0, h2⟩
        show (y 3).val < 256 * b ∨ 256 * b + w ≤ (y 3).val
        omega
      · refine View.read_writes_cons_unit_of_not_mem v f inb _ L y rfl 1 ?_
        show (y 1).val < e ∨ e + 1 ≤ (y 1).val
        omega
    · refine View.read_writes_cons_unit_of_not_mem v f inb _ L y rfl 0 ?_
      show (y 0).val < j ∨ j + 1 ≤ (y 0).val
      omega

theorem BlockBuf.load {Q : ℕ → Book} {j : ℕ} {v : View sig .tc sp S3x2x1x768 .f32} {f : v.ty.Contents (Elt Ideal)} (hf : BlockBuf S v f Q)
    {off : Fin 4 → ℕ} {inb : ∀ a, off a + S1x1x1x256.size a ≤ S3x2x1x768.size a} {h : S1x1x1x256.ShapeCasts S1x256}
    (hoff : off = ![j, e, 0, 256 * b]) (hP : Q j e b = some n) :
    BlockTops S e (256 * b) n (shapeCast S1x256 (View.readAt (Elt Ideal) v (Rect.unit (s := S3x2x1x768) off S1x1x1x256.size inb).toLoadRect f) h) := fun x => by
  subst hoff
  have h1 : (x 1).val < 256 := (x 1).isLt
  have h0 : (x 0).val < 1 := (x 0).isLt
  refine (shapeCast_apply _ h x (ix4 0 0 0 (x 1)) ?_).trans ((hf _ n ?_).trans ?_)
  · rw [Shape.rowMajor_val_two, Shape.rowMajor_val_four]
    show ((0 * 1 + 0) * 1 + 0) * 256 + (x 1).val = (x 0).val * 256 + (x 1).val
    omega
  · show Q (j + 1 * 0) (e + 1 * 0) ((256 * b + 1 * (x 1).val) / 256) = some n
    rw [← hP]
    congr 1
    omega
  · show blockTop (S (e + 1 * 0) (256 * b + 1 * (x 1).val)) 256 n = _
    simp only [Nat.mul_zero, Nat.add_zero, Nat.one_mul]

/-- All six tiles of a book at `n`. -/
def Full (P : Book) (n : ℕ) : Prop :=
  P 0 0 = some n ∧ P 0 1 = some n ∧ P 0 2 = some n ∧ P 1 0 = some n ∧ P 1 1 = some n ∧ P 1 2 = some n

theorem Full.get {e' b' : ℕ} (h : Full P n) (he : e' < 2) (hb : b' < 3) : P e' b' = some n := by
  obtain ⟨h0, h1, h2, h3, h4, h5⟩ := h
  interval_cases e' <;> interval_cases b' <;> assumption

theorem AccBuf.full {v : View sig .tc sp S2x128x768 .f32} {f : v.ty.Contents (Elt Ideal)} (hf : AccBuf S W v f P) (h : Full P n) :
    AccBuf S W v f (all n) := fun y m hm => by
  have h2 : (y 2).val < 768 := (y 2).isLt
  obtain rfl : n = m := Option.some.inj hm
  exact hf y n (h.get (y 0).isLt (by omega))

theorem TopBuf.full {v : View sig .tc sp S2x1x768 .f32} {f : v.ty.Contents (Elt Ideal)} (hf : TopBuf S v f P) (h : Full P n) :
    TopBuf S v f (all n) := fun y m hm => by
  have h2 : (y 2).val < 768 := (y 2).isLt
  obtain rfl : n = m := Option.some.inj hm
  exact hf y n (h.get (y 0).isLt (by omega))

theorem ScoreBuf.full {v : View sig .tc sp S2x256x768 .f32} {f : v.ty.Contents (Elt Ideal)} (hf : ScoreBuf S v f P) (h : Full P n) :
    ScoreBuf S v f (all n) := fun y m hm => by
  have h2 : (y 2).val < 768 := (y 2).isLt
  obtain rfl : n = m := Option.some.inj hm
  exact hf y n (h.get (y 0).isLt (by omega))

/-- Of the three slots, the first alone. -/
theorem BlockBuf.full {Q : ℕ → Book} {v : View sig .tc sp S3x2x1x768 .f32} {f : v.ty.Contents (Elt Ideal)} (hf : BlockBuf S v f Q)
    (h : Full (Q 0) n) : BlockBuf S v f (slot (fun _ => none₀) 0 (all n)) := fun y m hm => by
  have h3 : (y 3).val < 768 := (y 3).isLt
  unfold slot at hm
  split at hm
  · rename_i h0
    obtain rfl : n = m := Option.some.inj hm
    refine hf y n ?_
    rw [h0]
    exact h.get (y 1).isLt (by omega)
  · cases hm

/-- Nothing is claimed of no store. -/
theorem AccBuf.nil {v : View sig .tc sp S2x128x768 .f32} (f : v.ty.Contents (Elt Ideal)) : AccBuf S W v (v.writes (Elt Ideal) f []) none₀ :=
  fun _ _ h => by cases h

theorem TopBuf.nil {v : View sig .tc sp S2x1x768 .f32} (f : v.ty.Contents (Elt Ideal)) : TopBuf S v (v.writes (Elt Ideal) f []) none₀ :=
  fun _ _ h => by cases h

theorem ScoreBuf.nil {v : View sig .tc sp S2x256x768 .f32} (f : v.ty.Contents (Elt Ideal)) : ScoreBuf S v (v.writes (Elt Ideal) f []) none₀ :=
  fun _ _ h => by cases h

theorem BlockBuf.nil {v : View sig .tc sp S3x2x1x768 .f32} (f : v.ty.Contents (Elt Ideal)) :
    BlockBuf S v (v.writes (Elt Ideal) f []) (fun _ => none₀) := fun _ _ h => by cases h

end Buffers

/-! ## Operands -/

section Operands

variable {sp : Space} {q kk : ℕ → ℕ → ℕ → EReal} {W : ℕ → ℕ → ℕ → EReal} {e n : ℕ}

/-- The queries' block. -/
def QBlk (q : ℕ → ℕ → ℕ → EReal) (v : View sig .tc sp S1x2x768x128 .bf16) (f : v.ty.Contents (Elt Ideal)) : Prop :=
  ∀ y : S1x2x768x128.Idx, v.read (Elt Ideal) f y = q (y 1).val (y 2).val (y 3).val

/-- The keys. -/
def KBlk (q : ℕ → ℕ → ℕ → EReal) (v : View sig .tc sp S1x2x8448x128 .bf16) (f : v.ty.Contents (Elt Ideal)) : Prop :=
  ∀ y : S1x2x8448x128.Idx, v.read (Elt Ideal) f y = q (y 1).val (y 2).val (y 3).val

/-- The values, in blocks of 128 keys. -/
def VBlk (W : ℕ → ℕ → ℕ → EReal) (v : View sig .tc sp S1x2x66x128x128 .bf16) (f : v.ty.Contents (Elt Ideal)) : Prop :=
  ∀ y : S1x2x66x128x128.Idx, v.read (Elt Ideal) f y = W (y 1).val (y 3).val (128 * (y 2).val + (y 4).val)

theorem QBlk.load {v : View sig .tc sp S1x2x768x128 .bf16} {f : v.ty.Contents (Elt Ideal)} (hf : QBlk q v f)
    {off : Fin 4 → ℕ} {w : ℕ} {inb : ∀ a, off a + (⟨4, ![1, 1, w, 128]⟩ : Shape).size a ≤ S1x2x768x128.size a}
    {h : (⟨4, ![1, 1, w, 128]⟩ : Shape).ShapeCasts ⟨2, ![w, 128]⟩} (hoff : off = ![0, e, n, 0]) :
    Rows q e n (shapeCast ⟨2, ![w, 128]⟩ (View.readAt (Elt Ideal) v (Rect.unit (s := S1x2x768x128) off (⟨4, ![1, 1, w, 128]⟩ : Shape).size inb).toLoadRect f) h) := fun x => by
  subst hoff
  refine (shapeCast_apply _ h x (ix4 0 0 (x 0) (x 1)) ?_).trans ((hf _).trans ?_)
  · rw [Shape.rowMajor_val_two, Shape.rowMajor_val_four]
    show ((0 * 1 + 0) * w + (x 0).val) * 128 + (x 1).val = (x 0).val * 128 + (x 1).val
    omega
  · show q (e + 1 * 0) (n + 1 * (x 0).val) (0 + 1 * (x 1).val) = _
    simp only [Nat.mul_zero, Nat.add_zero, Nat.one_mul, Nat.zero_add]

theorem KBlk.load {n' : ℕ} {v : View sig .tc sp S1x2x8448x128 .bf16} {f : v.ty.Contents (Elt Ideal)} (hf : KBlk q v f)
    {off : Fin 4 → ℕ} {w : ℕ} {inb : ∀ a, off a + (⟨4, ![1, 1, w, 128]⟩ : Shape).size a ≤ S1x2x8448x128.size a}
    {h : (⟨4, ![1, 1, w, 128]⟩ : Shape).ShapeCasts ⟨2, ![w, 128]⟩} (hoff : off = ![0, e, n, 0])
    (hn : n' = n := by omega) :
    Rows q e n' (shapeCast ⟨2, ![w, 128]⟩ (View.readAt (Elt Ideal) v (Rect.unit (s := S1x2x8448x128) off (⟨4, ![1, 1, w, 128]⟩ : Shape).size inb).toLoadRect f) h) := fun x => by
  subst hoff hn
  refine (shapeCast_apply _ h x (ix4 0 0 (x 0) (x 1)) ?_).trans ((hf _).trans ?_)
  · rw [Shape.rowMajor_val_two, Shape.rowMajor_val_four]
    show ((0 * 1 + 0) * w + (x 0).val) * 128 + (x 1).val = (x 0).val * 128 + (x 1).val
    omega
  · show q (e + 1 * 0) (n' + 1 * (x 0).val) (0 + 1 * (x 1).val) = _
    simp only [Nat.mul_zero, Nat.add_zero, Nat.one_mul, Nat.zero_add]

theorem VBlk.load {m : ℕ} {v : View sig .tc sp S1x2x66x128x128 .bf16} {f : v.ty.Contents (Elt Ideal)} (hf : VBlk W v f)
    {off : Fin 5 → ℕ} {inb : ∀ a, off a + S1x1x1x128x128.size a ≤ S1x2x66x128x128.size a}
    {h : S1x1x1x128x128.ShapeCasts S128x128} (hoff : off = ![0, e, m, 0, 0])
    (hn : n = 128 * m := by omega) (x : S128x128.Idx) :
    shapeCast S128x128 (View.readAt (Elt Ideal) v (Rect.unit (s := S1x2x66x128x128) off S1x1x1x128x128.size inb).toLoadRect f) h x
      = W e (x 0).val (n + (x 1).val) := by
  subst hoff hn
  refine (shapeCast_apply _ h x (ix5 0 0 0 (x 0) (x 1)) ?_).trans ((hf _).trans ?_)
  · rw [Shape.rowMajor_val_two, Shape.rowMajor_val_five]
    show (((0 * 1 + 0) * 1 + 0) * 128 + (x 0).val) * 128 + (x 1).val = (x 0).val * 128 + (x 1).val
    omega
  · show W (e + 1 * 0) (0 + 1 * (x 0).val) (128 * (m + 1 * 0) + (0 + 1 * (x 1).val)) = _
    simp only [Nat.mul_zero, Nat.add_zero, Nat.one_mul, Nat.zero_add]

end Operands

end Cert.Proof.Tiles

end
-- ==== Proof.Trip.lean ====
/-
  One trip of the idealised attention kernel's key loop over the extended reals: three blocks of 256 keys, each taken into
  the running maxima and weighted sums of both heads, and the scores of the block that follows.
-/
module

public import proofs.«01_k».proof.Proof.Gen.KernelIdeal.Loops
public import proofs.«01_k».proof.Proof.Gen.KernelIdeal.Frame
public import proofs.«01_k».proof.Proof.Offsets
public import proofs.«01_k».proof.Proof.Tiles
public import Idealize.ShloMosaic.Lib.Tactic

@[expose] public section

set_option maxRecDepth 16384

noncomputable section

namespace Cert.Proof.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tiles Cert.Proof.Offsets

abbrev UU (nD : Nat) (τ : Topo) : Type := UR sig nD τ
abbrev 𝒱₀ : Variants := Variants.none

local notation "𝕄" => MT nD τ sig Unit (Elt Ideal) ℕ (UU nD τ) ℕ

/-- A memref's buffer on core `c`, whole, at contents `f`. -/
abbrev pt (c : Dev nD) {S : Shape} {e : EltTy} (M : Memref sig .tc .vmem S e)
    (f : Buf (Elt Ideal) (M.view.loc (c : Thread nD τ))) : sProp 𝕄 :=
  M.view.loc (c : Thread nD τ) ↦[M.view.set]{fullShare} f

section

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x66x128x128 .bf16) (harg5 : arg5.IsWhole) (arg6 : Memref sig .tc .vmem S1x768x128 .bf16) (harg6 : arg6.IsWhole) (arg7 : Memref sig .tc .vmem S2x128x768 .f32) (harg7 : arg7.IsWhole) (arg8 : Memref sig .tc .vmem S2x1x768 .f32) (harg8 : arg8.IsWhole) (arg9 : Memref sig .tc .vmem S3x2x1x768 .f32) (harg9 : arg9.IsWhole) (arg10 : Memref sig .tc .vmem S2x256x768 .f32) (harg10 : arg10.IsWhole) (arg11 : Memref sig .tc .vmem S2x256x768 .f32) (harg11 : arg11.IsWhole) (arg12 : Memref sig .tc .vmem S2x256x768 .f32) (harg12 : arg12.IsWhole) (arg2 : BitVec 32) (v25 : FVec Ideal S256x768 .f32)

variable (q kk W : ℕ → ℕ → ℕ → EReal)

/-- The operands at their contents; the running maxima and weighted sums after the first `n` keys, with the scores of the
256 keys from `n` on in the first score buffer; the other two score buffers at some contents. -/
def tripRes (X3 : Buf (Elt Ideal) (arg3.view.loc (c : Thread nD τ))) (X4 : Buf (Elt Ideal) (arg4.view.loc (c : Thread nD τ)))
    (X5 : Buf (Elt Ideal) (arg5.view.loc (c : Thread nD τ))) (n : ℕ) : sProp 𝕄 :=
  iprop(pt c arg3 X3 ∗ pt c arg4 X4 ∗ pt c arg5 X5
    ∗ (∃ f7 f8 f9 f10, ⌜AccBuf (raw q kk) W arg7.view f7 (all n) ∧ TopBuf (raw q kk) arg8.view f8 (all n)
        ∧ BlockBuf (raw q kk) arg9.view f9 (slot (fun _ => none₀) 0 (all n)) ∧ ScoreBuf (raw q kk) arg10.view f10 (all n)⌝
        ∗ pt c arg7 f7 ∗ pt c arg8 f8 ∗ pt c arg9 f9 ∗ pt c arg10 f10)
    ∗ (∃ f, pt c arg11 f) ∗ (∃ f, pt c arg12 f))

set_option maxHeartbeats 2000000 in
theorem trip (X3 : Buf (Elt Ideal) (arg3.view.loc (c : Thread nD τ))) (X4 : Buf (Elt Ideal) (arg4.view.loc (c : Thread nD τ)))
    (X5 : Buf (Elt Ideal) (arg5.view.loc (c : Thread nD τ))) (hQ : QBlk q arg3.view X3) (hK : KBlk kk arg4.view X4)
    (hV : VBlk W arg5.view X5) (k : Fin (k0_t1_loop i).trips) :
    tripRes c arg3 arg4 arg5 arg7 arg8 arg9 arg10 arg11 arg12 q kk W X3 X4 X5 (768 * k.val)
      ⊢ wp frame (wpE (defs₀ (F := Ideal)) 𝒱₀ (c : Thread nD τ) none) Set.univ
          (k0_t1_body (F := Ideal) i arg3 harg3 arg4 harg4 arg5 harg5 arg6 harg6 arg7 harg7 arg8 harg8 arg9 harg9 arg10 harg10 arg11 harg11 arg12 harg12 arg2 v25 k ())
          (fun _ => tripRes c arg3 arg4 arg5 arg7 arg8 arg9 arg10 arg11 arg12 q kk W X3 X4 X5 (768 * (k.val + 1))) := by
  unfold tripRes k0_t1_body
  iintro ⟨H3, H4, H5, ⟨%f7, %f8, %f9, %f10, %hf, H7, H8, H9, H10⟩, ⟨%f11, H11⟩, ⟨%f12, H12⟩⟩
  obtain ⟨h7, h8, h9, h10⟩ := hf
  sl_exec
  have s00 : Scores (raw q kk) 0 (256 * 0) (768 * k.val + 256) (trip.sl.v595 c i arg3 arg4 X3 X4 k) :=
    .of_rows768 (hK.load (off1 i k 0 (by decide))) (hQ.load rfl) rfl
  have s01 : Scores (raw q kk) 1 (256 * 0) (768 * k.val + 256) (trip.sl.v609 c i arg3 arg4 X3 X4 k) :=
    .of_rows768 (hK.load (off2 i k 0 (by decide))) (hQ.load rfl) rfl
  have w11 : ∀ f, ScoreBuf (raw q kk) arg11.view (arg11.view.writes (Elt Ideal) f (trip.sl.H11_2 c i arg3 arg4 X3 X4 k)) _ :=
    .put (.put .nil rfl rfl s00) rfl rfl s01
  have s10 : Scores (raw q kk) 0 (256 * 0) (768 * k.val + 512) (trip.sl.v844 c i arg3 arg4 X3 X4 k) :=
    .of_rows768 (hK.load (off1 i k 1 (by decide))) (hQ.load rfl) rfl
  have s11 : Scores (raw q kk) 1 (256 * 0) (768 * k.val + 512) (trip.sl.v858 c i arg3 arg4 X3 X4 k) :=
    .of_rows768 (hK.load (off2 i k 1 (by decide))) (hQ.load rfl) rfl
  have w12 : ∀ f, ScoreBuf (raw q kk) arg12.view (arg12.view.writes (Elt Ideal) f (trip.sl.H12_2 c i arg3 arg4 X3 X4 k)) _ :=
    .put (.put .nil rfl rfl s10) rfl rfl s11
  have w9 : ∀ f, BlockBuf (raw q kk) arg9.view (arg9.view.writes (Elt Ideal) f (trip.sl.H9_4 c i arg3 arg4 X3 X4 k)) _ :=
    .put (.put (.put (.put .nil rfl rfl (.of_scores s00 ofBits_bot)) rfl rfl (.of_scores s01 ofBits_bot)) rfl rfl (.of_scores s10 ofBits_bot)) rfl rfl (.of_scores s11 ofBits_bot)
  have t000 : Tops (raw q kk) 0 (256 * 0) (768 * k.val + 256) (trip.sl.v624 arg8 arg9 f8 f9)
      ∧ Accs (raw q kk) W 0 (256 * 0) (768 * k.val + 256) (trip.sl.v647 c i arg5 arg7 arg8 arg9 arg10 X5 k f7 f8 f9 f10) :=
    tile (h8.load rfl rfl) (h9.load rfl rfl) (h10.load rfl rfl) (h7.load rfl rfl)
      (hV.load (n := 768 * k.val) (off3 i k 0 0 (by decide) (by decide))) (hV.load (n := 768 * k.val + 128) (off3 i k 0 1 (by decide) (by decide)))
  have t001 : Tops (raw q kk) 0 (256 * 1) (768 * k.val + 256) (trip.sl.v660 arg8 arg9 f8 f9)
      ∧ Accs (raw q kk) W 0 (256 * 1) (768 * k.val + 256) (trip.sl.v683 c i arg5 arg7 arg8 arg9 arg10 X5 k f7 f8 f9 f10) :=
    tile (h8.load rfl rfl) (h9.load rfl rfl) (h10.load rfl rfl) (h7.load rfl rfl)
      (hV.load (n := 768 * k.val) (off3 i k 0 0 (by decide) (by decide))) (hV.load (n := 768 * k.val + 128) (off3 i k 0 1 (by decide) (by decide)))
  have t002 : Tops (raw q kk) 0 (256 * 2) (768 * k.val + 256) (trip.sl.v696 arg8 arg9 f8 f9)
      ∧ Accs (raw q kk) W 0 (256 * 2) (768 * k.val + 256) (trip.sl.v719 c i arg5 arg7 arg8 arg9 arg10 X5 k f7 f8 f9 f10) :=
    tile (h8.load rfl rfl) (h9.load rfl rfl) (h10.load rfl rfl) (h7.load rfl rfl)
      (hV.load (n := 768 * k.val) (off3 i k 0 0 (by decide) (by decide))) (hV.load (n := 768 * k.val + 128) (off3 i k 0 1 (by decide) (by decide)))
  have t010 : Tops (raw q kk) 1 (256 * 0) (768 * k.val + 256) (trip.sl.v732 arg8 arg9 f8 f9)
      ∧ Accs (raw q kk) W 1 (256 * 0) (768 * k.val + 256) (trip.sl.v755 c i arg5 arg7 arg8 arg9 arg10 X5 k f7 f8 f9 f10) :=
    tile (h8.load rfl rfl) (h9.load rfl rfl) (h10.load rfl rfl) (h7.load rfl rfl)
      (hV.load (n := 768 * k.val) (off4 i k 0 0 (by decide) (by decide))) (hV.load (n := 768 * k.val + 128) (off4 i k 0 1 (by decide) (by decide)))
  have t011 : Tops (raw q kk) 1 (256 * 1) (768 * k.val + 256) (trip.sl.v768 arg8 arg9 f8 f9)
      ∧ Accs (raw q kk) W 1 (256 * 1) (768 * k.val + 256) (trip.sl.v791 c i arg5 arg7 arg8 arg9 arg10 X5 k f7 f8 f9 f10) :=
    tile (h8.load rfl rfl) (h9.load rfl rfl) (h10.load rfl rfl) (h7.load rfl rfl)
      (hV.load (n := 768 * k.val) (off4 i k 0 0 (by decide) (by decide))) (hV.load (n := 768 * k.val + 128) (off4 i k 0 1 (by decide) (by decide)))
  have t012 : Tops (raw q kk) 1 (256 * 2) (768 * k.val + 256) (trip.sl.v804 arg8 arg9 f8 f9)
      ∧ Accs (raw q kk) W 1 (256 * 2) (768 * k.val + 256) (trip.sl.v827 c i arg5 arg7 arg8 arg9 arg10 X5 k f7 f8 f9 f10) :=
    tile (h8.load rfl rfl) (h9.load rfl rfl) (h10.load rfl rfl) (h7.load rfl rfl)
      (hV.load (n := 768 * k.val) (off4 i k 0 0 (by decide) (by decide))) (hV.load (n := 768 * k.val + 128) (off4 i k 0 1 (by decide) (by decide)))
  have w7_6 : ∀ f, AccBuf (raw q kk) W arg7.view (arg7.view.writes (Elt Ideal) f (trip.sl.H7_6 c i arg5 arg7 arg8 arg9 arg10 X5 k f7 f8 f9 f10)) _ :=
    .put (.put (.put (.put (.put (.put .nil rfl t000.2) rfl t001.2) rfl t002.2) rfl t010.2) rfl t011.2) rfl t012.2
  have w8_6 : ∀ f, TopBuf (raw q kk) arg8.view (arg8.view.writes (Elt Ideal) f (trip.sl.H8_6 arg8 arg9 f8 f9)) _ :=
    .put (.put (.put (.put (.put (.put .nil rfl t000.1) rfl t001.1) rfl t002.1) rfl t010.1) rfl t011.1) rfl t012.1
  have t100 : Tops (raw q kk) 0 (256 * 0) (768 * k.val + 512) (trip.sl.v873 c i arg3 arg4 arg8 arg9 X3 X4 k f8 f9)
      ∧ Accs (raw q kk) W 0 (256 * 0) (768 * k.val + 512) (trip.sl.v896 c i arg3 arg4 arg5 arg7 arg8 arg9 arg10 arg11 X3 X4 X5 k f7 f8 f9 f10) :=
    tile ((w8_6 _).load rfl rfl) ((w9 _).load rfl rfl) ((w11 _).load rfl rfl) ((w7_6 _).load rfl rfl)
      (hV.load (n := 768 * k.val + 256) (off3 i k 1 0 (by decide) (by decide))) (hV.load (n := 768 * k.val + 256 + 128) (off3 i k 1 1 (by decide) (by decide)))
  have w7_7 : ∀ f, AccBuf (raw q kk) W arg7.view (arg7.view.writes (Elt Ideal) f (trip.sl.H7_7 c i arg3 arg4 arg5 arg7 arg8 arg9 arg10 arg11 X3 X4 X5 k f7 f8 f9 f10)) _ :=
    .put w7_6 rfl t100.2
  have w8_7 : ∀ f, TopBuf (raw q kk) arg8.view (arg8.view.writes (Elt Ideal) f (trip.sl.H8_7 c i arg3 arg4 arg8 arg9 X3 X4 k f8 f9)) _ :=
    .put w8_6 rfl t100.1
  have t101 : Tops (raw q kk) 0 (256 * 1) (768 * k.val + 512) (trip.sl.v909 c i arg3 arg4 arg8 arg9 X3 X4 k f8 f9)
      ∧ Accs (raw q kk) W 0 (256 * 1) (768 * k.val + 512) (trip.sl.v932 c i arg3 arg4 arg5 arg7 arg8 arg9 arg10 arg11 X3 X4 X5 k f7 f8 f9 f10) :=
    tile ((w8_7 _).load rfl rfl) ((w9 _).load rfl rfl) ((w11 _).load rfl rfl) ((w7_7 _).load rfl rfl)
      (hV.load (n := 768 * k.val + 256) (off3 i k 1 0 (by decide) (by decide))) (hV.load (n := 768 * k.val + 256 + 128) (off3 i k 1 1 (by decide) (by decide)))
  have w7_8 : ∀ f, AccBuf (raw q kk) W arg7.view (arg7.view.writes (Elt Ideal) f (trip.sl.H7_8 c i arg3 arg4 arg5 arg7 arg8 arg9 arg10 arg11 X3 X4 X5 k f7 f8 f9 f10)) _ :=
    .put w7_7 rfl t101.2
  have w8_8 : ∀ f, TopBuf (raw q kk) arg8.view (arg8.view.writes (Elt Ideal) f (trip.sl.H8_8 c i arg3 arg4 arg8 arg9 X3 X4 k f8 f9)) _ :=
    .put w8_7 rfl t101.1
  have t102 : Tops (raw q kk) 0 (256 * 2) (768 * k.val + 512) (trip.sl.v945 c i arg3 arg4 arg8 arg9 X3 X4 k f8 f9)
      ∧ Accs (raw q kk) W 0 (256 * 2) (768 * k.val + 512) (trip.sl.v968 c i arg3 arg4 arg5 arg7 arg8 arg9 arg10 arg11 X3 X4 X5 k f7 f8 f9 f10) :=
    tile ((w8_8 _).load rfl rfl) ((w9 _).load rfl rfl) ((w11 _).load rfl rfl) ((w7_8 _).load rfl rfl)
      (hV.load (n := 768 * k.val + 256) (off3 i k 1 0 (by decide) (by decide))) (hV.load (n := 768 * k.val + 256 + 128) (off3 i k 1 1 (by decide) (by decide)))
  have w7_9 : ∀ f, AccBuf (raw q kk) W arg7.view (arg7.view.writes (Elt Ideal) f (trip.sl.H7_9 c i arg3 arg4 arg5 arg7 arg8 arg9 arg10 arg11 X3 X4 X5 k f7 f8 f9 f10)) _ :=
    .put w7_8 rfl t102.2
  have w8_9 : ∀ f, TopBuf (raw q kk) arg8.view (arg8.view.writes (Elt Ideal) f (trip.sl.H8_9 c i arg3 arg4 arg8 arg9 X3 X4 k f8 f9)) _ :=
    .put w8_8 rfl t102.1
  have t110 : Tops (raw q kk) 1 (256 * 0) (768 * k.val + 512) (trip.sl.v981 c i arg3 arg4 arg8 arg9 X3 X4 k f8 f9)
      ∧ Accs (raw q kk) W 1 (256 * 0) (768 * k.val + 512) (trip.sl.v1004 c i arg3 arg4 arg5 arg7 arg8 arg9 arg10 arg11 X3 X4 X5 k f7 f8 f9 f10) :=
    tile ((w8_9 _).load rfl rfl) ((w9 _).load rfl rfl) ((w11 _).load rfl rfl) ((w7_9 _).load rfl rfl)
      (hV.load (n := 768 * k.val + 256) (off4 i k 1 0 (by decide) (by decide))) (hV.load (n := 768 * k.val + 256 + 128) (off4 i k 1 1 (by decide) (by decide)))
  have w7_10 : ∀ f, AccBuf (raw q kk) W arg7.view (arg7.view.writes (Elt Ideal) f (trip.sl.H7_10 c i arg3 arg4 arg5 arg7 arg8 arg9 arg10 arg11 X3 X4 X5 k f7 f8 f9 f10)) _ :=
    .put w7_9 rfl t110.2
  have w8_10 : ∀ f, TopBuf (raw q kk) arg8.view (arg8.view.writes (Elt Ideal) f (trip.sl.H8_10 c i arg3 arg4 arg8 arg9 X3 X4 k f8 f9)) _ :=
    .put w8_9 rfl t110.1
  have t111 : Tops (raw q kk) 1 (256 * 1) (768 * k.val + 512) (trip.sl.v1017 c i arg3 arg4 arg8 arg9 X3 X4 k f8 f9)
      ∧ Accs (raw q kk) W 1 (256 * 1) (768 * k.val + 512) (trip.sl.v1040 c i arg3 arg4 arg5 arg7 arg8 arg9 arg10 arg11 X3 X4 X5 k f7 f8 f9 f10) :=
    tile ((w8_10 _).load rfl rfl) ((w9 _).load rfl rfl) ((w11 _).load rfl rfl) ((w7_10 _).load rfl rfl)
      (hV.load (n := 768 * k.val + 256) (off4 i k 1 0 (by decide) (by decide))) (hV.load (n := 768 * k.val + 256 + 128) (off4 i k 1 1 (by decide) (by decide)))
  have w7_11 : ∀ f, AccBuf (raw q kk) W arg7.view (arg7.view.writes (Elt Ideal) f (trip.sl.H7_11 c i arg3 arg4 arg5 arg7 arg8 arg9 arg10 arg11 X3 X4 X5 k f7 f8 f9 f10)) _ :=
    .put w7_10 rfl t111.2
  have w8_11 : ∀ f, TopBuf (raw q kk) arg8.view (arg8.view.writes (Elt Ideal) f (trip.sl.H8_11 c i arg3 arg4 arg8 arg9 X3 X4 k f8 f9)) _ :=
    .put w8_10 rfl t111.1
  have t112 : Tops (raw q kk) 1 (256 * 2) (768 * k.val + 512) (trip.sl.v1053 c i arg3 arg4 arg8 arg9 X3 X4 k f8 f9)
      ∧ Accs (raw q kk) W 1 (256 * 2) (768 * k.val + 512) (trip.sl.v1076 c i arg3 arg4 arg5 arg7 arg8 arg9 arg10 arg11 X3 X4 X5 k f7 f8 f9 f10) :=
    tile ((w8_11 _).load rfl rfl) ((w9 _).load rfl rfl) ((w11 _).load rfl rfl) ((w7_11 _).load rfl rfl)
      (hV.load (n := 768 * k.val + 256) (off4 i k 1 0 (by decide) (by decide))) (hV.load (n := 768 * k.val + 256 + 128) (off4 i k 1 1 (by decide) (by decide)))
  have w7_12 : ∀ f, AccBuf (raw q kk) W arg7.view (arg7.view.writes (Elt Ideal) f (trip.sl.H7_12 c i arg3 arg4 arg5 arg7 arg8 arg9 arg10 arg11 X3 X4 X5 k f7 f8 f9 f10)) _ :=
    .put w7_11 rfl t112.2
  have w8_12 : ∀ f, TopBuf (raw q kk) arg8.view (arg8.view.writes (Elt Ideal) f (trip.sl.H8_12 c i arg3 arg4 arg8 arg9 X3 X4 k f8 f9)) _ :=
    .put w8_11 rfl t112.1
  have s20 : Scores (raw q kk) 0 (256 * 0) (768 * k.val + 768) (trip.sl.v1093 c i arg3 arg4 X3 X4 k) :=
    .of_rows768 (hK.load (off1 i k 2 (by decide))) (hQ.load rfl) rfl
  have s21 : Scores (raw q kk) 1 (256 * 0) (768 * k.val + 768) (trip.sl.v1107 c i arg3 arg4 X3 X4 k) :=
    .of_rows768 (hK.load (off2 i k 2 (by decide))) (hQ.load rfl) rfl
  have w9_6 : ∀ f, BlockBuf (raw q kk) arg9.view (arg9.view.writes (Elt Ideal) f (trip.sl.H9_6 c i arg3 arg4 X3 X4 k)) _ :=
    .put (.put w9 rfl rfl (.of_scores s20 ofBits_bot)) rfl rfl (.of_scores s21 ofBits_bot)
  have t200 : Tops (raw q kk) 0 (256 * 0) (768 * k.val + 768) (trip.sl.v1122 c i arg3 arg4 arg8 arg9 X3 X4 k f8 f9)
      ∧ Accs (raw q kk) W 0 (256 * 0) (768 * k.val + 768) (trip.sl.v1145 c i arg3 arg4 arg5 arg7 arg8 arg9 arg10 arg11 arg12 X3 X4 X5 k f7 f8 f9 f10) :=
    tile ((w8_12 _).load rfl rfl) ((w9_6 _).load rfl rfl) ((w12 _).load rfl rfl) ((w7_12 _).load rfl rfl)
      (hV.load (n := 768 * k.val + 512) (off3 i k 2 0 (by decide) (by decide))) (hV.load (n := 768 * k.val + 512 + 128) (off3 i k 2 1 (by decide) (by decide)))
  have w7_13 : ∀ f, AccBuf (raw q kk) W arg7.view (arg7.view.writes (Elt Ideal) f (trip.sl.H7_13 c i arg3 arg4 arg5 arg7 arg8 arg9 arg10 arg11 arg12 X3 X4 X5 k f7 f8 f9 f10)) _ :=
    .put w7_12 rfl t200.2
  have w8_13 : ∀ f, TopBuf (raw q kk) arg8.view (arg8.view.writes (Elt Ideal) f (trip.sl.H8_13 c i arg3 arg4 arg8 arg9 X3 X4 k f8 f9)) _ :=
    .put w8_12 rfl t200.1
  have t201 : Tops (raw q kk) 0 (256 * 1) (768 * k.val + 768) (trip.sl.v1158 c i arg3 arg4 arg8 arg9 X3 X4 k f8 f9)
      ∧ Accs (raw q kk) W 0 (256 * 1) (768 * k.val + 768) (trip.sl.v1181 c i arg3 arg4 arg5 arg7 arg8 arg9 arg10 arg11 arg12 X3 X4 X5 k f7 f8 f9 f10) :=
    tile ((w8_13 _).load rfl rfl) ((w9_6 _).load rfl rfl) ((w12 _).load rfl rfl) ((w7_13 _).load rfl rfl)
      (hV.load (n := 768 * k.val + 512) (off3 i k 2 0 (by decide) (by decide))) (hV.load (n := 768 * k.val + 512 + 128) (off3 i k 2 1 (by decide) (by decide)))
  have w7_14 : ∀ f, AccBuf (raw q kk) W arg7.view (arg7.view.writes (Elt Ideal) f (trip.sl.H7_14 c i arg3 arg4 arg5 arg7 arg8 arg9 arg10 arg11 arg12 X3 X4 X5 k f7 f8 f9 f10)) _ :=
    .put w7_13 rfl t201.2
  have w8_14 : ∀ f, TopBuf (raw q kk) arg8.view (arg8.view.writes (Elt Ideal) f (trip.sl.H8_14 c i arg3 arg4 arg8 arg9 X3 X4 k f8 f9)) _ :=
    .put w8_13 rfl t201.1
  have t202 : Tops (raw q kk) 0 (256 * 2) (768 * k.val + 768) (trip.sl.v1194 c i arg3 arg4 arg8 arg9 X3 X4 k f8 f9)
      ∧ Accs (raw q kk) W 0 (256 * 2) (768 * k.val + 768) (trip.sl.v1217 c i arg3 arg4 arg5 arg7 arg8 arg9 arg10 arg11 arg12 X3 X4 X5 k f7 f8 f9 f10) :=
    tile ((w8_14 _).load rfl rfl) ((w9_6 _).load rfl rfl) ((w12 _).load rfl rfl) ((w7_14 _).load rfl rfl)
      (hV.load (n := 768 * k.val + 512) (off3 i k 2 0 (by decide) (by decide))) (hV.load (n := 768 * k.val + 512 + 128) (off3 i k 2 1 (by decide) (by decide)))
  have w7_15 : ∀ f, AccBuf (raw q kk) W arg7.view (arg7.view.writes (Elt Ideal) f (trip.sl.H7_15 c i arg3 arg4 arg5 arg7 arg8 arg9 arg10 arg11 arg12 X3 X4 X5 k f7 f8 f9 f10)) _ :=
    .put w7_14 rfl t202.2
  have w8_15 : ∀ f, TopBuf (raw q kk) arg8.view (arg8.view.writes (Elt Ideal) f (trip.sl.H8_15 c i arg3 arg4 arg8 arg9 X3 X4 k f8 f9)) _ :=
    .put w8_14 rfl t202.1
  have t210 : Tops (raw q kk) 1 (256 * 0) (768 * k.val + 768) (trip.sl.v1230 c i arg3 arg4 arg8 arg9 X3 X4 k f8 f9)
      ∧ Accs (raw q kk) W 1 (256 * 0) (768 * k.val + 768) (trip.sl.v1253 c i arg3 arg4 arg5 arg7 arg8 arg9 arg10 arg11 arg12 X3 X4 X5 k f7 f8 f9 f10) :=
    tile ((w8_15 _).load rfl rfl) ((w9_6 _).load rfl rfl) ((w12 _).load rfl rfl) ((w7_15 _).load rfl rfl)
      (hV.load (n := 768 * k.val + 512) (off4 i k 2 0 (by decide) (by decide))) (hV.load (n := 768 * k.val + 512 + 128) (off4 i k 2 1 (by decide) (by decide)))
  have w7_16 : ∀ f, AccBuf (raw q kk) W arg7.view (arg7.view.writes (Elt Ideal) f (trip.sl.H7_16 c i arg3 arg4 arg5 arg7 arg8 arg9 arg10 arg11 arg12 X3 X4 X5 k f7 f8 f9 f10)) _ :=
    .put w7_15 rfl t210.2
  have w8_16 : ∀ f, TopBuf (raw q kk) arg8.view (arg8.view.writes (Elt Ideal) f (trip.sl.H8_16 c i arg3 arg4 arg8 arg9 X3 X4 k f8 f9)) _ :=
    .put w8_15 rfl t210.1
  have t211 : Tops (raw q kk) 1 (256 * 1) (768 * k.val + 768) (trip.sl.v1266 c i arg3 arg4 arg8 arg9 X3 X4 k f8 f9)
      ∧ Accs (raw q kk) W 1 (256 * 1) (768 * k.val + 768) (trip.sl.v1289 c i arg3 arg4 arg5 arg7 arg8 arg9 arg10 arg11 arg12 X3 X4 X5 k f7 f8 f9 f10) :=
    tile ((w8_16 _).load rfl rfl) ((w9_6 _).load rfl rfl) ((w12 _).load rfl rfl) ((w7_16 _).load rfl rfl)
      (hV.load (n := 768 * k.val + 512) (off4 i k 2 0 (by decide) (by decide))) (hV.load (n := 768 * k.val + 512 + 128) (off4 i k 2 1 (by decide) (by decide)))
  have w7_17 : ∀ f, AccBuf (raw q kk) W arg7.view (arg7.view.writes (Elt Ideal) f (trip.sl.H7_17 c i arg3 arg4 arg5 arg7 arg8 arg9 arg10 arg11 arg12 X3 X4 X5 k f7 f8 f9 f10)) _ :=
    .put w7_16 rfl t211.2
  have w8_17 : ∀ f, TopBuf (raw q kk) arg8.view (arg8.view.writes (Elt Ideal) f (trip.sl.H8_17 c i arg3 arg4 arg8 arg9 X3 X4 k f8 f9)) _ :=
    .put w8_16 rfl t211.1
  have t212 : Tops (raw q kk) 1 (256 * 2) (768 * k.val + 768) (trip.sl.v1302 c i arg3 arg4 arg8 arg9 X3 X4 k f8 f9)
      ∧ Accs (raw q kk) W 1 (256 * 2) (768 * k.val + 768) (trip.sl.v1325 c i arg3 arg4 arg5 arg7 arg8 arg9 arg10 arg11 arg12 X3 X4 X5 k f7 f8 f9 f10) :=
    tile ((w8_17 _).load rfl rfl) ((w9_6 _).load rfl rfl) ((w12 _).load rfl rfl) ((w7_17 _).load rfl rfl)
      (hV.load (n := 768 * k.val + 512) (off4 i k 2 0 (by decide) (by decide))) (hV.load (n := 768 * k.val + 512 + 128) (off4 i k 2 1 (by decide) (by decide)))
  have hn : 768 * (k.val + 1) = 768 * k.val + 768 := by omega
  rw [hn]
  sl_step
  isplitl [H3]; · iexact H3
  isplitl [H4]; · iexact H4
  isplitl [H5]; · iexact H5
  isplitl [H7 H8 H9 H10]
  · iexists _, _, _, _
    isplitr
    swap
    · isplitl [H7]; · iexact H7
      isplitl [H8]; · iexact H8
      isplitl [H9]; · iexact H9
      iexact H10
    ipureintro
    refine ⟨AccBuf.full (AccBuf.put w7_17 rfl t212.2 _) ⟨rfl, rfl, rfl, rfl, rfl, rfl⟩, TopBuf.full (TopBuf.put w8_17 rfl t212.1 _) ⟨rfl, rfl, rfl, rfl, rfl, rfl⟩, ?_, ?_⟩
    · exact BlockBuf.full (w9_6 _) ⟨rfl, rfl, rfl, rfl, rfl, rfl⟩
    · exact ScoreBuf.full (ScoreBuf.put (ScoreBuf.put .nil rfl rfl s20) rfl rfl s21 _) ⟨rfl, rfl, rfl, rfl, rfl, rfl⟩
  isplitl [H11]; · iexists _; iexact H11
  iexists _; iexact H12

end

end Cert.Proof.Trip

end
-- ==== Proof.Diag.lean ====
/-
  The blocks on the diagonal: scores of keys at or before every query are their own causal scores, the masked block's are
  the selected ones, and after its diagonal block a tile's sums are those of all the keys. The empty sums that the key loop
  begins from, and the quotients that the body ends with.
-/
module

public import proofs.«01_k».proof.Proof.Tiles

@[expose] public section

set_option maxRecDepth 4096

noncomputable section

namespace Cert.Proof.Tiles

open Cert.KernelIdeal
open Idealize.ShloMosaic
open Cert.Proof.Online
open scoped BigOperators

variable [Facts₀] {S W : ℕ → ℕ → ℕ → EReal} {e c n t : ℕ} {sp : Space}

/-! ## Causal scores -/

theorem causal_of_le {k : ℕ} (h : k ≤ t + c) : causal S t e c k = S e c k := if_pos h

theorem causal_of_lt {k : ℕ} (h : t + c < k) : causal S t e c k = ⊥ := if_neg (Nat.not_le.mpr h)

theorem AccBuf.toCausal {v : View sig .tc sp S2x128x768 .f32} {f : v.ty.Contents (Elt Ideal)} (hf : AccBuf S W v f (all n)) :
    AccBuf (causal S n) W v f (all n) := fun y m hm => by
  obtain rfl : n = m := Option.some.inj hm
  exact (hf y n rfl).trans (acc_congr (fun k hk => (causal_of_le (by omega)).symm) fun _ _ => rfl)

theorem TopBuf.toCausal {v : View sig .tc sp S2x1x768 .f32} {f : v.ty.Contents (Elt Ideal)} (hf : TopBuf S v f (all n)) :
    TopBuf (causal S n) v f (all n) := fun y m hm => by
  obtain rfl : n = m := Option.some.inj hm
  exact (hf y n rfl).trans (top_congr fun k hk => (causal_of_le (by omega)).symm)

theorem Scores.toCausal {w : ℕ} {s : (⟨2, ![256, w]⟩ : Shape).Idx → EReal} (hs : Scores S e c n s)
    (h : n + 255 ≤ t + c := by omega) : Scores (causal S t) e c n s := fun x => by
  have h0 : (x 0).val < 256 := (x 0).isLt
  exact (hs x).trans (causal_of_le (by omega)).symm

theorem BlockTops.toCausal {w : ℕ} {m : (⟨2, ![1, w]⟩ : Shape).Idx → EReal} (hm : BlockTops S e c n m)
    (h : n + 255 ≤ t + c := by omega) : BlockTops (causal S t) e c n m := fun x => by
  refine (hm x).trans (Finset.sup_congr rfl fun r hr => (causal_of_le ?_).symm)
  have := Finset.mem_range.mp hr
  omega

/-- The mask constant. -/
theorem mask_eq : (Named.named (F := Ideal) (φ := .f32) κ "mask" 0xF149F2CA#32 : EReal) = ⊥ :=
  (IdealRules.named_const.statement κ "mask" .f32 0xF149F2CA#32 ⊥ rfl).2.2

/-- Small numbers compare as their words do. -/
theorem toInt_word {a : ℕ} (h : a < 1024) : (BitVec.ofNat 32 a).toInt = a := by
  rw [BitVec.toInt_eq_toNat_of_lt] <;> rw [BitVec.toNat_ofNat, Nat.mod_eq_of_lt (by omega)]
  omega

theorem sle_word {a b : ℕ} (ha : a < 1024) (hb : b < 1024) :
    (BitVec.ofNat 32 a).sle (BitVec.ofNat 32 b) = decide (a ≤ b) := by
  rw [BitVec.sle_eq_decide, toInt_word ha, toInt_word hb]
  simp

theorem slt_word {a b : ℕ} (ha : a < 1024) (hb : b < 1024) :
    (BitVec.ofNat 32 a).slt (BitVec.ofNat 32 b) = decide (a < b) := by
  rw [BitVec.slt_eq_decide, toInt_word ha, toInt_word hb]
  simp

theorem col_apply {α : Type} (m : S256x1.Idx → α) (h : S256x1.Broadcasts S256x256) (y : S256x256.Idx) :
    broadcastTo S256x256 m h y = m (ix2 (y 0) 0) :=
  broadcastTo_apply m h y (ix2 (y 0) 0) fun ax => by
    match ax with
    | ⟨0, _⟩ => rfl
    | ⟨1, _⟩ => rfl

theorem row_apply₂ {α : Type} (m : S1x256.Idx → α) (h : S1x256.Broadcasts S256x256) (y : S256x256.Idx) :
    broadcastTo S256x256 m h y = m (ix2 0 (y 1)) :=
  broadcastTo_apply m h y (ix2 0 (y 1)) fun ax => by
    match ax with
    | ⟨0, _⟩ => rfl
    | ⟨1, _⟩ => rfl

/-- The block on the diagonal: key `r` counts for column `x` when `r ≤ x`. -/
theorem Scores.masked {s : FVec Ideal S256x256 .f32} (hs : Scores S e c n s) {h1 : S256x1.Broadcasts S256x256}
    {h2 : S1x256.Broadcasts S256x256} {h3 : S256x1.Iotas .tc 32 [0]} {h4 : S1x256.Iotas .tc 32 [1]} {z : EReal} (hz : z = ⊥)
    (hn : n = t + c := by omega) :
    Scores (causal S t) e c n
      (select (cmpi .sle (broadcastTo S256x256 (iota .tc S256x1 32 [0] h3) h1) (broadcastTo S256x256 (iota .tc S1x256 32 [1] h4) h2))
        s (broadcast S256x256 z)) := fun x => by
  subst hz
  have h0 : (x 0).val < 256 := (x 0).isLt
  have h1' : (x 1).val < 256 := (x 1).isLt
  have hc : cmpi .sle (broadcastTo S256x256 (iota .tc S256x1 32 [0] h3) h1) (broadcastTo S256x256 (iota .tc S1x256 32 [1] h4) h2) x
      = BitVec.ofBool (decide ((x 0).val ≤ (x 1).val)) := by
    show BitVec.ofBool ((broadcastTo S256x256 (iota .tc S256x1 32 [0] h3) h1 x).sle (broadcastTo S256x256 (iota .tc S1x256 32 [1] h4) h2 x)) = _
    rw [col_apply, row_apply₂, ← sle_word (by omega) (by omega)]
    congr 2
    · exact congrArg (BitVec.ofNat 32) (by show 0 * 256 + (x 0).val = _; omega)
    · exact congrArg (BitVec.ofNat 32) (by show 0 * 256 + (x 1).val = _; omega)
  show Scalar.select (cmpi .sle _ _ x) (s x) ⊥ = _
  rw [hc, hs]
  by_cases h : (x 0).val ≤ (x 1).val
  · rw [causal_of_le (by omega), decide_eq_true h]; rfl
  · rw [causal_of_lt (by omega), decide_eq_false h]; rfl

/-! ## The loop's beginning -/

theorem AccBuf.zero {P : Book} {v : View sig .tc sp S2x128x768 .f32} {L : List (View.Piece (Elt Ideal) S2x128x768 .f32)}
    (hL : ∀ f, AccBuf S W v (v.writes (Elt Ideal) f L) P) {off : Fin 3 → ℕ}
    {inb : ∀ a, off a + S1x128x768.size a ≤ S2x128x768.size a} {a : FVec Ideal S128x768 .f32}
    {h : S128x768.ShapeCasts S1x128x768} (hoff : off = ![e, 0, 0]) (ha : ∀ x, a x = (0 : EReal)) :
    ∀ f, AccBuf S W v (v.writes (Elt Ideal) f ((⟨Rect.unit (s := S2x128x768) off S1x128x768.size inb, shapeCast S1x128x768 a h⟩ : View.Piece (Elt Ideal) S2x128x768 .f32) :: L))
      (putFrom P e 0 0) := fun f y m hm => by
  subst hoff
  by_cases hy : (y 0).val = e
  · simp only [Tiles.putFrom, hy, Nat.zero_le, and_self, if_true, Option.some.injEq] at hm
    subst hm
    refine (View.read_writes_cons_unit_of_mem v f inb _ L y (ix3 0 (y 1) (y 2)) rfl ?_).trans ?_
    · intro a
      match a with
      | ⟨0, _⟩ => exact hy
      | ⟨1, _⟩ => exact (Nat.zero_add _).symm
      | ⟨2, _⟩ => exact (Nat.zero_add _).symm
    · exact (shapeCast_addUnit_apply ![128, 768] a h _).trans ((ha _).trans (acc_zero _ _).symm)
  · have hm' : P (y 0).val ((y 2).val / 256) = some m := by simpa only [Tiles.putFrom, hy, false_and, if_false] using hm
    rw [← hL f y m hm']
    refine View.read_writes_cons_unit_of_not_mem v f inb _ L y rfl 0 ?_
    show (y 0).val < e ∨ e + 1 ≤ (y 0).val
    omega

theorem TopBuf.zero {P : Book} {v : View sig .tc sp S2x1x768 .f32} {L : List (View.Piece (Elt Ideal) S2x1x768 .f32)}
    (hL : ∀ f, TopBuf S v (v.writes (Elt Ideal) f L) P) {off : Fin 3 → ℕ}
    {inb : ∀ a, off a + S1x1x768.size a ≤ S2x1x768.size a} {a : FVec Ideal S1x768 .f32}
    {h : S1x768.ShapeCasts S1x1x768} (hoff : off = ![e, 0, 0]) (ha : ∀ x, a x = (⊥ : EReal)) :
    ∀ f, TopBuf S v (v.writes (Elt Ideal) f ((⟨Rect.unit (s := S2x1x768) off S1x1x768.size inb, shapeCast S1x1x768 a h⟩ : View.Piece (Elt Ideal) S2x1x768 .f32) :: L))
      (putFrom P e 0 0) := fun f y m hm => by
  subst hoff
  by_cases hy : (y 0).val = e
  · simp only [Tiles.putFrom, hy, Nat.zero_le, and_self, if_true, Option.some.injEq] at hm
    subst hm
    refine (View.read_writes_cons_unit_of_mem v f inb _ L y (ix3 0 (y 1) (y 2)) rfl ?_).trans ?_
    · intro a
      match a with
      | ⟨0, _⟩ => exact hy
      | ⟨1, _⟩ => exact (Nat.zero_add _).symm
      | ⟨2, _⟩ => exact (Nat.zero_add _).symm
    · exact (shapeCast_addUnit_apply ![1, 768] a h _).trans ((ha _).trans (top_zero _).symm)
  · have hm' : P (y 0).val ((y 2).val / 256) = some m := by simpa only [Tiles.putFrom, hy, false_and, if_false] using hm
    rw [← hL f y m hm']
    refine View.read_writes_cons_unit_of_not_mem v f inb _ L y rfl 0 ?_
    show (y 0).val < e ∨ e + 1 ≤ (y 0).val
    omega

/-! ## The end -/

/-- The book after the diagonal: each tile has seen the keys up to its own block's last. -/
def Done (P : Book) (t : ℕ) : Prop :=
  P 0 0 = some (t + 256) ∧ P 0 1 = some (t + 512) ∧ P 0 2 = some (t + 768)
    ∧ P 1 0 = some (t + 256) ∧ P 1 1 = some (t + 512) ∧ P 1 2 = some (t + 768)

theorem Done.get {P : Book} {e' b' : ℕ} (h : Done P t) (he : e' < 2) (hb : b' < 3) : P e' b' = some (t + 256 * b' + 256) := by
  obtain ⟨h0, h1, h2, h3, h4, h5⟩ := h
  interval_cases e' <;> interval_cases b' <;> assumption

/-- A head's sums over all the keys. -/
theorem AccBuf.done {P : Book} {v : View sig .tc sp S2x128x768 .f32} {f : v.ty.Contents (Elt Ideal)}
    (hf : AccBuf (causal S t) W v f P) (hP : Done P t) (ht : t + 768 ≤ 8448) {off : Fin 3 → ℕ}
    {inb : ∀ a, off a + S1x128x768.size a ≤ S2x128x768.size a} {h : S1x128x768.ShapeCasts S128x768}
    (hoff : off = ![e, 0, 0]) (he : e < 2) (x : S128x768.Idx) :
    shapeCast S128x768 (View.readAt (Elt Ideal) v (Rect.unit (s := S2x128x768) off S1x128x768.size inb).toLoadRect f) h x
      = acc (causal S t e (x 1).val) (W e (x 0).val) 8448 := by
  subst hoff
  refine (shapeCast_dropUnit_apply ![128, 768] _ h x).trans ?_
  have h1 : (x 1).val < 768 := (x 1).isLt
  refine (hf _ (t + 256 * ((x 1).val / 256) + 256) ?_).trans ?_
  · show P (e + 1 * 0) ((0 + 1 * (x 1).val) / 256) = _
    rw [show (0 + 1 * (x 1).val) / 256 = (x 1).val / 256 by omega]
    exact hP.get he (by omega)
  · show acc (causal S t (e + 1 * 0) (0 + 1 * (x 1).val)) (W (e + 1 * 0) (0 + 1 * (x 0).val)) _ = _
    simp only [Nat.mul_zero, Nat.add_zero, Nat.one_mul, Nat.zero_add]
    exact (acc_masked (by omega) fun k hk => causal_of_lt (by omega)).symm

/-- A row broadcast over the lanes. -/
theorem row_apply₃ {α : Type} (m : S1x768.Idx → α) (h : S1x768.Broadcasts S128x768) (y : S128x768.Idx) :
    broadcastTo S128x768 m h y = m (ix2 0 (y 1)) :=
  broadcastTo_apply m h y (ix2 0 (y 1)) fun ax => by
    match ax with
    | ⟨0, _⟩ => rfl
    | ⟨1, _⟩ => rfl

theorem col_apply₃ {α : Type} (m : S128x1.Idx → α) (h : S128x1.Broadcasts S128x768) (y : S128x768.Idx) :
    broadcastTo S128x768 m h y = m (ix2 (y 0) 0) :=
  broadcastTo_apply m h y (ix2 (y 0) 0) fun ax => by
    match ax with
    | ⟨0, _⟩ => rfl
    | ⟨1, _⟩ => rfl

/-- The stored quotients. -/
theorem quotient_apply (a b : FVec Ideal S128x768 .f32) {h0 : S128x1.Iotas .tc 32 [0]} {h1 : S128x1.ShapeCasts S128x1}
    {h2 : S128x1.Broadcasts S128x768} {h3 : S128x768.Slices ![64, 0] S1x768} {h4 : S128x768.Slices ![0, 0] S1x768}
    {h5 : S1x768.Broadcasts S128x768} {h6 : S128x768.Transposes [1, 0] S768x128} {h7 : FTy.bf16.bits < FTy.f32.bits}
    (x : S768x128.Idx) :
    truncf .bf16 (transpose S768x128 [1, 0]
        (select (broadcastTo S128x768 (shapeCast S128x1 (cmpi .slt (iota .tc S128x1 32 [0] h0) (broadcast S128x1 64#32)) h1) h2)
          (divf a (broadcastTo S128x768 (extractStridedSlice S1x768 ![64, 0] a h3) h5))
          (divf b (broadcastTo S128x768 (extractStridedSlice S1x768 ![0, 0] b h4) h5))) h6) h7 x
      = if (x 1).val < 64 then Ideal.div (a (ix2 (x 1) (x 0))) (a (ix2 64 (x 0))) else Ideal.div (b (ix2 (x 1) (x 0))) (b (ix2 0 (x 0))) := by
  have hx1 : (x 1).val < 128 := (x 1).isLt
  have ht (v : FVec Ideal S128x768 .f32) : truncf .bf16 (transpose S768x128 [1, 0] v h6) h7 x = v (ix2 (x 1) (x 0)) :=
    transpose_apply [1, 0] v h6 x (ix2 (x 1) (x 0)) fun c => by
      match c with
      | ⟨0, _⟩ => rfl
      | ⟨1, _⟩ => rfl
  refine (ht _).trans ?_
  have hc : broadcastTo S128x768 (shapeCast S128x1 (cmpi .slt (iota .tc S128x1 32 [0] h0) (broadcast S128x1 64#32)) h1) h2 (ix2 (x 1) (x 0))
      = BitVec.ofBool (decide ((x 1).val < 64)) := by
    rw [col_apply₃, shapeCast_self]
    show BitVec.ofBool ((BitVec.ofNat 32 (0 * 128 + (x 1).val)).slt (BitVec.ofNat 32 64)) = _
    rw [Nat.zero_mul, Nat.zero_add, slt_word (by omega) (by omega)]
  have ha : broadcastTo S128x768 (extractStridedSlice S1x768 ![64, 0] a h3) h5 (ix2 (x 1) (x 0)) = a (ix2 64 (x 0)) := by
    rw [row_apply₃]
    exact extractStridedSlice_apply _ _ h3 _ _ fun c => by
      match c with
      | ⟨0, _⟩ => rfl
      | ⟨1, _⟩ => exact (Nat.zero_add _).symm
  have hb : broadcastTo S128x768 (extractStridedSlice S1x768 ![0, 0] b h4) h5 (ix2 (x 1) (x 0)) = b (ix2 0 (x 0)) := by
    rw [row_apply₃]
    exact extractStridedSlice_apply _ _ h4 _ _ fun c => by
      match c with
      | ⟨0, _⟩ => rfl
      | ⟨1, _⟩ => exact (Nat.zero_add _).symm
  show Scalar.select (broadcastTo S128x768 _ h2 (ix2 (x 1) (x 0)))
    (Ideal.div (a (ix2 (x 1) (x 0))) (broadcastTo S128x768 _ h5 (ix2 (x 1) (x 0))))
    (Ideal.div (b (ix2 (x 1) (x 0))) (broadcastTo S128x768 _ h5 (ix2 (x 1) (x 0)))) = _
  rw [hc, ha, hb]
  by_cases h : (x 1).val < 64
  · rw [decide_eq_true h, if_pos h]; rfl
  · rw [decide_eq_false h, if_neg h]; rfl

end Cert.Proof.Tiles

end
-- ==== Proof.Body.lean ====
/-
  The idealised attention kernel's body over the extended reals: the first block's scores, the key loop, the three blocks
  on the diagonal with their causal mask, and the quotients stored as the result.
-/
module

public import proofs.«01_k».proof.Proof.Gen.KernelIdeal.Frame
public import proofs.«01_k».proof.Proof.Offsets
public import proofs.«01_k».proof.Proof.Tiles
public import proofs.«01_k».proof.Proof.Trip
public import proofs.«01_k».proof.Proof.Diag
public import Idealize.ShloMosaic.Lib.Tactic

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tiles Cert.Proof.Offsets Cert.Proof.Trip Cert.Proof.Online

local notation "𝕄" => MT nD τ sig Unit (Elt Ideal) ℕ (UU nD τ) ℕ

/-- What the body stores for group `j` of 768 queries: the quotients of the weighted sums, the first 64 lanes from the
pair's first head, the others from its second. -/
def result (q kk W : ℕ → ℕ → ℕ → EReal) (j : ℕ) : Vec Ideal S1x768x128 .bf16 := fun y =>
  if (y 2).val < 64 then
    Ideal.div (acc (causal (raw q kk) (768 * j) 0 (y 1).val) (W 0 (y 2).val) 8448) (acc (causal (raw q kk) (768 * j) 0 (y 1).val) (W 0 64) 8448)
  else
    Ideal.div (acc (causal (raw q kk) (768 * j) 1 (y 1).val) (W 1 (y 2).val) 8448) (acc (causal (raw q kk) (768 * j) 1 (y 1).val) (W 1 0) 8448)

set_option maxHeartbeats 4000000 in
set_option sl_exec.skeleton false in
/-- The kernel's body on whole buffers: the operands' are unchanged, the result's and the scratch's hold something. -/
theorem body_run (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x66x128x128 .bf16) (harg5 : arg5.IsWhole) (arg6 : Memref sig .tc .vmem S1x768x128 .bf16) (harg6 : arg6.IsWhole) (arg7 : Memref sig .tc .vmem S2x128x768 .f32) (harg7 : arg7.IsWhole) (arg8 : Memref sig .tc .vmem S2x1x768 .f32) (harg8 : arg8.IsWhole) (arg9 : Memref sig .tc .vmem S3x2x1x768 .f32) (harg9 : arg9.IsWhole) (arg10 : Memref sig .tc .vmem S2x256x768 .f32) (harg10 : arg10.IsWhole) (arg11 : Memref sig .tc .vmem S2x256x768 .f32) (harg11 : arg11.IsWhole) (arg12 : Memref sig .tc .vmem S2x256x768 .f32) (harg12 : arg12.IsWhole)
    (x3 : Vec Ideal S1x2x768x128 .bf16) (x4 : Vec Ideal S1x2x8448x128 .bf16) (x5 : Vec Ideal S1x2x66x128x128 .bf16) (q kk W : ℕ → ℕ → ℕ → EReal)
    (hq : ∀ y, x3 y = q (y 1).val (y 2).val (y 3).val) (hk : ∀ y, x4 y = kk (y 1).val (y 2).val (y 3).val)
    (hw : ∀ y, x5 y = W (y 1).val (y 3).val (128 * (y 2).val + (y 4).val)) (E : Set ℕ) (K : PUnit → sProp 𝕄) (hE : E = Set.univ) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (result q kk W (i 2).val) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ (∃ d, owns (c : Thread nD τ) arg12 fullShare d)) -∗ K ⟨⟩))
      ⊢ wp frame (wpE (defs₀ (F := Ideal)) Variants.none c none) E (cc0_fox_prompt i arg3 harg3 arg4 harg4 arg5 harg5 arg6 harg6 arg7 harg7 arg8 harg8 arg9 harg9 arg10 harg10 arg11 harg11 arg12 harg12) K := by
  subst hE
  unfold cc0_fox_prompt
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf3; obtain rfl := harg4.eq_unread hf4; obtain rfl := harg5.eq_unread hf5
  have hQ : QBlk q arg3.view (harg3.unread x3) := fun y => (congrFun hf3 y).trans (hq y)
  have hK : KBlk kk arg4.view (harg4.unread x4) := fun y => (congrFun hf4 y).trans (hk y)
  have hV : VBlk W arg5.view (harg5.unread x5) := fun y => (congrFun hf5 y).trans (hw y)
  sl_exec
  sl_for (fun n _ => tripRes c arg3 arg4 arg5 arg7 arg8 arg9 arg10 arg11 arg12 q kk W (harg3.unread x3) (harg4.unread x4) (harg5.unread x5) (768 * n)) $$ [H3 H4 H5 H7 H8 H9 H10 H11 H12]
  case region =>
    intro k a
    exact trip c i arg3 harg3 arg4 harg4 arg5 harg5 arg6 harg6 arg7 harg7 arg8 harg8 arg9 harg9 arg10 harg10 arg11 harg11 arg12 harg12 0#32 (body_run.sl.v25 c arg3 harg3 arg4 harg4 x3 x4) q kk W _ _ _ hQ hK hV k
  · unfold tripRes
    have s0 : Scores (raw q kk) 0 (256 * 0) (768 * 0) (body_run.sl.v25 c arg3 harg3 arg4 harg4 x3 x4) :=
      .of_rows768 (hK.load rfl) (hQ.load rfl) rfl
    have s1 : Scores (raw q kk) 1 (256 * 0) (768 * 0) (body_run.sl.v38 c arg3 harg3 arg4 harg4 x3 x4) :=
      .of_rows768 (hK.load rfl) (hQ.load rfl) rfl
    isplitl [H3]; · iexact H3
    isplitl [H4]; · iexact H4
    isplitl [H5]; · iexact H5
    isplitl [H7 H8 H9 H10]
    · iexists _, _, _, _
      isplitr
      swap
      · isplitl [H7]; · iexact H7
        isplitl [H8]; · iexact H8
        isplitl [H9]; · iexact H9
        iexact H10
      ipureintro
      refine ⟨AccBuf.full (AccBuf.zero (AccBuf.zero .nil rfl (by exact fun _ => Ideal.ofBits_zero .f32)) rfl (by exact fun _ => Ideal.ofBits_zero .f32) _) ⟨rfl, rfl, rfl, rfl, rfl, rfl⟩,
        TopBuf.full (TopBuf.zero (TopBuf.zero .nil rfl (by exact fun _ => mask_eq)) rfl (by exact fun _ => mask_eq) _) ⟨rfl, rfl, rfl, rfl, rfl, rfl⟩,
        BlockBuf.full (BlockBuf.put (BlockBuf.put .nil rfl rfl (.of_scores s0 ofBits_bot)) rfl rfl (.of_scores s1 ofBits_bot) _) ⟨rfl, rfl, rfl, rfl, rfl, rfl⟩,
        ScoreBuf.full (ScoreBuf.put (ScoreBuf.put .nil rfl rfl s0) rfl rfl s1 _) ⟨rfl, rfl, rfl, rfl, rfl, rfl⟩⟩
    isplitl [H11]; · iexists _; iexact H11
    iexists _; iexact H12
  iintro %a HI
  rw [show Scf.trips (k0_t1_loop i).lb (k0_t1_loop i).ub (k0_t1_loop i).st = (i 2).val from trips1_eq i]
  unfold tripRes
  icases HI with ⟨H3, H4, H5, ⟨%g7, %g8, %g9, %g10, %hg, H7, H8, H9, H10⟩, ⟨%g11, H11⟩, ⟨%g12, H12⟩⟩
  obtain ⟨h7, h8, h9, h10⟩ := hg
  sl_exec
  sl_for0 (trips2_eq i)
  sl_exec
  have s00 : Scores (raw q kk) 0 (256 * 1) (768 * (i 2).val + 256) (body_run.sl.v62 i arg3 harg3 arg4 harg4 x3 x4) :=
    .of_rows512 (hK.load (off9 i 0 (by decide))) (hQ.load rfl) rfl
  have s01 : Scores (raw q kk) 1 (256 * 1) (768 * (i 2).val + 256) (body_run.sl.v76 i arg3 harg3 arg4 harg4 x3 x4) :=
    .of_rows512 (hK.load (off10 i 0 (by decide))) (hQ.load rfl) rfl
  have w11 : ∀ f, ScoreBuf (raw q kk) arg11.view (arg11.view.writes (Elt Ideal) f (body_run.sl.H11_2 i arg3 harg3 arg4 harg4 x3 x4)) _ :=
    .put (.put .nil rfl rfl s00) rfl rfl s01
  have s10 : Scores (raw q kk) 0 (256 * 2) (768 * (i 2).val + 512) (body_run.sl.v315 i arg3 harg3 arg4 harg4 x3 x4) :=
    .of_rows256 (hK.load (off9 i 1 (by decide))) (hQ.load rfl) rfl
  have s11 : Scores (raw q kk) 1 (256 * 2) (768 * (i 2).val + 512) (body_run.sl.v329 i arg3 harg3 arg4 harg4 x3 x4) :=
    .of_rows256 (hK.load (off10 i 1 (by decide))) (hQ.load rfl) rfl
  have w12 : ∀ f, ScoreBuf (raw q kk) arg12.view (arg12.view.writes (Elt Ideal) f (body_run.sl.H12_2 i arg3 harg3 arg4 harg4 x3 x4)) _ :=
    .put (.put .nil rfl rfl s10) rfl rfl s11
  have w9 : ∀ f, BlockBuf (raw q kk) arg9.view (arg9.view.writes (Elt Ideal) f (body_run.sl.H9_4 i arg3 harg3 arg4 harg4 x3 x4)) _ :=
    .put (.put (.put (.put .nil rfl rfl (.of_scores s00 ofBits_bot)) rfl rfl (.of_scores s01 ofBits_bot)) rfl rfl (.of_scores s10 ofBits_bot)) rfl rfl (.of_scores s11 ofBits_bot)
  have c7 : AccBuf (causal (raw q kk) (768 * (i 2).val)) W arg7.view g7 (all (768 * (i 2).val)) := h7.toCausal
  have c8 : TopBuf (causal (raw q kk) (768 * (i 2).val)) arg8.view g8 (all (768 * (i 2).val)) := h8.toCausal
  have u000 : Scores (causal (raw q kk) (768 * (i 2).val)) 0 (256 * 0) (768 * (i 2).val) (body_run.sl.v88 arg10 g10) :=
    Scores.masked (h10.load rfl rfl) mask_eq
  have b000 : BlockTops (causal (raw q kk) (768 * (i 2).val)) 0 (256 * 0) (768 * (i 2).val) (body_run.sl.v90 arg10 g10) := .of_scores u000 ofBits_bot
  have t000 : Tops (causal (raw q kk) (768 * (i 2).val)) 0 (256 * 0) (768 * (i 2).val + 256) (body_run.sl.v93 arg8 arg10 g8 g10)
      ∧ Accs (causal (raw q kk) (768 * (i 2).val)) W 0 (256 * 0) (768 * (i 2).val + 256) (body_run.sl.v116 i arg5 harg5 arg7 arg8 arg10 x5 g7 g8 g10) :=
    tile (c8.load rfl rfl) b000 u000 (c7.load rfl rfl)
      (hV.load (n := 768 * (i 2).val) (off11 i 0 0 (by decide) (by decide))) (hV.load (n := 768 * (i 2).val + 128) (off11 i 0 1 (by decide) (by decide)))
  have u001 : Scores (causal (raw q kk) (768 * (i 2).val)) 0 (256 * 1) (768 * (i 2).val) (body_run.sl.v124 arg10 g10) :=
    (h10.load rfl rfl).toCausal (by omega)
  have b001 : BlockTops (causal (raw q kk) (768 * (i 2).val)) 0 (256 * 1) (768 * (i 2).val) (body_run.sl.v126 arg9 g9) :=
    (h9.load rfl rfl).toCausal (by omega)
  have t001 : Tops (causal (raw q kk) (768 * (i 2).val)) 0 (256 * 1) (768 * (i 2).val + 256) (body_run.sl.v129 arg8 arg9 g8 g9)
      ∧ Accs (causal (raw q kk) (768 * (i 2).val)) W 0 (256 * 1) (768 * (i 2).val + 256) (body_run.sl.v152 i arg5 harg5 arg7 arg8 arg9 arg10 x5 g7 g8 g9 g10) :=
    tile (c8.load rfl rfl) b001 u001 (c7.load rfl rfl)
      (hV.load (n := 768 * (i 2).val) (off11 i 0 0 (by decide) (by decide))) (hV.load (n := 768 * (i 2).val + 128) (off11 i 0 1 (by decide) (by decide)))
  have u002 : Scores (causal (raw q kk) (768 * (i 2).val)) 0 (256 * 2) (768 * (i 2).val) (body_run.sl.v160 arg10 g10) :=
    (h10.load rfl rfl).toCausal (by omega)
  have b002 : BlockTops (causal (raw q kk) (768 * (i 2).val)) 0 (256 * 2) (768 * (i 2).val) (body_run.sl.v162 arg9 g9) :=
    (h9.load rfl rfl).toCausal (by omega)
  have t002 : Tops (causal (raw q kk) (768 * (i 2).val)) 0 (256 * 2) (768 * (i 2).val + 256) (body_run.sl.v165 arg8 arg9 g8 g9)
      ∧ Accs (causal (raw q kk) (768 * (i 2).val)) W 0 (256 * 2) (768 * (i 2).val + 256) (body_run.sl.v188 i arg5 harg5 arg7 arg8 arg9 arg10 x5 g7 g8 g9 g10) :=
    tile (c8.load rfl rfl) b002 u002 (c7.load rfl rfl)
      (hV.load (n := 768 * (i 2).val) (off11 i 0 0 (by decide) (by decide))) (hV.load (n := 768 * (i 2).val + 128) (off11 i 0 1 (by decide) (by decide)))
  have u010 : Scores (causal (raw q kk) (768 * (i 2).val)) 1 (256 * 0) (768 * (i 2).val) (body_run.sl.v198 arg10 g10) :=
    Scores.masked (h10.load rfl rfl) mask_eq
  have b010 : BlockTops (causal (raw q kk) (768 * (i 2).val)) 1 (256 * 0) (768 * (i 2).val) (body_run.sl.v200 arg10 g10) := .of_scores u010 ofBits_bot
  have t010 : Tops (causal (raw q kk) (768 * (i 2).val)) 1 (256 * 0) (768 * (i 2).val + 256) (body_run.sl.v203 arg8 arg10 g8 g10)
      ∧ Accs (causal (raw q kk) (768 * (i 2).val)) W 1 (256 * 0) (768 * (i 2).val + 256) (body_run.sl.v226 i arg5 harg5 arg7 arg8 arg10 x5 g7 g8 g10) :=
    tile (c8.load rfl rfl) b010 u010 (c7.load rfl rfl)
      (hV.load (n := 768 * (i 2).val) (off12 i 0 0 (by decide) (by decide))) (hV.load (n := 768 * (i 2).val + 128) (off12 i 0 1 (by decide) (by decide)))
  have u011 : Scores (causal (raw q kk) (768 * (i 2).val)) 1 (256 * 1) (768 * (i 2).val) (body_run.sl.v234 arg10 g10) :=
    (h10.load rfl rfl).toCausal (by omega)
  have b011 : BlockTops (causal (raw q kk) (768 * (i 2).val)) 1 (256 * 1) (768 * (i 2).val) (body_run.sl.v236 arg9 g9) :=
    (h9.load rfl rfl).toCausal (by omega)
  have t011 : Tops (causal (raw q kk) (768 * (i 2).val)) 1 (256 * 1) (768 * (i 2).val + 256) (body_run.sl.v239 arg8 arg9 g8 g9)
      ∧ Accs (causal (raw q kk) (768 * (i 2).val)) W 1 (256 * 1) (768 * (i 2).val + 256) (body_run.sl.v262 i arg5 harg5 arg7 arg8 arg9 arg10 x5 g7 g8 g9 g10) :=
    tile (c8.load rfl rfl) b011 u011 (c7.load rfl rfl)
      (hV.load (n := 768 * (i 2).val) (off12 i 0 0 (by decide) (by decide))) (hV.load (n := 768 * (i 2).val + 128) (off12 i 0 1 (by decide) (by decide)))
  have u012 : Scores (causal (raw q kk) (768 * (i 2).val)) 1 (256 * 2) (768 * (i 2).val) (body_run.sl.v270 arg10 g10) :=
    (h10.load rfl rfl).toCausal (by omega)
  have b012 : BlockTops (causal (raw q kk) (768 * (i 2).val)) 1 (256 * 2) (768 * (i 2).val) (body_run.sl.v272 arg9 g9) :=
    (h9.load rfl rfl).toCausal (by omega)
  have t012 : Tops (causal (raw q kk) (768 * (i 2).val)) 1 (256 * 2) (768 * (i 2).val + 256) (body_run.sl.v275 arg8 arg9 g8 g9)
      ∧ Accs (causal (raw q kk) (768 * (i 2).val)) W 1 (256 * 2) (768 * (i 2).val + 256) (body_run.sl.v298 i arg5 harg5 arg7 arg8 arg9 arg10 x5 g7 g8 g9 g10) :=
    tile (c8.load rfl rfl) b012 u012 (c7.load rfl rfl)
      (hV.load (n := 768 * (i 2).val) (off12 i 0 0 (by decide) (by decide))) (hV.load (n := 768 * (i 2).val + 128) (off12 i 0 1 (by decide) (by decide)))
  have w7_6 : ∀ f, AccBuf (causal (raw q kk) (768 * (i 2).val)) W arg7.view (arg7.view.writes (Elt Ideal) f (body_run.sl.H7_6 i arg5 harg5 arg7 arg8 arg9 arg10 x5 g7 g8 g9 g10)) _ :=
    .put (.put (.put (.put (.put (.put .nil rfl t000.2) rfl t001.2) rfl t002.2) rfl t010.2) rfl t011.2) rfl t012.2
  have w8_6 : ∀ f, TopBuf (causal (raw q kk) (768 * (i 2).val)) arg8.view (arg8.view.writes (Elt Ideal) f (body_run.sl.H8_6 arg8 arg9 arg10 g8 g9 g10)) _ :=
    .put (.put (.put (.put (.put (.put .nil rfl t000.1) rfl t001.1) rfl t002.1) rfl t010.1) rfl t011.1) rfl t012.1
  have u101 : Scores (causal (raw q kk) (768 * (i 2).val)) 0 (256 * 1) (768 * (i 2).val + 256) (body_run.sl.v341 i arg3 harg3 arg4 harg4 arg11 x3 x4) :=
    Scores.masked ((w11 _).load rfl rfl) mask_eq
  have b101 : BlockTops (causal (raw q kk) (768 * (i 2).val)) 0 (256 * 1) (768 * (i 2).val + 256) (body_run.sl.v343 i arg3 harg3 arg4 harg4 arg11 x3 x4) := .of_scores u101 ofBits_bot
  have t101 : Tops (causal (raw q kk) (768 * (i 2).val)) 0 (256 * 1) (768 * (i 2).val + 512) (body_run.sl.v346 i arg3 harg3 arg4 harg4 arg8 arg9 arg10 arg11 x3 x4 g8 g9 g10)
      ∧ Accs (causal (raw q kk) (768 * (i 2).val)) W 0 (256 * 1) (768 * (i 2).val + 512) (body_run.sl.v369 i arg3 harg3 arg4 harg4 arg5 harg5 arg7 arg8 arg9 arg10 arg11 x3 x4 x5 g7 g8 g9 g10) :=
    tile ((w8_6 _).load rfl rfl) b101 u101 ((w7_6 _).load rfl rfl)
      (hV.load (n := 768 * (i 2).val + 256) (off11 i 1 0 (by decide) (by decide))) (hV.load (n := 768 * (i 2).val + 256 + 128) (off11 i 1 1 (by decide) (by decide)))
  have w7_7 : ∀ f, AccBuf (causal (raw q kk) (768 * (i 2).val)) W arg7.view (arg7.view.writes (Elt Ideal) f (body_run.sl.H7_7 i arg3 harg3 arg4 harg4 arg5 harg5 arg7 arg8 arg9 arg10 arg11 x3 x4 x5 g7 g8 g9 g10)) _ :=
    .put w7_6 rfl t101.2
  have w8_7 : ∀ f, TopBuf (causal (raw q kk) (768 * (i 2).val)) arg8.view (arg8.view.writes (Elt Ideal) f (body_run.sl.H8_7 i arg3 harg3 arg4 harg4 arg8 arg9 arg10 arg11 x3 x4 g8 g9 g10)) _ :=
    .put w8_6 rfl t101.1
  have u102 : Scores (causal (raw q kk) (768 * (i 2).val)) 0 (256 * 2) (768 * (i 2).val + 256) (body_run.sl.v377 i arg3 harg3 arg4 harg4 arg11 x3 x4) :=
    ((w11 _).load rfl rfl).toCausal (by omega)
  have b102 : BlockTops (causal (raw q kk) (768 * (i 2).val)) 0 (256 * 2) (768 * (i 2).val + 256) (body_run.sl.v379 i arg3 harg3 arg4 harg4 arg9 x3 x4) :=
    ((w9 _).load rfl rfl).toCausal (by omega)
  have t102 : Tops (causal (raw q kk) (768 * (i 2).val)) 0 (256 * 2) (768 * (i 2).val + 512) (body_run.sl.v382 i arg3 harg3 arg4 harg4 arg8 arg9 arg10 arg11 x3 x4 g8 g9 g10)
      ∧ Accs (causal (raw q kk) (768 * (i 2).val)) W 0 (256 * 2) (768 * (i 2).val + 512) (body_run.sl.v405 i arg3 harg3 arg4 harg4 arg5 harg5 arg7 arg8 arg9 arg10 arg11 x3 x4 x5 g7 g8 g9 g10) :=
    tile ((w8_7 _).load rfl rfl) b102 u102 ((w7_7 _).load rfl rfl)
      (hV.load (n := 768 * (i 2).val + 256) (off11 i 1 0 (by decide) (by decide))) (hV.load (n := 768 * (i 2).val + 256 + 128) (off11 i 1 1 (by decide) (by decide)))
  have w7_8 : ∀ f, AccBuf (causal (raw q kk) (768 * (i 2).val)) W arg7.view (arg7.view.writes (Elt Ideal) f (body_run.sl.H7_8 i arg3 harg3 arg4 harg4 arg5 harg5 arg7 arg8 arg9 arg10 arg11 x3 x4 x5 g7 g8 g9 g10)) _ :=
    .put w7_7 rfl t102.2
  have w8_8 : ∀ f, TopBuf (causal (raw q kk) (768 * (i 2).val)) arg8.view (arg8.view.writes (Elt Ideal) f (body_run.sl.H8_8 i arg3 harg3 arg4 harg4 arg8 arg9 arg10 arg11 x3 x4 g8 g9 g10)) _ :=
    .put w8_7 rfl t102.1
  have u111 : Scores (causal (raw q kk) (768 * (i 2).val)) 1 (256 * 1) (768 * (i 2).val + 256) (body_run.sl.v415 i arg3 harg3 arg4 harg4 arg11 x3 x4) :=
    Scores.masked ((w11 _).load rfl rfl) mask_eq
  have b111 : BlockTops (causal (raw q kk) (768 * (i 2).val)) 1 (256 * 1) (768 * (i 2).val + 256) (body_run.sl.v417 i arg3 harg3 arg4 harg4 arg11 x3 x4) := .of_scores u111 ofBits_bot
  have t111 : Tops (causal (raw q kk) (768 * (i 2).val)) 1 (256 * 1) (768 * (i 2).val + 512) (body_run.sl.v420 i arg3 harg3 arg4 harg4 arg8 arg9 arg10 arg11 x3 x4 g8 g9 g10)
      ∧ Accs (causal (raw q kk) (768 * (i 2).val)) W 1 (256 * 1) (768 * (i 2).val + 512) (body_run.sl.v443 i arg3 harg3 arg4 harg4 arg5 harg5 arg7 arg8 arg9 arg10 arg11 x3 x4 x5 g7 g8 g9 g10) :=
    tile ((w8_8 _).load rfl rfl) b111 u111 ((w7_8 _).load rfl rfl)
      (hV.load (n := 768 * (i 2).val + 256) (off12 i 1 0 (by decide) (by decide))) (hV.load (n := 768 * (i 2).val + 256 + 128) (off12 i 1 1 (by decide) (by decide)))
  have w7_9 : ∀ f, AccBuf (causal (raw q kk) (768 * (i 2).val)) W arg7.view (arg7.view.writes (Elt Ideal) f (body_run.sl.H7_9 i arg3 harg3 arg4 harg4 arg5 harg5 arg7 arg8 arg9 arg10 arg11 x3 x4 x5 g7 g8 g9 g10)) _ :=
    .put w7_8 rfl t111.2
  have w8_9 : ∀ f, TopBuf (causal (raw q kk) (768 * (i 2).val)) arg8.view (arg8.view.writes (Elt Ideal) f (body_run.sl.H8_9 i arg3 harg3 arg4 harg4 arg8 arg9 arg10 arg11 x3 x4 g8 g9 g10)) _ :=
    .put w8_8 rfl t111.1
  have u112 : Scores (causal (raw q kk) (768 * (i 2).val)) 1 (256 * 2) (768 * (i 2).val + 256) (body_run.sl.v451 i arg3 harg3 arg4 harg4 arg11 x3 x4) :=
    ((w11 _).load rfl rfl).toCausal (by omega)
  have b112 : BlockTops (causal (raw q kk) (768 * (i 2).val)) 1 (256 * 2) (768 * (i 2).val + 256) (body_run.sl.v453 i arg3 harg3 arg4 harg4 arg9 x3 x4) :=
    ((w9 _).load rfl rfl).toCausal (by omega)
  have t112 : Tops (causal (raw q kk) (768 * (i 2).val)) 1 (256 * 2) (768 * (i 2).val + 512) (body_run.sl.v456 i arg3 harg3 arg4 harg4 arg8 arg9 arg10 arg11 x3 x4 g8 g9 g10)
      ∧ Accs (causal (raw q kk) (768 * (i 2).val)) W 1 (256 * 2) (768 * (i 2).val + 512) (body_run.sl.v479 i arg3 harg3 arg4 harg4 arg5 harg5 arg7 arg8 arg9 arg10 arg11 x3 x4 x5 g7 g8 g9 g10) :=
    tile ((w8_9 _).load rfl rfl) b112 u112 ((w7_9 _).load rfl rfl)
      (hV.load (n := 768 * (i 2).val + 256) (off12 i 1 0 (by decide) (by decide))) (hV.load (n := 768 * (i 2).val + 256 + 128) (off12 i 1 1 (by decide) (by decide)))
  have w7_10 : ∀ f, AccBuf (causal (raw q kk) (768 * (i 2).val)) W arg7.view (arg7.view.writes (Elt Ideal) f (body_run.sl.H7_10 i arg3 harg3 arg4 harg4 arg5 harg5 arg7 arg8 arg9 arg10 arg11 x3 x4 x5 g7 g8 g9 g10)) _ :=
    .put w7_9 rfl t112.2
  have w8_10 : ∀ f, TopBuf (causal (raw q kk) (768 * (i 2).val)) arg8.view (arg8.view.writes (Elt Ideal) f (body_run.sl.H8_10 i arg3 harg3 arg4 harg4 arg8 arg9 arg10 arg11 x3 x4 g8 g9 g10)) _ :=
    .put w8_9 rfl t112.1
  have u202 : Scores (causal (raw q kk) (768 * (i 2).val)) 0 (256 * 2) (768 * (i 2).val + 512) (body_run.sl.v491 i arg3 harg3 arg4 harg4 arg12 x3 x4) :=
    Scores.masked ((w12 _).load rfl rfl) mask_eq
  have b202 : BlockTops (causal (raw q kk) (768 * (i 2).val)) 0 (256 * 2) (768 * (i 2).val + 512) (body_run.sl.v493 i arg3 harg3 arg4 harg4 arg12 x3 x4) := .of_scores u202 ofBits_bot
  have t202 : Tops (causal (raw q kk) (768 * (i 2).val)) 0 (256 * 2) (768 * (i 2).val + 768) (body_run.sl.v496 i arg3 harg3 arg4 harg4 arg8 arg9 arg10 arg11 arg12 x3 x4 g8 g9 g10)
      ∧ Accs (causal (raw q kk) (768 * (i 2).val)) W 0 (256 * 2) (768 * (i 2).val + 768) (body_run.sl.v519 i arg3 harg3 arg4 harg4 arg5 harg5 arg7 arg8 arg9 arg10 arg11 arg12 x3 x4 x5 g7 g8 g9 g10) :=
    tile ((w8_10 _).load rfl rfl) b202 u202 ((w7_10 _).load rfl rfl)
      (hV.load (n := 768 * (i 2).val + 512) (off11 i 2 0 (by decide) (by decide))) (hV.load (n := 768 * (i 2).val + 512 + 128) (off11 i 2 1 (by decide) (by decide)))
  have w7_11 : ∀ f, AccBuf (causal (raw q kk) (768 * (i 2).val)) W arg7.view (arg7.view.writes (Elt Ideal) f (body_run.sl.H7_11 i arg3 harg3 arg4 harg4 arg5 harg5 arg7 arg8 arg9 arg10 arg11 arg12 x3 x4 x5 g7 g8 g9 g10)) _ :=
    .put w7_10 rfl t202.2
  have w8_11 : ∀ f, TopBuf (causal (raw q kk) (768 * (i 2).val)) arg8.view (arg8.view.writes (Elt Ideal) f (body_run.sl.H8_11 i arg3 harg3 arg4 harg4 arg8 arg9 arg10 arg11 arg12 x3 x4 g8 g9 g10)) _ :=
    .put w8_10 rfl t202.1
  have u212 : Scores (causal (raw q kk) (768 * (i 2).val)) 1 (256 * 2) (768 * (i 2).val + 512) (body_run.sl.v529 i arg3 harg3 arg4 harg4 arg12 x3 x4) :=
    Scores.masked ((w12 _).load rfl rfl) mask_eq
  have b212 : BlockTops (causal (raw q kk) (768 * (i 2).val)) 1 (256 * 2) (768 * (i 2).val + 512) (body_run.sl.v531 i arg3 harg3 arg4 harg4 arg12 x3 x4) := .of_scores u212 ofBits_bot
  have t212 : Tops (causal (raw q kk) (768 * (i 2).val)) 1 (256 * 2) (768 * (i 2).val + 768) (body_run.sl.v534 i arg3 harg3 arg4 harg4 arg8 arg9 arg10 arg11 arg12 x3 x4 g8 g9 g10)
      ∧ Accs (causal (raw q kk) (768 * (i 2).val)) W 1 (256 * 2) (768 * (i 2).val + 768) (body_run.sl.v557 i arg3 harg3 arg4 harg4 arg5 harg5 arg7 arg8 arg9 arg10 arg11 arg12 x3 x4 x5 g7 g8 g9 g10) :=
    tile ((w8_11 _).load rfl rfl) b212 u212 ((w7_11 _).load rfl rfl)
      (hV.load (n := 768 * (i 2).val + 512) (off12 i 2 0 (by decide) (by decide))) (hV.load (n := 768 * (i 2).val + 512 + 128) (off12 i 2 1 (by decide) (by decide)))
  have w7_12 : ∀ f, AccBuf (causal (raw q kk) (768 * (i 2).val)) W arg7.view (arg7.view.writes (Elt Ideal) f (body_run.sl.H7_12 i arg3 harg3 arg4 harg4 arg5 harg5 arg7 arg8 arg9 arg10 arg11 arg12 x3 x4 x5 g7 g8 g9 g10)) _ :=
    .put w7_11 rfl t212.2
  have hi : (i 2).val < 11 := (i 2).isLt
  have z0 (x : S128x768.Idx) : (body_run.sl.v565 i arg3 harg3 arg4 harg4 arg5 harg5 arg7 arg8 arg9 arg10 arg11 arg12 x3 x4 x5 g7 g8 g9 g10) x = acc ((causal (raw q kk) (768 * (i 2).val)) 0 (x 1).val) (W 0 (x 0).val) 8448 :=
    (w7_12 _).done ⟨rfl, rfl, rfl, rfl, rfl, rfl⟩ (by omega) rfl (by decide) x
  have z1 (x : S128x768.Idx) : (body_run.sl.v567 i arg3 harg3 arg4 harg4 arg5 harg5 arg7 arg8 arg9 arg10 arg11 arg12 x3 x4 x5 g7 g8 g9 g10) x = acc ((causal (raw q kk) (768 * (i 2).val)) 1 (x 1).val) (W 1 (x 0).val) 8448 :=
    (w7_12 _).done ⟨rfl, rfl, rfl, rfl, rfl, rfl⟩ (by omega) rfl (by decide) x
  have hR : arg6.view.read (Elt Ideal) (arg6.view.writes (Elt Ideal) f6 [⟨Rect.unit (s := S1x768x128) ![0, 0, 0] S1x768x128.size inb_S1x768x128_S1x768x128_0_0_0, body_run.sl.v584 i arg3 harg3 arg4 harg4 arg5 harg5 arg7 arg8 arg9 arg10 arg11 arg12 x3 x4 x5 g7 g8 g9 g10⟩]) = result q kk W (i 2).val := funext fun y => by
    refine (View.read_writes_cons_unit_of_mem _ f6 _ _ [] y (ix3 0 (y 1) (y 2)) rfl ?_).trans ?_
    · have h0 : (y 0).val < 1 := (y 0).isLt
      intro a
      match a with
      | ⟨0, _⟩ => show (y 0).val = 0 + 0; omega
      | ⟨1, _⟩ => exact (Nat.zero_add _).symm
      | ⟨2, _⟩ => exact (Nat.zero_add _).symm
    · refine (shapeCast_addUnit_apply ![768, 128] (body_run.sl.v581 i arg3 harg3 arg4 harg4 arg5 harg5 arg7 arg8 arg9 arg10 arg11 arg12 x3 x4 x5 g7 g8 g9 g10) _ _).trans ((quotient_apply (body_run.sl.v565 i arg3 harg3 arg4 harg4 arg5 harg5 arg7 arg8 arg9 arg10 arg11 arg12 x3 x4 x5 g7 g8 g9 g10) (body_run.sl.v567 i arg3 harg3 arg4 harg4 arg5 harg5 arg7 arg8 arg9 arg10 arg11 arg12 x3 x4 x5 g7 g8 g9 g10) _).trans ?_)
      rw [z0, z0, z1, z1]
      rfl
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; exact hR
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Proof.Body

end
-- ==== Proof.Launch.lean ====
/-
  The idealised attention kernel's launch over the extended reals: every argument ends unchanged, every counter at zero, and
  the result array holds the quotients of the weighted sums over all the keys.
-/
module

public import proofs.«01_k».proof.Proof.Body
public import proofs.«01_k».proof.Proof.Gen.KernelIdeal.Frame
public import Idealize.ShloMosaic.Lib.Claim
public import Idealize.ShloMosaic.Lib.Pipeline.ValueKit.Geometry

@[expose] public section

set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Pipeline (Dat Cfg Window BodyObligation)
open Cert.Proof.Tiles Cert.Proof.Online Cert.Proof.Body

local notation "𝕄" => MT nD τ sig Unit (Elt Ideal) ℕ (UR sig nD τ) ℕ

/-! ## The arrays by number -/

/-- An element of the queries' or the keys' array. -/
def at4 (A : S2x8x8448x128.Idx → EReal) (b h t l : ℕ) : EReal := A (ix4 (Fin.ofNat 2 b) (Fin.ofNat 8 h) (Fin.ofNat 8448 t) (Fin.ofNat 128 l))

/-- An element of the values' array: head `h`, lane `d`, key `k`. -/
def val (A : S2x8x66x128x128.Idx → EReal) (b h d k : ℕ) : EReal :=
  A (ix5 (Fin.ofNat 2 b) (Fin.ofNat 8 h) (Fin.ofNat 66 (k / 128)) (Fin.ofNat 128 d) (Fin.ofNat 128 (k % 128)))

theorem at4_eq (A : S2x8x8448x128.Idx → EReal) (y : S2x8x8448x128.Idx) {b h t l : ℕ} (h0 : (y 0).val = b) (h1 : (y 1).val = h)
    (h2 : (y 2).val = t) (h3 : (y 3).val = l) : A y = at4 A b h t l := by
  subst h0 h1 h2 h3
  refine congrArg A (funext fun a => Fin.ext ?_)
  match a with
  | ⟨0, _⟩ => exact (Nat.mod_eq_of_lt (y 0).isLt).symm
  | ⟨1, _⟩ => exact (Nat.mod_eq_of_lt (y 1).isLt).symm
  | ⟨2, _⟩ => exact (Nat.mod_eq_of_lt (y 2).isLt).symm
  | ⟨3, _⟩ => exact (Nat.mod_eq_of_lt (y 3).isLt).symm

theorem val_eq (A : S2x8x66x128x128.Idx → EReal) (y : S2x8x66x128x128.Idx) {b h d k : ℕ} (h0 : (y 0).val = b) (h1 : (y 1).val = h)
    (h3 : (y 3).val = d) (hk : 128 * (y 2).val + (y 4).val = k) : A y = val A b h d k := by
  subst h0 h1 h3 hk
  have h4 : (y 4).val < 128 := (y 4).isLt
  have h2 : (y 2).val < 66 := (y 2).isLt
  refine congrArg A (funext fun a => Fin.ext ?_)
  match a with
  | ⟨0, _⟩ => exact (Nat.mod_eq_of_lt (y 0).isLt).symm
  | ⟨1, _⟩ => exact (Nat.mod_eq_of_lt (y 1).isLt).symm
  | ⟨2, _⟩ => show (y 2).val = (128 * (y 2).val + (y 4).val) / 128 % 66; omega
  | ⟨3, _⟩ => exact (Nat.mod_eq_of_lt (y 3).isLt).symm
  | ⟨4, _⟩ => show (y 4).val = (128 * (y 2).val + (y 4).val) % 128 % 128; omega

/-- The causal scores of query `t`. -/
def score (Q K : S2x8x8448x128.Idx → EReal) (b h t k : ℕ) : EReal :=
  if k ≤ t then ∑ l : Fin 128, at4 K b h k l.val * at4 Q b h t l.val else ⊥

/-- The attention's result: the even heads' lanes are divided by their lane 64, the odd heads' by their lane 0. -/
def attended (Q K : S2x8x8448x128.Idx → EReal) (A : S2x8x66x128x128.Idx → EReal) (y : S2x8448x512.Idx) : EReal :=
  if (y 2).val % 128 < 64 then
    Ideal.div (acc (score Q K (y 0).val (2 * ((y 2).val / 128)) (y 1).val) (val A (y 0).val (2 * ((y 2).val / 128)) ((y 2).val % 128)) 8448)
      (acc (score Q K (y 0).val (2 * ((y 2).val / 128)) (y 1).val) (val A (y 0).val (2 * ((y 2).val / 128)) 64) 8448)
  else
    Ideal.div (acc (score Q K (y 0).val (2 * ((y 2).val / 128) + 1) (y 1).val) (val A (y 0).val (2 * ((y 2).val / 128) + 1) ((y 2).val % 128)) 8448)
      (acc (score Q K (y 0).val (2 * ((y 2).val / 128) + 1) (y 1).val) (val A (y 0).val (2 * ((y 2).val / 128) + 1) 0) 8448)

variable (m : (ℓ : Loc nD τ sig) → Buf (Elt Ideal) ℓ) (ρ : Dev nD → PrngReg)

abbrev arg0 (c : Dev nD) : S2x8x8448x128.Idx → EReal := m ((c.tc : Thread nD τ).loc main_arg0)
abbrev arg1 (c : Dev nD) : S2x8x8448x128.Idx → EReal := m ((c.tc : Thread nD τ).loc main_arg1)
abbrev arg2 (c : Dev nD) : S2x8x66x128x128.Idx → EReal := m ((c.tc : Thread nD τ).loc main_arg2)

/-- The operands of a grid point, by head of the pair. -/
def qAt (c : Dev nD) (i : grid0.Coords) (e t l : ℕ) : EReal := at4 (arg0 m c) (i 0).val (2 * (i 1).val + e) (768 * (i 2).val + t) l
def kAt (c : Dev nD) (i : grid0.Coords) (e k l : ℕ) : EReal := at4 (arg1 m c) (i 0).val (2 * (i 1).val + e) k l
def wAt (c : Dev nD) (i : grid0.Coords) (e d k : ℕ) : EReal := val (arg2 m c) (i 0).val (2 * (i 1).val + e) d k

theorem index_0 : ∀ t : Fin cfg0.N, win0_0.index t = ![(grid0.coords t 0).val, (grid0.coords t 1).val, (grid0.coords t 2).val, 0] :=
  (by decide +kernel : ∀ t : Fin grid0.N, _)
theorem index_1 : ∀ t : Fin cfg0.N, win0_1.index t = ![(grid0.coords t 0).val, (grid0.coords t 1).val, 0, 0] :=
  (by decide +kernel : ∀ t : Fin grid0.N, _)
theorem index_2 : ∀ t : Fin cfg0.N, win0_2.index t = ![(grid0.coords t 0).val, (grid0.coords t 1).val, 0, 0, 0] :=
  (by decide +kernel : ∀ t : Fin grid0.N, _)
theorem index_3 : ∀ t : Fin cfg0.N, win0_3.index t = ![(grid0.coords t 0).val, (grid0.coords t 2).val, (grid0.coords t 1).val] :=
  (by decide +kernel : ∀ t : Fin grid0.N, _)

/-- A query block's elements. -/
theorem iblk_0 (c : Dev nD) (t : Fin cfg0.N) (y : S1x2x768x128.Idx) :
    iblk m c 0 t y = qAt m c (grid0.coords t) (y 1).val (y 2).val (y 3).val := by
  have h0 : (y 0).val < 1 := (y 0).isLt
  blk_simp [iblk]
  refine at4_eq (arg0 m c) _ ?_ ?_ ?_ ?_ <;> blk_simp [index_0] <;> omega

theorem iblk_1 (c : Dev nD) (t : Fin cfg0.N) (y : S1x2x8448x128.Idx) :
    iblk m c 1 t y = kAt m c (grid0.coords t) (y 1).val (y 2).val (y 3).val := by
  have h0 : (y 0).val < 1 := (y 0).isLt
  blk_simp [iblk]
  refine at4_eq (arg1 m c) _ ?_ ?_ ?_ ?_ <;> blk_simp [index_1] <;> omega

theorem iblk_2 (c : Dev nD) (t : Fin cfg0.N) (y : S1x2x66x128x128.Idx) :
    iblk m c 2 t y = wAt m c (grid0.coords t) (y 1).val (y 3).val (128 * (y 2).val + (y 4).val) := by
  have h0 : (y 0).val < 1 := (y 0).isLt
  blk_simp [iblk]
  refine val_eq (arg2 m c) _ ?_ ?_ ?_ ?_ <;> blk_simp [index_2] <;> omega

/-- What the body leaves in the result's block. -/
def outAt (c : Dev nD) (i : grid0.Coords) : Vec Ideal S1x768x128 .bf16 := result (qAt m c i) (kAt m c i) (wAt m c i) (i 2).val

/-- After each point the operands' buffers hold their blocks, as before it, and the result's holds the quotients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c (grid0.coords t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem after_3 (c : Dev nD) (t : Fin cfg0.N) : (dats m 0 c).after 3 t = outAt m c (grid0.coords t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- The staging memrefs of the four windows at a point. -/
abbrev st0 (t : Fin cfg0.N) : Memref sig .tc .vmem S1x2x768x128 .bf16 := win0_0.stage (cfg0.slots t 0)
abbrev st1 (t : Fin cfg0.N) : Memref sig .tc .vmem S1x2x8448x128 .bf16 := win0_1.stage (cfg0.slots t 1)
abbrev st2 (t : Fin cfg0.N) : Memref sig .tc .vmem S1x2x66x128x128 .bf16 := win0_2.stage (cfg0.slots t 2)
abbrev st3 (t : Fin cfg0.N) : Memref sig .tc .vmem S1x768x128 .bf16 := win0_3.stage (cfg0.slots t 3)

/-- The six scratch buffers at some contents. -/
def scratch (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))

theorem invariant_eq (c : Dev nD) :
    (Pipeline.ΦA spec0 c : sProp 𝕄) = iprop(scratch c ∗ (∃ r, prngReg c r)) := by
  unfold Pipeline.ΦA scratch; rw [scopedRest0_eq]; simp only [owns_whole]; try rfl

/-- What the body is called with at a point, the windows one by one, and what it returns. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem body_sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = Pipeline.ΦA spec0 c from rfl, invariant_eq]
  unfold scratch
  iintro ⟨⟨⟨S0, S1, S2, S3, S4, S5⟩, Hg⟩, Ho, ⟨%d0, H0⟩, ⟨%d1, H1⟩, ⟨%d2, H2⟩, ⟨%d3, H3⟩⟩
  iapply (body_run c (grid0.coords t) _ _ _ _ _ _ _ _ _ _ _ _ _ _ _ _ _ _ _ _ (iblk m c 0 t) (iblk m c 1 t) (iblk m c 2 t)
    (qAt m c (grid0.coords t)) (kAt m c (grid0.coords t)) (wAt m c (grid0.coords t)) (iblk_0 m c t) (iblk_1 m c t) (iblk_2 m c t) Set.univ _ rfl)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  iexact H3

theorem row_eq (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row_eq]
  exact triple_restated (body_sound m c t) rfl .rfl fun _ => .rfl

set_option backward.isDefEq.respectTransparency.types false in
theorem launched : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- A group's scores are its queries' own. -/
theorem causal_score (c : Dev nD) (i : grid0.Coords) (e t : ℕ) :
    causal (raw (qAt m c i) (kAt m c i)) (768 * (i 2).val) e t
      = score (arg0 m c) (arg1 m c) (i 0).val (2 * (i 1).val + e) (768 * (i 2).val + t) := rfl

/-- The result array after the run. -/
theorem final (c : Dev nD) : (dats m 0 c).arrAt 3 cfg0.N = attended (arg0 m c) (arg1 m c) (arg2 m c) := by
  refine (dats m 0 c).arrAt_eq_of_covers 3 _ (by decide +kernel) fun t hf y => ?_
  have h0 : (y 0).val < 1 := (y 0).isLt
  have h1 : (y 1).val < 768 := (y 1).isLt
  have h2 : (y 2).val < 128 := (y 2).isLt
  blk_simp
  rw [after_3]
  unfold attended outAt result
  blk_simp [index_3]
  simp only [causal_score]
  unfold wAt
  generalize (grid0.coords t 0).val = b
  generalize (grid0.coords t 1).val = p
  generalize (grid0.coords t 2).val = j
  rw [show (p * 128 + (y 2).val) % 128 = (y 2).val by omega, show (p * 128 + (y 2).val) / 128 = p by omega, Nat.mul_comm j 768]
  rfl

/-- The run: the result array holds the quotients, every argument is unchanged and every counter is zero. -/
theorem run : θ_run defs (onTc (τ := τ) (main (F := Ideal))) ⟨m, fun _ => 0, ρ⟩ (fun r => (∀ c : Dev nD,
      r.2.mem ((c.tc : Thread nD τ).loc main_v0) = attended (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 3).trans (final m c),
     ((h.1 c).1 0).trans (((dats m 0 c).arrAt_in 0 rfl _).trans ((dats_A m c 0).trans (V_main_arg0 m c))),
     ((h.1 c).1 1).trans (((dats m 0 c).arrAt_in 1 rfl _).trans ((dats_A m c 1).trans (V_main_arg1 m c))),
     ((h.1 c).1 2).trans (((dats m 0 c).arrAt_in 2 rfl _).trans ((dats_A m c 2).trans (V_main_arg2 m c)))⟩, h.2⟩) (launched m ρ)

end Cert.Proof.Launch

end
-- ==== Proof.Reference.lean ====
/-
  The reference attention's result over the extended reals, read at an index: each stage of the reference's composed term, and
  the sum of the values weighted by the normalized weights.
-/
module

public import proofs.«01_k».proof.Proof.Gen.ReferenceIdeal.Run
public import proofs.«01_k».proof.Proof.Launch
public import proofs.«01_k».proof.Defs
public import Idealize.ShloMosaic.Lib.Pointwise
public import Idealize.ShloMosaic.Lib.IdealHost

@[expose] public section

set_option maxRecDepth 16384

noncomputable section

namespace Cert.Proof.Reference

open Cert.ReferenceIdeal Cert.ReferenceIdeal.Gen
open Idealize.ShloMosaic Idealize.ShloMosaic.TcCoe Idealize.SL.Sem
open Idealize.ShloMosaic.Pointwise
open Cert.Proof.Online Cert.Proof.Tiles
open Cert.Proof.Launch (at4 val score attended at4_eq val_eq)
open scoped BigOperators

/-- The scores, masked above the diagonal. -/
def masked (q k : FVec Ideal S2x8x8448x128 .bf16) : FVec Ideal S2x8x8448x8448 .f32 :=
  select (broadcastInDim S2x8x8448x8448 ![2, 3] bcast_S8448x8448_S2x8x8448x8448_2_3
      (cmpi .sle (broadcastInDim S8448x8448 ![0, 1] bcast_S1x8448_S8448x8448_0_1 (broadcastInDim S1x8448 ![1] bcast_S8448_S1x8448_1 (iotaInDim S8448 32 0)))
        (broadcastInDim S8448x8448 ![0, 1] bcast_S8448x1_S8448x8448_0_1 (broadcastInDim S8448x1 ![0] bcast_S8448_S8448x1_0 (iotaInDim S8448 32 0)))))
    (Host.dotGeneral dot_S2x8x8448x128_S2x8x8448x128_S2x8x8448x8448_3_3_2_2_01_01 none (extf .f32 q bitsLt_bf16_f32) (extf .f32 k bitsLt_bf16_f32))
    (broadcastInDim S2x8x8448x8448 ![] bcast_S_S2x8x8448x8448 (id (constant S_ .f32 0xFF800000#32)))

/-- The weights: two to the power of a score less its row's greatest. -/
def weights (s : FVec Ideal S2x8x8448x8448 .f32) : FVec Ideal S2x8x8448x8448 .f32 :=
  Host.powf (broadcastInDim S2x8x8448x8448 ![] bcast_S_S2x8x8448x8448 (constant S_ .f32 0x40000000#32))
    (subf s (broadcastInDim S2x8x8448x8448 ![0, 1, 2, 3] bcast_S2x8x8448x1_S2x8x8448x8448_0_1_2_3
      (broadcastInDim S2x8x8448x1 ![0, 1, 2] bcast_S2x8x8448_S2x8x8448x1_0_1_2
        (Host.reduce FloatOps.maximumf s (constant S_ .f32 0xFF800000#32) reducesTo_S2x8x8448x8448_S2x8x8448_d3 h_S_))))

/-- The weights over their row's sum. -/
def normalized (e : FVec Ideal S2x8x8448x8448 .f32) : FVec Ideal S2x8x8448x8448 .f32 :=
  Host.divf e (broadcastInDim S2x8x8448x8448 ![0, 1, 2, 3] bcast_S2x8x8448x1_S2x8x8448x8448_0_1_2_3
    (broadcastInDim S2x8x8448x1 ![0, 1, 2] bcast_S2x8x8448_S2x8x8448x1_0_1_2
      (Host.reduceAdd e (constant S_ .f32 0x00000000#32) reducesTo_S2x8x8448x8448_S2x8x8448_d3 h_S_)))

/-- The values, key by key. -/
def rows (a : FVec Ideal S2x8x66x128x128 .bf16) : FVec Ideal S2x8x8448x128 .f32 :=
  shapeCast _ (transpose S2x8x66x128x128 [0, 1, 2, 4, 3] (extf .f32 a bitsLt_bf16_f32) transposes_S2x8x66x128x128_S2x8x66x128x128_0_1_2_4_3) shapeCasts_S2x8x66x128x128_S2x8x8448x128

/-- The heads' values without their spare lanes. -/
def vals (r : FVec Ideal S2x8x8448x128 .f32) : FVec Ideal S2x8x8448x64 .f32 :=
  shapeCast _ (concatenate S2x4x2x8448x64 2
    [⟨S2x4x1x8448x64, (broadcastInDim S2x4x1x8448x64 ![0, 1, 3, 4] bcast_S2x4x8448x64_S2x4x1x8448x64_0_1_3_4 (Host.slice S2x4x8448x64 ![0, 0, 0, 0] ![1, 2, 1, 1] r slicesBy_S2x8x8448x128_S2x4x8448x64_0s1_0s2_0s1_0s1))⟩,
     ⟨S2x4x1x8448x64, (broadcastInDim S2x4x1x8448x64 ![0, 1, 3, 4] bcast_S2x4x8448x64_S2x4x1x8448x64_0_1_3_4 (Host.slice S2x4x8448x64 ![0, 1, 0, 64] ![1, 2, 1, 1] r slicesBy_S2x8x8448x128_S2x4x8448x64_0s1_1s2_0s1_64s1))⟩]
    concatenates_S2x4x1x8448x64_S2x4x1x8448x64_S2x4x2x8448x64_d2) shapeCasts_S2x4x2x8448x64_S2x8x8448x64

/-- The result, from the values and the normalized weights. -/
def result (v : FVec Ideal S2x8x8448x64 .f32) (p : FVec Ideal S2x8x8448x8448 .f32) : FVec Ideal S2x8448x512 .bf16 :=
  truncf .bf16 (shapeCast _ (transpose S2x8448x8x64 [0, 3, 1, 2] (Host.dotGeneral dot_S2x8x8448x64_S2x8x8448x8448_S2x8x64x8448_2_3_3_2_01_01 none v (extf .f32 (truncf .bf16 p bitsLt_bf16_f32) bitsLt_bf16_f32)) transposes_S2x8x64x8448_S2x8448x8x64_0_3_1_2) shapeCasts_S2x8448x8x64_S2x8448x512) bitsLt_bf16_f32

theorem term_eq (m : (ℓ : Loc nD τ sig) → Buf (Elt Ideal) ℓ) (c : Dev nD) :
    Value.res_out0 m c = result (vals (rows (m ((c.tc : Thread nD τ).loc main_arg2))))
      (normalized (weights (masked (m ((c.tc : Thread nD τ).loc main_arg0)) (m ((c.tc : Thread nD τ).loc main_arg1))))) := rfl

/-- The bits of two. -/
theorem ofBits_two : Ideal.ofBits .f32 0x40000000#32 = ((2 : ℝ) : EReal) := by
  simp [Ideal.ofBits, Ideal.ieee, -EReal.coe_mul]; norm_num

/-- A power of two. -/
theorem pow_two (x : EReal) : Ideal.pow (Ideal.ofBits .f32 0x40000000#32) x = Ideal.exp2 x := by
  rw [ofBits_two]
  induction x with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe r => rfl

theorem masked_apply (q k : FVec Ideal S2x8x8448x128 .bf16) (b : Fin 2) (h : Fin 8) (t j : Fin 8448) :
    masked q k (ix4 b h t j) = if j.val ≤ t.val then ∑ l : Fin 128, q (ix4 b h t l) * k (ix4 b h j l) else ⊥ := by
  have hj := j.isLt
  have ht := t.isLt
  pointwise [masked]
  rw [WordCmp.cmpi_sle_ofNat (by omega) (by omega), WordCmp.select_decide]
  exact congrArg (ite _ _) ofBits_bot

theorem weights_apply (s : FVec Ideal S2x8x8448x8448 .f32) (b : Fin 2) (h : Fin 8) (t j : Fin 8448) :
    weights s (ix4 b h t j) = Ideal.exp2 (s (ix4 b h t j) - Finset.univ.sup fun k : Fin 8448 => s (ix4 b h t k)) := by
  pointwise [weights]
  rw [pow_two]
  refine congrArg (fun z => Ideal.exp2 (s (ix4 b h t j) - z)) ?_
  rw [show Ideal.ofBits .f32 4286578688#32 = (⊥ : EReal) from ofBits_bot]
  rfl

theorem normalized_apply (e : FVec Ideal S2x8x8448x8448 .f32) (b : Fin 2) (h : Fin 8) (t j : Fin 8448) :
    normalized e (ix4 b h t j) = Ideal.div (e (ix4 b h t j)) (∑ k : Fin 8448, e (ix4 b h t k)) := by
  pointwise [normalized]

theorem rows_apply (a : FVec Ideal S2x8x66x128x128 .bf16) (b : Fin 2) (h : Fin 8) (k : Fin 8448) (l : Fin 128) :
    rows a (ix4 b h k l) = a (ix5 b h ⟨k.val / 128, by omega⟩ l ⟨k.val % 128, by omega⟩) := by
  pointwise [rows]

theorem vals_apply (r : FVec Ideal S2x8x8448x128 .f32) (b : Fin 2) (h : Fin 8) (k : Fin 8448) (d : Fin 64) :
    vals r (ix4 b h k d) = r (ix4 b h k ⟨64 * (h.val % 2) + d.val, by omega⟩) := by
  pointwise [vals]
  split
  · exact congrArg r (congrArg₂ (fun x y => ix4 b x k y) (Fin.ext (by show 2 * (h.val / 2) = h.val; omega)) (Fin.ext (by show d.val = 64 * (h.val % 2) + d.val; omega)))
  · exact congrArg r (congrArg₂ (fun x y => ix4 b x k y) (Fin.ext (by show 1 + 2 * (h.val / 2) = h.val; omega)) (Fin.ext (by show 64 + d.val = 64 * (h.val % 2) + d.val; omega)))

theorem result_apply (v : FVec Ideal S2x8x8448x64 .f32) (p : FVec Ideal S2x8x8448x8448 .f32) (b : Fin 2) (t : Fin 8448) (w : Fin 512) :
    result v p (ix3 b t w) = ∑ k : Fin 8448, v (ix4 b ⟨w.val / 64, by omega⟩ k ⟨w.val % 64, by omega⟩) * p (ix4 b ⟨w.val / 64, by omega⟩ t k) := by
  pointwise [result]

/-! ## Dividing the weights, or the weighted sum -/

theorem coe_of_ne {x : EReal} (h : x ≠ ⊤) (h' : x ≠ ⊥) : ∃ r : ℝ, x = r := ⟨x.toReal, (EReal.coe_toReal h h').symm⟩

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact (EReal.add_lt_top (h a (Finset.mem_insert_self a s)) (ih fun i hi => h i (Finset.mem_insert_of_mem hi))).ne

/-- The sum of a row's weights. -/
def total (S : ℕ → EReal) (n : ℕ) : EReal := ∑ k ∈ Finset.range n, Ideal.exp2 (S k - top S n)

/-- A row with a score that is a number, and none that is infinite, has weights whose sum is a positive number. -/
theorem total_real {S : ℕ → EReal} {n k₀ : ℕ} (hS : ∀ k, k < n → S k ≠ ⊤) (h₀ : k₀ < n) (hb : S k₀ ≠ ⊥) :
    ∃ r : ℝ, 0 < r ∧ total S n = r := by
  obtain ⟨k₁, hk₁, e₁⟩ := Finset.exists_mem_eq_sup (Finset.range n) ⟨k₀, Finset.mem_range.mpr h₀⟩ S
  obtain ⟨x, hx⟩ := coe_of_ne (hS k₀ h₀) hb
  have htop : top S n ≠ ⊤ := by
    show (Finset.range n).sup S ≠ ⊤
    rw [e₁]
    exact hS k₁ (Finset.mem_range.mp hk₁)
  have hle : S k₀ ≤ top S n := le_top h₀
  obtain ⟨y, hy⟩ := coe_of_ne htop fun h => hb (le_bot_iff.mp (h ▸ hle))
  have hpos : 0 < Ideal.exp2 (S k₀ - top S n) := by
    rw [hx, hy, ← EReal.coe_sub, Ideal.exp2_coe]
    exact EReal.coe_pos.mpr (Real.rpow_pos_of_pos two_pos _)
  have h0 : 0 < total S n := lt_of_lt_of_le hpos
    (Finset.single_le_sum (f := fun k => Ideal.exp2 (S k - top S n)) (fun k _ => exp2_nonneg _) (Finset.mem_range.mpr h₀))
  have h1 : total S n ≠ ⊤ := sum_ne_top _ _ fun k hk => exp2_ne_top (sub_ne_top (le_top (Finset.mem_range.mp hk)))
  obtain ⟨r, hr⟩ := coe_of_ne h1 (ne_bot_of_gt h0)
  exact ⟨r, EReal.coe_pos.mp (hr ▸ h0), hr⟩

/-- A weighted sum over a positive number is the sum of the weights over it. -/
theorem div_sum {ι : Type} (s : Finset ι) (W E : ι → EReal) {r : ℝ} (hr : 0 < r) :
    ∑ k ∈ s, W k * Ideal.div (E k) r = Ideal.div (∑ k ∈ s, W k * E k) r := by
  have hne : (r : EReal) ≠ 0 := by exact_mod_cast hr.ne'
  unfold Ideal.div
  simp only [if_neg hne]
  rw [mul_comm, mul_sum_of_nonneg s _ (EReal.inv_nonneg_of_nonneg (EReal.coe_nonneg.mpr hr.le)) (by rw [← EReal.coe_inv]; exact EReal.coe_ne_top _)]
  exact Finset.sum_congr rfl fun k _ => by rw [← mul_assoc, mul_comm]

/-! ## The precondition -/

variable {Q K : S2x8x8448x128.Idx → EReal} {A : S2x8x66x128x128.Idx → EReal}

/-- What the precondition says of the arrays: queries and keys are numbers, and the spare lane of each head's values is one. -/
structure Inputs (Q K : S2x8x8448x128.Idx → EReal) (A : S2x8x66x128x128.Idx → EReal) : Prop where
  query : ∀ y, ∃ r : ℝ, Q y = r
  key : ∀ y, ∃ r : ℝ, K y = r
  even : ∀ b h k, k < 8448 → h % 2 = 0 → val A b h 64 k = 1
  odd : ∀ b h k, k < 8448 → h % 2 = 1 → val A b h 0 k = 1

theorem ofBool_one {p : Prop} [Decidable p] (h : BitVec.ofBool (decide p) = 1#1) : p := (WordCmp.ofBool_decide_eq_one_iff p).mp h

/-- The bits of infinity. -/
theorem ofBits_top : Ideal.ofBits .f32 2139095040#32 = (⊤ : EReal) := by simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number below infinity in absolute value. -/
theorem real_of_abs {x : EReal} (h : max x (-x) < ⊤) : ∃ r : ℝ, x = r :=
  coe_of_ne (fun e => by simp [e] at h) (fun e => by simp [e] at h)

theorem inputs_of [Cert.Pre_fox_inputs.Facts]
    (h1 : (Cert.Pre_fox_inputs.fn (F := Ideal) Q K A).1 = (fun _ => 1#1)) (h2 : (Cert.Pre_fox_inputs.fn (F := Ideal) Q K A).2.1 = (fun _ => 1#1))
    (h3 : (Cert.Pre_fox_inputs.fn (F := Ideal) Q K A).2.2.1 = (fun _ => 1#1)) (h4 : (Cert.Pre_fox_inputs.fn (F := Ideal) Q K A).2.2.2 = (fun _ => 1#1)) :
    Inputs Q K A where
  query y := by
    have h := congrFun h1 y
    dsimp only [Cert.Pre_fox_inputs.fn] at h
    pointwise at h
    rw [ofBits_top] at h
    exact real_of_abs (ofBool_one h)
  key y := by
    have h := congrFun h2 y
    dsimp only [Cert.Pre_fox_inputs.fn] at h
    pointwise at h
    rw [ofBits_top] at h
    exact real_of_abs (ofBool_one h)
  even b h k hk hh := by
    have e := congrFun h3 (ix4 (Fin.ofNat 2 b) (Fin.ofNat 4 (h / 2)) (Fin.ofNat 66 (k / 128)) (Fin.ofNat 128 (k % 128)))
    dsimp only [Cert.Pre_fox_inputs.fn] at e
    pointwise at e
    refine Eq.trans (congrArg A ?_) (ofBool_one e)
    exact congrArg (fun x => ix5 _ x _ _ _) (Fin.ext (by show h % 8 = 2 * (h / 2 % 4); omega))
  odd b h k hk hh := by
    have e := congrFun h4 (ix4 (Fin.ofNat 2 b) (Fin.ofNat 4 (h / 2)) (Fin.ofNat 66 (k / 128)) (Fin.ofNat 128 (k % 128)))
    dsimp only [Cert.Pre_fox_inputs.fn] at e
    pointwise at e
    refine Eq.trans (congrArg A ?_) (ofBool_one e)
    exact congrArg (fun x => ix5 _ x _ _ _) (Fin.ext (by show h % 8 = 1 + 2 * (h / 2 % 4); omega))

/-! ## The two results -/

theorem score_real (hi : Inputs Q K A) (b h t k : ℕ) (hk : k ≤ t) : ∃ r : ℝ, score Q K b h t k = r := by
  choose f hf using hi.query
  choose g hg using hi.key
  refine ⟨∑ l : Fin 128, g (ix4 (Fin.ofNat 2 b) (Fin.ofNat 8 h) (Fin.ofNat 8448 k) (Fin.ofNat 128 l.val)) * f (ix4 (Fin.ofNat 2 b) (Fin.ofNat 8 h) (Fin.ofNat 8448 t) (Fin.ofNat 128 l.val)), ?_⟩
  rw [score, if_pos hk, coe_sum]
  refine Finset.sum_congr rfl fun l _ => ?_
  rw [at4, at4, hf, hg, EReal.coe_mul]

theorem masked_score (b : Fin 2) (h : Fin 8) (t j : Fin 8448) : masked Q K (ix4 b h t j) = score Q K b.val h.val t.val j.val := by
  rw [masked_apply, score]
  refine ite_congr rfl (fun _ => Finset.sum_congr rfl fun l _ => ?_) fun _ => rfl
  rw [mul_comm]
  exact congrArg₂ (· * ·) (at4_eq K _ rfl rfl rfl rfl) (at4_eq Q _ rfl rfl rfl rfl)

theorem sup_range (S : ℕ → EReal) (n : ℕ) : (Finset.univ.sup fun k : Fin n => S k.val) = top S n := by
  apply le_antisymm
  · exact Finset.sup_le fun r _ => le_top r.isLt
  · exact Finset.sup_le fun r hr => Finset.le_sup (f := fun r : Fin n => S r.val) (Finset.mem_univ (⟨r, Finset.mem_range.mp hr⟩ : Fin n))

theorem weights_score (b : Fin 2) (h : Fin 8) (t j : Fin 8448) : weights (masked Q K) (ix4 b h t j)
    = Ideal.exp2 (score Q K b.val h.val t.val j.val - top (score Q K b.val h.val t.val) 8448) := by
  rw [weights_apply, masked_score, ← sup_range]
  exact congrArg (fun f => Ideal.exp2 (_ - Finset.univ.sup f)) (funext fun k => masked_score b h t k)

theorem normalized_score (b : Fin 2) (h : Fin 8) (t j : Fin 8448) : normalized (weights (masked Q K)) (ix4 b h t j)
    = Ideal.div (Ideal.exp2 (score Q K b.val h.val t.val j.val - top (score Q K b.val h.val t.val) 8448)) (total (score Q K b.val h.val t.val) 8448) := by
  rw [normalized_apply, weights_score, total, ← Fin.sum_univ_eq_sum_range (fun k => Ideal.exp2 (score Q K b.val h.val t.val k - top (score Q K b.val h.val t.val) 8448))]
  exact congrArg (Ideal.div _) (Finset.sum_congr rfl fun k _ => weights_score b h t k)

theorem vals_val (b : Fin 2) (h : Fin 8) (k : Fin 8448) (d : Fin 64) :
    vals (rows A) (ix4 b h k d) = val A b.val h.val (64 * (h.val % 2) + d.val) k.val := by
  rw [vals_apply, rows_apply]
  exact val_eq A _ rfl rfl rfl (Nat.div_add_mod k.val 128)

/-- A weighted sum of values, over the sum of the same weights. -/
theorem quotient (hi : Inputs Q K A) (b h t : ℕ) {o : ℕ → EReal} (ho : ∀ k, k < 8448 → o k = 1) (W : ℕ → EReal) :
    ∑ k ∈ Finset.range 8448, W k * Ideal.div (Ideal.exp2 (score Q K b h t k - top (score Q K b h t) 8448)) (total (score Q K b h t) 8448)
      = Ideal.div (acc (score Q K b h t) W 8448) (acc (score Q K b h t) o 8448) := by
  have e : acc (score Q K b h t) o 8448 = total (score Q K b h t) 8448 :=
    Finset.sum_congr rfl fun k hk => by rw [ho k (Finset.mem_range.mp hk), one_mul]
  obtain ⟨r₀, hr₀⟩ := score_real hi b h t 0 (Nat.zero_le t)
  obtain ⟨r, hr, er⟩ := total_real (S := score Q K b h t) (n := 8448) (k₀ := 0) (fun k _ => by
    by_cases hk : k ≤ t
    · obtain ⟨x, hx⟩ := score_real hi b h t k hk
      rw [hx]; exact EReal.coe_ne_top x
    · rw [score, if_neg hk]; exact bot_ne_top) (by norm_num) (by rw [hr₀]; exact EReal.coe_ne_bot r₀)
  rw [e, er, acc, ← div_sum _ _ _ hr]

theorem agree (hi : Inputs Q K A) : result (vals (rows A)) (normalized (weights (masked Q K))) = attended Q K A := by
  funext y
  obtain ⟨b, t, w, rfl⟩ : ∃ (b : Fin 2) (t : Fin 8448) (w : Fin 512), y = ix3 b t w := ⟨y 0, y 1, y 2, eq_ix3 y⟩
  have hw := w.isLt
  rw [result_apply]
  let f : ℕ → EReal := fun j => val A b.val (w.val / 64) (w.val % 128) j
    * Ideal.div (Ideal.exp2 (score Q K b.val (w.val / 64) t.val j - top (score Q K b.val (w.val / 64) t.val) 8448)) (total (score Q K b.val (w.val / 64) t.val) 8448)
  have hsum : ∀ k : Fin 8448, vals (rows A) (ix4 b ⟨w.val / 64, by omega⟩ k ⟨w.val % 64, by omega⟩)
      * normalized (weights (masked Q K)) (ix4 b ⟨w.val / 64, by omega⟩ t k) = f k.val := fun k => by
    rw [vals_val, normalized_score]
    show val A b.val (w.val / 64) (64 * (w.val / 64 % 2) + w.val % 64) k.val * _ = _
    rw [show 64 * (w.val / 64 % 2) + w.val % 64 = w.val % 128 by omega]
  refine ((Finset.sum_congr rfl fun k _ => hsum k).trans (Fin.sum_univ_eq_sum_range f 8448)).trans ?_
  show ∑ k ∈ Finset.range 8448, val A b.val (w.val / 64) (w.val % 128) k
    * Ideal.div (Ideal.exp2 (score Q K b.val (w.val / 64) t.val k - top (score Q K b.val (w.val / 64) t.val) 8448)) (total (score Q K b.val (w.val / 64) t.val) 8448) = _
  unfold attended
  show _ = if w.val % 128 < 64 then
      Ideal.div (acc (score Q K b.val (2 * (w.val / 128)) t.val) (val A b.val (2 * (w.val / 128)) (w.val % 128)) 8448)
        (acc (score Q K b.val (2 * (w.val / 128)) t.val) (val A b.val (2 * (w.val / 128)) 64) 8448)
    else
      Ideal.div (acc (score Q K b.val (2 * (w.val / 128) + 1) t.val) (val A b.val (2 * (w.val / 128) + 1) (w.val % 128)) 8448)
        (acc (score Q K b.val (2 * (w.val / 128) + 1) t.val) (val A b.val (2 * (w.val / 128) + 1) 0) 8448)
  split
  · rw [show w.val / 64 = 2 * (w.val / 128) by omega]
    exact quotient hi _ _ _ (fun k hk => hi.even _ _ k hk (by omega)) _
  · rw [show w.val / 64 = 2 * (w.val / 128) + 1 by omega]
    exact quotient hi _ _ _ (fun k hk => hi.odd _ _ k hk (by omega)) _

end Cert.Proof.Reference

end
-- ==== Proof.Layer.lean ====
/-
  The row functions of a layer's dense parts over the extended reals: the layer norm, the logistic function, the gated
  feed-forward of a row and the merge of a row's two branches.
-/
module

public import Idealize.ShloMosaic.PureOps.Ideal

@[expose] public section

noncomputable section

namespace Cert.Proof.Layer

open Idealize.ShloMosaic
open scoped BigOperators

/-- The mean of a row of 1024, the row's length as the float that holds it. -/
def mean (y : Fin 1024 → EReal) : EReal := Ideal.div (∑ k, y k) (Ideal.ofBits .f32 0x44800000#32)

/-- The layer norm of a row. -/
def norm (y g b : Fin 1024 → EReal) (j : Fin 1024) : EReal :=
  (y j - mean y) * Ideal.rsqrt (mean (fun k => (y k - mean y) * (y k - mean y)) + Ideal.ofBits .f32 0x3727C5AC#32) * g j + b j

/-- The logistic function. -/
def logistic (x : EReal) : EReal := Ideal.div 1 (1 + Ideal.exp (-x))

/-- A row times a matrix. -/
def times {K N : ℕ} (x : Fin K → EReal) (w : Fin K → Fin N → EReal) (j : Fin N) : EReal := ∑ k, x k * w k j

/-- The residual: the row scaled by the fourth root of four, and what the sub-layer adds. -/
def residual (x z : Fin 1024 → EReal) (j : Fin 1024) : EReal := Ideal.ofBits .f32 0x3FB504F3#32 * x j + z j

/-- The feed-forward's hidden row. -/
def hidden (x : Fin 1024 → EReal) (wg wu : Fin 1024 → Fin 2816 → EReal) (f : Fin 2816) : EReal :=
  times x wg f * logistic (times x wg f) * times x wu f

/-- The feed-forward of a row. -/
def ffn (x : Fin 1024 → EReal) (wg wu : Fin 1024 → Fin 2816 → EReal) (wd : Fin 2816 → Fin 1024 → EReal) (g b : Fin 1024 → EReal) : Fin 1024 → EReal :=
  norm (residual x (times (hidden x wg wu) wd)) g b

/-- A head of 128 of a row of 512, over its root mean square, and scaled. -/
def headAt (o : Fin 512 → EReal) (n : Fin 128 → EReal) (h : Fin 4) (l : Fin 128) : EReal :=
  o ⟨128 * h.val + l.val, by omega⟩ * Ideal.rsqrt (Ideal.div (∑ l : Fin 128, o ⟨128 * h.val + l.val, by omega⟩ * o ⟨128 * h.val + l.val, by omega⟩)
    (Ideal.ofBits .f32 0x43000000#32) + Ideal.ofBits .f32 0x358637BD#32) * n l

/-- A row of four heads, each over its root mean square, and scaled. -/
def headNorm (o : Fin 512 → EReal) (n : Fin 128 → EReal) (c : Fin 512) : EReal :=
  headAt o n ⟨c.val / 128, by omega⟩ ⟨c.val % 128, Nat.mod_lt _ (by decide)⟩

theorem headNorm_of (o : Fin 512 → EReal) (n : Fin 128 → EReal) (c : Fin 512) (h : Fin 4) (l : Fin 128) (hc : c.val = 128 * h.val + l.val) :
    headNorm o n c = headAt o n h l :=
  congrArg₂ (headAt o n) (Fin.ext (by show c.val / 128 = h.val; omega)) (Fin.ext (by show c.val % 128 = l.val; omega))

/-- The heads, told apart by the lane. -/
theorem headNorm_cases (o : Fin 512 → EReal) (n : Fin 128 → EReal) (c : Fin 512) :
    headNorm o n c = if h : c.val < 128 then headAt o n 0 ⟨c.val, h⟩
      else if h : c.val - 128 < 128 then headAt o n 1 ⟨c.val - 128, h⟩
      else if h : c.val - 128 - 128 < 128 then headAt o n 2 ⟨c.val - 128 - 128, h⟩
      else headAt o n 3 ⟨c.val - 128 - 128 - 128, by omega⟩ := by
  split_ifs with h0 h1 h2
  · exact headNorm_of _ _ c 0 _ (by simp)
  · exact headNorm_of _ _ c 1 _ (by show c.val = 128 * 1 + (c.val - 128); omega)
  · exact headNorm_of _ _ c 2 _ (by show c.val = 128 * 2 + (c.val - 128 - 128); omega)
  · exact headNorm_of _ _ c 3 _ (by show c.val = 128 * 3 + (c.val - 128 - 128 - 128); omega)

/-- The second branch's row under its gate, the first 512 of the gates' columns `p`. -/
def branch (o : Fin 512 → EReal) (n : Fin 128 → EReal) (p : Fin 2560 → EReal) (c : Fin 512) : EReal :=
  headNorm o n c * (p ⟨c.val, by omega⟩ * logistic (p ⟨c.val, by omega⟩))

/-- The two branches' projections under their gates, the other columns of `p`. -/
def mixed (u v : Fin 1024 → EReal) (p : Fin 2560 → EReal) (j : Fin 1024) : EReal :=
  logistic (p ⟨512 + j.val, by omega⟩) * u j + logistic (p ⟨1536 + j.val, by omega⟩) * v j

/-- The merge of a row. -/
def merge (x : Fin 1024 → EReal) (oa ob : Fin 512 → EReal) (wmg : Fin 1024 → Fin 2560 → EReal) (wpa wpb : Fin 512 → Fin 1024 → EReal)
    (wo : Fin 1024 → Fin 1024 → EReal) (n : Fin 128 → EReal) (g b : Fin 1024 → EReal) : Fin 1024 → EReal :=
  norm (residual x (times (mixed (times oa wpa) (times (branch ob n (times x wmg)) wpb) (times x wmg)) wo)) g b

end Cert.Proof.Layer

end
-- ==== Proof.Ffn.lean ====
/-
  The feed-forward: the kernel's blocks of 512 rows and the reference's whole array are the same row function.
-/
module

public import proofs.«01_k».proof.Defs
public import proofs.«01_k».proof.Proof.Layer
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.Value
public import Idealize.ShloMosaic.Lib.Pointwise
public import Idealize.ShloMosaic.Lib.IdealHost
public import Idealize.ShloMosaic.Lib.Quiescent
public import Idealize.ShloMosaic.Lib.Claim
public import Idealize.ShloMosaic.Lib.Pipeline.ValueKit.Geometry

@[expose] public section

set_option maxRecDepth 16384

noncomputable section

namespace Cert.Proof.Ffn

open Idealize.ShloMosaic Idealize.ShloMosaic.TcCoe Idealize.ShloMosaic.Tactic Idealize.SL.Sem
open Idealize.ShloMosaic.Pointwise
open Cert.Proof.Layer
open scoped BigOperators

section kernel

open Cert.Kernel2Ideal Cert.Kernel2Ideal.Gen

theorem residual_apply (x : Vec Ideal S512x1024 .f32) (wg wu : Vec Ideal S1x1024x2816 .bf16) (wd : Vec Ideal S1x2816x1024 .bf16) (p : Fin 512) (j : Fin 1024) :
    k0_pay2 x wg wu wd (ix2 p j) = residual (fun k => x (ix2 p k))
      (times (hidden (fun k => x (ix2 p k)) (fun k f => wg (ix3 0 k f)) (fun k f => wu (ix3 0 k f))) (fun f j => wd (ix3 0 f j))) j := by
  pointwise [k0_pay2]
  simp only [zero_sub]
  rfl

theorem mean_apply (x : Vec Ideal S512x1024 .f32) (wg wu : Vec Ideal S1x1024x2816 .bf16) (wd : Vec Ideal S1x2816x1024 .bf16) (p : Fin 512) (j : Fin 1024) :
    k0_pay5 x wg wu wd (ix2 p j) = mean fun k => k0_pay2 x wg wu wd (ix2 p k) := by
  pointwise [k0_pay5]
  rfl

theorem norm_apply (y z : FVec Ideal S512x1024 .f32) (g b : Vec Ideal S1x1x1024 .f32) (hz : ∀ p j, z (ix2 p j) = mean fun k => y (ix2 p k)) (p : Fin 512) (j : Fin 1024) :
    k0_pay1 y (k0_pay3 g) (k0_pay4 b) z (ix2 p j) = norm (fun k => y (ix2 p k)) (fun k => g (ix3 0 0 k)) (fun k => b (ix3 0 0 k)) j := by
  pointwise [k0_pay1, k0_pay3, k0_pay4]
  simp only [hz]
  rfl

/-- A block's body: the feed-forward of each of its rows. -/
theorem out_apply (x : Vec Ideal S512x1024 .f32) (wg wu : Vec Ideal S1x1024x2816 .bf16) (wd : Vec Ideal S1x2816x1024 .bf16) (g b : Vec Ideal S1x1x1024 .f32)
    (p : Fin 512) (j : Fin 1024) :
    out0_6 x wg wu wd g b (ix2 p j) = ffn (fun k => x (ix2 p k)) (fun k f => wg (ix3 0 k f)) (fun k f => wu (ix3 0 k f)) (fun f j => wd (ix3 0 f j))
      (fun k => g (ix3 0 0 k)) (fun k => b (ix3 0 0 k)) j := by
  have h2 : (![0, 0] : Fin 2 → Nat) = fun _ => 0 := funext fun a => by fin_cases a <;> rfl
  have h3 : (![0, 0, 0] : Fin 3 → Nat) = fun _ => 0 := funext fun a => by fin_cases a <;> rfl
  unfold out0_6
  rw [View.canon_unit_zero h2, View.ld_unit_zero h2, View.ld_unit_zero h3, View.ld_unit_zero h3, View.ld_unit_zero h3, View.ld_unit_zero h3, View.ld_unit_zero h3]
  rw [norm_apply _ _ _ _ (mean_apply x wg wu wd)]
  simp only [residual_apply]
  rfl

variable (m : (ℓ : Loc nD τ sig) → Buf (Elt Ideal) ℓ) (ρ : Dev nD → PrngReg)

theorem index_0 : ∀ t : Fin cfg0.N, win0_0.index t = ![t.val, 0] := (by decide +kernel : ∀ t : Fin grid0.N, _)
theorem index_1 : ∀ t : Fin cfg0.N, win0_1.index t = ![1, 0, 0] := (by decide +kernel : ∀ t : Fin grid0.N, _)
theorem index_2 : ∀ t : Fin cfg0.N, win0_2.index t = ![1, 0, 0] := (by decide +kernel : ∀ t : Fin grid0.N, _)
theorem index_3 : ∀ t : Fin cfg0.N, win0_3.index t = ![1, 0, 0] := (by decide +kernel : ∀ t : Fin grid0.N, _)
theorem index_4 : ∀ t : Fin cfg0.N, win0_4.index t = ![1, 0, 0] := (by decide +kernel : ∀ t : Fin grid0.N, _)
theorem index_5 : ∀ t : Fin cfg0.N, win0_5.index t = ![1, 0, 0] := (by decide +kernel : ∀ t : Fin grid0.N, _)
theorem index_6 : ∀ t : Fin cfg0.N, win0_6.index t = ![t.val, 0] := (by decide +kernel : ∀ t : Fin grid0.N, _)

theorem iblk_0 (c : Dev nD) (t : Fin cfg0.N) (p : Fin 512) (k : Fin 1024) (h : 512 * t.val + p.val < 16896) :
    iblk m c 0 t (ix2 p k) = m ((c.tc : Thread nD τ).loc main_arg0) (ix2 ⟨512 * t.val + p.val, h⟩ k) := by
  blk_simp [iblk]
  refine (congrFun (V_main_arg0 m c) _).trans (congrArg (m ((c.tc : Thread nD τ).loc main_arg0)) (funext fun a => Fin.ext ?_))
  match a with
  | ⟨0, _⟩ => blk_simp [index_0]; show t.val * 512 + p.val = 512 * t.val + p.val; omega
  | ⟨1, _⟩ => blk_simp [index_0]

theorem iblk_1 (c : Dev nD) (t : Fin cfg0.N) (k : Fin 1024) (f : Fin 2816) :
    iblk m c 1 t (ix3 0 k f) = m ((c.tc : Thread nD τ).loc main_arg1) (ix3 1 k f) := by
  blk_simp [iblk]
  refine (congrFun (V_main_arg1 m c) _).trans (congrArg (m ((c.tc : Thread nD τ).loc main_arg1)) (funext fun a => Fin.ext ?_))
  match a with
  | ⟨0, _⟩ => blk_simp [index_1]; rfl
  | ⟨1, _⟩ => blk_simp [index_1]
  | ⟨2, _⟩ => blk_simp [index_1]

theorem iblk_2 (c : Dev nD) (t : Fin cfg0.N) (k : Fin 1024) (f : Fin 2816) :
    iblk m c 2 t (ix3 0 k f) = m ((c.tc : Thread nD τ).loc main_arg2) (ix3 1 k f) := by
  blk_simp [iblk]
  refine (congrFun (V_main_arg2 m c) _).trans (congrArg (m ((c.tc : Thread nD τ).loc main_arg2)) (funext fun a => Fin.ext ?_))
  match a with
  | ⟨0, _⟩ => blk_simp [index_2]; rfl
  | ⟨1, _⟩ => blk_simp [index_2]
  | ⟨2, _⟩ => blk_simp [index_2]

theorem iblk_3 (c : Dev nD) (t : Fin cfg0.N) (f : Fin 2816) (k : Fin 1024) :
    iblk m c 3 t (ix3 0 f k) = m ((c.tc : Thread nD τ).loc main_arg3) (ix3 1 f k) := by
  blk_simp [iblk]
  refine (congrFun (V_main_arg3 m c) _).trans (congrArg (m ((c.tc : Thread nD τ).loc main_arg3)) (funext fun a => Fin.ext ?_))
  match a with
  | ⟨0, _⟩ => blk_simp [index_3]; rfl
  | ⟨1, _⟩ => blk_simp [index_3]
  | ⟨2, _⟩ => blk_simp [index_3]

theorem iblk_4 (c : Dev nD) (t : Fin cfg0.N) (k : Fin 1024) :
    iblk m c 4 t (ix3 0 0 k) = m ((c.tc : Thread nD τ).loc main_arg4) (ix3 1 0 k) := by
  blk_simp [iblk]
  refine (congrFun (V_main_arg4 m c) _).trans (congrArg (m ((c.tc : Thread nD τ).loc main_arg4)) (funext fun a => Fin.ext ?_))
  match a with
  | ⟨0, _⟩ => blk_simp [index_4]; rfl
  | ⟨1, _⟩ => blk_simp [index_4]
  | ⟨2, _⟩ => blk_simp [index_4]

theorem iblk_5 (c : Dev nD) (t : Fin cfg0.N) (k : Fin 1024) :
    iblk m c 5 t (ix3 0 0 k) = m ((c.tc : Thread nD τ).loc main_arg5) (ix3 1 0 k) := by
  blk_simp [iblk]
  refine (congrFun (V_main_arg5 m c) _).trans (congrArg (m ((c.tc : Thread nD τ).loc main_arg5)) (funext fun a => Fin.ext ?_))
  match a with
  | ⟨0, _⟩ => blk_simp [index_5]; rfl
  | ⟨1, _⟩ => blk_simp [index_5]
  | ⟨2, _⟩ => blk_simp [index_5]

end kernel

/-- The feed-forward of every row, with the second layer's weights. -/
def fed (x : (⟨2, ![16896, 1024]⟩ : Shape).Idx → EReal) (wg wu : (⟨3, ![2, 1024, 2816]⟩ : Shape).Idx → EReal) (wd : (⟨3, ![2, 2816, 1024]⟩ : Shape).Idx → EReal)
    (g b : (⟨3, ![2, 1, 1024]⟩ : Shape).Idx → EReal) : (⟨2, ![16896, 1024]⟩ : Shape).Idx → EReal := fun y =>
  ffn (fun k => x (ix2 (y 0) k)) (fun k f => wg (ix3 1 k f)) (fun k f => wu (ix3 1 k f)) (fun f j => wd (ix3 1 f j))
    (fun k => g (ix3 1 0 k)) (fun k => b (ix3 1 0 k)) (y 1)

section kernel

open Cert.Kernel2Ideal Cert.Kernel2Ideal.Gen

variable (m : (ℓ : Loc nD τ sig) → Buf (Elt Ideal) ℓ) (ρ : Dev nD → PrngReg)

/-- The result array after the run. -/
theorem final (c : Dev nD) : (dats m 0 c).arrAt 6 cfg0.N
    = fed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht : t.val < 33 := t.isLt
  have h0 : (y 0).val < 512 := (y 0).isLt
  have h1 : (y 1).val < 1024 := (y 1).isLt
  blk_simp
  rw [after0_6]
  have hr : 512 * t.val + (y 0).val < 16896 := by omega
  have hy : y = ix2 (⟨(y 0).val, h0⟩ : Fin 512) (⟨(y 1).val, h1⟩ : Fin 1024) := funext fun a => by
    match a with
    | ⟨0, _⟩ => rfl
    | ⟨1, _⟩ => rfl
  have he : (win0_6.blk t).view.emb y = ix2 (⟨512 * t.val + (y 0).val, hr⟩ : Fin 16896) (⟨(y 1).val, h1⟩ : Fin 1024) := funext fun a => Fin.ext (by
    match a with
    | ⟨0, _⟩ => blk_simp [index_6]; show t.val * 512 + (y 0).val = 512 * t.val + (y 0).val; omega
    | ⟨1, _⟩ => blk_simp [index_6]; rfl)
  refine (congrArg _ hy).trans ((out_apply _ _ _ _ _ _ _ _).trans (Eq.trans ?_ (congrArg _ he).symm))
  simp only [fun k => iblk_0 m c t ⟨(y 0).val, h0⟩ k hr, iblk_1, iblk_2, iblk_3, iblk_4, iblk_5]
  rfl

/-- The run: the result array holds the feed-forward of every row, and every argument is unchanged. -/
theorem run : θ_run defs (onTc (τ := τ) (main (F := Ideal))) ⟨m, fun _ => 0, ρ⟩ (fun r => ∀ c : Dev nD,
      r.2.mem ((c.tc : Thread nD τ).loc main_v0)
        = fed (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c)))⟩) (run_main m ρ)

end kernel

section reference

open Cert.Reference2Ideal Cert.Reference2Ideal.Gen

/-- A layer's matrix. -/
def wide (w : FVec Ideal S2x1024x2816 .bf16) : FVec Ideal S1024x2816 .f32 :=
  extf .f32 (shapeCast _ (extractStridedSlice S1x1024x2816 ![1, 0, 0] w slices_S2x1024x2816_S1x1024x2816_1_0_0) shapeCasts_S1x1024x2816_S1024x2816) bitsLt_bf16_f32

/-- A layer's last matrix. -/
def tall (w : FVec Ideal S2x2816x1024 .bf16) : FVec Ideal S2816x1024 .f32 :=
  extf .f32 (shapeCast _ (extractStridedSlice S1x2816x1024 ![1, 0, 0] w slices_S2x2816x1024_S1x2816x1024_1_0_0) shapeCasts_S1x2816x1024_S2816x1024) bitsLt_bf16_f32

/-- The product of the rows and a matrix. -/
def prod (x : FVec Ideal S16896x1024 .f32) (w : FVec Ideal S1024x2816 .f32) : FVec Ideal S16896x2816 .f32 :=
  Host.dotGeneral dot_S16896x1024_S1024x2816_S16896x2816_1_0_0_1_n_n none x w

/-- The hidden rows. -/
def gated (a u : FVec Ideal S16896x2816 .f32) : FVec Ideal S16896x2816 .f32 :=
  mulf (mulf a (Host.divf (broadcastInDim S16896x2816 ![] bcast_S_S16896x2816 (constant S_ .f32 0x3F800000#32))
    (addf (broadcastInDim S16896x2816 ![] bcast_S_S16896x2816 (constant S_ .f32 0x3F800000#32)) (Host.exp (Host.negf a))))) u

/-- The rows before the layer norm. -/
def summed (x : FVec Ideal S16896x1024 .f32) (h : FVec Ideal S16896x2816 .f32) (w : FVec Ideal S2816x1024 .f32) : FVec Ideal S16896x1024 .f32 :=
  addf (mulf (broadcastInDim S16896x1024 ![] bcast_S_S16896x1024 (constant S_ .f32 0x3FB504F3#32)) x)
    (Host.dotGeneral dot_S16896x2816_S2816x1024_S16896x1024_1_0_0_1_n_n none h w)

/-- The rows' means. -/
def means (y : FVec Ideal S16896x1024 .f32) : FVec Ideal S16896x1 .f32 :=
  Host.divf (broadcastInDim S16896x1 ![0] bcast_S16896_S16896x1_0 (Host.reduceAdd y (constant S_ .f32 0x00000000#32) reducesTo_S16896x1024_S16896_d1 h_S_))
    (broadcastInDim S16896x1 ![] bcast_S_S16896x1 (constant S_ .f32 0x44800000#32))

/-- The rows less their means. -/
def centred (y : FVec Ideal S16896x1024 .f32) : FVec Ideal S16896x1024 .f32 :=
  subf y (broadcastInDim S16896x1024 ![0, 1] bcast_S16896x1_S16896x1024_0_1 (means y))

/-- A layer's scale or shift, at every row. -/
def affine (g : FVec Ideal S2x1x1024 .f32) : FVec Ideal S16896x1024 .f32 :=
  broadcastInDim S16896x1024 ![0, 1] bcast_S1x1024_S16896x1024_0_1
    (shapeCast _ (extractStridedSlice S1x1x1024 ![1, 0, 0] g slices_S2x1x1024_S1x1x1024_1_0_0) shapeCasts_S1x1x1024_S1x1024)

/-- The layer norm of the rows. -/
def normed (y : FVec Ideal S16896x1024 .f32) (g b : FVec Ideal S2x1x1024 .f32) : FVec Ideal S16896x1024 .f32 :=
  addf (mulf (mulf (centred y) (broadcastInDim S16896x1024 ![0, 1] bcast_S16896x1_S16896x1024_0_1
    (Host.rsqrt (addf (means (mulf (centred y) (centred y))) (broadcastInDim S16896x1 ![] bcast_S_S16896x1 (constant S_ .f32 0x3727C5AC#32)))))) (affine g)) (affine b)

theorem term_eq (m : (ℓ : Loc nD τ sig) → Buf (Elt Ideal) ℓ) (c : Dev nD) :
    Value.res_out0 m c = normed (summed (m ((c.tc : Thread nD τ).loc main_arg0))
      (gated (prod (m ((c.tc : Thread nD τ).loc main_arg0)) (wide (m ((c.tc : Thread nD τ).loc main_arg1))))
        (prod (m ((c.tc : Thread nD τ).loc main_arg0)) (wide (m ((c.tc : Thread nD τ).loc main_arg2)))))
      (tall (m ((c.tc : Thread nD τ).loc main_arg3)))) (m ((c.tc : Thread nD τ).loc main_arg4)) (m ((c.tc : Thread nD τ).loc main_arg5)) := rfl

theorem wide_apply (w : FVec Ideal S2x1024x2816 .bf16) (k : Fin 1024) (f : Fin 2816) : wide w (ix2 k f) = w (ix3 1 k f) := by
  pointwise [wide]

theorem tall_apply (w : FVec Ideal S2x2816x1024 .bf16) (f : Fin 2816) (k : Fin 1024) : tall w (ix2 f k) = w (ix3 1 f k) := by
  pointwise [tall]

theorem prod_apply (x : FVec Ideal S16896x1024 .f32) (w : FVec Ideal S1024x2816 .f32) (r : Fin 16896) (f : Fin 2816) :
    prod x w (ix2 r f) = times (fun k => x (ix2 r k)) (fun k f => w (ix2 k f)) f := by
  pointwise [prod]
  rfl

theorem gated_apply (a u : FVec Ideal S16896x2816 .f32) (r : Fin 16896) (f : Fin 2816) :
    gated a u (ix2 r f) = a (ix2 r f) * logistic (a (ix2 r f)) * u (ix2 r f) := by
  pointwise [gated]
  rfl

theorem summed_apply (x : FVec Ideal S16896x1024 .f32) (h : FVec Ideal S16896x2816 .f32) (w : FVec Ideal S2816x1024 .f32) (r : Fin 16896) (j : Fin 1024) :
    summed x h w (ix2 r j) = residual (fun k => x (ix2 r k)) (times (fun f => h (ix2 r f)) (fun f j => w (ix2 f j))) j := by
  pointwise [summed]
  rfl

theorem means_apply (y : FVec Ideal S16896x1024 .f32) (r : Fin 16896) : means y (ix2 r 0) = mean fun k => y (ix2 r k) := by
  pointwise [means]
  rfl

theorem centred_apply (y : FVec Ideal S16896x1024 .f32) (r : Fin 16896) (j : Fin 1024) :
    centred y (ix2 r j) = y (ix2 r j) - mean fun k => y (ix2 r k) := by
  rw [← means_apply]
  pointwise [centred]

theorem affine_apply (g : FVec Ideal S2x1x1024 .f32) (r : Fin 16896) (j : Fin 1024) : affine g (ix2 r j) = g (ix3 1 0 j) := by
  pointwise [affine]

theorem normed_apply (y : FVec Ideal S16896x1024 .f32) (g b : FVec Ideal S2x1x1024 .f32) (r : Fin 16896) (j : Fin 1024) :
    normed y g b (ix2 r j) = norm (fun k => y (ix2 r k)) (fun k => g (ix3 1 0 k)) (fun k => b (ix3 1 0 k)) j := by
  pointwise [normed]
  simp only [means_apply, affine_apply, centred_apply, mulf_apply]
  rfl

/-- The reference's result is the feed-forward of every row. -/
theorem agree (x : FVec Ideal S16896x1024 .f32) (wg wu : FVec Ideal S2x1024x2816 .bf16) (wd : FVec Ideal S2x2816x1024 .bf16) (g b : FVec Ideal S2x1x1024 .f32) :
    normed (summed x (gated (prod x (wide wg)) (prod x (wide wu))) (tall wd)) g b = fed x wg wu wd g b := by
  funext y
  have hy : y = ix2 (⟨(y 0).val, (y 0).isLt⟩ : Fin 16896) (⟨(y 1).val, (y 1).isLt⟩ : Fin 1024) := funext fun a => by
    match a with
    | ⟨0, _⟩ => rfl
    | ⟨1, _⟩ => rfl
  rw [hy]
  refine (normed_apply _ _ _ _ _).trans ?_
  simp only [summed_apply, gated_apply, prod_apply, wide_apply, tall_apply]
  rfl

end reference

theorem kernel_frame : Cert.quiescent_Kernel2 := fun m ρ _ => Cert.Kernel2.Gen.frame m ρ

theorem ideal_frame : Cert.quiescent_Kernel2Ideal := fun m ρ _ => Cert.Kernel2Ideal.Gen.frame m ρ

theorem reference_frame : Cert.quiescent_Reference2Ideal := fun m ρ _ =>
  (θ_run (Cert.Reference2Ideal.defs (F := Ideal)) _ _).mono
    (fun r h => ⟨fun c => (h c).2, sem_eq_zero_of_no_sems (by decide) r.2⟩) (Cert.Reference2Ideal.Value.run (F := Ideal) m ρ)

/-- Both runs end with the feed-forward of every row in the result array. -/
theorem algebraic : Cert.algebraic_Kernel2Ideal_Reference2Ideal := by
  intro m ρ m' ρ' hpre hagree
  refine ⟨_, run m ρ,
    (θ_run (Cert.Reference2Ideal.defs (F := Ideal)) _ _).mono (fun _ h c => ⟨(h c).1.trans ?_, (h c).2⟩)
      (Cert.Reference2Ideal.Value.run (F := Ideal) m' ρ')⟩
  refine (term_eq m' c).trans ?_
  rw [(hagree c).1, (hagree c).2.1, (hagree c).2.2.1, (hagree c).2.2.2.1, (hagree c).2.2.2.2.1, (hagree c).2.2.2.2.2]
  exact agree _ _ _ _ _ _

end Cert.Proof.Ffn

end
-- ==== Proof.Merge.lean ====
/-
  The merge of the two branches: the kernel's blocks of 512 rows and the reference's whole array are the same row function.
-/
module

public import proofs.«01_k».proof.Defs
public import proofs.«01_k».proof.Proof.Layer
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.Value
public import Idealize.ShloMosaic.Lib.Pointwise
public import Idealize.ShloMosaic.Lib.IdealHost
public import Idealize.ShloMosaic.Lib.Quiescent
public import Idealize.ShloMosaic.Lib.Claim
public import Idealize.ShloMosaic.Lib.Pipeline.ValueKit.Geometry

@[expose] public section

set_option maxRecDepth 16384

noncomputable section

namespace Cert.Proof.Merge

open Idealize.ShloMosaic Idealize.ShloMosaic.TcCoe Idealize.ShloMosaic.Tactic Idealize.SL.Sem
open Idealize.ShloMosaic.Pointwise
open Cert.Proof.Layer
open scoped BigOperators

section kernel

open Cert.Kernel3Ideal Cert.Kernel3Ideal.Gen

theorem gates_apply (x : Vec Ideal S512x1024 .f32) (w : Vec Ideal S1x1024x2560 .bf16) (p : Fin 512) (j : Fin 2560) :
    k0_pay2 x w (ix2 p j) = times (fun k => x (ix2 p k)) (fun k f => w (ix3 0 k f)) j := by
  pointwise [k0_pay2]
  rfl

theorem gates0_apply (x : Vec Ideal S512x1024 .f32) (w : Vec Ideal S1x1024x2560 .bf16) (p : Fin 512) (j : Fin 512) :
    k0_pay3 x w (ix2 p j) = k0_pay2 x w (ix2 p ⟨j.val, by omega⟩) := by
  pointwise [k0_pay3]

theorem gates1_apply (x : Vec Ideal S512x1024 .f32) (w : Vec Ideal S1x1024x2560 .bf16) (p : Fin 512) (j : Fin 1024) :
    k0_pay4 x w (ix2 p j) = k0_pay2 x w (ix2 p ⟨512 + j.val, by omega⟩) := by
  pointwise [k0_pay4]

theorem gates2_apply (x : Vec Ideal S512x1024 .f32) (w : Vec Ideal S1x1024x2560 .bf16) (p : Fin 512) (j : Fin 1024) :
    k0_pay5 x w (ix2 p j) = k0_pay2 x w (ix2 p ⟨1536 + j.val, by omega⟩) := by
  pointwise [k0_pay5]

theorem head0_apply (o : Vec Ideal S512x512 .f32) (n : Vec Ideal S1x1x128 .f32) (p : Fin 512) (l : Fin 128) :
    k0_pay6 o n (ix2 p l) = headAt (fun c => o (ix2 p c)) (fun l => n (ix3 0 0 l)) 0 l := by
  pointwise [k0_pay6]
  simp [headAt]

theorem head1_apply (o : Vec Ideal S512x512 .f32) (n : Vec Ideal S1x1x128 .f32) (p : Fin 512) (l : Fin 128) :
    k0_pay7 o n (ix2 p l) = headAt (fun c => o (ix2 p c)) (fun l => n (ix3 0 0 l)) 1 l := by
  pointwise [k0_pay7]
  rfl

theorem branch_apply (v5 : FVec Ideal S512x512 .f32) (o : Vec Ideal S512x512 .f32) (n : Vec Ideal S1x1x128 .f32) (p : Fin 512) (c : Fin 512) :
    k0_pay8 v5 o (k0_pay6 o n) (k0_pay7 o n) n n (ix2 p c)
      = headNorm (fun c => o (ix2 p c)) (fun l => n (ix3 0 0 l)) c * (v5 (ix2 p c) * logistic (v5 (ix2 p c))) := by
  pointwise [k0_pay8]
  refine congrArg₂ (· * ·) ?_ (congrArg (fun z => v5 (ix2 p c) * Ideal.div 1 (1 + Ideal.exp z)) (zero_sub _))
  rw [headNorm_cases]
  simp only [head0_apply, head1_apply]
  rfl

theorem residual_apply (x : Vec Ideal S512x1024 .f32) (v6 v7 : FVec Ideal S512x1024 .f32) (v78 : FVec Ideal S512x512 .f32) (oa : Vec Ideal S512x512 .bf16)
    (wpa wpb : Vec Ideal S1x512x1024 .bf16) (wo : Vec Ideal S1x1024x1024 .bf16) (p : Fin 512) (j : Fin 1024) :
    k0_pay9 x v6 v7 v78 oa wpa wpb wo (ix2 p j) = residual (fun k => x (ix2 p k))
      (times (fun k => logistic (v6 (ix2 p k)) * times (fun c => oa (ix2 p c)) (fun c j => wpa (ix3 0 c j)) k
          + logistic (v7 (ix2 p k)) * times (fun c => v78 (ix2 p c)) (fun c j => wpb (ix3 0 c j)) k) (fun f j => wo (ix3 0 f j))) j := by
  pointwise [k0_pay9]
  simp only [zero_sub]
  rfl

theorem sum_apply (x : Vec Ideal S512x1024 .f32) (v6 v7 : FVec Ideal S512x1024 .f32) (v78 : FVec Ideal S512x512 .f32) (oa : Vec Ideal S512x512 .bf16)
    (wpa wpb : Vec Ideal S1x512x1024 .bf16) (wo : Vec Ideal S1x1024x1024 .bf16) (p : Fin 512) :
    k0_pay12 x v6 v7 v78 oa wpa wpb wo (ix1 p) = ∑ k, k0_pay9 x v6 v7 v78 oa wpa wpb wo (ix2 p k) := by
  pointwise [k0_pay12]

theorem norm_apply (y : FVec Ideal S512x1024 .f32) (z : FVec Ideal S512 .f32) (g b : Vec Ideal S1x1x1024 .f32) (hz : ∀ p, z (ix1 p) = ∑ k, y (ix2 p k)) (p : Fin 512) (j : Fin 1024) :
    k0_pay1 y (k0_pay10 g) (k0_pay11 b) z (ix2 p j) = norm (fun k => y (ix2 p k)) (fun k => g (ix3 0 0 k)) (fun k => b (ix3 0 0 k)) j := by
  pointwise [k0_pay1, k0_pay10, k0_pay11]
  simp only [hz]
  rfl

/-- A block's body: the merge of each of its rows. -/
theorem out_apply (x : Vec Ideal S512x1024 .f32) (oa : Vec Ideal S512x512 .bf16) (ob : Vec Ideal S512x512 .f32) (wmg : Vec Ideal S1x1024x2560 .bf16) (wpa wpb : Vec Ideal S1x512x1024 .bf16) (wo : Vec Ideal S1x1024x1024 .bf16) (n : Vec Ideal S1x1x128 .f32) (g b : Vec Ideal S1x1x1024 .f32)
    (p : Fin 512) (j : Fin 1024) :
    out0_10 x oa ob wmg wpa wpb wo n g b (ix2 p j) = merge (fun k => x (ix2 p k)) (fun k => oa (ix2 p k)) (fun k => ob (ix2 p k))
      (fun k f => wmg (ix3 0 k f)) (fun k f => wpa (ix3 0 k f)) (fun k f => wpb (ix3 0 k f)) (fun k f => wo (ix3 0 k f))
      (fun k => n (ix3 0 0 k)) (fun k => g (ix3 0 0 k)) (fun k => b (ix3 0 0 k)) j := by
  have h2 : (![0, 0] : Fin 2 → Nat) = fun _ => 0 := funext fun a => by fin_cases a <;> rfl
  have h3 : (![0, 0, 0] : Fin 3 → Nat) = fun _ => 0 := funext fun a => by fin_cases a <;> rfl
  unfold out0_10 k0_pay15 k0_pay14 k0_pay13
  rw [View.canon_unit_zero h2]
  simp only [View.ld_unit_zero (S := S512x1024) h2, View.ld_unit_zero (S := S512x512) h2, View.ld_unit_zero (S := S1x1024x2560) h3,
    View.ld_unit_zero (S := S1x512x1024) h3, View.ld_unit_zero (S := S1x1024x1024) h3, View.ld_unit_zero (S := S1x1x128) h3, View.ld_unit_zero (S := S1x1x1024) h3]
  refine (norm_apply _ _ _ _ (sum_apply _ _ _ _ _ _ _ _) _ _).trans ?_
  simp only [residual_apply, branch_apply, gates0_apply, gates1_apply, gates2_apply, gates_apply]
  rfl

variable (m : (ℓ : Loc nD τ sig) → Buf (Elt Ideal) ℓ) (ρ : Dev nD → PrngReg)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![1, 0, 0] := (by decide +kernel : ∀ t : Fin grid0.N, _)
theorem index_4 : ∀ t : Fin cfg0.N, win0_4.index t = ![1, 0, 0] := (by decide +kernel : ∀ t : Fin grid0.N, _)
theorem index_5 : ∀ t : Fin cfg0.N, win0_5.index t = ![1, 0, 0] := (by decide +kernel : ∀ t : Fin grid0.N, _)
theorem index_6 : ∀ t : Fin cfg0.N, win0_6.index t = ![1, 0, 0] := (by decide +kernel : ∀ t : Fin grid0.N, _)
theorem index_7 : ∀ t : Fin cfg0.N, win0_7.index t = ![1, 0, 0] := (by decide +kernel : ∀ t : Fin grid0.N, _)
theorem index_8 : ∀ t : Fin cfg0.N, win0_8.index t = ![1, 0, 0] := (by decide +kernel : ∀ t : Fin grid0.N, _)
theorem index_9 : ∀ t : Fin cfg0.N, win0_9.index t = ![1, 0, 0] := (by decide +kernel : ∀ t : Fin grid0.N, _)
theorem index_10 : ∀ t : Fin cfg0.N, win0_10.index t = ![t.val, 0] := (by decide +kernel : ∀ t : Fin grid0.N, _)

theorem iblk_0 (c : Dev nD) (t : Fin cfg0.N) (p : Fin 512) (k : Fin 1024) (h : 512 * t.val + p.val < 16896) :
    iblk m c 0 t (ix2 p k) = m ((c.tc : Thread nD τ).loc main_arg0) (ix2 ⟨512 * t.val + p.val, h⟩ k) := by
  blk_simp [iblk]
  refine (congrFun (V_main_arg0 m c) _).trans (congrArg (m ((c.tc : Thread nD τ).loc main_arg0)) (funext fun a => Fin.ext ?_))
  match a with
  | ⟨0, _⟩ => blk_simp [index_0]; show t.val * 512 + p.val = 512 * t.val + p.val; omega
  | ⟨1, _⟩ => blk_simp [index_0]

theorem iblk_1 (c : Dev nD) (t : Fin cfg0.N) (p : Fin 512) (k : Fin 512) (h : 512 * t.val + p.val < 16896) :
    iblk m c 1 t (ix2 p k) = m ((c.tc : Thread nD τ).loc main_arg1) (ix2 ⟨512 * t.val + p.val, h⟩ k) := by
  blk_simp [iblk]
  refine (congrFun (V_main_arg1 m c) _).trans (congrArg (m ((c.tc : Thread nD τ).loc main_arg1)) (funext fun a => Fin.ext ?_))
  match a with
  | ⟨0, _⟩ => blk_simp [index_1]; show t.val * 512 + p.val = 512 * t.val + p.val; omega
  | ⟨1, _⟩ => blk_simp [index_1]

theorem iblk_2 (c : Dev nD) (t : Fin cfg0.N) (p : Fin 512) (k : Fin 512) (h : 512 * t.val + p.val < 16896) :
    iblk m c 2 t (ix2 p k) = m ((c.tc : Thread nD τ).loc main_arg2) (ix2 ⟨512 * t.val + p.val, h⟩ k) := by
  blk_simp [iblk]
  refine (congrFun (V_main_arg2 m c) _).trans (congrArg (m ((c.tc : Thread nD τ).loc main_arg2)) (funext fun a => Fin.ext ?_))
  match a with
  | ⟨0, _⟩ => blk_simp [index_2]; show t.val * 512 + p.val = 512 * t.val + p.val; omega
  | ⟨1, _⟩ => blk_simp [index_2]

theorem iblk_3 (c : Dev nD) (t : Fin cfg0.N) (k : Fin 1024) (f : Fin 2560) :
    iblk m c 3 t (ix3 0 k f) = m ((c.tc : Thread nD τ).loc main_arg3) (ix3 1 k f) := by
  blk_simp [iblk]
  refine (congrFun (V_main_arg3 m c) _).trans (congrArg (m ((c.tc : Thread nD τ).loc main_arg3)) (funext fun a => Fin.ext ?_))
  match a with
  | ⟨0, _⟩ => blk_simp [index_3]; rfl
  | ⟨1, _⟩ => blk_simp [index_3]
  | ⟨2, _⟩ => blk_simp [index_3]

theorem iblk_4 (c : Dev nD) (t : Fin cfg0.N) (k : Fin 512) (f : Fin 1024) :
    iblk m c 4 t (ix3 0 k f) = m ((c.tc : Thread nD τ).loc main_arg4) (ix3 1 k f) := by
  blk_simp [iblk]
  refine (congrFun (V_main_arg4 m c) _).trans (congrArg (m ((c.tc : Thread nD τ).loc main_arg4)) (funext fun a => Fin.ext ?_))
  match a with
  | ⟨0, _⟩ => blk_simp [index_4]; rfl
  | ⟨1, _⟩ => blk_simp [index_4]
  | ⟨2, _⟩ => blk_simp [index_4]

theorem iblk_5 (c : Dev nD) (t : Fin cfg0.N) (k : Fin 512) (f : Fin 1024) :
    iblk m c 5 t (ix3 0 k f) = m ((c.tc : Thread nD τ).loc main_arg5) (ix3 1 k f) := by
  blk_simp [iblk]
  refine (congrFun (V_main_arg5 m c) _).trans (congrArg (m ((c.tc : Thread nD τ).loc main_arg5)) (funext fun a => Fin.ext ?_))
  match a with
  | ⟨0, _⟩ => blk_simp [index_5]; rfl
  | ⟨1, _⟩ => blk_simp [index_5]
  | ⟨2, _⟩ => blk_simp [index_5]

theorem iblk_6 (c : Dev nD) (t : Fin cfg0.N) (k : Fin 1024) (f : Fin 1024) :
    iblk m c 6 t (ix3 0 k f) = m ((c.tc : Thread nD τ).loc main_arg6) (ix3 1 k f) := by
  blk_simp [iblk]
  refine (congrFun (V_main_arg6 m c) _).trans (congrArg (m ((c.tc : Thread nD τ).loc main_arg6)) (funext fun a => Fin.ext ?_))
  match a with
  | ⟨0, _⟩ => blk_simp [index_6]; rfl
  | ⟨1, _⟩ => blk_simp [index_6]
  | ⟨2, _⟩ => blk_simp [index_6]

theorem iblk_7 (c : Dev nD) (t : Fin cfg0.N) (k : Fin 128) :
    iblk m c 7 t (ix3 0 0 k) = m ((c.tc : Thread nD τ).loc main_arg7) (ix3 1 0 k) := by
  blk_simp [iblk]
  refine (congrFun (V_main_arg7 m c) _).trans (congrArg (m ((c.tc : Thread nD τ).loc main_arg7)) (funext fun a => Fin.ext ?_))
  match a with
  | ⟨0, _⟩ => blk_simp [index_7]; rfl
  | ⟨1, _⟩ => blk_simp [index_7]
  | ⟨2, _⟩ => blk_simp [index_7]

theorem iblk_8 (c : Dev nD) (t : Fin cfg0.N) (k : Fin 1024) :
    iblk m c 8 t (ix3 0 0 k) = m ((c.tc : Thread nD τ).loc main_arg8) (ix3 1 0 k) := by
  blk_simp [iblk]
  refine (congrFun (V_main_arg8 m c) _).trans (congrArg (m ((c.tc : Thread nD τ).loc main_arg8)) (funext fun a => Fin.ext ?_))
  match a with
  | ⟨0, _⟩ => blk_simp [index_8]; rfl
  | ⟨1, _⟩ => blk_simp [index_8]
  | ⟨2, _⟩ => blk_simp [index_8]

theorem iblk_9 (c : Dev nD) (t : Fin cfg0.N) (k : Fin 1024) :
    iblk m c 9 t (ix3 0 0 k) = m ((c.tc : Thread nD τ).loc main_arg9) (ix3 1 0 k) := by
  blk_simp [iblk]
  refine (congrFun (V_main_arg9 m c) _).trans (congrArg (m ((c.tc : Thread nD τ).loc main_arg9)) (funext fun a => Fin.ext ?_))
  match a with
  | ⟨0, _⟩ => blk_simp [index_9]; rfl
  | ⟨1, _⟩ => blk_simp [index_9]
  | ⟨2, _⟩ => blk_simp [index_9]

end kernel

/-- The merge of every row, with the second layer's weights. -/
def merged (x : (⟨2, ![16896, 1024]⟩ : Shape).Idx → EReal) (oa ob : (⟨2, ![16896, 512]⟩ : Shape).Idx → EReal) (wmg : (⟨3, ![2, 1024, 2560]⟩ : Shape).Idx → EReal)
    (wpa wpb : (⟨3, ![2, 512, 1024]⟩ : Shape).Idx → EReal) (wo : (⟨3, ![2, 1024, 1024]⟩ : Shape).Idx → EReal) (n : (⟨3, ![2, 1, 128]⟩ : Shape).Idx → EReal)
    (g b : (⟨3, ![2, 1, 1024]⟩ : Shape).Idx → EReal) : (⟨2, ![16896, 1024]⟩ : Shape).Idx → EReal := fun y =>
  merge (fun k => x (ix2 (y 0) k)) (fun k => oa (ix2 (y 0) k)) (fun k => ob (ix2 (y 0) k))
    (fun k f => wmg (ix3 1 k f)) (fun k f => wpa (ix3 1 k f)) (fun k f => wpb (ix3 1 k f)) (fun k f => wo (ix3 1 k f))
    (fun k => n (ix3 1 0 k)) (fun k => g (ix3 1 0 k)) (fun k => b (ix3 1 0 k)) (y 1)

section kernel

open Cert.Kernel3Ideal Cert.Kernel3Ideal.Gen

variable (m : (ℓ : Loc nD τ sig) → Buf (Elt Ideal) ℓ) (ρ : Dev nD → PrngReg)

/-- The result array after the run. -/
theorem final (c : Dev nD) : (dats m 0 c).arrAt 10 cfg0.N
    = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  have ht : t.val < 33 := t.isLt
  have h0 : (y 0).val < 512 := (y 0).isLt
  have h1 : (y 1).val < 1024 := (y 1).isLt
  blk_simp
  rw [after0_10]
  have hr : 512 * t.val + (y 0).val < 16896 := by omega
  have hy : y = ix2 (⟨(y 0).val, h0⟩ : Fin 512) (⟨(y 1).val, h1⟩ : Fin 1024) := funext fun a => by
    match a with
    | ⟨0, _⟩ => rfl
    | ⟨1, _⟩ => rfl
  have he : (win0_10.blk t).view.emb y = ix2 (⟨512 * t.val + (y 0).val, hr⟩ : Fin 16896) (⟨(y 1).val, h1⟩ : Fin 1024) := funext fun a => Fin.ext (by
    match a with
    | ⟨0, _⟩ => blk_simp [index_10]; show t.val * 512 + (y 0).val = 512 * t.val + (y 0).val; omega
    | ⟨1, _⟩ => blk_simp [index_10]; rfl)
  refine (congrArg _ hy).trans ((out_apply _ _ _ _ _ _ _ _ _ _ _ _).trans (Eq.trans ?_ (congrArg _ he).symm))
  simp only [fun k => iblk_0 m c t ⟨(y 0).val, h0⟩ k hr, fun k => iblk_1 m c t ⟨(y 0).val, h0⟩ k hr, fun k => iblk_2 m c t ⟨(y 0).val, h0⟩ k hr, iblk_3, iblk_4, iblk_5, iblk_6, iblk_7, iblk_8, iblk_9]
  rfl

/-- The run: the result array holds the merge of every row, and every argument is unchanged. -/
theorem run : θ_run defs (onTc (τ := τ) (main (F := Ideal))) ⟨m, fun _ => 0, ρ⟩ (fun r => ∀ c : Dev nD,
      r.2.mem ((c.tc : Thread nD τ).loc main_v0)
        = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 10).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c))),
     ((h c).1 6).trans (((dats m 0 c).arrAt_in 6 rfl _).trans ((A_eq m c 6).trans (V_main_arg6 m c))),
     ((h c).1 7).trans (((dats m 0 c).arrAt_in 7 rfl _).trans ((A_eq m c 7).trans (V_main_arg7 m c))),
     ((h c).1 8).trans (((dats m 0 c).arrAt_in 8 rfl _).trans ((A_eq m c 8).trans (V_main_arg8 m c))),
     ((h c).1 9).trans (((dats m 0 c).arrAt_in 9 rfl _).trans ((A_eq m c 9).trans (V_main_arg9 m c)))⟩) (run_main m ρ)

end kernel

section reference

open Cert.Reference3Ideal Cert.Reference3Ideal.Gen

/-- A layer's 1024 by 2560 matrix. -/
def wideM (w : FVec Ideal S2x1024x2560 .bf16) : FVec Ideal S1024x2560 .f32 :=
  extf .f32 (shapeCast _ (extractStridedSlice S1x1024x2560 ![1, 0, 0] w slices_S2x1024x2560_S1x1024x2560_1_0_0) shapeCasts_S1x1024x2560_S1024x2560) bitsLt_bf16_f32

/-- A layer's 512 by 1024 matrix. -/
def projM (w : FVec Ideal S2x512x1024 .bf16) : FVec Ideal S512x1024 .f32 :=
  extf .f32 (shapeCast _ (extractStridedSlice S1x512x1024 ![1, 0, 0] w slices_S2x512x1024_S1x512x1024_1_0_0) shapeCasts_S1x512x1024_S512x1024) bitsLt_bf16_f32

/-- A layer's 1024 by 1024 matrix. -/
def squareM (w : FVec Ideal S2x1024x1024 .bf16) : FVec Ideal S1024x1024 .f32 :=
  extf .f32 (shapeCast _ (extractStridedSlice S1x1024x1024 ![1, 0, 0] w slices_S2x1024x1024_S1x1024x1024_1_0_0) shapeCasts_S1x1024x1024_S1024x1024) bitsLt_bf16_f32

/-- The rows times the gates' matrix. -/
def gates (x : FVec Ideal S16896x1024 .f32) (w : FVec Ideal S1024x2560 .f32) : FVec Ideal S16896x2560 .f32 :=
  Host.dotGeneral dot_S16896x1024_S1024x2560_S16896x2560_1_0_0_1_n_n none x w

/-- The rows' heads. -/
def split (o : FVec Ideal S16896x512 .f32) : FVec Ideal S16896x4x128 .f32 := shapeCast _ o shapeCasts_S16896x512_S16896x4x128

/-- The heads over their root mean squares. -/
def scaled (o : FVec Ideal S16896x4x128 .f32) : FVec Ideal S16896x4x128 .f32 :=
  mulf o (broadcastInDim S16896x4x128 ![0, 1, 2] bcast_S16896x4x1_S16896x4x128_0_1_2
    (Host.rsqrt (addf (Host.divf (broadcastInDim S16896x4x1 ![0, 1] bcast_S16896x4_S16896x4x1_0_1
        (Host.reduceAdd (mulf o o) (constant S_ .f32 0x00000000#32) reducesTo_S16896x4x128_S16896x4_d2 h_S_))
      (broadcastInDim S16896x4x1 ![] bcast_S_S16896x4x1 (constant S_ .f32 0x43000000#32))) (broadcastInDim S16896x4x1 ![] bcast_S_S16896x4x1 (constant S_ .f32 0x358637BD#32)))))

/-- The heads side by side, each lane scaled. -/
def joined (o : FVec Ideal S16896x4x128 .f32) (n : FVec Ideal S2x1x128 .f32) : FVec Ideal S16896x512 .f32 :=
  shapeCast _ (mulf o (broadcastInDim S16896x4x128 ![0, 1, 2] bcast_S1x1x128_S16896x4x128_0_1_2 (broadcastInDim S1x1x128 ![1, 2] bcast_S1x128_S1x1x128_1_2
    (shapeCast _ (extractStridedSlice S1x1x128 ![1, 0, 0] n slices_S2x1x128_S1x1x128_1_0_0) shapeCasts_S1x1x128_S1x128)))) shapeCasts_S16896x4x128_S16896x512

/-- The second branch under the gates' first columns. -/
def gated (o : FVec Ideal S16896x512 .f32) (p : FVec Ideal S16896x2560 .f32) : FVec Ideal S16896x512 .f32 :=
  mulf o (mulf (extractStridedSlice S16896x512 ![0, 0] p slices_S16896x2560_S16896x512_0_0) (Host.divf (broadcastInDim S16896x512 ![] bcast_S_S16896x512 (constant S_ .f32 0x3F800000#32)) (addf (broadcastInDim S16896x512 ![] bcast_S_S16896x512 (constant S_ .f32 0x3F800000#32)) (Host.exp (Host.negf (extractStridedSlice S16896x512 ![0, 0] p slices_S16896x2560_S16896x512_0_0))))))

/-- The product of the rows and a branch's matrix. -/
def proj (x : FVec Ideal S16896x512 .f32) (w : FVec Ideal S512x1024 .f32) : FVec Ideal S16896x1024 .f32 :=
  Host.dotGeneral dot_S16896x512_S512x1024_S16896x1024_1_0_0_1_n_n none x w

/-- The branches under their gates. -/
def mix (p : FVec Ideal S16896x2560 .f32) (u v : FVec Ideal S16896x1024 .f32) : FVec Ideal S16896x1024 .f32 :=
  addf (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 512] p slices_S16896x2560_S16896x1024_0_512))))) u)
    (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 1536] p slices_S16896x2560_S16896x1024_0_1536))))) v)

/-- The rows before the layer norm. -/
def summed (x h : FVec Ideal S16896x1024 .f32) (w : FVec Ideal S1024x1024 .f32) : FVec Ideal S16896x1024 .f32 :=
  addf (mulf (broadcastInDim S16896x1024 ![] bcast_S_S16896x1024 (constant S_ .f32 0x3FB504F3#32)) x)
    (Host.dotGeneral dot_S16896x1024_S1024x1024_S16896x1024_1_0_0_1_n_n none h w)

/-- The rows' means. -/
def means (y : FVec Ideal S16896x1024 .f32) : FVec Ideal S16896x1 .f32 :=
  Host.divf (broadcastInDim S16896x1 ![0] bcast_S16896_S16896x1_0 (Host.reduceAdd y (constant S_ .f32 0x00000000#32) reducesTo_S16896x1024_S16896_d1 h_S_))
    (broadcastInDim S16896x1 ![] bcast_S_S16896x1 (constant S_ .f32 0x44800000#32))

/-- The rows less their means. -/
def centred (y : FVec Ideal S16896x1024 .f32) : FVec Ideal S16896x1024 .f32 :=
  subf y (broadcastInDim S16896x1024 ![0, 1] bcast_S16896x1_S16896x1024_0_1 (means y))

/-- A layer's scale or shift, at every row. -/
def affine (g : FVec Ideal S2x1x1024 .f32) : FVec Ideal S16896x1024 .f32 :=
  broadcastInDim S16896x1024 ![0, 1] bcast_S1x1024_S16896x1024_0_1
    (shapeCast _ (extractStridedSlice S1x1x1024 ![1, 0, 0] g slices_S2x1x1024_S1x1x1024_1_0_0) shapeCasts_S1x1x1024_S1x1024)

/-- The layer norm of the rows. -/
def normed (y : FVec Ideal S16896x1024 .f32) (g b : FVec Ideal S2x1x1024 .f32) : FVec Ideal S16896x1024 .f32 :=
  addf (mulf (mulf (centred y) (broadcastInDim S16896x1024 ![0, 1] bcast_S16896x1_S16896x1024_0_1
    (Host.rsqrt (addf (means (mulf (centred y) (centred y))) (broadcastInDim S16896x1 ![] bcast_S_S16896x1 (constant S_ .f32 0x3727C5AC#32)))))) (affine g)) (affine b)

theorem term_eq (m : (ℓ : Loc nD τ sig) → Buf (Elt Ideal) ℓ) (c : Dev nD) :
    Value.res_out0 m c = normed (summed (m ((c.tc : Thread nD τ).loc main_arg0)) (mix (gates (m ((c.tc : Thread nD τ).loc main_arg0)) (wideM (m ((c.tc : Thread nD τ).loc main_arg3)))) (proj (extf .f32 (m ((c.tc : Thread nD τ).loc main_arg1)) bitsLt_bf16_f32) (projM (m ((c.tc : Thread nD τ).loc main_arg4))))
        (proj (gated (joined (scaled (split (m ((c.tc : Thread nD τ).loc main_arg2)))) (m ((c.tc : Thread nD τ).loc main_arg7))) (gates (m ((c.tc : Thread nD τ).loc main_arg0)) (wideM (m ((c.tc : Thread nD τ).loc main_arg3))))) (projM (m ((c.tc : Thread nD τ).loc main_arg5))))) (squareM (m ((c.tc : Thread nD τ).loc main_arg6)))) (m ((c.tc : Thread nD τ).loc main_arg8)) (m ((c.tc : Thread nD τ).loc main_arg9)) := rfl

theorem wideM_apply (w : FVec Ideal S2x1024x2560 .bf16) (k : Fin 1024) (f : Fin 2560) : wideM w (ix2 k f) = w (ix3 1 k f) := by
  pointwise [wideM]

theorem projM_apply (w : FVec Ideal S2x512x1024 .bf16) (k : Fin 512) (f : Fin 1024) : projM w (ix2 k f) = w (ix3 1 k f) := by
  pointwise [projM]

theorem squareM_apply (w : FVec Ideal S2x1024x1024 .bf16) (k : Fin 1024) (f : Fin 1024) : squareM w (ix2 k f) = w (ix3 1 k f) := by
  pointwise [squareM]

theorem gates_row (x : FVec Ideal S16896x1024 .f32) (w : FVec Ideal S1024x2560 .f32) (r : Fin 16896) (f : Fin 2560) :
    gates x w (ix2 r f) = times (fun k => x (ix2 r k)) (fun k f => w (ix2 k f)) f := by
  pointwise [gates]
  rfl

theorem split_row (o : FVec Ideal S16896x512 .f32) (r : Fin 16896) (h : Fin 4) (l : Fin 128) :
    split o (ix3 r h l) = o (ix2 r ⟨128 * h.val + l.val, by omega⟩) := by
  pointwise [split]
  exact congrArg o (congrArg (ix2 r) (Fin.ext (by show h.val * 128 + l.val = 128 * h.val + l.val; omega)))

theorem scaled_row (o : FVec Ideal S16896x4x128 .f32) (r : Fin 16896) (h : Fin 4) (l : Fin 128) :
    scaled o (ix3 r h l) = o (ix3 r h l) * Ideal.rsqrt (Ideal.div (∑ l : Fin 128, o (ix3 r h l) * o (ix3 r h l)) (Ideal.ofBits .f32 0x43000000#32) + Ideal.ofBits .f32 0x358637BD#32) := by
  pointwise [scaled]

theorem joined_row (o : FVec Ideal S16896x4x128 .f32) (n : FVec Ideal S2x1x128 .f32) (r : Fin 16896) (c : Fin 512) :
    joined o n (ix2 r c) = o (ix3 r ⟨c.val / 128, by omega⟩ ⟨c.val % 128, by omega⟩) * n (ix3 1 0 ⟨c.val % 128, by omega⟩) := by
  pointwise [joined]

theorem gated_row (o : FVec Ideal S16896x512 .f32) (p : FVec Ideal S16896x2560 .f32) (r : Fin 16896) (c : Fin 512) :
    gated o p (ix2 r c) = o (ix2 r c) * (p (ix2 r ⟨c.val, by omega⟩) * logistic (p (ix2 r ⟨c.val, by omega⟩))) := by
  pointwise [gated]
  rfl

theorem proj_row (x : FVec Ideal S16896x512 .f32) (w : FVec Ideal S512x1024 .f32) (r : Fin 16896) (j : Fin 1024) :
    proj x w (ix2 r j) = times (fun k => x (ix2 r k)) (fun k f => w (ix2 k f)) j := by
  pointwise [proj]
  rfl

theorem mix_row (p : FVec Ideal S16896x2560 .f32) (u v : FVec Ideal S16896x1024 .f32) (r : Fin 16896) (j : Fin 1024) :
    mix p u v (ix2 r j) = mixed (fun k => u (ix2 r k)) (fun k => v (ix2 r k)) (fun k => p (ix2 r k)) j := by
  pointwise [mix]
  rfl

theorem summed_row (x h : FVec Ideal S16896x1024 .f32) (w : FVec Ideal S1024x1024 .f32) (r : Fin 16896) (j : Fin 1024) :
    summed x h w (ix2 r j) = residual (fun k => x (ix2 r k)) (times (fun f => h (ix2 r f)) (fun f j => w (ix2 f j))) j := by
  pointwise [summed]
  rfl

theorem means_apply (y : FVec Ideal S16896x1024 .f32) (r : Fin 16896) : means y (ix2 r 0) = mean fun k => y (ix2 r k) := by
  pointwise [means]
  rfl

theorem centred_apply (y : FVec Ideal S16896x1024 .f32) (r : Fin 16896) (j : Fin 1024) :
    centred y (ix2 r j) = y (ix2 r j) - mean fun k => y (ix2 r k) := by
  rw [← means_apply]
  pointwise [centred]

theorem affine_apply (g : FVec Ideal S2x1x1024 .f32) (r : Fin 16896) (j : Fin 1024) : affine g (ix2 r j) = g (ix3 1 0 j) := by
  pointwise [affine]

theorem normed_apply (y : FVec Ideal S16896x1024 .f32) (g b : FVec Ideal S2x1x1024 .f32) (r : Fin 16896) (j : Fin 1024) :
    normed y g b (ix2 r j) = norm (fun k => y (ix2 r k)) (fun k => g (ix3 1 0 k)) (fun k => b (ix3 1 0 k)) j := by
  pointwise [normed]
  simp only [means_apply, affine_apply, centred_apply, mulf_apply]
  rfl

/-- The reference's result is the merge of every row. -/
theorem agree (x : FVec Ideal S16896x1024 .f32) (oa : FVec Ideal S16896x512 .bf16) (ob : FVec Ideal S16896x512 .f32) (wmg : FVec Ideal S2x1024x2560 .bf16)
    (wpa wpb : FVec Ideal S2x512x1024 .bf16) (wo : FVec Ideal S2x1024x1024 .bf16) (n : FVec Ideal S2x1x128 .f32) (g b : FVec Ideal S2x1x1024 .f32) :
    normed (summed x (mix (gates x (wideM wmg)) (proj (extf .f32 oa bitsLt_bf16_f32) (projM wpa))
        (proj (gated (joined (scaled (split ob)) n) (gates x (wideM wmg))) (projM wpb))) (squareM wo)) g b
      = merged x oa ob wmg wpa wpb wo n g b := by
  funext y
  have hy : y = ix2 (⟨(y 0).val, (y 0).isLt⟩ : Fin 16896) (⟨(y 1).val, (y 1).isLt⟩ : Fin 1024) := funext fun a => by
    match a with
    | ⟨0, _⟩ => rfl
    | ⟨1, _⟩ => rfl
  rw [hy]
  refine (normed_apply _ _ _ _ _).trans ?_
  simp only [summed_row, mix_row, proj_row, gated_row, joined_row, scaled_row, split_row, gates_row, wideM_apply, projM_apply, squareM_apply]
  rfl

end reference

theorem kernel_frame : Cert.quiescent_Kernel3 := fun m ρ _ => Cert.Kernel3.Gen.frame m ρ

theorem ideal_frame : Cert.quiescent_Kernel3Ideal := fun m ρ _ => Cert.Kernel3Ideal.Gen.frame m ρ

theorem reference_frame : Cert.quiescent_Reference3Ideal := fun m ρ _ =>
  (θ_run (Cert.Reference3Ideal.defs (F := Ideal)) _ _).mono
    (fun r h => ⟨fun c => (h c).2, sem_eq_zero_of_no_sems (by decide) r.2⟩) (Cert.Reference3Ideal.Value.run (F := Ideal) m ρ)

/-- Both runs end with the merge of every row in the result array. -/
theorem algebraic : Cert.algebraic_Kernel3Ideal_Reference3Ideal := by
  intro m ρ m' ρ' hpre hagree
  refine ⟨_, run m ρ,
    (θ_run (Cert.Reference3Ideal.defs (F := Ideal)) _ _).mono (fun _ h c => ⟨(h c).1.trans ?_, (h c).2⟩)
      (Cert.Reference3Ideal.Value.run (F := Ideal) m' ρ')⟩
  refine (term_eq m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact agree _ _ _ _ _ _ _ _ _ _

end Cert.Proof.Merge

end
-- ==== Proof.Inproj.lean ====
/-
  The prompt's input projections: the kernel's blocks of 384 rows and the reference's whole arrays are the same row functions.
-/
module

public import proofs.«01_k».proof.Defs
public import proofs.«01_k».proof.Proof.Layer
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.Value
public import Idealize.ShloMosaic.Lib.Pointwise
public import Idealize.ShloMosaic.Lib.IdealHost
public import Idealize.ShloMosaic.Lib.Quiescent
public import Idealize.ShloMosaic.Lib.Claim
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.WordCmp

@[expose] public section

set_option maxRecDepth 16384

noncomputable section

namespace Cert.Proof.Inproj

open Idealize.ShloMosaic Idealize.ShloMosaic.TcCoe Idealize.ShloMosaic.Tactic Idealize.SL.Sem
open Idealize.ShloMosaic.Pointwise
open Cert.Proof.Layer
open scoped BigOperators

/-- The logarithm of the logistic function, as a gate's row takes it. -/
def gate (z : EReal) : EReal := min z 0 - Ideal.log (1 + Ideal.exp (-max z (-z)))

theorem exp_nonneg (z : EReal) : 0 ≤ Ideal.exp z := by
  induction z with
  | bot => simp
  | top => simp
  | coe r => rw [Ideal.exp_coe]; exact_mod_cast (Real.exp_pos r).le

theorem log_ne_bot {z : EReal} (h : 0 ≤ z) : Ideal.log (1 + z) ≠ ⊥ := by
  induction z with
  | bot => simp at h
  | top =>
    rw [EReal.add_top_of_ne_bot (show (1 : EReal) ≠ ⊥ from EReal.coe_ne_bot 1), Ideal.log_top]
    simp
  | coe r =>
    have hr : (0 : ℝ) ≤ r := by exact_mod_cast h
    rw [← EReal.coe_one, ← EReal.coe_add, Ideal.log_coe, if_neg (by linarith)]
    exact EReal.coe_ne_bot _

theorem neg_max_neg (z : EReal) : -max (-z) 0 = min z 0 := by
  rcases le_total z 0 with h | h
  · have h' : (0 : EReal) ≤ -z := by simpa using EReal.neg_le_neg_iff.mpr h
    rw [max_eq_left h', min_eq_left h, neg_neg]
  · have h' : -z ≤ 0 := by simpa using EReal.neg_le_neg_iff.mpr h
    rw [max_eq_right h', min_eq_right h, neg_zero]

/-- The negated softplus of the negation is the gate, at the infinities too. -/
theorem neg_softplus_neg (z : EReal) : -(max (-z) 0 + Ideal.log (1 + Ideal.exp (-max (-z) (- -z)))) = gate z := by
  have h0 : max (-z) 0 ≠ ⊥ := fun h => by
    have := h ▸ le_max_right (-z) 0
    simp at this
  rw [EReal.neg_add (Or.inl h0) (Or.inr (log_ne_bot (exp_nonneg _))), neg_max_neg, neg_neg, max_comm (-z) z]
  rfl

theorem sixteenth (z : EReal) : z * Ideal.ofBits .f32 1031798784#32 = Ideal.div z (Ideal.ofBits .f32 1098907648#32) := by
  have h1 : Ideal.ofBits .f32 1031798784#32 = ((1 / 16 : ℝ) : EReal) := by
    simp [Ideal.ofBits, Ideal.ieee, -EReal.coe_mul]; norm_num
  have h2 : Ideal.ofBits .f32 1098907648#32 = ((16 : ℝ) : EReal) := by
    simp [Ideal.ofBits, Ideal.ieee, -EReal.coe_mul]; norm_num
  rw [h1, h2, Ideal.div_coe (by norm_num)]

theorem times_zero {K N : ℕ} (w : Fin K → Fin N → EReal) (j : Fin N) : times (fun _ => 0) w j = 0 := by
  simp [times]

section kernel

open Cert.Kernel4Ideal Cert.Kernel4Ideal.Gen

theorem real_apply (i : grid0.Coords) (p : Fin 384) :
    k0_pay4 i (ix2 p 0) = if 384 * (i 1).val + p.val < 8208 then 1#1 else 0#1 := by
  have hi : (i 1).val < 22 := (i 1).isLt
  have hp := p.isLt
  pointwise [k0_pay4]
  rw [Scalar.muli, WordCmp.muli_ofNat, WordCmp.addi_ofNat, WordCmp.cmpi_slt_ofNat (by omega) (by omega), WordCmp.ofBool_decide_eq_ite, Nat.mul_comm]

theorem row_apply (i : grid0.Coords) (x : Vec Ideal S1x384x1024 .f32) (p : Fin 384) (k : Fin 1024) :
    k0_pay5 i x (ix2 p k) = if 384 * (i 1).val + p.val < 8208 then x (ix3 0 p k) else 0 := by
  pointwise [k0_pay5]
  rw [real_apply]
  split_ifs <;> rfl

theorem keys_apply (x : FVec Ideal S384x1024 .bf16) (w : Vec Ideal S1x1024x1536 .bf16) (p : Fin 384) (f : Fin 512) :
    k0_pay21 x w (ix4 0 0 f p) = times (fun k => x (ix2 p k)) (fun k f => w (ix3 0 k f)) (⟨512 + f.val, by omega⟩ : Fin 1536) := by
  pointwise [k0_pay21, k0_pay20]
  rfl

theorem vals_apply (x : FVec Ideal S384x1024 .bf16) (w : Vec Ideal S1x1024x1536 .bf16) (p : Fin 384) (f : Fin 512) :
    k0_pay22 x w (ix4 0 0 f p) = times (fun k => x (ix2 p k)) (fun k f => w (ix3 0 k f)) (⟨1024 + f.val, by omega⟩ : Fin 1536) := by
  pointwise [k0_pay22, k0_pay20]
  rfl

theorem gateq_apply (x : FVec Ideal S384x1024 .bf16) (w : Vec Ideal S1x1024x1024 .bf16) (p : Fin 384) (f : Fin 256) :
    k0_pay116 x w (ix3 0 p f) = times (fun k => x (ix2 p k)) (fun k f => w (ix3 0 k f)) (⟨f.val, by omega⟩ : Fin 1024) := by
  pointwise [k0_pay116, k0_pay115]
  rfl

theorem gatek_apply (x : FVec Ideal S384x1024 .bf16) (w : Vec Ideal S1x1024x1024 .bf16) (p : Fin 384) (f : Fin 256) :
    k0_pay1 (k0_pay117 x w) (ix3 0 p f) = times (fun k => x (ix2 p k)) (fun k f => w (ix3 0 k f)) (⟨256 + f.val, by omega⟩ : Fin 1024) := by
  pointwise [k0_pay1, k0_pay117, k0_pay115]
  rfl

theorem gatev_apply (x : FVec Ideal S384x1024 .bf16) (w : Vec Ideal S1x1024x1024 .bf16) (p : Fin 384) (f : Fin 512) :
    k0_pay2 (k0_pay115 x w) (ix3 0 p f) = times (fun k => x (ix2 p k)) (fun k f => w (ix3 0 k f)) (⟨512 + f.val, by omega⟩ : Fin 1024) := by
  pointwise [k0_pay2, k0_pay115]
  rfl

theorem small_apply (i : grid0.Coords) (x : Vec Ideal S1x384x1024 .f32) (w : Vec Ideal S1x1024x128 .bf16) (b : Vec Ideal S1x1x128 .f32) (p : Fin 384) (f : Fin 128) :
    k0_pay6 i x w b (ix2 p f) = times (fun k => k0_pay5 i x (ix2 p k)) (fun k f => w (ix3 0 k f)) f + b (ix3 0 0 f) := by
  pointwise [k0_pay6]
  rfl

theorem forget_apply (i : grid0.Coords) (x : Vec Ideal S1x384x1024 .f32) (w : Vec Ideal S1x1024x128 .bf16) (b : Vec Ideal S1x1x128 .f32) (p : Fin 384) (f : Fin 8) :
    k0_pay9 (k0_pay8 i x w b) (ix3 0 p f) = if 384 * (i 1).val + p.val < 8208 then gate (k0_pay6 i x w b (ix2 p ⟨f.val, by omega⟩)) else 0 := by
  pointwise [k0_pay9, k0_pay8, k0_pay7]
  rw [real_apply]
  simp only [zero_sub]
  split_ifs <;> rfl

theorem gatel_apply (i : grid0.Coords) (v22 : FVec Ideal S384x128 .f32) (w : Vec Ideal S1x128x256 .bf16) (b : Vec Ideal S1x1x256 .f32) (p : Fin 384) (f : Fin 256) :
    k0_pay10 (k0_pay4 i) v22 w b (ix3 0 p f)
      = if 384 * (i 1).val + p.val < 8208 then Ideal.div (gate (times (fun k => v22 (ix2 p k)) (fun k f => w (ix3 0 k f)) f + b (ix3 0 0 f))) (Ideal.ofBits .f32 1098907648#32) else 0 := by
  pointwise [k0_pay10]
  rw [real_apply]
  simp only [zero_sub, sixteenth]
  split_ifs <;> rfl

variable (m : (ℓ : Loc nD τ sig) → Buf (Elt Ideal) ℓ) (ρ : Dev nD → PrngReg)

theorem index_0 : ∀ t : Fin cfg0.N, win0_0.index t = ![t.val / 22, t.val % 22, 0] := (by decide +kernel : ∀ t : Fin grid0.N, _)
theorem index_1 : ∀ t : Fin cfg0.N, win0_1.index t = ![1, 0, 0] := (by decide +kernel : ∀ t : Fin grid0.N, _)
theorem index_2 : ∀ t : Fin cfg0.N, win0_2.index t = ![1, 0, 0] := (by decide +kernel : ∀ t : Fin grid0.N, _)
theorem index_3 : ∀ t : Fin cfg0.N, win0_3.index t = ![1, 0, 0] := (by decide +kernel : ∀ t : Fin grid0.N, _)
theorem index_4 : ∀ t : Fin cfg0.N, win0_4.index t = ![1, 0, 0] := (by decide +kernel : ∀ t : Fin grid0.N, _)
theorem index_5 : ∀ t : Fin cfg0.N, win0_5.index t = ![1, 0, 0] := (by decide +kernel : ∀ t : Fin grid0.N, _)
theorem index_6 : ∀ t : Fin cfg0.N, win0_6.index t = ![1, 0, 0] := (by decide +kernel : ∀ t : Fin grid0.N, _)
theorem index_12 : ∀ t : Fin cfg0.N, win0_12.index t = ![1, t.val / 22, 0, t.val % 22] := (by decide +kernel : ∀ t : Fin grid0.N, _)
theorem index_13 : ∀ t : Fin cfg0.N, win0_13.index t = ![1, t.val / 22, 0, t.val % 22] := (by decide +kernel : ∀ t : Fin grid0.N, _)
theorem index_14 : ∀ t : Fin cfg0.N, win0_14.index t = ![t.val / 22, t.val % 22, 0] := (by decide +kernel : ∀ t : Fin grid0.N, _)
theorem index_15 : ∀ t : Fin cfg0.N, win0_15.index t = ![t.val / 22, t.val % 22, 0] := (by decide +kernel : ∀ t : Fin grid0.N, _)
theorem index_16 : ∀ t : Fin cfg0.N, win0_16.index t = ![t.val / 22, t.val % 22, 0] := (by decide +kernel : ∀ t : Fin grid0.N, _)
theorem index_17 : ∀ t : Fin cfg0.N, win0_17.index t = ![t.val / 22, t.val % 22, 0] := (by decide +kernel : ∀ t : Fin grid0.N, _)
theorem index_18 : ∀ t : Fin cfg0.N, win0_18.index t = ![t.val / 22, t.val % 22, 0] := (by decide +kernel : ∀ t : Fin grid0.N, _)
theorem coords_1 : ∀ t : Fin cfg0.N, (grid0.coords t 1).val = t.val % 22 := (by decide +kernel : ∀ t : Fin grid0.N, _)

theorem iblk_0 (c : Dev nD) (t : Fin cfg0.N) (p : Fin 384) (k : Fin 1024) (hb : t.val / 22 < 2) (hr : 384 * (t.val % 22) + p.val < 8448) :
    iblk m c 0 t (ix3 0 p k) = m ((c.tc : Thread nD τ).loc main_arg0) (ix3 ⟨t.val / 22, hb⟩ ⟨384 * (t.val % 22) + p.val, hr⟩ k) := by
  blk_simp [iblk]
  refine (congrFun (V_main_arg0 m c) _).trans (congrArg (m ((c.tc : Thread nD τ).loc main_arg0)) (funext fun a => Fin.ext ?_))
  match a with
  | ⟨0, _⟩ => blk_simp [index_0]; rfl
  | ⟨1, _⟩ => blk_simp [index_0]; show t.val % 22 * 384 + p.val = 384 * (t.val % 22) + p.val; omega
  | ⟨2, _⟩ => blk_simp [index_0]

theorem iblk_1 (c : Dev nD) (t : Fin cfg0.N) (k : Fin 1024) (f : Fin 1536) :
    iblk m c 1 t (ix3 0 k f) = m ((c.tc : Thread nD τ).loc main_arg1) (ix3 1 k f) := by
  blk_simp [iblk]
  refine (congrFun (V_main_arg1 m c) _).trans (congrArg (m ((c.tc : Thread nD τ).loc main_arg1)) (funext fun a => Fin.ext ?_))
  match a with
  | ⟨0, _⟩ => blk_simp [index_1]; rfl
  | ⟨1, _⟩ => blk_simp [index_1]
  | ⟨2, _⟩ => blk_simp [index_1]

theorem iblk_2 (c : Dev nD) (t : Fin cfg0.N) (k : Fin 1024) (f : Fin 1024) :
    iblk m c 2 t (ix3 0 k f) = m ((c.tc : Thread nD τ).loc main_arg2) (ix3 1 k f) := by
  blk_simp [iblk]
  refine (congrFun (V_main_arg2 m c) _).trans (congrArg (m ((c.tc : Thread nD τ).loc main_arg2)) (funext fun a => Fin.ext ?_))
  match a with
  | ⟨0, _⟩ => blk_simp [index_2]; rfl
  | ⟨1, _⟩ => blk_simp [index_2]
  | ⟨2, _⟩ => blk_simp [index_2]

theorem iblk_3 (c : Dev nD) (t : Fin cfg0.N) (k : Fin 1024) (f : Fin 128) :
    iblk m c 3 t (ix3 0 k f) = m ((c.tc : Thread nD τ).loc main_arg3) (ix3 1 k f) := by
  blk_simp [iblk]
  refine (congrFun (V_main_arg3 m c) _).trans (congrArg (m ((c.tc : Thread nD τ).loc main_arg3)) (funext fun a => Fin.ext ?_))
  match a with
  | ⟨0, _⟩ => blk_simp [index_3]; rfl
  | ⟨1, _⟩ => blk_simp [index_3]
  | ⟨2, _⟩ => blk_simp [index_3]

theorem iblk_4 (c : Dev nD) (t : Fin cfg0.N) (k : Fin 128) (f : Fin 256) :
    iblk m c 4 t (ix3 0 k f) = m ((c.tc : Thread nD τ).loc main_arg4) (ix3 1 k f) := by
  blk_simp [iblk]
  refine (congrFun (V_main_arg4 m c) _).trans (congrArg (m ((c.tc : Thread nD τ).loc main_arg4)) (funext fun a => Fin.ext ?_))
  match a with
  | ⟨0, _⟩ => blk_simp [index_4]; rfl
  | ⟨1, _⟩ => blk_simp [index_4]
  | ⟨2, _⟩ => blk_simp [index_4]

theorem iblk_5 (c : Dev nD) (t : Fin cfg0.N) (k : Fin 128) :
    iblk m c 5 t (ix3 0 0 k) = m ((c.tc : Thread nD τ).loc main_arg5) (ix3 1 0 k) := by
  blk_simp [iblk]
  refine (congrFun (V_main_arg5 m c) _).trans (congrArg (m ((c.tc : Thread nD τ).loc main_arg5)) (funext fun a => Fin.ext ?_))
  match a with
  | ⟨0, _⟩ => blk_simp [index_5]; rfl
  | ⟨1, _⟩ => blk_simp [index_5]
  | ⟨2, _⟩ => blk_simp [index_5]

theorem iblk_6 (c : Dev nD) (t : Fin cfg0.N) (k : Fin 256) :
    iblk m c 6 t (ix3 0 0 k) = m ((c.tc : Thread nD τ).loc main_arg6) (ix3 1 0 k) := by
  blk_simp [iblk]
  refine (congrFun (V_main_arg6 m c) _).trans (congrArg (m ((c.tc : Thread nD τ).loc main_arg6)) (funext fun a => Fin.ext ?_))
  match a with
  | ⟨0, _⟩ => blk_simp [index_6]; rfl
  | ⟨1, _⟩ => blk_simp [index_6]
  | ⟨2, _⟩ => blk_simp [index_6]

end kernel

/-- The products of a real row and the second layer's columns for queries, keys and values. -/
def qkvRow (x : (⟨3, ![2, 8448, 1024]⟩ : Shape).Idx → EReal) (w : (⟨3, ![2, 1024, 1536]⟩ : Shape).Idx → EReal) (b : Fin 2) (t : Fin 8448) (j : Fin 1536) : EReal :=
  times (fun k => x (ix3 b t k)) (fun k f => w (ix3 1 k f)) j

/-- The same for the second branch. -/
def glaRow (x : (⟨3, ![2, 8448, 1024]⟩ : Shape).Idx → EReal) (w : (⟨3, ![2, 1024, 1024]⟩ : Shape).Idx → EReal) (b : Fin 2) (t : Fin 8448) (j : Fin 1024) : EReal :=
  times (fun k => x (ix3 b t k)) (fun k f => w (ix3 1 k f)) j

/-- The same for the forget gates and the low rank, with their biases. -/
def smallRow (x : (⟨3, ![2, 8448, 1024]⟩ : Shape).Idx → EReal) (w : (⟨3, ![2, 1024, 128]⟩ : Shape).Idx → EReal) (v : (⟨3, ![2, 1, 128]⟩ : Shape).Idx → EReal)
    (b : Fin 2) (t : Fin 8448) (j : Fin 128) : EReal :=
  times (fun k => x (ix3 b t k)) (fun k f => w (ix3 1 k f)) j + v (ix3 1 0 j)

/-- The forget gates of the real rows, and zeros below them. -/
def forgets (x : (⟨3, ![2, 8448, 1024]⟩ : Shape).Idx → EReal) (w : (⟨3, ![2, 1024, 128]⟩ : Shape).Idx → EReal) (v : (⟨3, ![2, 1, 128]⟩ : Shape).Idx → EReal)
    (b : Fin 2) (t : Fin 8448) (j : Fin 8) : EReal :=
  if t.val < 8208 then gate (smallRow x w v b t ⟨j.val, by omega⟩) else 0

/-- The second branch's gates of the real rows, and zeros below them. -/
def decays (x : (⟨3, ![2, 8448, 1024]⟩ : Shape).Idx → EReal) (w : (⟨3, ![2, 1024, 128]⟩ : Shape).Idx → EReal) (v : (⟨3, ![2, 1, 128]⟩ : Shape).Idx → EReal)
    (w2 : (⟨3, ![2, 128, 256]⟩ : Shape).Idx → EReal) (v2 : (⟨3, ![2, 1, 256]⟩ : Shape).Idx → EReal) (b : Fin 2) (t : Fin 8448) (j : Fin 256) : EReal :=
  if t.val < 8208 then Ideal.div (gate (times (fun k => smallRow x w v b t k) (fun k f => w2 (ix3 1 k f)) j + v2 (ix3 1 0 j))) (Ideal.ofBits .f32 1098907648#32) else 0

/-- A part of the second branch's columns of the real rows, and zeros below them. -/
def parts {n : ℕ} (off : ℕ) (h : off + n ≤ 1024) (x : (⟨3, ![2, 8448, 1024]⟩ : Shape).Idx → EReal) (w : (⟨3, ![2, 1024, 1024]⟩ : Shape).Idx → EReal)
    (b : Fin 2) (t : Fin 8448) (j : Fin n) : EReal :=
  if t.val < 8208 then glaRow x w b t ⟨off + j.val, by omega⟩ else 0

/-- The second layer's columns behind the first layer's. -/
def columns (off : ℕ) (h : off + 512 ≤ 1536) (x : (⟨3, ![2, 8448, 1024]⟩ : Shape).Idx → EReal) (w : (⟨3, ![2, 1024, 1536]⟩ : Shape).Idx → EReal)
    (old : (⟨4, ![2, 2, 512, 8208]⟩ : Shape).Idx → EReal) (l b : Fin 2) (f : Fin 512) (t : Fin 8208) : EReal :=
  if l.val < 1 then old (ix4 0 b f t) else qkvRow x w b ⟨t.val, by omega⟩ ⟨off + f.val, by omega⟩

section kernel

open Cert.Kernel4Ideal Cert.Kernel4Ideal.Gen

variable (m : (ℓ : Loc nD τ sig) → Buf (Elt Ideal) ℓ) (ρ : Dev nD → PrngReg)

/-- The row of a block that starts at the row `384 * (t.val % 22)`. -/
theorem real_row (c : Dev nD) (t : Fin cfg0.N) (p : Fin 384) (hb : t.val / 22 < 2) (hr : 384 * (t.val % 22) + p.val < 8448) (h : 384 * (t.val % 22) + p.val < 8208) :
    (fun k => k0_pay5 (grid0.coords t) (iblk m c 0 t) (ix2 p k)) = fun k => m ((c.tc : Thread nD τ).loc main_arg0) (ix3 ⟨t.val / 22, hb⟩ ⟨384 * (t.val % 22) + p.val, hr⟩ k) := by
  funext k
  rw [row_apply, coords_1, if_pos h, iblk_0 m c t p k hb hr]

theorem zero_row (c : Dev nD) (t : Fin cfg0.N) (p : Fin 384) (h : ¬384 * (t.val % 22) + p.val < 8208) :
    (fun k => k0_pay5 (grid0.coords t) (iblk m c 0 t) (ix2 p k)) = fun _ => 0 := by
  funext k
  rw [row_apply, coords_1, if_neg h]

theorem small_block (c : Dev nD) (t : Fin cfg0.N) (p : Fin 384) (j : Fin 128) (hb : t.val / 22 < 2) (hr : 384 * (t.val % 22) + p.val < 8448) (h : 384 * (t.val % 22) + p.val < 8208) :
    k0_pay6 (grid0.coords t) (iblk m c 0 t) (iblk m c 3 t) (iblk m c 5 t) (ix2 p j) = smallRow (m ((c.tc : Thread nD τ).loc main_arg0)) (m ((c.tc : Thread nD τ).loc main_arg3)) (m ((c.tc : Thread nD τ).loc main_arg5)) ⟨t.val / 22, hb⟩ ⟨384 * (t.val % 22) + p.val, hr⟩ j := by
  rw [small_apply, real_row m c t p hb hr h]
  simp only [iblk_3, iblk_5]
  rfl

theorem block_14 (c : Dev nD) (t : Fin cfg0.N) (p : Fin 384) (f : Fin 8) (hb : t.val / 22 < 2) (hr : 384 * (t.val % 22) + p.val < 8448) :
    k0_pay9 (k0_pay8 (grid0.coords t) (iblk m c 0 t) (iblk m c 3 t) (iblk m c 5 t)) (ix3 0 p f) = forgets (m ((c.tc : Thread nD τ).loc main_arg0)) (m ((c.tc : Thread nD τ).loc main_arg3)) (m ((c.tc : Thread nD τ).loc main_arg5)) ⟨t.val / 22, hb⟩ ⟨384 * (t.val % 22) + p.val, hr⟩ f := by
  rw [forget_apply, coords_1, forgets]
  by_cases h : 384 * (t.val % 22) + p.val < 8208
  · rw [if_pos h, if_pos h, small_block m c t p _ hb hr h]
  · rw [if_neg h, if_neg h]

theorem block_18 (c : Dev nD) (t : Fin cfg0.N) (p : Fin 384) (f : Fin 256) (hb : t.val / 22 < 2) (hr : 384 * (t.val % 22) + p.val < 8448) :
    k0_pay10 (k0_pay4 (grid0.coords t)) (k0_pay6 (grid0.coords t) (iblk m c 0 t) (iblk m c 3 t) (iblk m c 5 t)) (iblk m c 4 t) (iblk m c 6 t) (ix3 0 p f) = decays (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) ⟨t.val / 22, hb⟩ ⟨384 * (t.val % 22) + p.val, hr⟩ f := by
  rw [gatel_apply, coords_1, decays]
  by_cases h : 384 * (t.val % 22) + p.val < 8208
  · rw [if_pos h, if_pos h]
    simp only [fun j => small_block m c t p j hb hr h, iblk_4, iblk_6]
  · rw [if_neg h, if_neg h]

theorem block_15 (c : Dev nD) (t : Fin cfg0.N) (p : Fin 384) (f : Fin 256) (hb : t.val / 22 < 2) (hr : 384 * (t.val % 22) + p.val < 8448) :
    k0_pay116 (k0_pay5 (grid0.coords t) (iblk m c 0 t)) (iblk m c 2 t) (ix3 0 p f) = parts (n := 256) 0 (by decide) (m ((c.tc : Thread nD τ).loc main_arg0)) (m ((c.tc : Thread nD τ).loc main_arg2)) ⟨t.val / 22, hb⟩ ⟨384 * (t.val % 22) + p.val, hr⟩ f := by
  rw [gateq_apply, parts]
  by_cases h : 384 * (t.val % 22) + p.val < 8208
  · rw [if_pos h, real_row m c t p hb hr h]
    simp only [iblk_2]
    congr 1; exact Fin.ext (Nat.zero_add _).symm
  · rw [if_neg h, zero_row m c t p h, times_zero]

theorem block_16 (c : Dev nD) (t : Fin cfg0.N) (p : Fin 384) (f : Fin 256) (hb : t.val / 22 < 2) (hr : 384 * (t.val % 22) + p.val < 8448) :
    k0_pay1 (k0_pay117 (k0_pay5 (grid0.coords t) (iblk m c 0 t)) (iblk m c 2 t)) (ix3 0 p f) = parts (n := 256) 256 (by decide) (m ((c.tc : Thread nD τ).loc main_arg0)) (m ((c.tc : Thread nD τ).loc main_arg2)) ⟨t.val / 22, hb⟩ ⟨384 * (t.val % 22) + p.val, hr⟩ f := by
  rw [gatek_apply, parts]
  by_cases h : 384 * (t.val % 22) + p.val < 8208
  · rw [if_pos h, real_row m c t p hb hr h]
    simp only [iblk_2]
    rfl
  · rw [if_neg h, zero_row m c t p h, times_zero]

theorem block_17 (c : Dev nD) (t : Fin cfg0.N) (p : Fin 384) (f : Fin 512) (hb : t.val / 22 < 2) (hr : 384 * (t.val % 22) + p.val < 8448) :
    k0_pay2 (k0_pay115 (k0_pay5 (grid0.coords t) (iblk m c 0 t)) (iblk m c 2 t)) (ix3 0 p f) = parts (n := 512) 512 (by decide) (m ((c.tc : Thread nD τ).loc main_arg0)) (m ((c.tc : Thread nD τ).loc main_arg2)) ⟨t.val / 22, hb⟩ ⟨384 * (t.val % 22) + p.val, hr⟩ f := by
  rw [gatev_apply, parts]
  by_cases h : 384 * (t.val % 22) + p.val < 8208
  · rw [if_pos h, real_row m c t p hb hr h]
    simp only [iblk_2]
    rfl
  · rw [if_neg h, zero_row m c t p h, times_zero]

theorem block_12 (c : Dev nD) (t : Fin cfg0.N) (f : Fin 512) (p : Fin 384) (hb : t.val / 22 < 2) (h : 384 * (t.val % 22) + p.val < 8208) :
    k0_pay21 (k0_pay5 (grid0.coords t) (iblk m c 0 t)) (iblk m c 1 t) (ix4 0 0 f p) = columns 512 (by decide) (m ((c.tc : Thread nD τ).loc main_arg0)) (m ((c.tc : Thread nD τ).loc main_arg1)) (m ((c.tc : Thread nD τ).loc main_arg9)) 1 ⟨t.val / 22, hb⟩ f ⟨384 * (t.val % 22) + p.val, h⟩ := by
  rw [keys_apply, columns, if_neg (by decide), real_row m c t p hb (by omega) h]
  simp only [iblk_1]
  rfl

theorem block_13 (c : Dev nD) (t : Fin cfg0.N) (f : Fin 512) (p : Fin 384) (hb : t.val / 22 < 2) (h : 384 * (t.val % 22) + p.val < 8208) :
    k0_pay22 (k0_pay5 (grid0.coords t) (iblk m c 0 t)) (iblk m c 1 t) (ix4 0 0 f p) = columns 1024 (by decide) (m ((c.tc : Thread nD τ).loc main_arg0)) (m ((c.tc : Thread nD τ).loc main_arg1)) (m ((c.tc : Thread nD τ).loc main_arg10)) 1 ⟨t.val / 22, hb⟩ f ⟨384 * (t.val % 22) + p.val, h⟩ := by
  rw [vals_apply, columns, if_neg (by decide), real_row m c t p hb (by omega) h]
  simp only [iblk_1]
  rfl

/-- A place in a block of 384 rows. -/
theorem row_idx {n : ℕ} (y : (⟨3, ![1, 384, n]⟩ : Shape).Idx) : y = ix3 (0 : Fin 1) (y 1) (y 2) := funext fun a => by
  match a with
  | ⟨0, _⟩ => exact Subsingleton.elim (α := Fin 1) _ _
  | ⟨1, _⟩ => rfl
  | ⟨2, _⟩ => rfl

theorem final_14 (c : Dev nD) : (dats m 0 c).arrAt 14 cfg0.N
    = fun y => forgets (m ((c.tc : Thread nD τ).loc main_arg0)) (m ((c.tc : Thread nD τ).loc main_arg3)) (m ((c.tc : Thread nD τ).loc main_arg5)) (y 0) (y 1) (y 2) := by
  refine (dats m 0 c).arrAt_eq_of_covers 14 _ (by decide +kernel) fun t hf y => ?_
  have ht : t.val < 44 := t.isLt
  have h1 : (y 1).val < 384 := (y 1).isLt
  have hb : t.val / 22 < 2 := by omega
  have hr : 384 * (t.val % 22) + (y 1).val < 8448 := by omega
  have he : (win0_14.blk t).view.emb y = ix3 (⟨t.val / 22, hb⟩ : Fin 2) (⟨384 * (t.val % 22) + (y 1).val, hr⟩ : Fin 8448) (y 2) := funext fun a => Fin.ext (by
    match a with
    | ⟨0, _⟩ => blk_simp [index_14]
    | ⟨1, _⟩ => blk_simp [index_14]; show t.val % 22 * 384 + (y 1).val = 384 * (t.val % 22) + (y 1).val; omega
    | ⟨2, _⟩ => blk_simp [index_14]; rfl)
  blk_simp
  rw [after0_14]
  refine Eq.trans ?_ (congrArg (fun z => forgets (m ((c.tc : Thread nD τ).loc main_arg0)) (m ((c.tc : Thread nD τ).loc main_arg3)) (m ((c.tc : Thread nD τ).loc main_arg5)) (z 0) (z 1) (z 2)) he).symm
  refine (congrArg _ (row_idx y)).trans ?_
  by_cases h : t.val % 22 = 0
  · rw [outsAt0_A m c t h]
    frame_out
    exact block_14 m c t _ _ hb hr
  · rw [outsAt0_B m c t h]
    frame_out
    exact block_14 m c t _ _ hb hr

theorem final_15 (c : Dev nD) : (dats m 0 c).arrAt 15 cfg0.N
    = fun y => parts (n := 256) 0 (by decide) (m ((c.tc : Thread nD τ).loc main_arg0)) (m ((c.tc : Thread nD τ).loc main_arg2)) (y 0) (y 1) (y 2) := by
  refine (dats m 0 c).arrAt_eq_of_covers 15 _ (by decide +kernel) fun t hf y => ?_
  have ht : t.val < 44 := t.isLt
  have h1 : (y 1).val < 384 := (y 1).isLt
  have hb : t.val / 22 < 2 := by omega
  have hr : 384 * (t.val % 22) + (y 1).val < 8448 := by omega
  have he : (win0_15.blk t).view.emb y = ix3 (⟨t.val / 22, hb⟩ : Fin 2) (⟨384 * (t.val % 22) + (y 1).val, hr⟩ : Fin 8448) (y 2) := funext fun a => Fin.ext (by
    match a with
    | ⟨0, _⟩ => blk_simp [index_15]
    | ⟨1, _⟩ => blk_simp [index_15]; show t.val % 22 * 384 + (y 1).val = 384 * (t.val % 22) + (y 1).val; omega
    | ⟨2, _⟩ => blk_simp [index_15]; rfl)
  blk_simp
  rw [after0_15]
  refine Eq.trans ?_ (congrArg (fun z => parts (n := 256) 0 (by decide) (m ((c.tc : Thread nD τ).loc main_arg0)) (m ((c.tc : Thread nD τ).loc main_arg2)) (z 0) (z 1) (z 2)) he).symm
  refine (congrArg _ (row_idx y)).trans ?_
  by_cases h : t.val % 22 = 0
  · rw [outsAt0_A m c t h]
    frame_out
    exact block_15 m c t _ _ hb hr
  · rw [outsAt0_B m c t h]
    frame_out
    exact block_15 m c t _ _ hb hr

theorem final_16 (c : Dev nD) : (dats m 0 c).arrAt 16 cfg0.N
    = fun y => parts (n := 256) 256 (by decide) (m ((c.tc : Thread nD τ).loc main_arg0)) (m ((c.tc : Thread nD τ).loc main_arg2)) (y 0) (y 1) (y 2) := by
  refine (dats m 0 c).arrAt_eq_of_covers 16 _ (by decide +kernel) fun t hf y => ?_
  have ht : t.val < 44 := t.isLt
  have h1 : (y 1).val < 384 := (y 1).isLt
  have hb : t.val / 22 < 2 := by omega
  have hr : 384 * (t.val % 22) + (y 1).val < 8448 := by omega
  have he : (win0_16.blk t).view.emb y = ix3 (⟨t.val / 22, hb⟩ : Fin 2) (⟨384 * (t.val % 22) + (y 1).val, hr⟩ : Fin 8448) (y 2) := funext fun a => Fin.ext (by
    match a with
    | ⟨0, _⟩ => blk_simp [index_16]
    | ⟨1, _⟩ => blk_simp [index_16]; show t.val % 22 * 384 + (y 1).val = 384 * (t.val % 22) + (y 1).val; omega
    | ⟨2, _⟩ => blk_simp [index_16]; rfl)
  blk_simp
  rw [after0_16]
  refine Eq.trans ?_ (congrArg (fun z => parts (n := 256) 256 (by decide) (m ((c.tc : Thread nD τ).loc main_arg0)) (m ((c.tc : Thread nD τ).loc main_arg2)) (z 0) (z 1) (z 2)) he).symm
  refine (congrArg _ (row_idx y)).trans ?_
  by_cases h : t.val % 22 = 0
  · rw [outsAt0_A m c t h]
    frame_out
    exact block_16 m c t _ _ hb hr
  · rw [outsAt0_B m c t h]
    frame_out
    exact block_16 m c t _ _ hb hr

theorem final_17 (c : Dev nD) : (dats m 0 c).arrAt 17 cfg0.N
    = fun y => parts (n := 512) 512 (by decide) (m ((c.tc : Thread nD τ).loc main_arg0)) (m ((c.tc : Thread nD τ).loc main_arg2)) (y 0) (y 1) (y 2) := by
  refine (dats m 0 c).arrAt_eq_of_covers 17 _ (by decide +kernel) fun t hf y => ?_
  have ht : t.val < 44 := t.isLt
  have h1 : (y 1).val < 384 := (y 1).isLt
  have hb : t.val / 22 < 2 := by omega
  have hr : 384 * (t.val % 22) + (y 1).val < 8448 := by omega
  have he : (win0_17.blk t).view.emb y = ix3 (⟨t.val / 22, hb⟩ : Fin 2) (⟨384 * (t.val % 22) + (y 1).val, hr⟩ : Fin 8448) (y 2) := funext fun a => Fin.ext (by
    match a with
    | ⟨0, _⟩ => blk_simp [index_17]
    | ⟨1, _⟩ => blk_simp [index_17]; show t.val % 22 * 384 + (y 1).val = 384 * (t.val % 22) + (y 1).val; omega
    | ⟨2, _⟩ => blk_simp [index_17]; rfl)
  blk_simp
  rw [after0_17]
  refine Eq.trans ?_ (congrArg (fun z => parts (n := 512) 512 (by decide) (m ((c.tc : Thread nD τ).loc main_arg0)) (m ((c.tc : Thread nD τ).loc main_arg2)) (z 0) (z 1) (z 2)) he).symm
  refine (congrArg _ (row_idx y)).trans ?_
  by_cases h : t.val % 22 = 0
  · rw [outsAt0_A m c t h]
    frame_out
    exact block_17 m c t _ _ hb hr
  · rw [outsAt0_B m c t h]
    frame_out
    exact block_17 m c t _ _ hb hr

theorem final_18 (c : Dev nD) : (dats m 0 c).arrAt 18 cfg0.N
    = fun y => decays (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (y 0) (y 1) (y 2) := by
  refine (dats m 0 c).arrAt_eq_of_covers 18 _ (by decide +kernel) fun t hf y => ?_
  have ht : t.val < 44 := t.isLt
  have h1 : (y 1).val < 384 := (y 1).isLt
  have hb : t.val / 22 < 2 := by omega
  have hr : 384 * (t.val % 22) + (y 1).val < 8448 := by omega
  have he : (win0_18.blk t).view.emb y = ix3 (⟨t.val / 22, hb⟩ : Fin 2) (⟨384 * (t.val % 22) + (y 1).val, hr⟩ : Fin 8448) (y 2) := funext fun a => Fin.ext (by
    match a with
    | ⟨0, _⟩ => blk_simp [index_18]
    | ⟨1, _⟩ => blk_simp [index_18]; show t.val % 22 * 384 + (y 1).val = 384 * (t.val % 22) + (y 1).val; omega
    | ⟨2, _⟩ => blk_simp [index_18]; rfl)
  blk_simp
  rw [after0_18]
  refine Eq.trans ?_ (congrArg (fun z => decays (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (z 0) (z 1) (z 2)) he).symm
  refine (congrArg _ (row_idx y)).trans ?_
  by_cases h : t.val % 22 = 0
  · rw [outsAt0_A m c t h]
    frame_out
    exact block_18 m c t _ _ hb hr
  · rw [outsAt0_B m c t h]
    frame_out
    exact block_18 m c t _ _ hb hr

theorem V_keys (c : Dev nD) : V m c main_v0_3 = m ((c.tc : Thread nD τ).loc main_arg9) := by
  show StableHlo.after hostOps0 (fun b => m (c, b)) main_v0_3 = _
  after_results
  rfl

theorem V_vals (c : Dev nD) : V m c main_v0_4 = m ((c.tc : Thread nD τ).loc main_arg10) := by
  show StableHlo.after hostOps0 (fun b => m (c, b)) main_v0_4 = _
  after_results
  rfl

theorem final_12 (c : Dev nD) : (dats m 0 c).arrAt 12 cfg0.N
    = fun y => columns 512 (by decide) (m ((c.tc : Thread nD τ).loc main_arg0)) (m ((c.tc : Thread nD τ).loc main_arg1)) (m ((c.tc : Thread nD τ).loc main_arg9)) (y 0) (y 1) (y 2) (y 3) := by
  refine (dats m 0 c).arrAt_eq_of_coversWhere_of_agree 12 _ (fun β => 1 ≤ β 0) (by decide +kernel) (fun t hf y => ?_) (fun j hj => ?_)
  · have ht : t.val < 44 := t.isLt
    have hb : t.val / 22 < 2 := by omega
    have h3 := ((win0_12.blk t).view.emb y 3).isLt
    have h0 : (y 0).val < 1 := (win0_12.xinj (grid0.coords t) y 0).isLt
    have h1 : (y 1).val < 1 := (win0_12.xinj (grid0.coords t) y 1).isLt
    have h2 : (y 2).val < 512 := (win0_12.xinj (grid0.coords t) y 2).isLt
    have h4 : (y 3).val < 384 := (win0_12.xinj (grid0.coords t) y 3).isLt
    blk_simp [index_12] at h3
    have hr : 384 * (t.val % 22) + (y 3).val < 8208 := by omega
    have hy : win0_12.xinj (grid0.coords t) y = ix4 (0 : Fin 1) (0 : Fin 1) (⟨(y 2).val, h2⟩ : Fin 512) (⟨(y 3).val, h4⟩ : Fin 384) := funext fun a => Fin.ext (by
      match a with
      | ⟨0, _⟩ => show (y 0).val = 0; omega
      | ⟨1, _⟩ => show (y 1).val = 0; omega
      | ⟨2, _⟩ => rfl
      | ⟨3, _⟩ => rfl)
    have he : (win0_12.blk t).view.emb y = ix4 (1 : Fin 2) (⟨t.val / 22, hb⟩ : Fin 2) (⟨(y 2).val, h2⟩ : Fin 512) (⟨384 * (t.val % 22) + (y 3).val, hr⟩ : Fin 8208) := funext fun a => Fin.ext (by
      match a with
      | ⟨0, _⟩ => blk_simp [index_12]; rfl
      | ⟨1, _⟩ => blk_simp [index_12]; show t.val / 22 + (y 1).val = t.val / 22; omega
      | ⟨2, _⟩ => blk_simp [index_12]; rfl
      | ⟨3, _⟩ => blk_simp [index_12]; show t.val % 22 * 384 + (y 3).val = 384 * (t.val % 22) + (y 3).val; omega)
    blk_simp
    rw [after0_12]
    refine Eq.trans ?_ (congrArg (fun z => columns 512 (by decide) (m ((c.tc : Thread nD τ).loc main_arg0)) (m ((c.tc : Thread nD τ).loc main_arg1)) (m ((c.tc : Thread nD τ).loc main_arg9)) (z 0) (z 1) (z 2) (z 3)) he).symm
    refine (congrArg _ hy).trans ?_
    by_cases h : t.val % 22 = 0
    · rw [outsAt0_A m c t h]
      frame_out
      exact block_12 m c t _ _ hb hr
    · rw [outsAt0_B m c t h]
      frame_out
      exact block_12 m c t _ _ hb hr
  · blk_simp [Pipeline.Window.cell_apply] at hj
    have hz : (j 0).val < 1 := by
      have := Nat.div_one (j 0).val
      omega
    rw [A_eq m c 12]
    blk_simp
    refine Eq.trans ?_ (if_pos hz).symm
    refine (congrFun (V_keys m c) j).trans (congrArg (m ((c.tc : Thread nD τ).loc main_arg9)) (funext fun a => Fin.ext ?_))
    match a with
    | ⟨0, _⟩ => show (j 0).val = 0; omega
    | ⟨1, _⟩ => rfl
    | ⟨2, _⟩ => rfl
    | ⟨3, _⟩ => rfl

theorem final_13 (c : Dev nD) : (dats m 0 c).arrAt 13 cfg0.N
    = fun y => columns 1024 (by decide) (m ((c.tc : Thread nD τ).loc main_arg0)) (m ((c.tc : Thread nD τ).loc main_arg1)) (m ((c.tc : Thread nD τ).loc main_arg10)) (y 0) (y 1) (y 2) (y 3) := by
  refine (dats m 0 c).arrAt_eq_of_coversWhere_of_agree 13 _ (fun β => 1 ≤ β 0) (by decide +kernel) (fun t hf y => ?_) (fun j hj => ?_)
  · have ht : t.val < 44 := t.isLt
    have hb : t.val / 22 < 2 := by omega
    have h3 := ((win0_13.blk t).view.emb y 3).isLt
    have h0 : (y 0).val < 1 := (win0_13.xinj (grid0.coords t) y 0).isLt
    have h1 : (y 1).val < 1 := (win0_13.xinj (grid0.coords t) y 1).isLt
    have h2 : (y 2).val < 512 := (win0_13.xinj (grid0.coords t) y 2).isLt
    have h4 : (y 3).val < 384 := (win0_13.xinj (grid0.coords t) y 3).isLt
    blk_simp [index_13] at h3
    have hr : 384 * (t.val % 22) + (y 3).val < 8208 := by omega
    have hy : win0_13.xinj (grid0.coords t) y = ix4 (0 : Fin 1) (0 : Fin 1) (⟨(y 2).val, h2⟩ : Fin 512) (⟨(y 3).val, h4⟩ : Fin 384) := funext fun a => Fin.ext (by
      match a with
      | ⟨0, _⟩ => show (y 0).val = 0; omega
      | ⟨1, _⟩ => show (y 1).val = 0; omega
      | ⟨2, _⟩ => rfl
      | ⟨3, _⟩ => rfl)
    have he : (win0_13.blk t).view.emb y = ix4 (1 : Fin 2) (⟨t.val / 22, hb⟩ : Fin 2) (⟨(y 2).val, h2⟩ : Fin 512) (⟨384 * (t.val % 22) + (y 3).val, hr⟩ : Fin 8208) := funext fun a => Fin.ext (by
      match a with
      | ⟨0, _⟩ => blk_simp [index_13]; rfl
      | ⟨1, _⟩ => blk_simp [index_13]; show t.val / 22 + (y 1).val = t.val / 22; omega
      | ⟨2, _⟩ => blk_simp [index_13]; rfl
      | ⟨3, _⟩ => blk_simp [index_13]; show t.val % 22 * 384 + (y 3).val = 384 * (t.val % 22) + (y 3).val; omega)
    blk_simp
    rw [after0_13]
    refine Eq.trans ?_ (congrArg (fun z => columns 1024 (by decide) (m ((c.tc : Thread nD τ).loc main_arg0)) (m ((c.tc : Thread nD τ).loc main_arg1)) (m ((c.tc : Thread nD τ).loc main_arg10)) (z 0) (z 1) (z 2) (z 3)) he).symm
    refine (congrArg _ hy).trans ?_
    by_cases h : t.val % 22 = 0
    · rw [outsAt0_A m c t h]
      frame_out
      exact block_13 m c t _ _ hb hr
    · rw [outsAt0_B m c t h]
      frame_out
      exact block_13 m c t _ _ hb hr
  · blk_simp [Pipeline.Window.cell_apply] at hj
    have hz : (j 0).val < 1 := by
      have := Nat.div_one (j 0).val
      omega
    rw [A_eq m c 13]
    blk_simp
    refine Eq.trans ?_ (if_pos hz).symm
    refine (congrFun (V_vals m c) j).trans (congrArg (m ((c.tc : Thread nD τ).loc main_arg10)) (funext fun a => Fin.ext ?_))
    match a with
    | ⟨0, _⟩ => show (j 0).val = 0; omega
    | ⟨1, _⟩ => rfl
    | ⟨2, _⟩ => rfl
    | ⟨3, _⟩ => rfl

/-- The run: each result array holds its specification, and every argument is unchanged. -/
theorem run : θ_run defs (onTc (τ := τ) (main (F := Ideal))) ⟨m, fun _ => 0, ρ⟩ (fun r => ∀ c : Dev nD,
      r.2.mem ((c.tc : Thread nD τ).loc main_v0_3) = (fun y => columns 512 (by decide) (m ((c.tc : Thread nD τ).loc main_arg0)) (m ((c.tc : Thread nD τ).loc main_arg1)) (m ((c.tc : Thread nD τ).loc main_arg9)) (y 0) (y 1) (y 2) (y 3))
      ∧ r.2.mem ((c.tc : Thread nD τ).loc main_v0_4) = (fun y => columns 1024 (by decide) (m ((c.tc : Thread nD τ).loc main_arg0)) (m ((c.tc : Thread nD τ).loc main_arg1)) (m ((c.tc : Thread nD τ).loc main_arg10)) (y 0) (y 1) (y 2) (y 3))
      ∧ r.2.mem ((c.tc : Thread nD τ).loc main_v0_5) = (fun y => forgets (m ((c.tc : Thread nD τ).loc main_arg0)) (m ((c.tc : Thread nD τ).loc main_arg3)) (m ((c.tc : Thread nD τ).loc main_arg5)) (y 0) (y 1) (y 2))
      ∧ r.2.mem ((c.tc : Thread nD τ).loc main_v0_6) = (fun y => parts (n := 256) 0 (by decide) (m ((c.tc : Thread nD τ).loc main_arg0)) (m ((c.tc : Thread nD τ).loc main_arg2)) (y 0) (y 1) (y 2))
      ∧ r.2.mem ((c.tc : Thread nD τ).loc main_v0_7) = (fun y => parts (n := 256) 256 (by decide) (m ((c.tc : Thread nD τ).loc main_arg0)) (m ((c.tc : Thread nD τ).loc main_arg2)) (y 0) (y 1) (y 2))
      ∧ r.2.mem ((c.tc : Thread nD τ).loc main_v0_8) = (fun y => parts (n := 512) 512 (by decide) (m ((c.tc : Thread nD τ).loc main_arg0)) (m ((c.tc : Thread nD τ).loc main_arg2)) (y 0) (y 1) (y 2))
      ∧ r.2.mem ((c.tc : Thread nD τ).loc main_v0_9) = (fun y => decays (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h.1 c).1 12).trans (final_12 m c),
     ((h.1 c).1 13).trans (final_13 m c),
     ((h.1 c).1 14).trans (final_14 m c),
     ((h.1 c).1 15).trans (final_15 m c),
     ((h.1 c).1 16).trans (final_16 m c),
     ((h.1 c).1 17).trans (final_17 m c),
     ((h.1 c).1 18).trans (final_18 m c), h.2 c⟩) (θ_run_and (run_main m ρ) (unchanged m ρ))

end kernel

section reference

open Cert.Reference4Ideal Cert.Reference4Ideal.Gen

/-- The products of the real rows and the second layer's columns for queries, keys and values. -/
def qkv (x : FVec Ideal S2x8448x1024 .f32) (w : FVec Ideal S2x1024x1536 .bf16) : FVec Ideal S2x8208x1536 .f32 :=
  Host.dotGeneral dot_S2x8208x1024_S1024x1536_S2x8208x1536_2_0_01_1_n_n none (extractStridedSlice S2x8208x1024 ![0, 0, 0] x slices_S2x8448x1024_S2x8208x1024_0_0_0)
    (extf .f32 (shapeCast _ (extractStridedSlice S1x1024x1536 ![1, 0, 0] w slices_S2x1024x1536_S1x1024x1536_1_0_0) shapeCasts_S1x1024x1536_S1024x1536) bitsLt_bf16_f32)

/-- The same for the second branch. -/
def gla (x : FVec Ideal S2x8448x1024 .f32) (w : FVec Ideal S2x1024x1024 .bf16) : FVec Ideal S2x8208x1024 .f32 :=
  Host.dotGeneral dot_S2x8208x1024_S1024x1024_S2x8208x1024_2_0_01_1_n_n none (extractStridedSlice S2x8208x1024 ![0, 0, 0] x slices_S2x8448x1024_S2x8208x1024_0_0_0)
    (extf .f32 (shapeCast _ (extractStridedSlice S1x1024x1024 ![1, 0, 0] w slices_S2x1024x1024_S1x1024x1024_1_0_0) shapeCasts_S1x1024x1024_S1024x1024) bitsLt_bf16_f32)

/-- The forget gates' columns and the low rank columns, with their biases. -/
def small (x : FVec Ideal S2x8448x1024 .f32) (w : FVec Ideal S2x1024x128 .bf16) (b : FVec Ideal S2x1x128 .f32) : FVec Ideal S2x8208x128 .f32 :=
  addf (Host.dotGeneral dot_S2x8208x1024_S1024x128_S2x8208x128_2_0_01_1_n_n none (extractStridedSlice S2x8208x1024 ![0, 0, 0] x slices_S2x8448x1024_S2x8208x1024_0_0_0)
      (extf .f32 (shapeCast _ (extractStridedSlice S1x1024x128 ![1, 0, 0] w slices_S2x1024x128_S1x1024x128_1_0_0) shapeCasts_S1x1024x128_S1024x128) bitsLt_bf16_f32))
    (broadcastInDim S2x8208x128 ![0, 1, 2] bcast_S1x1x128_S2x8208x128_0_1_2 (broadcastInDim S1x1x128 ![1, 2] bcast_S1x128_S1x1x128_1_2
      (shapeCast _ (extractStridedSlice S1x1x128 ![1, 0, 0] b slices_S2x1x128_S1x1x128_1_0_0) shapeCasts_S1x1x128_S1x128)))

/-- The second branch's gates before the logarithm. -/
def wide (s : FVec Ideal S2x8208x128 .f32) (w : FVec Ideal S2x128x256 .bf16) (b : FVec Ideal S2x1x256 .f32) : FVec Ideal S2x8208x256 .f32 :=
  addf (Host.dotGeneral dot_S2x8208x128_S128x256_S2x8208x256_2_0_01_1_n_n none s
      (extf .f32 (shapeCast _ (extractStridedSlice S1x128x256 ![1, 0, 0] w slices_S2x128x256_S1x128x256_1_0_0) shapeCasts_S1x128x256_S128x256) bitsLt_bf16_f32))
    (broadcastInDim S2x8208x256 ![0, 1, 2] bcast_S1x1x256_S2x8208x256_0_1_2 (broadcastInDim S1x1x256 ![1, 2] bcast_S1x256_S1x1x256_1_2
      (shapeCast _ (extractStridedSlice S1x1x256 ![1, 0, 0] b slices_S2x1x256_S1x1x256_1_0_0) shapeCasts_S1x1x256_S1x256)))

/-- The softplus, as the reference computes it. -/
def softplus {s : Shape} (h : S_.BroadcastsInDim s ![]) (x : FVec Ideal s .f32) : FVec Ideal s .f32 :=
  select (cmpf .une (subf x (broadcastInDim s ![] h (constant S_ .f32 0x00000000#32))) (subf x (broadcastInDim s ![] h (constant S_ .f32 0x00000000#32))))
    (addf x (broadcastInDim s ![] h (constant S_ .f32 0x00000000#32)))
    (addf (maximumf x (broadcastInDim s ![] h (constant S_ .f32 0x00000000#32)))
      (Host.log1p (Host.exp (Host.negf (Host.absf (subf x (broadcastInDim s ![] h (constant S_ .f32 0x00000000#32))))))))

/-- A layer's columns of keys behind the first layer's. -/
def stacked (off : Fin 3 → ℕ) (hs : S2x8208x1536.Slices off S2x8208x512) (old : FVec Ideal S2x2x512x8208 .f32) (r : FVec Ideal S2x8208x1536 .f32) : FVec Ideal S2x2x512x8208 .f32 :=
  concatenate S2x2x512x8208 0 [⟨S1x2x512x8208, (broadcastInDim S1x2x512x8208 ![1, 2, 3] bcast_S2x512x8208_S1x2x512x8208_1_2_3 (shapeCast _ (extractStridedSlice S1x2x512x8208 ![0, 0, 0, 0] old slices_S2x2x512x8208_S1x2x512x8208_0_0_0_0) shapeCasts_S1x2x512x8208_S2x512x8208))⟩,
    ⟨S1x2x512x8208, (broadcastInDim S1x2x512x8208 ![1, 2, 3] bcast_S2x512x8208_S1x2x512x8208_1_2_3 (transpose S2x512x8208 [0, 2, 1] (extractStridedSlice S2x8208x512 off r hs) transposes_S2x8208x512_S2x512x8208_0_2_1))⟩] concatenates_S1x2x512x8208_S1x2x512x8208_S2x2x512x8208_d0

/-- The forget gates, with zeros below the real rows. -/
def forget (s : FVec Ideal S2x8208x128 .f32) : FVec Ideal S2x8448x8 .f32 :=
  pad S2x8448x8 ![0, 0, 0] ![0, 240, 0] ![0, 0, 0] (Host.negf (softplus bcast_S_S2x8208x8 (Host.negf (extractStridedSlice S2x8208x8 ![0, 0, 0] s slices_S2x8208x128_S2x8208x8_0_0_0))))
    (sitofp .f32 (constantI S_ 32 0#32)) pads_S2x8208x8_S2x8448x8_000_02400_000 h_S_

/-- The second branch's gates, with zeros below the real rows. -/
def decay (z : FVec Ideal S2x8208x256 .f32) : FVec Ideal S2x8448x256 .f32 :=
  pad S2x8448x256 ![0, 0, 0] ![0, 240, 0] ![0, 0, 0] (Host.divf (Host.negf (softplus bcast_S_S2x8208x256 (Host.negf z))) (broadcastInDim S2x8208x256 ![] bcast_S_S2x8208x256 (constant S_ .f32 0x41800000#32)))
    (sitofp .f32 (constantI S_ 32 0#32)) pads_S2x8208x256_S2x8448x256_000_02400_000 h_S_

/-- A part of the second branch's columns, with zeros below the real rows. -/
def part (off : Fin 3 → ℕ) (hs : S2x8208x1024.Slices off S2x8208x256) (r : FVec Ideal S2x8208x1024 .f32) : FVec Ideal S2x8448x256 .f32 :=
  pad S2x8448x256 ![0, 0, 0] ![0, 240, 0] ![0, 0, 0] (extractStridedSlice S2x8208x256 off r hs)
    (sitofp .f32 (constantI S_ 32 0#32)) pads_S2x8208x256_S2x8448x256_000_02400_000 h_S_

/-- Its values, rounded to bfloat16. -/
def values (r : FVec Ideal S2x8208x1024 .f32) : FVec Ideal S2x8448x512 .bf16 :=
  pad S2x8448x512 ![0, 0, 0] ![0, 240, 0] ![0, 0, 0] (truncf .bf16 (extractStridedSlice S2x8208x512 ![0, 0, 512] r slices_S2x8208x1024_S2x8208x512_0_0_512) bitsLt_bf16_f32)
    (sitofp .bf16 (constantI S_ 32 0#32)) pads_S2x8208x512_S2x8448x512_000_02400_000 h_S_

theorem qkv_apply (x : FVec Ideal S2x8448x1024 .f32) (w : FVec Ideal S2x1024x1536 .bf16) (b : Fin 2) (t : Fin 8208) (j : Fin 1536) :
    qkv x w (ix3 b t j) = times (fun k => x (ix3 b (⟨t.val, by omega⟩ : Fin 8448) k)) (fun k f => w (ix3 1 k f)) j := by
  pointwise [qkv]
  rfl

theorem gla_apply (x : FVec Ideal S2x8448x1024 .f32) (w : FVec Ideal S2x1024x1024 .bf16) (b : Fin 2) (t : Fin 8208) (j : Fin 1024) :
    gla x w (ix3 b t j) = times (fun k => x (ix3 b (⟨t.val, by omega⟩ : Fin 8448) k)) (fun k f => w (ix3 1 k f)) j := by
  pointwise [gla]
  rfl

theorem small_at (x : FVec Ideal S2x8448x1024 .f32) (w : FVec Ideal S2x1024x128 .bf16) (v : FVec Ideal S2x1x128 .f32) (b : Fin 2) (t : Fin 8208) (j : Fin 128) :
    small x w v (ix3 b t j) = times (fun k => x (ix3 b (⟨t.val, by omega⟩ : Fin 8448) k)) (fun k f => w (ix3 1 k f)) j + v (ix3 1 0 j) := by
  pointwise [small]
  rfl

theorem wide_apply (s : FVec Ideal S2x8208x128 .f32) (w : FVec Ideal S2x128x256 .bf16) (v : FVec Ideal S2x1x256 .f32) (b : Fin 2) (t : Fin 8208) (j : Fin 256) :
    wide s w v (ix3 b t j) = times (fun k => s (ix3 b t k)) (fun k f => w (ix3 1 k f)) j + v (ix3 1 0 j) := by
  pointwise [wide]
  rfl

theorem softplus_neg {s : Shape} (h : S_.BroadcastsInDim s ![]) (x : FVec Ideal s .f32) (i : s.Idx) : -softplus h (Host.negf x) i = gate (x i) := by
  refine Eq.trans ?_ (neg_softplus_neg (x i))
  pointwise [softplus]
  rw [if_neg (by simp)]
  rfl

theorem keys_at (old : FVec Ideal S2x2x512x8208 .f32) (r : FVec Ideal S2x8208x1536 .f32) (l b : Fin 2) (f : Fin 512) (t : Fin 8208) :
    stacked ![0, 0, 512] slices_S2x8208x1536_S2x8208x512_0_0_512 old r (ix4 l b f t) = if l.val < 1 then old (ix4 0 b f t) else r (ix3 b t ⟨512 + f.val, by omega⟩) := by
  pointwise [stacked]
  rfl

theorem vals_at (old : FVec Ideal S2x2x512x8208 .f32) (r : FVec Ideal S2x8208x1536 .f32) (l b : Fin 2) (f : Fin 512) (t : Fin 8208) :
    stacked ![0, 0, 1024] slices_S2x8208x1536_S2x8208x512_0_0_1024 old r (ix4 l b f t) = if l.val < 1 then old (ix4 0 b f t) else r (ix3 b t ⟨1024 + f.val, by omega⟩) := by
  pointwise [stacked]
  rfl

theorem pad_zero (φ : FTy) : (FloatOps.sitofp φ 0#32 : Ideal φ) = (0 : EReal) := by
  show (((0#32 : BitVec 32).toInt : ℝ) : EReal) = 0
  simp

theorem forget_at (s : FVec Ideal S2x8208x128 .f32) (b : Fin 2) (t : Fin 8448) (j : Fin 8) :
    forget s (ix3 b t j) = if h : t.val < 8208 then gate (s (ix3 b ⟨t.val, h⟩ ⟨j.val, by omega⟩)) else 0 := by
  pointwise [forget]
  simp only [softplus_neg, pad_zero]
  pointwise []

theorem decay_at (z : FVec Ideal S2x8208x256 .f32) (b : Fin 2) (t : Fin 8448) (j : Fin 256) :
    decay z (ix3 b t j) = if h : t.val < 8208 then Ideal.div (gate (z (ix3 b ⟨t.val, h⟩ j))) (Ideal.ofBits .f32 1098907648#32) else 0 := by
  pointwise [decay]
  simp only [softplus_neg, pad_zero]

theorem first_at (r : FVec Ideal S2x8208x1024 .f32) (b : Fin 2) (t : Fin 8448) (j : Fin 256) :
    part ![0, 0, 0] slices_S2x8208x1024_S2x8208x256_0_0_0 r (ix3 b t j) = if h : t.val < 8208 then r (ix3 b ⟨t.val, h⟩ ⟨j.val, by omega⟩) else 0 := by
  pointwise [part]
  simp only [pad_zero]

theorem second_at (r : FVec Ideal S2x8208x1024 .f32) (b : Fin 2) (t : Fin 8448) (j : Fin 256) :
    part ![0, 0, 256] slices_S2x8208x1024_S2x8208x256_0_0_256 r (ix3 b t j) = if h : t.val < 8208 then r (ix3 b ⟨t.val, h⟩ ⟨256 + j.val, by omega⟩) else 0 := by
  pointwise [part]
  simp only [pad_zero]

theorem values_at (r : FVec Ideal S2x8208x1024 .f32) (b : Fin 2) (t : Fin 8448) (j : Fin 512) :
    values r (ix3 b t j) = if h : t.val < 8208 then r (ix3 b ⟨t.val, h⟩ ⟨512 + j.val, by omega⟩) else 0 := by
  pointwise [values]
  simp only [pad_zero]

theorem keys_spec (x : FVec Ideal S2x8448x1024 .f32) (w : FVec Ideal S2x1024x1536 .bf16) (old : FVec Ideal S2x2x512x8208 .f32) (l b : Fin 2) (f : Fin 512) (t : Fin 8208) :
    stacked ![0, 0, 512] slices_S2x8208x1536_S2x8208x512_0_0_512 old (qkv x w) (ix4 l b f t) = columns 512 (by decide) x w old l b f t := by
  rw [keys_at, qkv_apply]
  rfl

theorem keys_agree (x : FVec Ideal S2x8448x1024 .f32) (w : FVec Ideal S2x1024x1536 .bf16) (old : FVec Ideal S2x2x512x8208 .f32) :
    stacked ![0, 0, 512] slices_S2x8208x1536_S2x8208x512_0_0_512 old (qkv x w) = fun y => columns 512 (by decide) x w old (y 0) (y 1) (y 2) (y 3) := by
  funext y
  exact (congrArg _ (eq_ix4 y)).trans (keys_spec x w old (y 0) (y 1) (y 2) (y 3))

theorem vals_spec (x : FVec Ideal S2x8448x1024 .f32) (w : FVec Ideal S2x1024x1536 .bf16) (old : FVec Ideal S2x2x512x8208 .f32) (l b : Fin 2) (f : Fin 512) (t : Fin 8208) :
    stacked ![0, 0, 1024] slices_S2x8208x1536_S2x8208x512_0_0_1024 old (qkv x w) (ix4 l b f t) = columns 1024 (by decide) x w old l b f t := by
  rw [vals_at, qkv_apply]
  rfl

theorem vals_agree (x : FVec Ideal S2x8448x1024 .f32) (w : FVec Ideal S2x1024x1536 .bf16) (old : FVec Ideal S2x2x512x8208 .f32) :
    stacked ![0, 0, 1024] slices_S2x8208x1536_S2x8208x512_0_0_1024 old (qkv x w) = fun y => columns 1024 (by decide) x w old (y 0) (y 1) (y 2) (y 3) := by
  funext y
  exact (congrArg _ (eq_ix4 y)).trans (vals_spec x w old (y 0) (y 1) (y 2) (y 3))

theorem forget_spec (x : FVec Ideal S2x8448x1024 .f32) (w : FVec Ideal S2x1024x128 .bf16) (v : FVec Ideal S2x1x128 .f32) (b : Fin 2) (t : Fin 8448) (j : Fin 8) :
    forget (small x w v) (ix3 b t j) = forgets x w v b t j := by
  rw [forget_at]
  simp only [small_at]
  rfl

theorem forget_agree (x : FVec Ideal S2x8448x1024 .f32) (w : FVec Ideal S2x1024x128 .bf16) (v : FVec Ideal S2x1x128 .f32) :
    forget (small x w v) = fun y => forgets x w v (y 0) (y 1) (y 2) := by
  funext y
  exact (congrArg _ (eq_ix3 y)).trans (forget_spec x w v (y 0) (y 1) (y 2))

theorem decay_spec (x : FVec Ideal S2x8448x1024 .f32) (w : FVec Ideal S2x1024x128 .bf16) (v : FVec Ideal S2x1x128 .f32) (w2 : FVec Ideal S2x128x256 .bf16) (v2 : FVec Ideal S2x1x256 .f32) (b : Fin 2) (t : Fin 8448) (j : Fin 256) :
    decay (wide (small x w v) w2 v2) (ix3 b t j) = decays x w v w2 v2 b t j := by
  rw [decay_at]
  simp only [wide_apply, small_at]
  rfl

theorem decay_agree (x : FVec Ideal S2x8448x1024 .f32) (w : FVec Ideal S2x1024x128 .bf16) (v : FVec Ideal S2x1x128 .f32) (w2 : FVec Ideal S2x128x256 .bf16) (v2 : FVec Ideal S2x1x256 .f32) :
    decay (wide (small x w v) w2 v2) = fun y => decays x w v w2 v2 (y 0) (y 1) (y 2) := by
  funext y
  exact (congrArg _ (eq_ix3 y)).trans (decay_spec x w v w2 v2 (y 0) (y 1) (y 2))

theorem first_spec (x : FVec Ideal S2x8448x1024 .f32) (w : FVec Ideal S2x1024x1024 .bf16) (b : Fin 2) (t : Fin 8448) (j : Fin 256) :
    part ![0, 0, 0] slices_S2x8208x1024_S2x8208x256_0_0_0 (gla x w) (ix3 b t j) = parts (n := 256) 0 (by decide) x w b t j := by
  rw [first_at, parts]
  simp only [gla_apply, Nat.zero_add]
  rfl

theorem first_agree (x : FVec Ideal S2x8448x1024 .f32) (w : FVec Ideal S2x1024x1024 .bf16) :
    part ![0, 0, 0] slices_S2x8208x1024_S2x8208x256_0_0_0 (gla x w) = fun y => parts (n := 256) 0 (by decide) x w (y 0) (y 1) (y 2) := by
  funext y
  exact (congrArg _ (eq_ix3 y)).trans (first_spec x w (y 0) (y 1) (y 2))

theorem second_spec (x : FVec Ideal S2x8448x1024 .f32) (w : FVec Ideal S2x1024x1024 .bf16) (b : Fin 2) (t : Fin 8448) (j : Fin 256) :
    part ![0, 0, 256] slices_S2x8208x1024_S2x8208x256_0_0_256 (gla x w) (ix3 b t j) = parts (n := 256) 256 (by decide) x w b t j := by
  rw [second_at]
  simp only [gla_apply]
  rfl

theorem second_agree (x : FVec Ideal S2x8448x1024 .f32) (w : FVec Ideal S2x1024x1024 .bf16) :
    part ![0, 0, 256] slices_S2x8208x1024_S2x8208x256_0_0_256 (gla x w) = fun y => parts (n := 256) 256 (by decide) x w (y 0) (y 1) (y 2) := by
  funext y
  exact (congrArg _ (eq_ix3 y)).trans (second_spec x w (y 0) (y 1) (y 2))

theorem values_spec (x : FVec Ideal S2x8448x1024 .f32) (w : FVec Ideal S2x1024x1024 .bf16) (b : Fin 2) (t : Fin 8448) (j : Fin 512) :
    values (gla x w) (ix3 b t j) = parts (n := 512) 512 (by decide) x w b t j := by
  rw [values_at]
  simp only [gla_apply]
  rfl

theorem values_agree (x : FVec Ideal S2x8448x1024 .f32) (w : FVec Ideal S2x1024x1024 .bf16) :
    values (gla x w) = fun y => parts (n := 512) 512 (by decide) x w (y 0) (y 1) (y 2) := by
  funext y
  exact (congrArg _ (eq_ix3 y)).trans (values_spec x w (y 0) (y 1) (y 2))

end reference

theorem kernel_frame : Cert.quiescent_Kernel4 := fun m ρ _ => Cert.Kernel4.Gen.frame m ρ

theorem ideal_frame : Cert.quiescent_Kernel4Ideal := fun m ρ _ => Cert.Kernel4Ideal.Gen.frame m ρ

theorem reference_frame : Cert.quiescent_Reference4Ideal := fun m ρ _ =>
  (θ_run (Cert.Reference4Ideal.defs (F := Ideal)) _ _).mono
    (fun r h => ⟨fun c => (h c).2.2.2.2.2.2.2, sem_eq_zero_of_no_sems (by decide) r.2⟩) (Cert.Reference4Ideal.Value.run (F := Ideal) m ρ)

/-- Both runs end with the same seven arrays. -/
theorem algebraic : Cert.algebraic_Kernel4Ideal_Reference4Ideal := by
  intro m ρ m' ρ' hpre hagree
  refine ⟨_, _, _, _, _, _, _, run m ρ,
    (θ_run (Cert.Reference4Ideal.defs (F := Ideal)) _ _).mono (fun _ h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference4Ideal.Value.run (F := Ideal) m' ρ')⟩
  · refine (keys_agree _ _ _).trans ?_
    rw [(hagree c).1, (hagree c).2.1, (hagree c).2.2.2.2.2.2.2.2.2.1]
    rfl
  · refine (vals_agree _ _ _).trans ?_
    rw [(hagree c).1, (hagree c).2.1, (hagree c).2.2.2.2.2.2.2.2.2.2]
    rfl
  · refine (forget_agree _ _ _).trans ?_
    rw [(hagree c).1, (hagree c).2.2.2.1, (hagree c).2.2.2.2.2.1]
    rfl
  · refine (first_agree _ _).trans ?_
    rw [(hagree c).1, (hagree c).2.2.1]
    rfl
  · refine (second_agree _ _).trans ?_
    rw [(hagree c).1, (hagree c).2.2.1]
    rfl
  · refine (values_agree _ _).trans ?_
    rw [(hagree c).1, (hagree c).2.2.1]
    rfl
  · refine (decay_agree _ _ _ _ _).trans ?_
    rw [(hagree c).1, (hagree c).2.2.2.1, (hagree c).2.2.2.2.1, (hagree c).2.2.2.2.2.1, (hagree c).2.2.2.2.2.2.1]
    rfl

end Cert.Proof.Inproj

end
-- ==== Proof.Sample.lean ====
/-
  The sample group's input projection: the kernel's block and the reference's arrays are the row functions of the prompt's.
-/
module

public import proofs.«01_k».proof.Defs
public import proofs.«01_k».proof.Proof.Layer
public import proofs.«01_k».proof.Proof.Inproj
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.Value
public import Idealize.ShloMosaic.Lib.Pointwise
public import Idealize.ShloMosaic.Lib.IdealHost
public import Idealize.ShloMosaic.Lib.Quiescent
public import Idealize.ShloMosaic.Lib.Claim
public import Idealize.ShloMosaic.Lib.Pipeline.ValueKit.Geometry

@[expose] public section

set_option maxRecDepth 16384

noncomputable section

namespace Cert.Proof.Sample

open Idealize.ShloMosaic Idealize.ShloMosaic.TcCoe Idealize.ShloMosaic.Tactic Idealize.SL.Sem
open Idealize.ShloMosaic.Pointwise
open Cert.Proof.Layer Cert.Proof.Inproj
open scoped BigOperators

/-- The products of a row and the second layer's columns. -/
def rowOf {n : ℕ} (x : (⟨2, ![32, 1024]⟩ : Shape).Idx → EReal) (w : (⟨3, ![2, 1024, n]⟩ : Shape).Idx → EReal) (i : Fin 32) (j : Fin n) : EReal :=
  times (fun k => x (ix2 i k)) (fun k f => w (ix3 1 k f)) j

/-- The same for the forget gates and the low rank, with their biases. -/
def lowOf (x : (⟨2, ![32, 1024]⟩ : Shape).Idx → EReal) (w : (⟨3, ![2, 1024, 128]⟩ : Shape).Idx → EReal) (v : (⟨3, ![2, 1, 128]⟩ : Shape).Idx → EReal) (i : Fin 32) (j : Fin 128) : EReal :=
  rowOf x w i j + v (ix3 1 0 j)

/-- The second branch's gates. -/
def decayOf (x : (⟨2, ![32, 1024]⟩ : Shape).Idx → EReal) (w : (⟨3, ![2, 1024, 128]⟩ : Shape).Idx → EReal) (v : (⟨3, ![2, 1, 128]⟩ : Shape).Idx → EReal)
    (w2 : (⟨3, ![2, 128, 256]⟩ : Shape).Idx → EReal) (v2 : (⟨3, ![2, 1, 256]⟩ : Shape).Idx → EReal) (i : Fin 32) (j : Fin 256) : EReal :=
  Ideal.div (gate (times (fun k => lowOf x w v i k) (fun k f => w2 (ix3 1 k f)) j + v2 (ix3 1 0 j))) (Ideal.ofBits .f32 1098907648#32)

section kernel

open Cert.Kernel5Ideal Cert.Kernel5Ideal.Gen

theorem qkv_pay (x : Vec Ideal S32x1024 .f32) (w : Vec Ideal S1x1024x1536 .bf16) (i : Fin 32) (j : Fin 1536) :
    k0_pay3 x w (ix2 i j) = times (fun k => x (ix2 i k)) (fun k f => w (ix3 0 k f)) j := by
  pointwise [k0_pay3, k0_pay2]
  rfl

theorem gla_pay (x : Vec Ideal S32x1024 .f32) (w : Vec Ideal S1x1024x1024 .bf16) (i : Fin 32) (j : Fin 1024) :
    k0_pay4 x w (ix2 i j) = times (fun k => x (ix2 i k)) (fun k f => w (ix3 0 k f)) j := by
  pointwise [k0_pay4, k0_pay2]
  rfl

theorem low_pay (x : Vec Ideal S32x1024 .f32) (w : Vec Ideal S1x1024x128 .bf16) (b : Vec Ideal S1x1x128 .f32) (i : Fin 32) (j : Fin 128) :
    k0_pay5 x w b (ix2 i j) = times (fun k => x (ix2 i k)) (fun k f => w (ix3 0 k f)) j + b (ix3 0 0 j) := by
  pointwise [k0_pay5, k0_pay2]
  rfl

theorem gate_pay (x : Vec Ideal S32x1024 .f32) (w : Vec Ideal S1x1024x128 .bf16) (b : Vec Ideal S1x1x128 .f32) (i : Fin 32) (j : Fin 128) :
    k0_pay6 x w b (ix2 i j) = gate (k0_pay5 x w b (ix2 i j)) := by
  pointwise [k0_pay6]
  simp only [zero_sub]
  rfl

theorem decay_pay (x : Vec Ideal S32x1024 .f32) (w : Vec Ideal S1x1024x128 .bf16) (b : Vec Ideal S1x1x128 .f32) (w2 : Vec Ideal S1x128x256 .bf16) (b2 : Vec Ideal S1x1x256 .f32) (i : Fin 32) (j : Fin 256) :
    k0_pay1 (k0_pay7 x w b) w2 b2 (ix2 i j) = Ideal.div (gate (times (fun k => k0_pay5 x w b (ix2 i k)) (fun k f => w2 (ix3 0 k f)) j + b2 (ix3 0 0 j))) (Ideal.ofBits .f32 1098907648#32) := by
  pointwise [k0_pay1, k0_pay7]
  simp only [zero_sub, sixteenth]
  rfl

variable (m : (ℓ : Loc nD τ sig) → Buf (Elt Ideal) ℓ) (ρ : Dev nD → PrngReg)

theorem index_0 : ∀ t : Fin cfg0.N, win0_0.index t = ![0, 0] := (by decide +kernel : ∀ t : Fin grid0.N, _)
theorem index_1 : ∀ t : Fin cfg0.N, win0_1.index t = ![1, 0, 0] := (by decide +kernel : ∀ t : Fin grid0.N, _)
theorem index_2 : ∀ t : Fin cfg0.N, win0_2.index t = ![1, 0, 0] := (by decide +kernel : ∀ t : Fin grid0.N, _)
theorem index_3 : ∀ t : Fin cfg0.N, win0_3.index t = ![1, 0, 0] := (by decide +kernel : ∀ t : Fin grid0.N, _)
theorem index_4 : ∀ t : Fin cfg0.N, win0_4.index t = ![1, 0, 0] := (by decide +kernel : ∀ t : Fin grid0.N, _)
theorem index_5 : ∀ t : Fin cfg0.N, win0_5.index t = ![1, 0, 0] := (by decide +kernel : ∀ t : Fin grid0.N, _)
theorem index_6 : ∀ t : Fin cfg0.N, win0_6.index t = ![1, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)

theorem iblk_0 (c : Dev nD) (t : Fin cfg0.N) (i : Fin 32) (k : Fin 1024) :
    iblk m c 0 t (ix2 i k) = m ((c.tc : Thread nD τ).loc main_arg0) (ix2 i k) := by
  blk_simp [iblk]
  refine (congrFun (V_main_arg0 m c) _).trans (congrArg (m ((c.tc : Thread nD τ).loc main_arg0)) (funext fun a => Fin.ext ?_))
  match a with
  | ⟨0, _⟩ => blk_simp [index_0]
  | ⟨1, _⟩ => blk_simp [index_0]

theorem iblk_1 (c : Dev nD) (t : Fin cfg0.N) (k : Fin 1024) (f : Fin 1536) :
    iblk m c 1 t (ix3 0 k f) = m ((c.tc : Thread nD τ).loc main_arg1) (ix3 1 k f) := by
  blk_simp [iblk]
  refine (congrFun (V_main_arg1 m c) _).trans (congrArg (m ((c.tc : Thread nD τ).loc main_arg1)) (funext fun a => Fin.ext ?_))
  match a with
  | ⟨0, _⟩ => blk_simp [index_1]; rfl
  | ⟨1, _⟩ => blk_simp [index_1]
  | ⟨2, _⟩ => blk_simp [index_1]

theorem iblk_2 (c : Dev nD) (t : Fin cfg0.N) (k : Fin 1024) (f : Fin 1024) :
    iblk m c 2 t (ix3 0 k f) = m ((c.tc : Thread nD τ).loc main_arg2) (ix3 1 k f) := by
  blk_simp [iblk]
  refine (congrFun (V_main_arg2 m c) _).trans (congrArg (m ((c.tc : Thread nD τ).loc main_arg2)) (funext fun a => Fin.ext ?_))
  match a with
  | ⟨0, _⟩ => blk_simp [index_2]; rfl
  | ⟨1, _⟩ => blk_simp [index_2]
  | ⟨2, _⟩ => blk_simp [index_2]

theorem iblk_3 (c : Dev nD) (t : Fin cfg0.N) (k : Fin 1024) (f : Fin 128) :
    iblk m c 3 t (ix3 0 k f) = m ((c.tc : Thread nD τ).loc main_arg3) (ix3 1 k f) := by
  blk_simp [iblk]
  refine (congrFun (V_main_arg3 m c) _).trans (congrArg (m ((c.tc : Thread nD τ).loc main_arg3)) (funext fun a => Fin.ext ?_))
  match a with
  | ⟨0, _⟩ => blk_simp [index_3]; rfl
  | ⟨1, _⟩ => blk_simp [index_3]
  | ⟨2, _⟩ => blk_simp [index_3]

theorem iblk_4 (c : Dev nD) (t : Fin cfg0.N) (k : Fin 128) (f : Fin 256) :
    iblk m c 4 t (ix3 0 k f) = m ((c.tc : Thread nD τ).loc main_arg4) (ix3 1 k f) := by
  blk_simp [iblk]
  refine (congrFun (V_main_arg4 m c) _).trans (congrArg (m ((c.tc : Thread nD τ).loc main_arg4)) (funext fun a => Fin.ext ?_))
  match a with
  | ⟨0, _⟩ => blk_simp [index_4]; rfl
  | ⟨1, _⟩ => blk_simp [index_4]
  | ⟨2, _⟩ => blk_simp [index_4]

theorem iblk_5 (c : Dev nD) (t : Fin cfg0.N) (f : Fin 128) :
    iblk m c 5 t (ix3 0 0 f) = m ((c.tc : Thread nD τ).loc main_arg5) (ix3 1 0 f) := by
  blk_simp [iblk]
  refine (congrFun (V_main_arg5 m c) _).trans (congrArg (m ((c.tc : Thread nD τ).loc main_arg5)) (funext fun a => Fin.ext ?_))
  match a with
  | ⟨0, _⟩ => blk_simp [index_5]; rfl
  | ⟨1, _⟩ => blk_simp [index_5]
  | ⟨2, _⟩ => blk_simp [index_5]

theorem iblk_6 (c : Dev nD) (t : Fin cfg0.N) (f : Fin 256) :
    iblk m c 6 t (ix3 0 0 f) = m ((c.tc : Thread nD τ).loc main_arg6) (ix3 1 0 f) := by
  blk_simp [iblk]
  refine (congrFun (V_main_arg6 m c) _).trans (congrArg (m ((c.tc : Thread nD τ).loc main_arg6)) (funext fun a => Fin.ext ?_))
  match a with
  | ⟨0, _⟩ => blk_simp [index_6]; rfl
  | ⟨1, _⟩ => blk_simp [index_6]
  | ⟨2, _⟩ => blk_simp [index_6]

theorem low_block (c : Dev nD) (t : Fin cfg0.N) (i : Fin 32) (j : Fin 128) :
    k0_pay5 (iblk m c 0 t) (iblk m c 3 t) (iblk m c 5 t) (ix2 i j) = lowOf (m ((c.tc : Thread nD τ).loc main_arg0)) (m ((c.tc : Thread nD τ).loc main_arg3)) (m ((c.tc : Thread nD τ).loc main_arg5)) i j := by
  rw [low_pay]
  simp only [iblk_0, iblk_3, iblk_5]
  rfl

theorem block_7 (c : Dev nD) (t : Fin cfg0.N) (i : Fin 32) (j : Fin 1536) :
    k0_pay3 (iblk m c 0 t) (iblk m c 1 t) (ix2 i j) = rowOf (m ((c.tc : Thread nD τ).loc main_arg0)) (m ((c.tc : Thread nD τ).loc main_arg1)) i j := by
  rw [qkv_pay]
  simp only [iblk_0, iblk_1]
  rfl

theorem block_8 (c : Dev nD) (t : Fin cfg0.N) (i : Fin 32) (j : Fin 1024) :
    k0_pay4 (iblk m c 0 t) (iblk m c 2 t) (ix2 i j) = rowOf (m ((c.tc : Thread nD τ).loc main_arg0)) (m ((c.tc : Thread nD τ).loc main_arg2)) i j := by
  rw [gla_pay]
  simp only [iblk_0, iblk_2]
  rfl

theorem block_9 (c : Dev nD) (t : Fin cfg0.N) (i : Fin 32) (j : Fin 128) :
    k0_pay6 (iblk m c 0 t) (iblk m c 3 t) (iblk m c 5 t) (ix2 i j) = gate (lowOf (m ((c.tc : Thread nD τ).loc main_arg0)) (m ((c.tc : Thread nD τ).loc main_arg3)) (m ((c.tc : Thread nD τ).loc main_arg5)) i j) := by
  rw [gate_pay, low_block]

theorem block_10 (c : Dev nD) (t : Fin cfg0.N) (i : Fin 32) (j : Fin 256) :
    k0_pay1 (k0_pay7 (iblk m c 0 t) (iblk m c 3 t) (iblk m c 5 t)) (iblk m c 4 t) (iblk m c 6 t) (ix2 i j) = decayOf (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) i j := by
  rw [decay_pay]
  simp only [low_block, iblk_4, iblk_6]
  rfl

theorem final_7 (c : Dev nD) : (dats m 0 c).arrAt 7 cfg0.N = fun y => rowOf (m ((c.tc : Thread nD τ).loc main_arg0)) (m ((c.tc : Thread nD τ).loc main_arg1)) (y 0) (y 1) := by
  refine (dats m 0 c).arrAt_eq_of_covers 7 _ (by decide +kernel) fun t hf y => ?_
  have he : (win0_7.blk t).view.emb y = ix2 (y 0) (y 1) := funext fun a => Fin.ext (by
    match a with
    | ⟨0, _⟩ => blk_simp [index_7]; rfl
    | ⟨1, _⟩ => blk_simp [index_7]; rfl)
  blk_simp
  rw [after0_7, he]
  refine (congrArg (out0_7 _ _ _ _ _ _ _) (eq_ix2 y)).trans ?_
  frame_out
  exact block_7 m c t (y 0) (y 1)

theorem final_8 (c : Dev nD) : (dats m 0 c).arrAt 8 cfg0.N = fun y => rowOf (m ((c.tc : Thread nD τ).loc main_arg0)) (m ((c.tc : Thread nD τ).loc main_arg2)) (y 0) (y 1) := by
  refine (dats m 0 c).arrAt_eq_of_covers 8 _ (by decide +kernel) fun t hf y => ?_
  have he : (win0_8.blk t).view.emb y = ix2 (y 0) (y 1) := funext fun a => Fin.ext (by
    match a with
    | ⟨0, _⟩ => blk_simp [index_8]; rfl
    | ⟨1, _⟩ => blk_simp [index_8]; rfl)
  blk_simp
  rw [after0_8, he]
  refine (congrArg (out0_8 _ _ _ _ _ _ _) (eq_ix2 y)).trans ?_
  frame_out
  exact block_8 m c t (y 0) (y 1)

theorem final_9 (c : Dev nD) : (dats m 0 c).arrAt 9 cfg0.N = fun y => gate (lowOf (m ((c.tc : Thread nD τ).loc main_arg0)) (m ((c.tc : Thread nD τ).loc main_arg3)) (m ((c.tc : Thread nD τ).loc main_arg5)) (y 0) (y 1)) := by
  refine (dats m 0 c).arrAt_eq_of_covers 9 _ (by decide +kernel) fun t hf y => ?_
  have he : (win0_9.blk t).view.emb y = ix2 (y 0) (y 1) := funext fun a => Fin.ext (by
    match a with
    | ⟨0, _⟩ => blk_simp [index_9]; rfl
    | ⟨1, _⟩ => blk_simp [index_9]; rfl)
  blk_simp
  rw [after0_9, he]
  refine (congrArg (out0_9 _ _ _ _ _ _ _) (eq_ix2 y)).trans ?_
  frame_out
  exact block_9 m c t (y 0) (y 1)

theorem final_10 (c : Dev nD) : (dats m 0 c).arrAt 10 cfg0.N = fun y => decayOf (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (y 0) (y 1) := by
  refine (dats m 0 c).arrAt_eq_of_covers 10 _ (by decide +kernel) fun t hf y => ?_
  have he : (win0_10.blk t).view.emb y = ix2 (y 0) (y 1) := funext fun a => Fin.ext (by
    match a with
    | ⟨0, _⟩ => blk_simp [index_10]; rfl
    | ⟨1, _⟩ => blk_simp [index_10]; rfl)
  blk_simp
  rw [after0_10, he]
  refine (congrArg (out0_10 _ _ _ _ _ _ _) (eq_ix2 y)).trans ?_
  frame_out
  exact block_10 m c t (y 0) (y 1)

/-- The run: each result array holds its specification, and every argument is unchanged. -/
theorem run : θ_run defs (onTc (τ := τ) (main (F := Ideal))) ⟨m, fun _ => 0, ρ⟩ (fun r => ∀ c : Dev nD,
      r.2.mem ((c.tc : Thread nD τ).loc main_v0_0) = (fun y => rowOf (m ((c.tc : Thread nD τ).loc main_arg0)) (m ((c.tc : Thread nD τ).loc main_arg1)) (y 0) (y 1))
      ∧ r.2.mem ((c.tc : Thread nD τ).loc main_v0_1) = (fun y => rowOf (m ((c.tc : Thread nD τ).loc main_arg0)) (m ((c.tc : Thread nD τ).loc main_arg2)) (y 0) (y 1))
      ∧ r.2.mem ((c.tc : Thread nD τ).loc main_v0_2) = (fun y => gate (lowOf (m ((c.tc : Thread nD τ).loc main_arg0)) (m ((c.tc : Thread nD τ).loc main_arg3)) (m ((c.tc : Thread nD τ).loc main_arg5)) (y 0) (y 1)))
      ∧ r.2.mem ((c.tc : Thread nD τ).loc main_v0_3) = (fun y => decayOf (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final_7 m c),
     ((h.1 c).1 8).trans (final_8 m c),
     ((h.1 c).1 9).trans (final_9 m c),
     ((h.1 c).1 10).trans (final_10 m c), h.2 c⟩) (θ_run_and (run_main m ρ) (unchanged m ρ))

end kernel

section reference

open Cert.Reference5Ideal Cert.Reference5Ideal.Gen

/-- The products of the rows and the second layer's columns for queries, keys and values. -/
def qkvR (x : FVec Ideal S32x1024 .f32) (w : FVec Ideal S2x1024x1536 .bf16) : FVec Ideal S32x1536 .f32 :=
  Host.dotGeneral dot_S32x1024_S1024x1536_S32x1536_1_0_0_1_n_n none x
    (extf .f32 (shapeCast _ (extractStridedSlice S1x1024x1536 ![1, 0, 0] w slices_S2x1024x1536_S1x1024x1536_1_0_0) shapeCasts_S1x1024x1536_S1024x1536) bitsLt_bf16_f32)

/-- The same for the second branch. -/
def glaR (x : FVec Ideal S32x1024 .f32) (w : FVec Ideal S2x1024x1024 .bf16) : FVec Ideal S32x1024 .f32 :=
  Host.dotGeneral dot_S32x1024_S1024x1024_S32x1024_1_0_0_1_n_n none x
    (extf .f32 (shapeCast _ (extractStridedSlice S1x1024x1024 ![1, 0, 0] w slices_S2x1024x1024_S1x1024x1024_1_0_0) shapeCasts_S1x1024x1024_S1024x1024) bitsLt_bf16_f32)

/-- The forget gates' columns and the low rank columns, with their biases. -/
def lowR (x : FVec Ideal S32x1024 .f32) (w : FVec Ideal S2x1024x128 .bf16) (b : FVec Ideal S2x1x128 .f32) : FVec Ideal S32x128 .f32 :=
  addf (Host.dotGeneral dot_S32x1024_S1024x128_S32x128_1_0_0_1_n_n none x
      (extf .f32 (shapeCast _ (extractStridedSlice S1x1024x128 ![1, 0, 0] w slices_S2x1024x128_S1x1024x128_1_0_0) shapeCasts_S1x1024x128_S1024x128) bitsLt_bf16_f32))
    (broadcastInDim S32x128 ![0, 1] bcast_S1x128_S32x128_0_1 (shapeCast _ (extractStridedSlice S1x1x128 ![1, 0, 0] b slices_S2x1x128_S1x1x128_1_0_0) shapeCasts_S1x1x128_S1x128))

/-- The second branch's gates before the logarithm. -/
def wideR (s : FVec Ideal S32x128 .f32) (w : FVec Ideal S2x128x256 .bf16) (b : FVec Ideal S2x1x256 .f32) : FVec Ideal S32x256 .f32 :=
  addf (Host.dotGeneral dot_S32x128_S128x256_S32x256_1_0_0_1_n_n none s
      (extf .f32 (shapeCast _ (extractStridedSlice S1x128x256 ![1, 0, 0] w slices_S2x128x256_S1x128x256_1_0_0) shapeCasts_S1x128x256_S128x256) bitsLt_bf16_f32))
    (broadcastInDim S32x256 ![0, 1] bcast_S1x256_S32x256_0_1 (shapeCast _ (extractStridedSlice S1x1x256 ![1, 0, 0] b slices_S2x1x256_S1x1x256_1_0_0) shapeCasts_S1x1x256_S1x256))

/-- The forget gates. -/
def forgetR (s : FVec Ideal S32x128 .f32) : FVec Ideal S32x128 .f32 :=
  Host.negf (softplus bcast_S_S32x128 (Host.negf s))

/-- The second branch's gates. -/
def decayR (z : FVec Ideal S32x256 .f32) : FVec Ideal S32x256 .f32 :=
  Host.divf (Host.negf (softplus bcast_S_S32x256 (Host.negf z))) (broadcastInDim S32x256 ![] bcast_S_S32x256 (constant S_ .f32 0x41800000#32))

theorem qkvR_apply (x : FVec Ideal S32x1024 .f32) (w : FVec Ideal S2x1024x1536 .bf16) (i : Fin 32) (j : Fin 1536) :
    qkvR x w (ix2 i j) = rowOf x w i j := by
  pointwise [qkvR]
  rfl

theorem glaR_apply (x : FVec Ideal S32x1024 .f32) (w : FVec Ideal S2x1024x1024 .bf16) (i : Fin 32) (j : Fin 1024) :
    glaR x w (ix2 i j) = rowOf x w i j := by
  pointwise [glaR]
  rfl

theorem lowR_apply (x : FVec Ideal S32x1024 .f32) (w : FVec Ideal S2x1024x128 .bf16) (v : FVec Ideal S2x1x128 .f32) (i : Fin 32) (j : Fin 128) :
    lowR x w v (ix2 i j) = lowOf x w v i j := by
  pointwise [lowR]
  rfl

theorem wideR_apply (s : FVec Ideal S32x128 .f32) (w : FVec Ideal S2x128x256 .bf16) (v : FVec Ideal S2x1x256 .f32) (i : Fin 32) (j : Fin 256) :
    wideR s w v (ix2 i j) = times (fun k => s (ix2 i k)) (fun k f => w (ix3 1 k f)) j + v (ix3 1 0 j) := by
  pointwise [wideR]
  rfl

theorem forgetR_apply (s : FVec Ideal S32x128 .f32) (i : Fin 32) (j : Fin 128) :
    forgetR s (ix2 i j) = gate (s (ix2 i j)) := softplus_neg _ s _

theorem decayR_apply (z : FVec Ideal S32x256 .f32) (i : Fin 32) (j : Fin 256) :
    decayR z (ix2 i j) = Ideal.div (gate (z (ix2 i j))) (Ideal.ofBits .f32 1098907648#32) := by
  pointwise [decayR]
  rw [softplus_neg]

theorem qkvR_agree (x : FVec Ideal S32x1024 .f32) (w : FVec Ideal S2x1024x1536 .bf16) :
    qkvR x w = fun y => rowOf x w (y 0) (y 1) := by
  funext y
  exact (congrArg _ (eq_ix2 y)).trans (qkvR_apply x w (y 0) (y 1))

theorem glaR_agree (x : FVec Ideal S32x1024 .f32) (w : FVec Ideal S2x1024x1024 .bf16) :
    glaR x w = fun y => rowOf x w (y 0) (y 1) := by
  funext y
  exact (congrArg _ (eq_ix2 y)).trans (glaR_apply x w (y 0) (y 1))

theorem forgetR_spec (x : FVec Ideal S32x1024 .f32) (w : FVec Ideal S2x1024x128 .bf16) (v : FVec Ideal S2x1x128 .f32) (i : Fin 32) (j : Fin 128) :
    forgetR (lowR x w v) (ix2 i j) = gate (lowOf x w v i j) := by
  rw [forgetR_apply, lowR_apply]

theorem forgetR_agree (x : FVec Ideal S32x1024 .f32) (w : FVec Ideal S2x1024x128 .bf16) (v : FVec Ideal S2x1x128 .f32) :
    forgetR (lowR x w v) = fun y => gate (lowOf x w v (y 0) (y 1)) := by
  funext y
  exact (congrArg _ (eq_ix2 y)).trans (forgetR_spec x w v (y 0) (y 1))

theorem decayR_spec (x : FVec Ideal S32x1024 .f32) (w : FVec Ideal S2x1024x128 .bf16) (v : FVec Ideal S2x1x128 .f32) (w2 : FVec Ideal S2x128x256 .bf16) (v2 : FVec Ideal S2x1x256 .f32) (i : Fin 32) (j : Fin 256) :
    decayR (wideR (lowR x w v) w2 v2) (ix2 i j) = decayOf x w v w2 v2 i j := by
  rw [decayR_apply, wideR_apply]
  simp only [lowR_apply]
  rfl

theorem decayR_agree (x : FVec Ideal S32x1024 .f32) (w : FVec Ideal S2x1024x128 .bf16) (v : FVec Ideal S2x1x128 .f32) (w2 : FVec Ideal S2x128x256 .bf16) (v2 : FVec Ideal S2x1x256 .f32) :
    decayR (wideR (lowR x w v) w2 v2) = fun y => decayOf x w v w2 v2 (y 0) (y 1) := by
  funext y
  exact (congrArg _ (eq_ix2 y)).trans (decayR_spec x w v w2 v2 (y 0) (y 1))

end reference

theorem kernel_frame : Cert.quiescent_Kernel5 := fun m ρ _ => Cert.Kernel5.Gen.frame m ρ

theorem ideal_frame : Cert.quiescent_Kernel5Ideal := fun m ρ _ => Cert.Kernel5Ideal.Gen.frame m ρ

theorem reference_frame : Cert.quiescent_Reference5Ideal := fun m ρ _ =>
  (θ_run (Cert.Reference5Ideal.defs (F := Ideal)) _ _).mono
    (fun r h => ⟨fun c => (h c).2.2.2.2, sem_eq_zero_of_no_sems (by decide) r.2⟩) (Cert.Reference5Ideal.Value.run (F := Ideal) m ρ)

/-- Both runs end with the same four arrays. -/
theorem algebraic : Cert.algebraic_Kernel5Ideal_Reference5Ideal := by
  intro m ρ m' ρ' hpre hagree
  refine ⟨_, _, _, _, run m ρ,
    (θ_run (Cert.Reference5Ideal.defs (F := Ideal)) _ _).mono (fun _ h c =>
      ⟨(h c).1.trans ?_, (h c).2.1.trans ?_, (h c).2.2.1.trans ?_, (h c).2.2.2.1.trans ?_, (h c).2.2.2.2⟩)
      (Cert.Reference5Ideal.Value.run (F := Ideal) m' ρ')⟩
  · refine (qkvR_agree _ _).trans ?_
    rw [(hagree c).1, (hagree c).2.1]
    rfl
  · refine (glaR_agree _ _).trans ?_
    rw [(hagree c).1, (hagree c).2.2.1]
    rfl
  · refine (forgetR_agree _ _ _).trans ?_
    rw [(hagree c).1, (hagree c).2.2.2.1, (hagree c).2.2.2.2.2.1]
    rfl
  · refine (decayR_agree _ _ _ _ _).trans ?_
    rw [(hagree c).1, (hagree c).2.2.2.1, (hagree c).2.2.2.2.1, (hagree c).2.2.2.2.2.1, (hagree c).2.2.2.2.2.2]
    rfl

end Cert.Proof.Sample

end
-- ==== Proof.Decode.lean ====
/-
  The sample group's step of the linear attention.
-/
module

public import proofs.«01_k».proof.Defs
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.Value
public import Idealize.ShloMosaic.Lib.Pointwise
public import Idealize.ShloMosaic.Lib.IdealHost
public import Idealize.ShloMosaic.Lib.Quiescent
public import Idealize.ShloMosaic.Lib.Claim
public import Idealize.ShloMosaic.Lib.Pipeline.ValueKit.Geometry
public import Idealize.ShloMosaic.Lib.Pipeline.ValueKit.Tiles
public import Idealize.ShloMosaic.Lib.WordCmp

@[expose] public section

set_option maxRecDepth 16384

noncomputable section

namespace Cert.Proof.Decode

open Idealize.ShloMosaic Idealize.ShloMosaic.TcCoe Idealize.ShloMosaic.Tactic Idealize.SL.Sem
open Idealize.ShloMosaic.Pointwise
open scoped BigOperators

/-- The new state of a row and head: the old one with each of its rows scaled, and the key and the value's product. -/
def stateOf {n : ℕ} (k g : (⟨3, ![n, 4, 64]⟩ : Shape).Idx → EReal) (s : (⟨4, ![n, 4, 64, 128]⟩ : Shape).Idx → EReal) (v : (⟨3, ![n, 4, 128]⟩ : Shape).Idx → EReal) (b : Fin n) (h : Fin 4) (p : Fin 64) (j : Fin 128) : EReal :=
  Ideal.exp (g (ix3 b h p)) * s (ix4 b h p j) + k (ix3 b h p) * v (ix3 b h j)

/-- The query's product with the new state. -/
def outOf {n : ℕ} (q : (⟨3, ![n, 4, 64]⟩ : Shape).Idx → EReal) (k g : (⟨3, ![n, 4, 64]⟩ : Shape).Idx → EReal) (s : (⟨4, ![n, 4, 64, 128]⟩ : Shape).Idx → EReal) (v : (⟨3, ![n, 4, 128]⟩ : Shape).Idx → EReal) (b : Fin n) (h : Fin 4) (j : Fin 128) : EReal :=
  ∑ p : Fin 64, q (ix3 b h p) * stateOf k g s v b h p j

section kernel

open Cert.Kernel6Ideal Cert.Kernel6Ideal.Gen

/-- The new state of one row and head, from their blocks. -/
def stateP (k g : Vec Ideal S1x1x64 .f32) (s : Vec Ideal S1x1x64x128 .f32) (v : Vec Ideal S1x1x128 .f32) : FVec Ideal S1x1x64x128 .f32 :=
  k0_pay24 k0_pay2 k g s v

/-- The output of one row and head, from their blocks. -/
def outP (q k g : Vec Ideal S1x1x64 .f32) (s : Vec Ideal S1x1x64x128 .f32) (v : Vec Ideal S1x1x128 .f32) : FVec Ideal S1x1x128 .f32 :=
  k0_pay25 (k0_pay22 k0_pay2 (k0_pay21 q)) (k0_pay23 k0_pay2 k g s v)

theorem eye_apply (p q : Fin 64) : k0_pay2 (ix2 p q) = if p = q then 1#1 else 0#1 := by
  have hp := p.isLt
  have hq := q.isLt
  pointwise [k0_pay2]
  rw [WordCmp.cmpi_eq_ofNat (by omega) (by omega), WordCmp.ofBool_decide_eq_ite]
  simp only [Fin.ext_iff]

/-- A row summed along the diagonal. -/
theorem diagonal (f : Fin 64 → EReal) (p : Fin 64) : ∑ x : Fin 64, Scalar.select (if p = x then 1#1 else 0#1) (f x) 0 = f p := by
  rw [Finset.sum_eq_single p (fun x _ hx => by rw [if_neg (Ne.symm hx)]; rfl) (fun hx => absurd (Finset.mem_univ p) hx), if_pos rfl]
  rfl

theorem state_apply (k g : Vec Ideal S1x1x64 .f32) (s : Vec Ideal S1x1x64x128 .f32) (v : Vec Ideal S1x1x128 .f32) (p : Fin 64) (j : Fin 128) :
    k0_pay23 k0_pay2 k g s v (ix2 p j) = Ideal.exp (g (ix3 0 0 p)) * s (ix4 0 0 p j) + k (ix3 0 0 p) * v (ix3 0 0 j) := by
  pointwise [k0_pay23]
  simp only [eye_apply]
  rw [diagonal (fun x => Ideal.exp (g (ix3 0 0 x))), diagonal (fun x => k (ix3 0 0 x))]

theorem stateP_apply (k g : Vec Ideal S1x1x64 .f32) (s : Vec Ideal S1x1x64x128 .f32) (v : Vec Ideal S1x1x128 .f32) (p : Fin 64) (j : Fin 128) :
    stateP k g s v (ix4 0 0 p j) = Ideal.exp (g (ix3 0 0 p)) * s (ix4 0 0 p j) + k (ix3 0 0 p) * v (ix3 0 0 j) := by
  pointwise [stateP, k0_pay24]
  rw [state_apply]

theorem outP_apply (q k g : Vec Ideal S1x1x64 .f32) (s : Vec Ideal S1x1x64x128 .f32) (v : Vec Ideal S1x1x128 .f32) (j : Fin 128) :
    outP q k g s v (ix3 0 0 j) = ∑ p : Fin 64, q (ix3 0 0 p) * (Ideal.exp (g (ix3 0 0 p)) * s (ix4 0 0 p j) + k (ix3 0 0 p) * v (ix3 0 0 j)) := by
  pointwise [outP, k0_pay25, k0_pay22, k0_pay21]
  simp only [eye_apply, state_apply]
  exact Finset.sum_congr rfl fun x _ => congrArg (· * _) (diagonal (fun z => q (ix3 0 0 z)) x)

theorem inb_key (n : Fin 32) (a : Fin 3) : (![(31 - n.val) / 4, (31 - n.val) % 4, 0] : Fin 3 → ℕ) a + S1x1x64.size a ≤ S8x4x64.size a := by
  revert n a; decide

theorem inb_val (n : Fin 32) (a : Fin 3) : (![(31 - n.val) / 4, (31 - n.val) % 4, 0] : Fin 3 → ℕ) a + S1x1x128.size a ≤ S8x4x128.size a := by
  revert n a; decide

theorem inb_state (n : Fin 32) (a : Fin 4) : (![(31 - n.val) / 4, (31 - n.val) % 4, 0, 0] : Fin 4 → ℕ) a + S1x1x64x128.size a ≤ S8x4x64x128.size a := by
  revert n a; decide

/-- A row and head of a block, counted from the last. -/
abbrev rk (n : Fin 32) : Rect S8x4x64 := Rect.unit (s := S8x4x64) ![(31 - n.val) / 4, (31 - n.val) % 4, 0] S1x1x64.size (inb_key n)
abbrev rv (n : Fin 32) : Rect S8x4x128 := Rect.unit (s := S8x4x128) ![(31 - n.val) / 4, (31 - n.val) % 4, 0] S1x1x128.size (inb_val n)
abbrev rs (n : Fin 32) : Rect S8x4x64x128 := Rect.unit (s := S8x4x64x128) ![(31 - n.val) / 4, (31 - n.val) % 4, 0, 0] S1x1x64x128.size (inb_state n)

theorem family_5 (x0 x1 x2 : Vec Ideal S8x4x64 .f32) (x3 : Vec Ideal S8x4x128 .f32) (x4 : Vec Ideal S8x4x64x128 .f32) :
    out0_5 x0 x1 x2 x3 x4 = View.canon (List.ofFn fun n : Fin 32 => ⟨rv n, outP (View.ld x0 (rk n)) (View.ld x1 (rk n)) (View.ld x2 (rk n)) (View.ld x4 (rs n)) (View.ld x3 (rv n))⟩) := rfl

theorem family_6 (x0 x1 x2 : Vec Ideal S8x4x64 .f32) (x3 : Vec Ideal S8x4x128 .f32) (x4 : Vec Ideal S8x4x64x128 .f32) :
    out0_6 x0 x1 x2 x3 x4 = View.canon (List.ofFn fun n : Fin 32 => ⟨rs n, stateP (View.ld x1 (rk n)) (View.ld x2 (rk n)) (View.ld x4 (rs n)) (View.ld x3 (rv n))⟩) := rfl

theorem ld_key (x : Vec Ideal S8x4x64 .f32) (n : Fin 32) (r : Fin 8) (h : Fin 4) (p : Fin 64) (hr : r.val = (31 - n.val) / 4) (hh : h.val = (31 - n.val) % 4) :
    View.ld x (rk n) (ix3 0 0 p) = x (ix3 r h p) :=
  congrArg x (funext fun a => Fin.ext (by
    match a with
    | ⟨0, _⟩ => exact hr.symm
    | ⟨1, _⟩ => exact hh.symm
    | ⟨2, _⟩ => show 0 + 1 * p.val = p.val; omega))

theorem ld_val (x : Vec Ideal S8x4x128 .f32) (n : Fin 32) (r : Fin 8) (h : Fin 4) (j : Fin 128) (hr : r.val = (31 - n.val) / 4) (hh : h.val = (31 - n.val) % 4) :
    View.ld x (rv n) (ix3 0 0 j) = x (ix3 r h j) :=
  congrArg x (funext fun a => Fin.ext (by
    match a with
    | ⟨0, _⟩ => exact hr.symm
    | ⟨1, _⟩ => exact hh.symm
    | ⟨2, _⟩ => show 0 + 1 * j.val = j.val; omega))

theorem ld_state (x : Vec Ideal S8x4x64x128 .f32) (n : Fin 32) (r : Fin 8) (h : Fin 4) (p : Fin 64) (j : Fin 128) (hr : r.val = (31 - n.val) / 4) (hh : h.val = (31 - n.val) % 4) :
    View.ld x (rs n) (ix4 0 0 p j) = x (ix4 r h p j) :=
  congrArg x (funext fun a => Fin.ext (by
    match a with
    | ⟨0, _⟩ => exact hr.symm
    | ⟨1, _⟩ => exact hh.symm
    | ⟨2, _⟩ => show 0 + 1 * p.val = p.val; omega
    | ⟨3, _⟩ => show 0 + 1 * j.val = j.val; omega))

theorem ld_rows (x1 x2 : Vec Ideal S8x4x64 .f32) (x3 : Vec Ideal S8x4x128 .f32) (x4 : Vec Ideal S8x4x64x128 .f32)
    (n : Fin 32) (r : Fin 8) (h : Fin 4) (p : Fin 64) (j : Fin 128) (hr : r.val = (31 - n.val) / 4) (hh : h.val = (31 - n.val) % 4) :
    Ideal.exp (View.ld x2 (rk n) (ix3 0 0 p)) * View.ld x4 (rs n) (ix4 0 0 p j) + View.ld x1 (rk n) (ix3 0 0 p) * View.ld x3 (rv n) (ix3 0 0 j)
      = stateOf (n := 8) x1 x2 x4 x3 r h p j :=
  congrArg₂ (· + ·) (congrArg₂ (· * ·) (congrArg Ideal.exp (ld_key x2 n r h p hr hh)) (ld_state x4 n r h p j hr hh))
    (congrArg₂ (· * ·) (ld_key x1 n r h p hr hh) (ld_val x3 n r h j hr hh))

theorem block_5 (x0 x1 x2 : Vec Ideal S8x4x64 .f32) (x3 : Vec Ideal S8x4x128 .f32) (x4 : Vec Ideal S8x4x64x128 .f32) (r : Fin 8) (h : Fin 4) (j : Fin 128) :
    out0_5 x0 x1 x2 x3 x4 (ix3 r h j) = outOf (n := 8) x0 x1 x2 x4 x3 r h j := by
  have h0 := r.isLt
  have h1 := h.isLt
  rw [family_5]
  refine View.canon_ofFn_unit_eq_of_forall (S := S8x4x128) (fun n => ![(31 - n.val) / 4, (31 - n.val) % 4, 0]) S1x1x128.size inb_val _ _ _ ⟨⟨31 - (4 * r.val + h.val), by omega⟩, fun a => ?_⟩ fun n x hx => ?_
  · match a with
    | ⟨0, _⟩ => show (31 - (31 - (4 * r.val + h.val))) / 4 ≤ r.val ∧ r.val < (31 - (31 - (4 * r.val + h.val))) / 4 + 1; omega
    | ⟨1, _⟩ => show (31 - (31 - (4 * r.val + h.val))) % 4 ≤ h.val ∧ h.val < (31 - (31 - (4 * r.val + h.val))) % 4 + 1; omega
    | ⟨2, _⟩ => show 0 ≤ j.val ∧ j.val < 0 + 128; have := j.isLt; omega
  · have e0 : r.val = (31 - n.val) / 4 + (x 0).val := hx 0
    have e1 : h.val = (31 - n.val) % 4 + (x 1).val := hx 1
    have e2 : j.val = 0 + (x 2).val := hx 2
    have l0 : (x 0).val < 1 := (x 0).isLt
    have l1 : (x 1).val < 1 := (x 1).isLt
    have hy : x = ix3 (0 : Fin 1) (0 : Fin 1) j := funext fun a => Fin.ext (by
      match a with
      | ⟨0, _⟩ => show (x 0).val = 0; omega
      | ⟨1, _⟩ => show (x 1).val = 0; omega
      | ⟨2, _⟩ => show (x 2).val = j.val; omega)
    have hr : r.val = (31 - n.val) / 4 := by omega
    have hh : h.val = (31 - n.val) % 4 := by omega
    rw [hy, outP_apply]
    exact Finset.sum_congr rfl fun p _ => congrArg₂ (· * ·) (ld_key x0 n r h p hr hh) (ld_rows x1 x2 x3 x4 n r h p j hr hh)

theorem block_6 (x0 x1 x2 : Vec Ideal S8x4x64 .f32) (x3 : Vec Ideal S8x4x128 .f32) (x4 : Vec Ideal S8x4x64x128 .f32) (r : Fin 8) (h : Fin 4) (p : Fin 64) (j : Fin 128) :
    out0_6 x0 x1 x2 x3 x4 (ix4 r h p j) = stateOf (n := 8) x1 x2 x4 x3 r h p j := by
  have h0 := r.isLt
  have h1 := h.isLt
  rw [family_6]
  refine View.canon_ofFn_unit_eq_of_forall (S := S8x4x64x128) (fun n => ![(31 - n.val) / 4, (31 - n.val) % 4, 0, 0]) S1x1x64x128.size inb_state _ _ _ ⟨⟨31 - (4 * r.val + h.val), by omega⟩, fun a => ?_⟩ fun n x hx => ?_
  · match a with
    | ⟨0, _⟩ => show (31 - (31 - (4 * r.val + h.val))) / 4 ≤ r.val ∧ r.val < (31 - (31 - (4 * r.val + h.val))) / 4 + 1; omega
    | ⟨1, _⟩ => show (31 - (31 - (4 * r.val + h.val))) % 4 ≤ h.val ∧ h.val < (31 - (31 - (4 * r.val + h.val))) % 4 + 1; omega
    | ⟨2, _⟩ => show 0 ≤ p.val ∧ p.val < 0 + 64; have := p.isLt; omega
    | ⟨3, _⟩ => show 0 ≤ j.val ∧ j.val < 0 + 128; have := j.isLt; omega
  · have e0 : r.val = (31 - n.val) / 4 + (x 0).val := hx 0
    have e1 : h.val = (31 - n.val) % 4 + (x 1).val := hx 1
    have e2 : p.val = 0 + (x 2).val := hx 2
    have e3 : j.val = 0 + (x 3).val := hx 3
    have l0 : (x 0).val < 1 := (x 0).isLt
    have l1 : (x 1).val < 1 := (x 1).isLt
    have hy : x = ix4 (0 : Fin 1) (0 : Fin 1) p j := funext fun a => Fin.ext (by
      match a with
      | ⟨0, _⟩ => show (x 0).val = 0; omega
      | ⟨1, _⟩ => show (x 1).val = 0; omega
      | ⟨2, _⟩ => show (x 2).val = p.val; omega
      | ⟨3, _⟩ => show (x 3).val = j.val; omega)
    have hr : r.val = (31 - n.val) / 4 := by omega
    have hh : h.val = (31 - n.val) % 4 := by omega
    rw [hy, stateP_apply]
    exact ld_rows x1 x2 x3 x4 n r h p j hr hh

variable (m : (ℓ : Loc nD τ sig) → Buf (Elt Ideal) ℓ) (ρ : Dev nD → PrngReg)

theorem index_0 : ∀ t : Fin cfg0.N, win0_0.index t = ![t.val, 0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![t.val, 0, 0] := (by decide +kernel : ∀ t : Fin grid0.N, _)
theorem index_4 : ∀ t : Fin cfg0.N, win0_4.index t = ![t.val, 0, 0, 0] := (by decide +kernel : ∀ t : Fin grid0.N, _)
theorem index_5 : ∀ t : Fin cfg0.N, win0_5.index t = ![t.val, 0, 0] := (by decide +kernel : ∀ t : Fin grid0.N, _)
theorem index_6 : ∀ t : Fin cfg0.N, win0_6.index t = ![t.val, 0, 0, 0] := (by decide +kernel : ∀ t : Fin grid0.N, _)

theorem iblk_0 (c : Dev nD) (t : Fin cfg0.N) (r : Fin 8) (h : Fin 4) (p : Fin 64) (hr : 8 * t.val + r.val < 32) :
    iblk m c 0 t (ix3 r h p) = m ((c.tc : Thread nD τ).loc main_arg0) (ix3 ⟨8 * t.val + r.val, hr⟩ h p) := by
  blk_simp [iblk]
  refine (congrFun (V_main_arg0 m c) _).trans (congrArg (m ((c.tc : Thread nD τ).loc main_arg0)) (funext fun a => Fin.ext ?_))
  match a with
  | ⟨0, _⟩ => blk_simp [index_0]; show t.val * 8 + r.val = 8 * t.val + r.val; omega
  | ⟨1, _⟩ => blk_simp [index_0]
  | ⟨2, _⟩ => blk_simp [index_0]

theorem iblk_1 (c : Dev nD) (t : Fin cfg0.N) (r : Fin 8) (h : Fin 4) (p : Fin 64) (hr : 8 * t.val + r.val < 32) :
    iblk m c 1 t (ix3 r h p) = m ((c.tc : Thread nD τ).loc main_arg1) (ix3 ⟨8 * t.val + r.val, hr⟩ h p) := by
  blk_simp [iblk]
  refine (congrFun (V_main_arg1 m c) _).trans (congrArg (m ((c.tc : Thread nD τ).loc main_arg1)) (funext fun a => Fin.ext ?_))
  match a with
  | ⟨0, _⟩ => blk_simp [index_1]; show t.val * 8 + r.val = 8 * t.val + r.val; omega
  | ⟨1, _⟩ => blk_simp [index_1]
  | ⟨2, _⟩ => blk_simp [index_1]

theorem iblk_2 (c : Dev nD) (t : Fin cfg0.N) (r : Fin 8) (h : Fin 4) (p : Fin 64) (hr : 8 * t.val + r.val < 32) :
    iblk m c 2 t (ix3 r h p) = m ((c.tc : Thread nD τ).loc main_arg2) (ix3 ⟨8 * t.val + r.val, hr⟩ h p) := by
  blk_simp [iblk]
  refine (congrFun (V_main_arg2 m c) _).trans (congrArg (m ((c.tc : Thread nD τ).loc main_arg2)) (funext fun a => Fin.ext ?_))
  match a with
  | ⟨0, _⟩ => blk_simp [index_2]; show t.val * 8 + r.val = 8 * t.val + r.val; omega
  | ⟨1, _⟩ => blk_simp [index_2]
  | ⟨2, _⟩ => blk_simp [index_2]

theorem iblk_3 (c : Dev nD) (t : Fin cfg0.N) (r : Fin 8) (h : Fin 4) (p : Fin 128) (hr : 8 * t.val + r.val < 32) :
    iblk m c 3 t (ix3 r h p) = m ((c.tc : Thread nD τ).loc main_arg3) (ix3 ⟨8 * t.val + r.val, hr⟩ h p) := by
  blk_simp [iblk]
  refine (congrFun (V_main_arg3 m c) _).trans (congrArg (m ((c.tc : Thread nD τ).loc main_arg3)) (funext fun a => Fin.ext ?_))
  match a with
  | ⟨0, _⟩ => blk_simp [index_3]; show t.val * 8 + r.val = 8 * t.val + r.val; omega
  | ⟨1, _⟩ => blk_simp [index_3]
  | ⟨2, _⟩ => blk_simp [index_3]

theorem iblk_4 (c : Dev nD) (t : Fin cfg0.N) (r : Fin 8) (h : Fin 4) (p : Fin 64) (j : Fin 128) (hr : 8 * t.val + r.val < 32) :
    iblk m c 4 t (ix4 r h p j) = m ((c.tc : Thread nD τ).loc main_arg4) (ix4 ⟨8 * t.val + r.val, hr⟩ h p j) := by
  blk_simp [iblk]
  refine (congrFun (V_main_arg4 m c) _).trans (congrArg (m ((c.tc : Thread nD τ).loc main_arg4)) (funext fun a => Fin.ext ?_))
  match a with
  | ⟨0, _⟩ => blk_simp [index_4]; show t.val * 8 + r.val = 8 * t.val + r.val; omega
  | ⟨1, _⟩ => blk_simp [index_4]
  | ⟨2, _⟩ => blk_simp [index_4]
  | ⟨3, _⟩ => blk_simp [index_4]

/-- A block's rows are the arrays' rows from the block's first on. -/
theorem rows_state (c : Dev nD) (t : Fin cfg0.N) (r : Fin 8) (h : Fin 4) (p : Fin 64) (j : Fin 128) (hr : 8 * t.val + r.val < 32) :
    stateOf (n := 8) (iblk m c 1 t) (iblk m c 2 t) (iblk m c 4 t) (iblk m c 3 t) r h p j
      = stateOf (m ((c.tc : Thread nD τ).loc main_arg1)) (m ((c.tc : Thread nD τ).loc main_arg2)) (m ((c.tc : Thread nD τ).loc main_arg4)) (m ((c.tc : Thread nD τ).loc main_arg3)) (⟨8 * t.val + r.val, hr⟩ : Fin 32) h p j := by
  unfold stateOf
  rw [iblk_1 m c t r h p hr, iblk_2 m c t r h p hr, iblk_3 m c t r h j hr, iblk_4 m c t r h p j hr]

theorem rows_out (c : Dev nD) (t : Fin cfg0.N) (r : Fin 8) (h : Fin 4) (j : Fin 128) (hr : 8 * t.val + r.val < 32) :
    outOf (n := 8) (iblk m c 0 t) (iblk m c 1 t) (iblk m c 2 t) (iblk m c 4 t) (iblk m c 3 t) r h j
      = outOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (⟨8 * t.val + r.val, hr⟩ : Fin 32) h j :=
  Finset.sum_congr rfl fun p _ => congrArg₂ (· * ·) (iblk_0 m c t r h p hr) (rows_state m c t r h p j hr)

theorem final_5 (c : Dev nD) : (dats m 0 c).arrAt 5 cfg0.N = fun y => outOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (y 0) (y 1) (y 2) := by
  refine (dats m 0 c).arrAt_eq_of_covers 5 _ (by decide +kernel) fun t hf y => ?_
  have ht : t.val < 4 := t.isLt
  have h0 : (y 0).val < 8 := (y 0).isLt
  have hr : 8 * t.val + (y 0).val < 32 := by omega
  have he : (win0_5.blk t).view.emb y = ix3 (⟨8 * t.val + (y 0).val, hr⟩ : Fin 32) (y 1) (y 2) := funext fun a => Fin.ext (by
    match a with
    | ⟨0, _⟩ => blk_simp [index_5]; show t.val * 8 + (y 0).val = 8 * t.val + (y 0).val; omega
    | ⟨1, _⟩ => blk_simp [index_5]; rfl
    | ⟨2, _⟩ => blk_simp [index_5]; rfl)
  blk_simp
  rw [after0_5, he]
  refine (congrArg (out0_5 _ _ _ _ _) (eq_ix3 y)).trans ((block_5 _ _ _ _ _ (y 0) (y 1) (y 2)).trans ?_)
  exact rows_out m c t (y 0) (y 1) (y 2) hr

theorem final_6 (c : Dev nD) : (dats m 0 c).arrAt 6 cfg0.N = fun y => stateOf (m ((c.tc : Thread nD τ).loc main_arg1)) (m ((c.tc : Thread nD τ).loc main_arg2)) (m ((c.tc : Thread nD τ).loc main_arg4)) (m ((c.tc : Thread nD τ).loc main_arg3)) (y 0) (y 1) (y 2) (y 3) := by
  refine (dats m 0 c).arrAt_eq_of_covers 6 _ (by decide +kernel) fun t hf y => ?_
  have ht : t.val < 4 := t.isLt
  have h0 : (y 0).val < 8 := (y 0).isLt
  have hr : 8 * t.val + (y 0).val < 32 := by omega
  have he : (win0_6.blk t).view.emb y = ix4 (⟨8 * t.val + (y 0).val, hr⟩ : Fin 32) (y 1) (y 2) (y 3) := funext fun a => Fin.ext (by
    match a with
    | ⟨0, _⟩ => blk_simp [index_6]; show t.val * 8 + (y 0).val = 8 * t.val + (y 0).val; omega
    | ⟨1, _⟩ => blk_simp [index_6]; rfl
    | ⟨2, _⟩ => blk_simp [index_6]; rfl
    | ⟨3, _⟩ => blk_simp [index_6]; rfl)
  blk_simp
  rw [after0_6, he]
  refine (congrArg (out0_6 _ _ _ _ _) (eq_ix4 y)).trans ((block_6 _ _ _ _ _ (y 0) (y 1) (y 2) (y 3)).trans ?_)
  exact rows_state m c t (y 0) (y 1) (y 2) (y 3) hr

/-- The run: each result array holds its specification, and every argument is unchanged. -/
theorem run : θ_run defs (onTc (τ := τ) (main (F := Ideal))) ⟨m, fun _ => 0, ρ⟩ (fun r => ∀ c : Dev nD,
      r.2.mem ((c.tc : Thread nD τ).loc main_v0_0) = (fun y => outOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (y 0) (y 1) (y 2))
      ∧ r.2.mem ((c.tc : Thread nD τ).loc main_v0_1) = (fun y => stateOf (m ((c.tc : Thread nD τ).loc main_arg1)) (m ((c.tc : Thread nD τ).loc main_arg2)) (m ((c.tc : Thread nD τ).loc main_arg4)) (m ((c.tc : Thread nD τ).loc main_arg3)) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final_5 m c), ((h.1 c).1 6).trans (final_6 m c), h.2 c⟩) (θ_run_and (run_main m ρ) (unchanged m ρ))

end kernel

section reference

open Cert.Reference6Ideal Cert.Reference6Ideal.Gen

/-- The new state. -/
def stateR (k g : FVec Ideal S32x4x64 .f32) (s : FVec Ideal S32x4x64x128 .f32) (v : FVec Ideal S32x4x128 .f32) : FVec Ideal S32x4x64x128 .f32 :=
  addf (mulf (broadcastInDim S32x4x64x128 ![0, 1, 2, 3] bcast_S32x4x64x1_S32x4x64x128_0_1_2_3 (broadcastInDim S32x4x64x1 ![0, 1, 2] bcast_S32x4x64_S32x4x64x1_0_1_2 (Host.exp g))) s)
    (mulf (broadcastInDim S32x4x64x128 ![0, 1, 2, 3] bcast_S32x4x64x1_S32x4x64x128_0_1_2_3 (broadcastInDim S32x4x64x1 ![0, 1, 2] bcast_S32x4x64_S32x4x64x1_0_1_2 k))
      (broadcastInDim S32x4x64x128 ![0, 1, 2, 3] bcast_S32x4x1x128_S32x4x64x128_0_1_2_3 (broadcastInDim S32x4x1x128 ![0, 1, 3] bcast_S32x4x128_S32x4x1x128_0_1_3 v)))

/-- The output. -/
def outR (q : FVec Ideal S32x4x64 .f32) (s : FVec Ideal S32x4x64x128 .f32) : FVec Ideal S32x4x128 .f32 :=
  Host.dotGeneral dot_S32x4x64_S32x4x64x128_S32x4x128_2_2_n_3_01_01 none q s

theorem stateR_apply (k g : FVec Ideal S32x4x64 .f32) (s : FVec Ideal S32x4x64x128 .f32) (v : FVec Ideal S32x4x128 .f32) (b : Fin 32) (h : Fin 4) (p : Fin 64) (j : Fin 128) :
    stateR k g s v (ix4 b h p j) = stateOf k g s v b h p j := by
  pointwise [stateR]
  rfl

theorem outR_apply (q : FVec Ideal S32x4x64 .f32) (s : FVec Ideal S32x4x64x128 .f32) (b : Fin 32) (h : Fin 4) (j : Fin 128) :
    outR q s (ix3 b h j) = ∑ p : Fin 64, q (ix3 b h p) * s (ix4 b h p j) := by
  pointwise [outR]

theorem out_spec (q k g : FVec Ideal S32x4x64 .f32) (s : FVec Ideal S32x4x64x128 .f32) (v : FVec Ideal S32x4x128 .f32) (b : Fin 32) (h : Fin 4) (j : Fin 128) :
    outR q (stateR k g s v) (ix3 b h j) = outOf q k g s v b h j := by
  rw [outR_apply]
  simp only [stateR_apply]
  rfl

theorem state_agree (k g : FVec Ideal S32x4x64 .f32) (s : FVec Ideal S32x4x64x128 .f32) (v : FVec Ideal S32x4x128 .f32) :
    stateR k g s v = fun y => stateOf k g s v (y 0) (y 1) (y 2) (y 3) := by
  funext y
  exact (congrArg _ (eq_ix4 y)).trans (stateR_apply k g s v (y 0) (y 1) (y 2) (y 3))

theorem out_agree (q k g : FVec Ideal S32x4x64 .f32) (s : FVec Ideal S32x4x64x128 .f32) (v : FVec Ideal S32x4x128 .f32) :
    outR q (stateR k g s v) = fun y => outOf q k g s v (y 0) (y 1) (y 2) := by
  funext y
  exact (congrArg _ (eq_ix3 y)).trans (out_spec q k g s v (y 0) (y 1) (y 2))

end reference

theorem kernel_frame : Cert.quiescent_Kernel6 := fun m ρ _ => Cert.Kernel6.Gen.frame m ρ

theorem ideal_frame : Cert.quiescent_Kernel6Ideal := fun m ρ _ => Cert.Kernel6Ideal.Gen.frame m ρ

theorem reference_frame : Cert.quiescent_Reference6Ideal := fun m ρ _ =>
  (θ_run (Cert.Reference6Ideal.defs (F := Ideal)) _ _).mono
    (fun r h => ⟨fun c => (h c).2.2, sem_eq_zero_of_no_sems (by decide) r.2⟩) (Cert.Reference6Ideal.Value.run (F := Ideal) m ρ)

/-- Both runs end with the same output and the same state. -/
theorem algebraic : Cert.algebraic_Kernel6Ideal_Reference6Ideal := by
  intro m ρ m' ρ' hpre hagree
  refine ⟨_, _, run m ρ,
    (θ_run (Cert.Reference6Ideal.defs (F := Ideal)) _ _).mono (fun _ h c => ⟨(h c).1.trans ?_, (h c).2.1.trans ?_, (h c).2.2⟩)
      (Cert.Reference6Ideal.Value.run (F := Ideal) m' ρ')⟩
  · refine (out_agree _ _ _ _ _).trans ?_
    rw [(hagree c).1, (hagree c).2.1, (hagree c).2.2.1, (hagree c).2.2.2.1, (hagree c).2.2.2.2]
    rfl
  · refine (state_agree _ _ _ _).trans ?_
    rw [(hagree c).2.1, (hagree c).2.2.1, (hagree c).2.2.2.1, (hagree c).2.2.2.2]
    rfl

end Cert.Proof.Decode

end
-- ==== Proof.GlaRun.lean ====
/-
  The second branch's prompt kernel: what a point leaves in the state it carries, as one family of stores over the chunks and heads.
-/
module

public import proofs.«01_k».proof.Defs
public import proofs.«01_k».proof.Proof.Layer
public import proofs.«01_k».proof.Proof.Gen.Kernel7Ideal.Frame
public import Idealize.ShloMosaic.Lib.Pipeline.Value
public import Idealize.ShloMosaic.Lib.Pointwise
public import Idealize.ShloMosaic.Lib.IdealHost
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pipeline.ValueKit.Tiles

@[expose] public section
set_option maxRecDepth 16384
noncomputable section
namespace Cert.Proof.Gla
open Idealize.ShloMosaic Idealize.ShloMosaic.TcCoe Idealize.ShloMosaic.Tactic Idealize.SL.Sem
open Cert.Kernel7Ideal Cert.Kernel7Ideal.Gen

/-- The lanes of a head: the first half for an even one, the second for an odd one. -/
def mask (n : ℕ) : IVec S1x128 1 := match n % 2 with
  | 0 => k0_pay7
  | _ => k0_pay8

/-- A head's state after one chunk. -/
def stepP (mk : IVec S1x128 1) (k lg : Vec Ideal S1x128x128 .f32) (d : Vec Ideal S1152x128 .bf16) (v : Vec Ideal S1x128x128 .bf16) (st : Vec Ideal S1x128x128 .f32) : Vec Ideal S1x128x128 .f32 :=
  k0_pay50 mk (k0_pay14 k lg d) (k0_pay37 (k0_pay12 lg d)) (k0_pay46 v) (k0_pay47 st)

theorem inb_state (n : ℕ) : ∀ a, (![n % 4, 0, 0] : Fin 3 → ℕ) a + S1x128x128.size a ≤ S4x128x128.size a := fun a => by
  match a with
  | ⟨0, _⟩ => show n % 4 + 1 ≤ 4; omega
  | ⟨1, _⟩ => show 0 + 128 ≤ 128; omega
  | ⟨2, _⟩ => show 0 + 128 ≤ 128; omega

theorem inb_keys (n : Fin 24) : ∀ a, (![0, 128 * (n.val / 4), 128 * (n.val % 4 / 2)] : Fin 3 → ℕ) a + S1x128x128.size a ≤ S1x768x256.size a := fun a => by
  match a with
  | ⟨0, _⟩ => show 0 + 1 ≤ 1; omega
  | ⟨1, _⟩ => show 128 * (n.val / 4) + 128 ≤ 768; omega
  | ⟨2, _⟩ => show 128 * (n.val % 4 / 2) + 128 ≤ 256; omega

theorem inb_vals (n : Fin 24) : ∀ a, (![0, 128 * (n.val / 4), 128 * (n.val % 4)] : Fin 3 → ℕ) a + S1x128x128.size a ≤ S1x768x512.size a := fun a => by
  match a with
  | ⟨0, _⟩ => show 0 + 1 ≤ 1; omega
  | ⟨1, _⟩ => show 128 * (n.val / 4) + 128 ≤ 768; omega
  | ⟨2, _⟩ => show 128 * (n.val % 4) + 128 ≤ 512; omega

/-- A head's part of the state. -/
abbrev rs (n : ℕ) : Rect S4x128x128 := Rect.unit (s := S4x128x128) ![n % 4, 0, 0] S1x128x128.size (inb_state n)
/-- A chunk's rows and a pair of heads' columns of the keys. -/
abbrev rk (n : Fin 24) : Rect S1x768x256 := Rect.unit (s := S1x768x256) ![0, 128 * (n.val / 4), 128 * (n.val % 4 / 2)] S1x128x128.size (inb_keys n)
/-- A chunk's rows and a head's columns of the values. -/
abbrev rv (n : Fin 24) : Rect S1x768x512 := Rect.unit (s := S1x768x512) ![0, 128 * (n.val / 4), 128 * (n.val % 4)] S1x128x128.size (inb_vals n)

/-- A load of what a whole buffer holds. -/
abbrev LD {s : Shape} {e : EltTy} (arg : Memref sig .tc .vmem s e) (h : arg.IsWhole) (x : Vec Ideal s e) (r : Rect s) : r.shape.Idx → Elt Ideal e :=
  View.readAt (Elt Ideal) arg.view r.toLoadRect (h.unread x)

theorem LD_eq {s : Shape} {e : EltTy} (arg : Memref sig .tc .vmem s e) (h : arg.IsWhole) (x : Vec Ideal s e) (r : Rect s) : LD arg h x r = View.ld x r := by
  unfold LD
  rw [View.readAt_eq_ld, h.read_unread]

/-- The state's stores, last first, one for each chunk and head, each over what a load before it read. -/
def runOf (P : Fin 24 → Vec Ideal S1x128x128 .f32 → Vec Ideal S1x128x128 .f32) (L0 : List (View.Piece (Elt Ideal) S4x128x128 .f32))
    (R : (n : Fin 24) → List (View.Piece (Elt Ideal) S4x128x128 .f32) → Vec Ideal S1x128x128 .f32) : (n : ℕ) → n ≤ 24 → List (View.Piece (Elt Ideal) S4x128x128 .f32)
  | 0, _ => L0
  | n + 1, h => ⟨rs n, P ⟨n, h⟩ (R ⟨n, h⟩ (runOf P L0 R n (Nat.le_of_succ_le h)))⟩ :: runOf P L0 R n (Nat.le_of_succ_le h)

/-- A head's state as a point reads it: carried for the first chunk, then what the stores before left. -/
def readCarried (arg10 : Memref sig .tc .vmem S4x128x128 .f32) (h : arg10.IsWhole) (xs : Vec Ideal S4x128x128 .f32) (n : Fin 24) (L : List (View.Piece (Elt Ideal) S4x128x128 .f32)) : Vec Ideal S1x128x128 .f32 :=
  match n.val / 4 with
  | 0 => LD arg10 h xs (rs n)
  | _ => arg10.view.readCov L (rs n).toLoadRect

/-- The same at a batch's first point, where zeros were stored before. -/
def readStored (arg10 : Memref sig .tc .vmem S4x128x128 .f32) (n : Fin 24) (L : List (View.Piece (Elt Ideal) S4x128x128 .f32)) : Vec Ideal S1x128x128 .f32 :=
  arg10.view.readCov L (rs n).toLoadRect

/-- The zeros a batch's first point stores. -/
def zeroed : List (View.Piece (Elt Ideal) S4x128x128 .f32) :=
  [⟨Rect.unit (s := S4x128x128) ![0, 0, 0] S4x128x128.size inb_S4x128x128_S4x128x128_0_0_0, k0_pay6 (F := Ideal)⟩]

/-- A store of the state: one chunk and head's step from the blocks' parts. -/
def payN (arg3 : Memref sig .tc .vmem S1x768x256 .f32) (harg3 : arg3.IsWhole) (arg4 : Memref sig .tc .vmem S1x768x256 .f32) (harg4 : arg4.IsWhole) (arg5 : Memref sig .tc .vmem S1x768x512 .bf16) (harg5 : arg5.IsWhole) (arg6 : Memref sig .tc .vmem S1152x128 .bf16) (harg6 : arg6.IsWhole)
    (x1 x2 : Vec Ideal S1x768x256 .f32) (x3 : Vec Ideal S1x768x512 .bf16) (x4 : Vec Ideal S1152x128 .bf16) (n : Fin 24) : Vec Ideal S1x128x128 .f32 → Vec Ideal S1x128x128 .f32 :=
  stepP (mask n) (LD arg3 harg3 x1 (rk n)) (LD arg4 harg4 x2 (rk n)) (LD arg6 harg6 x4 (Rect.unit (s := S1152x128) ![0, 0] S1152x128.size inb_S1152x128_S1152x128_0_0)) (LD arg5 harg5 x3 (rv n))

theorem inb_final (n : Fin 4) : ∀ a, (![0, 3 - n.val, 0, 0] : Fin 4 → ℕ) a + S1x1x64x128.size a ≤ S1x4x64x128.size a := fun a => by
  match a with
  | ⟨0, _⟩ => show 0 + 1 ≤ 1; omega
  | ⟨1, _⟩ => show 3 - n.val + 1 ≤ 4; omega
  | ⟨2, _⟩ => show 0 + 64 ≤ 64; omega
  | ⟨3, _⟩ => show 0 + 128 ≤ 128; omega

abbrev ro (n : Fin 4) : Rect S1x4x64x128 := Rect.unit (s := S1x4x64x128) ![0, 3 - n.val, 0, 0] S1x1x64x128.size (inb_final n)

/-- A head's state, turned, and the head's half of its rows. -/
def outP (h : ℕ) (st : Vec Ideal S1x128x128 .f32) : Vec Ideal S1x1x64x128 .f32 := match h % 2 with
  | 0 => k0_pay2 st
  | _ => k0_pay3 st

set_option maxHeartbeats 1000000 in
theorem run_A (c : Dev nD) (i : grid0.Coords) (arg2 : Memref sig .tc .vmem S1x768x256 .f32) (harg2 : arg2.IsWhole) (arg3 : Memref sig .tc .vmem S1x768x256 .f32) (harg3 : arg3.IsWhole) (arg4 : Memref sig .tc .vmem S1x768x256 .f32) (harg4 : arg4.IsWhole) (arg5 : Memref sig .tc .vmem S1x768x512 .bf16) (harg5 : arg5.IsWhole) (arg6 : Memref sig .tc .vmem S1152x128 .bf16) (harg6 : arg6.IsWhole) (arg7 : Memref sig .tc .vmem S8x256x128 .f32) (harg7 : arg7.IsWhole) (arg8 : Memref sig .tc .vmem S1x768x512 .f32) (harg8 : arg8.IsWhole) (arg9 : Memref sig .tc .vmem S1x4x64x128 .f32) (harg9 : arg9.IsWhole) (arg10 : Memref sig .tc .vmem S4x128x128 .f32) (harg10 : arg10.IsWhole) (hc0 : cond0_0 i) (hc1 : ¬cond0_1 i)
    (x0 : Vec Ideal S1x768x256 .f32) (x1 : Vec Ideal S1x768x256 .f32) (x2 : Vec Ideal S1x768x256 .f32) (x3 : Vec Ideal S1x768x512 .bf16) (x4 : Vec Ideal S1152x128 .bf16) (x5 : Vec Ideal S8x256x128 .f32) : (kernelRun0_A (F := Ideal) c i arg2 harg2 arg3 harg3 arg4 harg4 arg5 harg5 arg6 harg6 arg7 harg7 arg8 harg8 arg9 harg9 arg10 harg10 hc0 hc1 x0 x1 x2 x3 x4 x5).2.2.1
    = runOf (payN arg3 harg3 arg4 harg4 arg5 harg5 arg6 harg6 x1 x2 x3 x4) zeroed (readStored arg10) 24 le_rfl := rfl

set_option maxHeartbeats 1000000 in
theorem run_B (c : Dev nD) (i : grid0.Coords) (arg2 : Memref sig .tc .vmem S1x768x256 .f32) (harg2 : arg2.IsWhole) (arg3 : Memref sig .tc .vmem S1x768x256 .f32) (harg3 : arg3.IsWhole) (arg4 : Memref sig .tc .vmem S1x768x256 .f32) (harg4 : arg4.IsWhole) (arg5 : Memref sig .tc .vmem S1x768x512 .bf16) (harg5 : arg5.IsWhole) (arg6 : Memref sig .tc .vmem S1152x128 .bf16) (harg6 : arg6.IsWhole) (arg7 : Memref sig .tc .vmem S8x256x128 .f32) (harg7 : arg7.IsWhole) (arg8 : Memref sig .tc .vmem S1x768x512 .f32) (harg8 : arg8.IsWhole) (arg9 : Memref sig .tc .vmem S1x4x64x128 .f32) (harg9 : arg9.IsWhole) (arg10 : Memref sig .tc .vmem S4x128x128 .f32) (harg10 : arg10.IsWhole) (hc0 : ¬cond0_0 i) (hc1 : ¬cond0_1 i)
    (x0 : Vec Ideal S1x768x256 .f32) (x1 : Vec Ideal S1x768x256 .f32) (x2 : Vec Ideal S1x768x256 .f32) (x3 : Vec Ideal S1x768x512 .bf16) (x4 : Vec Ideal S1152x128 .bf16) (x5 : Vec Ideal S8x256x128 .f32) (xs0 : Vec Ideal S4x128x128 .f32) : (kernelRun0_B (F := Ideal) c i arg2 harg2 arg3 harg3 arg4 harg4 arg5 harg5 arg6 harg6 arg7 harg7 arg8 harg8 arg9 harg9 arg10 harg10 hc0 hc1 x0 x1 x2 x3 x4 x5 xs0).2.2.1
    = runOf (payN arg3 harg3 arg4 harg4 arg5 harg5 arg6 harg6 x1 x2 x3 x4) [] (readCarried arg10 harg10 xs0) 24 le_rfl := rfl

set_option maxHeartbeats 1000000 in
theorem run_C (c : Dev nD) (i : grid0.Coords) (arg2 : Memref sig .tc .vmem S1x768x256 .f32) (harg2 : arg2.IsWhole) (arg3 : Memref sig .tc .vmem S1x768x256 .f32) (harg3 : arg3.IsWhole) (arg4 : Memref sig .tc .vmem S1x768x256 .f32) (harg4 : arg4.IsWhole) (arg5 : Memref sig .tc .vmem S1x768x512 .bf16) (harg5 : arg5.IsWhole) (arg6 : Memref sig .tc .vmem S1152x128 .bf16) (harg6 : arg6.IsWhole) (arg7 : Memref sig .tc .vmem S8x256x128 .f32) (harg7 : arg7.IsWhole) (arg8 : Memref sig .tc .vmem S1x768x512 .f32) (harg8 : arg8.IsWhole) (arg9 : Memref sig .tc .vmem S1x4x64x128 .f32) (harg9 : arg9.IsWhole) (arg10 : Memref sig .tc .vmem S4x128x128 .f32) (harg10 : arg10.IsWhole) (hc0 : ¬cond0_0 i) (hc1 : cond0_1 i)
    (x0 : Vec Ideal S1x768x256 .f32) (x1 : Vec Ideal S1x768x256 .f32) (x2 : Vec Ideal S1x768x256 .f32) (x3 : Vec Ideal S1x768x512 .bf16) (x4 : Vec Ideal S1152x128 .bf16) (x5 : Vec Ideal S8x256x128 .f32) (xs0 : Vec Ideal S4x128x128 .f32) : (kernelRun0_C (F := Ideal) c i arg2 harg2 arg3 harg3 arg4 harg4 arg5 harg5 arg6 harg6 arg7 harg7 arg8 harg8 arg9 harg9 arg10 harg10 hc0 hc1 x0 x1 x2 x3 x4 x5 xs0).2.2.1
    = runOf (payN arg3 harg3 arg4 harg4 arg5 harg5 arg6 harg6 x1 x2 x3 x4) [] (readCarried arg10 harg10 xs0) 24 le_rfl := rfl

set_option maxHeartbeats 2000000 in
theorem out_C (c : Dev nD) (i : grid0.Coords) (arg2 : Memref sig .tc .vmem S1x768x256 .f32) (harg2 : arg2.IsWhole) (arg3 : Memref sig .tc .vmem S1x768x256 .f32) (harg3 : arg3.IsWhole) (arg4 : Memref sig .tc .vmem S1x768x256 .f32) (harg4 : arg4.IsWhole) (arg5 : Memref sig .tc .vmem S1x768x512 .bf16) (harg5 : arg5.IsWhole) (arg6 : Memref sig .tc .vmem S1152x128 .bf16) (harg6 : arg6.IsWhole) (arg7 : Memref sig .tc .vmem S8x256x128 .f32) (harg7 : arg7.IsWhole) (arg8 : Memref sig .tc .vmem S1x768x512 .f32) (harg8 : arg8.IsWhole) (arg9 : Memref sig .tc .vmem S1x4x64x128 .f32) (harg9 : arg9.IsWhole) (arg10 : Memref sig .tc .vmem S4x128x128 .f32) (harg10 : arg10.IsWhole) (hc0 : ¬cond0_0 i) (hc1 : cond0_1 i)
    (x0 : Vec Ideal S1x768x256 .f32) (x1 : Vec Ideal S1x768x256 .f32) (x2 : Vec Ideal S1x768x256 .f32) (x3 : Vec Ideal S1x768x512 .bf16) (x4 : Vec Ideal S1152x128 .bf16) (x5 : Vec Ideal S8x256x128 .f32) (xs0 : Vec Ideal S4x128x128 .f32) : (kernelRun0_C (F := Ideal) c i arg2 harg2 arg3 harg3 arg4 harg4 arg5 harg5 arg6 harg6 arg7 harg7 arg8 harg8 arg9 harg9 arg10 harg10 hc0 hc1 x0 x1 x2 x3 x4 x5 xs0).2.1
    = List.ofFn fun n : Fin 4 => ⟨ro n, outP (3 - n.val) (arg10.view.readCov (kernelRun0_C (F := Ideal) c i arg2 harg2 arg3 harg3 arg4 harg4 arg5 harg5 arg6 harg6 arg7 harg7 arg8 harg8 arg9 harg9 arg10 harg10 hc0 hc1 x0 x1 x2 x3 x4 x5 xs0).2.2.1 (rs (3 - n.val)).toLoadRect)⟩ := rfl

end Cert.Proof.Gla
end
end
-- ==== Proof.GlaStep.lean ====
/-
  The second branch's prompt kernel: one chunk and head's step read at an index, and the tables and masks it reads.
-/
module

public import proofs.«01_k».proof.Proof.GlaRun
public import Idealize.ShloMosaic.Lib.WordCmp

@[expose] public section

set_option maxRecDepth 16384

noncomputable section

namespace Cert.Proof.Gla

open Idealize.ShloMosaic Idealize.ShloMosaic.TcCoe Idealize.ShloMosaic.Tactic Idealize.SL.Sem
open Idealize.ShloMosaic.Pointwise
open scoped BigOperators

open Cert.Kernel7Ideal Cert.Kernel7Ideal.Gen

/-- A table row's sum of log decays, each with what its rounding lost. -/
def rowSum (lg : Vec Ideal S1x128x128 .f32) (d : Vec Ideal S1152x128 .bf16) (r : Fin 1152) (l : Fin 128) : EReal :=
  ∑ j : Fin 128, d (ix2 r j) * lg (ix3 0 j l) + ∑ j : Fin 128, d (ix2 r j) * (lg (ix3 0 j l) - lg (ix3 0 j l))

theorem pay11_apply (lg : Vec Ideal S1x128x128 .f32) (d : Vec Ideal S1152x128 .bf16) (r : Fin 1152) (l : Fin 128) :
    k0_pay11 lg d (ix2 r l) = rowSum lg d r l := by
  pointwise [k0_pay11]
  rfl

theorem pay12_apply (lg : Vec Ideal S1x128x128 .f32) (d : Vec Ideal S1152x128 .bf16) (r l : Fin 128) :
    k0_pay12 lg d (ix2 r l) = rowSum lg d ⟨r.val, by omega⟩ l := by
  pointwise [k0_pay12]
  exact pay11_apply lg d _ l

theorem pay14_apply (k lg : Vec Ideal S1x128x128 .f32) (d : Vec Ideal S1152x128 .bf16) (r l : Fin 128) :
    k0_pay14 k lg d (ix2 r l) = k (ix3 0 r l) * Ideal.exp (rowSum lg d ⟨128 + r.val, by omega⟩ l) := by
  pointwise [k0_pay14, k0_pay10]
  exact congrArg (fun z => k (ix3 0 r l) * Ideal.exp z) (pay11_apply lg d _ l)

theorem pay37_apply (e : FVec Ideal S128x128 .f32) (l : Fin 128) : k0_pay37 e (ix2 0 l) = Ideal.exp (e (ix2 127 l)) := by
  pointwise [k0_pay37]

theorem pay50_apply (mk : IVec S1x128 1) (e : FVec Ideal S128x128 .f32) (w : FVec Ideal S1x128 .f32) (v : FVec Ideal S128x128 .bf16) (st : FVec Ideal S128x128 .f32) (j l : Fin 128) :
    k0_pay50 mk e w v st (ix3 0 j l) = w (ix2 0 l) * st (ix2 j l) + ∑ s : Fin 128, v (ix2 s j) * Scalar.select (mk (ix2 0 l)) (e (ix2 s l)) 0 := by
  pointwise [k0_pay50]

theorem pay46_apply (v : Vec Ideal S1x128x128 .bf16) (r l : Fin 128) : k0_pay46 v (ix2 r l) = v (ix3 0 r l) := by pointwise [k0_pay46]
theorem pay47_apply (v : Vec Ideal S1x128x128 .f32) (r l : Fin 128) : k0_pay47 v (ix2 r l) = v (ix3 0 r l) := by pointwise [k0_pay47]

theorem stepP_apply (mk : IVec S1x128 1) (k lg : Vec Ideal S1x128x128 .f32) (d : Vec Ideal S1152x128 .bf16) (v : Vec Ideal S1x128x128 .bf16) (st : Vec Ideal S1x128x128 .f32) (j l : Fin 128) (hm : mk (ix2 0 l) = 1#1) :
    stepP mk k lg d v st (ix3 0 j l) = Ideal.exp (rowSum lg d ⟨127, by omega⟩ l) * st (ix3 0 j l)
      + ∑ s : Fin 128, v (ix3 0 s j) * (k (ix3 0 s l) * Ideal.exp (rowSum lg d ⟨128 + s.val, by omega⟩ l)) := by
  unfold stepP
  rw [pay50_apply, pay37_apply, pay12_apply, pay47_apply, hm]
  refine congrArg₂ (· + ·) rfl (Finset.sum_congr rfl fun s _ => ?_)
  rw [pay46_apply, pay14_apply]
  rfl

theorem mask_apply (n : ℕ) (l : Fin 128) (h : l.val / 64 = n % 2) : mask n (ix2 0 l) = 1#1 := by
  have hl := l.isLt
  unfold mask
  rcases Nat.mod_two_eq_zero_or_one n with e | e <;> simp only [e]
  · pointwise [k0_pay7]
    rw [WordCmp.cmpi_slt_ofNat (by omega) (by omega), WordCmp.ofBool_decide_eq_ite, if_pos (by omega)]
  · pointwise [k0_pay8]
    rw [WordCmp.cmpi_sge_ofNat (by omega) (by omega), WordCmp.ofBool_decide_eq_ite, if_pos (by omega)]

theorem outP_apply (h : ℕ) (st : Vec Ideal S1x128x128 .f32) (p : Fin 64) (j : Fin 128) :
    outP h st (ix4 0 0 p j) = st (ix3 0 j ⟨h % 2 * 64 + p.val, by omega⟩) := by
  unfold outP
  rcases Nat.mod_two_eq_zero_or_one h with e | e <;> simp only [e]
  · pointwise [k0_pay2]
  · pointwise [k0_pay3]
    try rfl

theorem pay6_apply (x : S4x128x128.Idx) : k0_pay6 (F := Ideal) x = 0 := by
  rw [eq_ix3 x]
  pointwise [k0_pay6]

variable (m : (ℓ : Loc nD τ sig) → Buf (Elt Ideal) ℓ)

/-- The decay tables: each row's rows up to it, each row's rows after it, and the given rest. -/
def table (mids : FVec Ideal S896x128 .bf16) : FVec Ideal S1152x128 .bf16 :=
  concatenate S1152x128 0 [⟨S256x128, truncf (F := Ideal) .bf16 (concatenate S256x128 0 [⟨S128x128, uitofp (F := Ideal) .f32 (cmpi .sle (iotaInDim S128x128 32 1) (iotaInDim S128x128 32 0))⟩, ⟨S128x128, uitofp (F := Ideal) .f32 (cmpi .sgt (iotaInDim S128x128 32 1) (iotaInDim S128x128 32 0))⟩] concatenates_S128x128_S128x128_S256x128_d0 : FVec Ideal S256x128 .f32) bitsLt_bf16_f32⟩, ⟨S896x128, mids⟩] concatenates_S256x128_S896x128_S1152x128_d0

theorem V_table (c : Dev nD) : V m c main_v8 = table (m ((c.tc : Thread nD τ).loc main_arg4)) := by
  show StableHlo.after hostOps0 (fun b => m (c, b)) main_v8 = _
  after_results
  rfl

theorem flag (q : Prop) [Decidable q] : FloatOps.uitofp (F := Ideal) FTy.f32 (if q then 1#1 else 0#1) = if q then (1 : EReal) else 0 := by
  split
  · show (((1#1 : BitVec 1).toNat : ℝ) : EReal) = 1
    norm_num
  · show (((0#1 : BitVec 1).toNat : ℝ) : EReal) = 0
    norm_num

theorem table_low (mids : FVec Ideal S896x128 .bf16) (t j : Fin 128) : table mids (ix2 (⟨t.val, by omega⟩ : Fin 1152) j) = if j.val ≤ t.val then (1 : EReal) else 0 := by
  have ht := t.isLt
  have hj := j.isLt
  pointwise [table]
  rw [dif_pos (by omega), WordCmp.cmpi_sle_ofNat (by omega) (by omega), WordCmp.ofBool_decide_eq_ite]
  exact flag _

theorem table_high (mids : FVec Ideal S896x128 .bf16) (t j : Fin 128) : table mids (ix2 (⟨128 + t.val, by omega⟩ : Fin 1152) j) = if t.val < j.val then (1 : EReal) else 0 := by
  have ht := t.isLt
  have hj := j.isLt
  pointwise [table]
  rw [dif_pos (by omega), WordCmp.cmpi_sgt_ofNat (by omega) (by omega), WordCmp.ofBool_decide_eq_ite]
  exact flag _

end Cert.Proof.Gla

end
-- ==== Proof.GlaHeads.lean ====
/-
  The second branch's prompt kernel: each head's state after the stores of a point, by induction over the stores.
-/
module

public import proofs.«01_k».proof.Proof.GlaRun

@[expose] public section

set_option maxRecDepth 16384

noncomputable section

namespace Cert.Proof.Gla

open Idealize.ShloMosaic Idealize.ShloMosaic.TcCoe Idealize.ShloMosaic.Tactic Idealize.SL.Sem
open Idealize.ShloMosaic.Pointwise
open scoped BigOperators

open Cert.Kernel7Ideal Cert.Kernel7Ideal.Gen

/-- A list of stores at a head's part of the state. -/
def headOf (L : List (View.Piece (Elt Ideal) S4x128x128 .f32)) (h : ℕ) : Vec Ideal S1x128x128 .f32 := fun x => View.canon L ((rs h).emb x)

theorem rs_eq (n k : ℕ) (h : n % 4 = k % 4) : rs n = rs k := by
  unfold rs
  simp only [h]

theorem head_same (n h : ℕ) (e : n % 4 = h % 4) (w : Vec Ideal S1x128x128 .f32) (L : List (View.Piece (Elt Ideal) S4x128x128 .f32)) :
    headOf (⟨rs n, w⟩ :: L) h = w := by
  funext x
  unfold headOf
  have key : ∀ (k : ℕ), k % 4 = n % 4 → View.canon (Val := Elt Ideal) (⟨rs n, w⟩ :: L) ((rs k).emb x) = w x := fun k hk => by
    have e2 : (rs k).emb x = (rs n).emb x := funext fun a => Fin.ext (by
      match a with
      | ⟨0, _⟩ => show k % 4 + 1 * (x 0).val = n % 4 + 1 * (x 0).val; rw [hk]
      | ⟨1, _⟩ => rfl
      | ⟨2, _⟩ => rfl)
    rw [e2]
    exact View.canon_cons_emb (rs n) w L x
  exact key h e.symm

theorem head_other (n h : ℕ) (e : n % 4 ≠ h % 4) (w : Vec Ideal S1x128x128 .f32) (L : List (View.Piece (Elt Ideal) S4x128x128 .f32)) :
    headOf (⟨rs n, w⟩ :: L) h = headOf L h := by
  funext x
  refine View.canon_cons_of_not_mem _ L fun hm => e ?_
  have h0 := (Rect.mem_set_unit (s := S4x128x128) (off := ![n % 4, 0, 0]) (size := S1x128x128.size) (inb := inb_state n)).mp hm 0
  have l0 : (x 0).val < 1 := (x 0).isLt
  have h1 : n % 4 ≤ h % 4 + 1 * (x 0).val ∧ h % 4 + 1 * (x 0).val < n % 4 + 1 := h0
  omega

/-- What the stores leave, by induction on them: each takes its head's state one chunk further. -/
theorem run_head (P : Fin 24 → Vec Ideal S1x128x128 .f32 → Vec Ideal S1x128x128 .f32) (L0 : List (View.Piece (Elt Ideal) S4x128x128 .f32))
    (R : (n : Fin 24) → List (View.Piece (Elt Ideal) S4x128x128 .f32) → Vec Ideal S1x128x128 .f32)
    (stored : Prop) (good : ℕ → ℕ → Vec Ideal S1x128x128 .f32 → Prop)
    (hP : ∀ (n : Fin 24) st, good (n.val % 4) (n.val / 4) st → good (n.val % 4) (n.val / 4 + 1) (P n st))
    (hR : ∀ (n : Fin 24) L, (stored ∨ 4 ≤ n.val → good (n.val % 4) (n.val / 4) (headOf L n.val)) → good (n.val % 4) (n.val / 4) (R n L))
    (h0 : stored → ∀ h < 4, good h 0 (headOf L0 h)) :
    ∀ (n : ℕ) (hn : n ≤ 24) (h : ℕ), h < 4 → (stored ∨ h < n) → good h ((n + 3 - h) / 4) (headOf (runOf P L0 R n hn) h)
  | 0, _, h, h4, hs => by
    rcases hs with hs | hs
    · rw [show (0 + 3 - h) / 4 = 0 by omega]
      exact h0 hs h h4
    · omega
  | n + 1, hn, h, h4, hs => by
    have ih := run_head P L0 R stored good hP hR h0 n (Nat.le_of_succ_le hn)
    rw [runOf]
    by_cases e : n % 4 = h % 4
    · rw [head_same n h e]
      have e4 : h = n % 4 := by omega
      subst e4
      rw [show (n + 1 + 3 - n % 4) / 4 = n / 4 + 1 by omega]
      refine hP ⟨n, hn⟩ _ (hR ⟨n, hn⟩ _ fun hc => ?_)
      have := ih (n % 4) h4 (hc.imp id fun h => by have : 4 ≤ n := h; omega)
      rw [show (n + 3 - n % 4) / 4 = n / 4 by omega] at this
      rw [show headOf (runOf P L0 R n (Nat.le_of_succ_le hn)) n = headOf (runOf P L0 R n (Nat.le_of_succ_le hn)) (n % 4) from by
        unfold headOf
        funext x
        refine congrArg _ (funext fun a => Fin.ext ?_)
        match a with
        | ⟨0, _⟩ => show n % 4 + 1 * (x 0).val = n % 4 % 4 + 1 * (x 0).val; omega
        | ⟨1, _⟩ => rfl
        | ⟨2, _⟩ => rfl]
      exact this
    · rw [head_other n h e, show (n + 1 + 3 - h) / 4 = (n + 3 - h) / 4 by omega]
      exact ih h h4 (hs.imp id fun hlt => by omega)

theorem readStored_eq (arg10 : Memref sig .tc .vmem S4x128x128 .f32) (n : Fin 24) (L : List (View.Piece (Elt Ideal) S4x128x128 .f32)) :
    readStored arg10 n L = headOf L n.val := by
  unfold readStored
  rw [View.readCov_eq_canon']
  rfl

theorem readCarried_low (arg10 : Memref sig .tc .vmem S4x128x128 .f32) (h : arg10.IsWhole) (xs : Vec Ideal S4x128x128 .f32) (n : Fin 24) (L : List (View.Piece (Elt Ideal) S4x128x128 .f32)) (hn : n.val < 4) :
    readCarried arg10 h xs n L = fun x => xs ((rs n.val).emb x) := by
  unfold readCarried
  have e : n.val / 4 = 0 := by omega
  simp only [e]
  rw [LD_eq]
  rfl

theorem readCarried_high (arg10 : Memref sig .tc .vmem S4x128x128 .f32) (h : arg10.IsWhole) (xs : Vec Ideal S4x128x128 .f32) (n : Fin 24) (L : List (View.Piece (Elt Ideal) S4x128x128 .f32)) (hn : 4 ≤ n.val) :
    readCarried arg10 h xs n L = headOf L n.val := by
  unfold readCarried
  obtain ⟨q, e⟩ : ∃ q, n.val / 4 = q + 1 := ⟨n.val / 4 - 1, by omega⟩
  simp only [e]
  exact readStored_eq arg10 n L

theorem head_zeroed (h : ℕ) (x) : headOf zeroed h x = k0_pay6 (F := Ideal) ((rs h).emb x) := by
  unfold headOf zeroed
  have e : (rs h).emb x = (Rect.unit (s := S4x128x128) ![0, 0, 0] S4x128x128.size inb_S4x128x128_S4x128x128_0_0_0).emb ((rs h).emb x) := funext fun a => Fin.ext (by
    match a with
    | ⟨0, _⟩ => show _ = 0 + 1 * _; omega
    | ⟨1, _⟩ => show _ = 0 + 1 * _; omega
    | ⟨2, _⟩ => show _ = 0 + 1 * _; omega)
  rw [e]
  refine (View.canon_cons_emb _ _ _ _).trans ?_
  rw [← e]

end Cert.Proof.Gla

end
-- ==== Proof.GlaMath.lean ====
/-
  The second branch's state: a sum of keys and values, each decayed by the log decays after it, built up a chunk of rows at a time.
-/
module

public import proofs.«01_k».proof.Proof.Reference
public import Idealize.ShloMosaic.PureOps.Ideal

@[expose] public section

noncomputable section

namespace Cert.Proof.Gla

open Idealize.ShloMosaic
open scoped BigOperators

/-- The log decays of the rows before one. -/
def before (g : ℕ → ℝ) (n : ℕ) : ℝ := ∑ u ∈ Finset.range n, g u

/-- The state after a number of rows. -/
def decayed (k v : ℕ → EReal) (g : ℕ → ℝ) (n : ℕ) : EReal :=
  ∑ s ∈ Finset.range n, v s * (k s * Ideal.exp ((before g n - before g (s + 1) : ℝ) : EReal))

theorem decayed_zero (k v : ℕ → EReal) (g : ℕ → ℝ) : decayed k v g 0 = 0 := rfl

theorem mul_sum_exp (r : ℝ) (f : ℕ → EReal) (n : ℕ) :
    Ideal.exp (r : EReal) * ∑ s ∈ Finset.range n, f s = ∑ s ∈ Finset.range n, Ideal.exp (r : EReal) * f s := by
  have h0 : (0 : EReal) ≤ Ideal.exp (r : EReal) := by rw [Ideal.exp_coe]; exact_mod_cast (Real.exp_pos r).le
  have h1 : Ideal.exp (r : EReal) ≠ ⊤ := by rw [Ideal.exp_coe]; exact EReal.coe_ne_top _
  induction n with
  | zero => simp
  | succ n ih => rw [Finset.sum_range_succ, Finset.sum_range_succ, EReal.left_distrib_of_nonneg_of_ne_top h0 h1, ih]

theorem exp_add (a b : ℝ) : Ideal.exp ((a + b : ℝ) : EReal) = Ideal.exp (a : EReal) * Ideal.exp (b : EReal) := by
  rw [Ideal.exp_coe, Ideal.exp_coe, Ideal.exp_coe, Real.exp_add, EReal.coe_mul]

theorem before_add (g : ℕ → ℝ) (a n : ℕ) : before g (a + n) - before g a = ∑ j ∈ Finset.range n, g (a + j) := by
  rw [before, before, Finset.sum_range_add]; ring

/-- The rows after one of a chunk. -/
theorem after_sum (g : ℕ → ℝ) (a t n : ℕ) (h : t + 1 ≤ n) :
    (∑ j ∈ Finset.range n, if t < j then g (a + j) else 0) = before g (a + n) - before g (a + t + 1) := by
  induction n, h using Nat.le_induction with
  | base =>
    rw [Finset.sum_eq_zero fun j hj => if_neg (by have := Finset.mem_range.mp hj; omega), ← Nat.add_assoc, sub_self]
  | succ n h ih =>
    rw [Finset.sum_range_succ, ih, if_pos (by omega), ← Nat.add_assoc, before, before, before, Finset.sum_range_succ _ (a + n)]
    ring

/-- One chunk more. -/
theorem decayed_add (k v : ℕ → EReal) (g : ℕ → ℝ) (a n : ℕ) :
    decayed k v g (a + n) = Ideal.exp ((before g (a + n) - before g a : ℝ) : EReal) * decayed k v g a
      + ∑ s ∈ Finset.range n, v (a + s) * (k (a + s) * Ideal.exp ((before g (a + n) - before g (a + s + 1) : ℝ) : EReal)) := by
  rw [decayed, Finset.sum_range_add, decayed, mul_sum_exp]
  refine congrArg (· + _) (Finset.sum_congr rfl fun s _ => ?_)
  rw [show before g (a + n) - before g (s + 1) = (before g (a + n) - before g a) + (before g a - before g (s + 1)) by ring, exp_add,
    mul_left_comm (Ideal.exp _) (v s), mul_left_comm (Ideal.exp _) (k s)]

theorem window_sum (n s : ℕ) (hs : s < n) (f : ℕ → EReal) :
    (∑ w ∈ Finset.range n, if n - 1 ≤ s + w then f (s + w - (n - 1)) else 0) = ∑ u ∈ Finset.range (s + 1), f u := by
  rw [← Finset.sum_range_reflect, ← Finset.sum_range_reflect f (s + 1)]
  refine Eq.trans ?_ (Finset.sum_subset (f := fun j => if j ≤ s then f (s - j) else 0) (Finset.range_mono (by omega : s + 1 ≤ n)) fun j _ hn => ?_).symm |>.trans ?_
  · refine Finset.sum_congr rfl fun j hj => ?_
    have := Finset.mem_range.mp hj
    by_cases h : j ≤ s
    · rw [if_pos h, if_pos (by omega), show s + (n - 1 - j) - (n - 1) = s - j by omega]
    · rw [if_neg h, if_neg (by omega)]
  · exact if_neg fun h => hn (Finset.mem_range.mpr (by omega))
  · refine Finset.sum_congr rfl fun j hj => ?_
    have := Finset.mem_range.mp hj
    rw [if_pos (by omega), show s + 1 - 1 - j = s - j by omega]

end Cert.Proof.Gla

end
-- ==== Proof.GlaReference.lean ====
/-
  The second branch's prompt reference: its running sums and its state read at an index, and the precondition.
-/
module

public import proofs.«01_k».proof.Proof.GlaMath
public import proofs.«01_k».proof.Proof.Gen.Pre_gla_inputs
public import proofs.«01_k».proof.Proof.Gen.Reference7Ideal
public import proofs.«01_k».proof.Proof.Gen.Reference7Ideal.Run
public import Idealize.ShloMosaic.Lib.Pipeline.Value
public import Idealize.ShloMosaic.Lib.Pointwise
public import Idealize.ShloMosaic.Lib.IdealHost
public import Idealize.ShloMosaic.Lib.Pipeline.ValueKit.Geometry

@[expose] public section

set_option maxRecDepth 16384

noncomputable section

namespace Cert.Proof.Gla

open Idealize.ShloMosaic Idealize.ShloMosaic.TcCoe Idealize.ShloMosaic.Tactic Idealize.SL.Sem
open Idealize.ShloMosaic.Pointwise
open scoped BigOperators

section reference

open Cert.Reference7Ideal Cert.Reference7Ideal.Gen

/-- The running sums of the log decays. -/
def sumsR (lg : FVec Ideal S2x8448x256 .f32) : FVec Ideal S2x8448x4x64 .f32 :=
  Host.reduceWindowAdd ![1, 8448, 1, 1] ![1, 1, 1, 1] ![0, 8447, 0, 0] ![0, 0, 0, 0] (shapeCast _ lg shapeCasts_S2x8448x256_S2x8448x4x64) (broadcastInDim S_ ![] bcast_S_S_ (constant S_ .f32 0x00000000#32)) reduceWindows_S2x8448x4x64_S2x8448x4x64_w1s1p0_0_w8448s1p8447_0_w1s1p0_0_w1s1p0_0 h_S_

/-- The state from the keys, the running sums and the values. -/
def stateR (k : FVec Ideal S2x8448x256 .f32) (C : FVec Ideal S2x8448x4x64 .f32) (v : FVec Ideal S2x8448x512 .bf16) : FVec Ideal S2x4x64x128 .f32 :=
  Host.dotGeneral dot_S2x8448x4x64_S2x8448x4x128_S2x4x64x128_1_1_3_3_02_02 none
    (mulf (shapeCast _ k shapeCasts_S2x8448x256_S2x8448x4x64) (Host.exp (subf (broadcastInDim S2x8448x4x64 ![0, 1, 2, 3] bcast_S2x1x4x64_S2x8448x4x64_0_1_2_3 (extractStridedSlice S2x1x4x64 ![0, 8447, 0, 0] C slices_S2x8448x4x64_S2x1x4x64_0_8447_0_0)) C)))
    (shapeCast _ (extf .f32 v bitsLt_bf16_f32) shapeCasts_S2x8448x512_S2x8448x4x128)

theorem term_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = stateR (m ((c.tc : Thread nD τ).loc main_arg1)) (sumsR (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference7Ideal.Value.run (F := Ideal) m ρ

theorem stateR_apply (k : FVec Ideal S2x8448x256 .f32) (C : FVec Ideal S2x8448x4x64 .f32) (v : FVec Ideal S2x8448x512 .bf16) (b : Fin 2) (h : Fin 4) (p : Fin 64) (j : Fin 128) :
    stateR k C v (ix4 b h p j) = ∑ s : Fin 8448, k (ix3 b s ⟨h.val * 64 + p.val, by omega⟩) * Ideal.exp (C (ix4 b 8447 h p) - C (ix4 b s h p)) * v (ix3 b s ⟨h.val * 128 + j.val, by omega⟩) := by
  pointwise [stateR]

theorem foldl_add {n : ℕ} (f : Fin n → EReal) (l : List (Fin n)) (z : EReal) : l.foldl (fun r i => r + f i) z = z + (l.map f).sum := by
  induction l generalizing z with
  | nil => simp
  | cons a l ih => rw [List.foldl_cons, ih, List.map_cons, List.sum_cons, add_assoc]

theorem cast_apply (lg : FVec Ideal S2x8448x256 .f32) (b : Fin 2) (s : Fin 8448) (h : Fin 4) (p : Fin 64) :
    shapeCast S2x8448x4x64 lg shapeCasts_S2x8448x256_S2x8448x4x64 (ix4 b s h p) = lg (ix3 b s ⟨h.val * 64 + p.val, by omega⟩) := by
  pointwise

/-- A window's sum, over its positions. -/
theorem window_eq {s t u : Shape} (window strides lo hi : Fin s.rank → Nat) (x : s.Idx → EReal) (init : u.Idx → EReal)
    (h : s.ReduceWindows window strides lo hi t) (hu : 0 < u.numel) (j : t.Idx) :
    Host.reduceWindow (· + ·) window strides lo hi x init h hu j = init (Shape.Idx.first hu)
      + ∑ i : (⟨s.rank, window⟩ : Shape).Idx, if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else init (Shape.Idx.first hu) := by
  rw [← Equiv.sum_comp (⟨s.rank, window⟩ : Shape).rowMajor.symm, Fin.sum_univ_def]
  symm
  refine (foldl_add _ _ _).symm.trans ?_
  unfold Host.reduceWindow
  refine congrArg (fun f => List.foldl f _ _) (funext fun r => funext fun n => congrArg (r + ·) ?_)
  split <;> rfl

/-- A running sum is the sum over the window of all rows that ends at its row. -/
theorem sumsR_window (lg : FVec Ideal S2x8448x256 .f32) (b : Fin 2) (s : Fin 8448) (h : Fin 4) (p : Fin 64) :
    sumsR lg (ix4 b s h p) = ∑ w : Fin 8448, if 8448 - 1 ≤ s.val + w.val then lg (ix3 b (Fin.ofNat 8448 (s.val + w.val - (8448 - 1))) ⟨h.val * 64 + p.val, by omega⟩) else 0 := by
  unfold sumsR Host.reduceWindowAdd
  rw [Ideal.hostReduceWindowAdd_def]
  unfold Ideal.hostReduceWindowAdd
  rw [window_eq]
  have z : broadcastInDim S_ ![] bcast_S_S_ (constant (F := Ideal) S_ FTy.f32 0#32) (Shape.Idx.first h_S_) = 0 := by
    pointwise
  simp only [z]
  rw [zero_add]
  refine Finset.sum_nbij' (fun i => i 1) (fun w => ix4 (0 : Fin 1) w (0 : Fin 1) (0 : Fin 1)) (fun _ _ => Finset.mem_univ _) (fun _ _ => Finset.mem_univ _) (fun i _ => ?_) (fun _ _ => rfl) fun i _ => ?_
  · funext a
    refine Fin.ext ?_
    match a with
    | ⟨0, _⟩ => have : (i 0).val < 1 := (i 0).isLt; show 0 = (i 0).val; omega
    | ⟨1, _⟩ => rfl
    | ⟨2, _⟩ => have : (i 2).val < 1 := (i 2).isLt; show 0 = (i 2).val; omega
    | ⟨3, _⟩ => have : (i 3).val < 1 := (i 3).isLt; show 0 = (i 3).val; omega
  · have i0 : (i 0).val < 1 := (i 0).isLt
    have i1 : (i 1).val < 8448 := (i 1).isLt
    have i2 : (i 2).val < 1 := (i 2).isLt
    have i3 : (i 3).val < 1 := (i 3).isLt
    have hb := b.isLt
    have hs := s.isLt
    have hh := h.isLt
    have hp := p.isLt
    by_cases c : 8447 ≤ s.val + (i 1).val
    · rw [if_pos c, dif_pos (fun a => by
        match a with
        | ⟨0, _⟩ => show 0 ≤ b.val * 1 + (i 0).val ∧ b.val * 1 + (i 0).val - 0 < 2; omega
        | ⟨1, _⟩ => show 8447 ≤ s.val * 1 + (i 1).val ∧ s.val * 1 + (i 1).val - 8447 < 8448; omega
        | ⟨2, _⟩ => show 0 ≤ h.val * 1 + (i 2).val ∧ h.val * 1 + (i 2).val - 0 < 4; omega
        | ⟨3, _⟩ => show 0 ≤ p.val * 1 + (i 3).val ∧ p.val * 1 + (i 3).val - 0 < 64; omega)]
      refine Eq.trans (congrArg _ ?_) (cast_apply lg b (Fin.ofNat 8448 (s.val + (i 1).val - (8448 - 1))) h p)
      funext a
      refine Fin.ext ?_
      match a with
      | ⟨0, _⟩ => show b.val * 1 + (i 0).val - 0 = b.val; omega
      | ⟨1, _⟩ => show s.val * 1 + (i 1).val - 8447 = (s.val + (i 1).val - (8448 - 1)) % 8448; omega
      | ⟨2, _⟩ => show h.val * 1 + (i 2).val - 0 = h.val; omega
      | ⟨3, _⟩ => show p.val * 1 + (i 3).val - 0 = p.val; omega
    · rw [if_neg c, dif_neg fun hin => c ?_]
      have h1 : 8447 ≤ s.val * 1 + (i 1).val := (hin 1).1
      omega

theorem sumsR_apply (lg : FVec Ideal S2x8448x256 .f32) (b : Fin 2) (s : Fin 8448) (h : Fin 4) (p : Fin 64) (g : ℕ → ℝ)
    (hg : ∀ u < 8448, lg (ix3 b (Fin.ofNat 8448 u) ⟨h.val * 64 + p.val, by omega⟩) = g u) : sumsR lg (ix4 b s h p) = (before g (s.val + 1) : EReal) := by
  rw [sumsR_window, Fin.sum_univ_eq_sum_range (fun w => if 8448 - 1 ≤ s.val + w then lg (ix3 b (Fin.ofNat 8448 (s.val + w - (8448 - 1))) ⟨h.val * 64 + p.val, by omega⟩) else 0) 8448,
    window_sum 8448 s.val s.isLt (fun u => lg (ix3 b (Fin.ofNat 8448 u) ⟨h.val * 64 + p.val, by omega⟩)), before, Reference.coe_sum]
  exact Finset.sum_congr rfl fun u hu => hg u (by have := Finset.mem_range.mp hu; have := s.isLt; omega)

/-- The reference's state, of finite log decays. -/
theorem stateR_eq (k lg : FVec Ideal S2x8448x256 .f32) (v : FVec Ideal S2x8448x512 .bf16) (b : Fin 2) (h : Fin 4) (p : Fin 64) (j : Fin 128) (g : ℕ → ℝ)
    (hg : ∀ u < 8448, lg (ix3 b (Fin.ofNat 8448 u) ⟨h.val * 64 + p.val, by omega⟩) = g u) :
    stateR k (sumsR lg) v (ix4 b h p j) = decayed (fun s => k (ix3 b (Fin.ofNat 8448 s) ⟨h.val * 64 + p.val, by omega⟩)) (fun s => v (ix3 b (Fin.ofNat 8448 s) ⟨h.val * 128 + j.val, by omega⟩)) g 8448 := by
  rw [stateR_apply, decayed, ← Fin.sum_univ_eq_sum_range (fun s => v (ix3 b (Fin.ofNat 8448 s) ⟨h.val * 128 + j.val, by omega⟩) * (k (ix3 b (Fin.ofNat 8448 s) ⟨h.val * 64 + p.val, by omega⟩) * Ideal.exp ((before g 8448 - before g (s + 1) : ℝ) : EReal))) 8448]
  refine Finset.sum_congr rfl fun s _ => ?_
  have hs : Fin.ofNat 8448 s.val = s := Fin.ext (Nat.mod_eq_of_lt s.isLt)
  rw [sumsR_apply lg b _ h p g hg, sumsR_apply lg b s h p g hg, ← EReal.coe_sub, mul_comm, hs]
  rfl

end reference

theorem finite_of [Cert.Pre_gla_inputs.Facts] (q k lg : FVec Ideal Cert.Pre_gla_inputs.S2x8448x256 .f32) (v : FVec Ideal Cert.Pre_gla_inputs.S2x8448x512 .bf16) (a4 : FVec Ideal Cert.Pre_gla_inputs.S896x128 .bf16) (a5 : FVec Ideal Cert.Pre_gla_inputs.S8x256x128 .f32)
    (h1 : Cert.Pre_gla_inputs.fn (F := Ideal) q k lg v a4 a5 = (fun _ => 1#1)) (y) : ∃ r : ℝ, lg y = r := by
  have h := congrFun h1 y
  dsimp only [Cert.Pre_gla_inputs.fn] at h
  pointwise at h
  rw [Reference.ofBits_top] at h
  exact Reference.real_of_abs (Reference.ofBool_one h)

end Cert.Proof.Gla

end
-- ==== Proof.Gla.lean ====
/-
  The second branch's prompt kernel: the state it carries from point to point, its final state, and the reference's.
-/
module

public import proofs.«01_k».proof.Proof.GlaStep
public import proofs.«01_k».proof.Proof.GlaHeads
public import proofs.«01_k».proof.Proof.GlaReference
public import proofs.«01_k».proof.Proof.Gen.Kernel7.Frame
public import Idealize.ShloMosaic.Lib.Quiescent
public import Idealize.ShloMosaic.Lib.Claim

@[expose] public section

set_option maxRecDepth 16384

noncomputable section

namespace Cert.Proof.Gla

open Idealize.ShloMosaic Idealize.ShloMosaic.TcCoe Idealize.ShloMosaic.Tactic Idealize.SL.Sem
open Idealize.ShloMosaic.Pointwise
open scoped BigOperators

section kernel
open Cert.Kernel7Ideal Cert.Kernel7Ideal.Gen

/-- A head's key column, down the rows. -/
def keys (k : Vec Ideal S2x8448x256 .f32) (b : Fin 2) (h : Fin 4) (p : Fin 64) : ℕ → EReal := fun s => k (ix3 b (Fin.ofNat 8448 s) ⟨h.val * 64 + p.val, by omega⟩)

/-- A head's value column. -/
def vals (v : Vec Ideal S2x8448x512 .bf16) (b : Fin 2) (h : Fin 4) (j : Fin 128) : ℕ → EReal := fun s => v (ix3 b (Fin.ofNat 8448 s) ⟨h.val * 128 + j.val, by omega⟩)

/-- A head's log decay column. -/
def decs (lg : Vec Ideal S2x8448x256 .f32) (b : Fin 2) (h : Fin 4) (p : Fin 64) : ℕ → ℝ := fun s => (keys lg b h p s).toReal

/-- A head's state after a number of rows. -/
def stateAt (k lg : Vec Ideal S2x8448x256 .f32) (v : Vec Ideal S2x8448x512 .bf16) (b : Fin 2) (h : Fin 4) (p : Fin 64) (j : Fin 128) (n : ℕ) : EReal :=
  decayed (keys k b h p) (vals v b h j) (decs lg b h p) n

theorem rowSum_real (lg : Vec Ideal S1x128x128 .f32) (d : Vec Ideal S1152x128 .bf16) (r : Fin 1152) (l : Fin 128) (γ : ℕ → ℝ) (q : ℕ → Prop) [DecidablePred q]
    (hd : ∀ x : Fin 128, d (ix2 r x) = if q x.val then (1 : EReal) else 0) (hl : ∀ x : Fin 128, lg (ix3 0 x l) = γ x.val) :
    rowSum lg d r l = ((∑ x ∈ Finset.range 128, if q x then γ x else 0 : ℝ) : EReal) := by
  unfold rowSum
  rw [Reference.coe_sum, ← Fin.sum_univ_eq_sum_range (fun x => ((if q x then γ x else 0 : ℝ) : EReal)) 128,
    Finset.sum_eq_zero (f := fun x : Fin 128 => d (ix2 r x) * (lg (ix3 0 x l) - lg (ix3 0 x l))) fun x _ => by
      rw [hl, ← EReal.coe_sub, sub_self, EReal.coe_zero, mul_zero], add_zero]
  refine Finset.sum_congr rfl fun x _ => ?_
  rw [hd, hl]
  split
  · rw [one_mul]
  · rw [zero_mul, EReal.coe_zero]

variable (m : (ℓ : Loc nD τ sig) → Buf (Elt Ideal) ℓ) (ρ : Dev nD → PrngReg)

theorem index_1 : ∀ t : Fin cfg0.N, win0_1.index t = ![t.val / 11, t.val % 11, 0] := (by decide +kernel : ∀ t : Fin grid0.N, _)
theorem index_2 : ∀ t : Fin cfg0.N, win0_2.index t = ![t.val / 11, t.val % 11, 0] := (by decide +kernel : ∀ t : Fin grid0.N, _)
theorem index_3 : ∀ t : Fin cfg0.N, win0_3.index t = ![t.val / 11, t.val % 11, 0] := (by decide +kernel : ∀ t : Fin grid0.N, _)
theorem index_4 : ∀ t : Fin cfg0.N, win0_4.index t = ![0, 0] := (by decide +kernel : ∀ t : Fin grid0.N, _)
theorem index_7 : ∀ t : Fin cfg0.N, win0_7.index t = ![t.val / 11, 0, 0, 0] := (by decide +kernel : ∀ t : Fin grid0.N, _)

theorem iblk_1 (c : Dev nD) (t : Fin cfg0.N) (r : Fin 768) (l : Fin 256) (hb : t.val / 11 < 2) (hr : 768 * (t.val % 11) + r.val < 8448) :
    iblk m c 1 t (ix3 0 r l) = m ((c.tc : Thread nD τ).loc main_arg1) (ix3 ⟨t.val / 11, hb⟩ ⟨768 * (t.val % 11) + r.val, hr⟩ l) := by
  blk_simp [iblk]
  refine (congrFun (V_main_arg1 m c) _).trans (congrArg (m ((c.tc : Thread nD τ).loc main_arg1)) (funext fun a => Fin.ext ?_))
  match a with
  | ⟨0, _⟩ => blk_simp [index_1]; rfl
  | ⟨1, _⟩ => blk_simp [index_1]; show t.val % 11 * 768 + r.val = 768 * (t.val % 11) + r.val; omega
  | ⟨2, _⟩ => blk_simp [index_1]

theorem iblk_2 (c : Dev nD) (t : Fin cfg0.N) (r : Fin 768) (l : Fin 256) (hb : t.val / 11 < 2) (hr : 768 * (t.val % 11) + r.val < 8448) :
    iblk m c 2 t (ix3 0 r l) = m ((c.tc : Thread nD τ).loc main_arg2) (ix3 ⟨t.val / 11, hb⟩ ⟨768 * (t.val % 11) + r.val, hr⟩ l) := by
  blk_simp [iblk]
  refine (congrFun (V_main_arg2 m c) _).trans (congrArg (m ((c.tc : Thread nD τ).loc main_arg2)) (funext fun a => Fin.ext ?_))
  match a with
  | ⟨0, _⟩ => blk_simp [index_2]; rfl
  | ⟨1, _⟩ => blk_simp [index_2]; show t.val % 11 * 768 + r.val = 768 * (t.val % 11) + r.val; omega
  | ⟨2, _⟩ => blk_simp [index_2]

theorem iblk_3 (c : Dev nD) (t : Fin cfg0.N) (r : Fin 768) (l : Fin 512) (hb : t.val / 11 < 2) (hr : 768 * (t.val % 11) + r.val < 8448) :
    iblk m c 3 t (ix3 0 r l) = m ((c.tc : Thread nD τ).loc main_arg3) (ix3 ⟨t.val / 11, hb⟩ ⟨768 * (t.val % 11) + r.val, hr⟩ l) := by
  blk_simp [iblk]
  refine (congrFun (V_main_arg3 m c) _).trans (congrArg (m ((c.tc : Thread nD τ).loc main_arg3)) (funext fun a => Fin.ext ?_))
  match a with
  | ⟨0, _⟩ => blk_simp [index_3]; rfl
  | ⟨1, _⟩ => blk_simp [index_3]; show t.val % 11 * 768 + r.val = 768 * (t.val % 11) + r.val; omega
  | ⟨2, _⟩ => blk_simp [index_3]

theorem iblk_4 (c : Dev nD) (t : Fin cfg0.N) (r : Fin 1152) (l : Fin 128) :
    iblk m c 4 t (ix2 r l) = table (m ((c.tc : Thread nD τ).loc main_arg4)) (ix2 r l) := by
  blk_simp [iblk]
  refine (congrFun (V_table m c) _).trans (congrArg (table (m ((c.tc : Thread nD τ).loc main_arg4))) (funext fun a => Fin.ext ?_))
  match a with
  | ⟨0, _⟩ => blk_simp [index_4]
  | ⟨1, _⟩ => blk_simp [index_4]

/-- A head's state, at its half of the lanes, after a number of rows. -/
def good (c : Dev nD) (b : Fin 2) (a : ℕ) (h q : ℕ) (st : Vec Ideal S1x128x128 .f32) : Prop :=
  ∀ (hh : h < 4) (p : Fin 64) (j : Fin 128), st (ix3 0 j ⟨h % 2 * 64 + p.val, by omega⟩)
    = stateAt (m ((c.tc : Thread nD τ).loc main_arg1)) (m ((c.tc : Thread nD τ).loc main_arg2)) (m ((c.tc : Thread nD τ).loc main_arg3)) b ⟨h, hh⟩ p j (a + 128 * q)

/-- The state a point carries on, after a number of rows. -/
def carried (c : Dev nD) (b : Fin 2) (n : ℕ) (S : Vec Ideal S4x128x128 .f32) : Prop :=
  ∀ (h : Fin 4) (p : Fin 64) (j : Fin 128), S (ix3 h j ⟨h.val % 2 * 64 + p.val, by omega⟩)
    = stateAt (m ((c.tc : Thread nD τ).loc main_arg1)) (m ((c.tc : Thread nD τ).loc main_arg2)) (m ((c.tc : Thread nD τ).loc main_arg3)) b h p j n

theorem emb_head (h : Fin 4) (n : ℕ) (hn : n % 4 = h.val) (j l : Fin 128) : (rs n).emb (ix3 0 j l) = ix3 h j l := funext fun a => Fin.ext (by
  match a with
  | ⟨0, _⟩ => show n % 4 + 1 * 0 = h.val; omega
  | ⟨1, _⟩ => show 0 + 1 * j.val = j.val; omega
  | ⟨2, _⟩ => show 0 + 1 * l.val = l.val; omega)

theorem ld_state_rows (x : Vec Ideal S1x768x256 .f32) (n : Fin 24) (s l : Fin 128) :
    View.ld x (rk n) (ix3 0 s l) = x (ix3 0 ⟨128 * (n.val / 4) + s.val, by omega⟩ ⟨128 * (n.val % 4 / 2) + l.val, by omega⟩) :=
  congrArg x (funext fun a => Fin.ext (by
    match a with
    | ⟨0, _⟩ => rfl
    | ⟨1, _⟩ => show 128 * (n.val / 4) + 1 * s.val = 128 * (n.val / 4) + s.val; omega
    | ⟨2, _⟩ => show 128 * (n.val % 4 / 2) + 1 * l.val = 128 * (n.val % 4 / 2) + l.val; omega))

theorem ld_vals (x : Vec Ideal S1x768x512 .bf16) (n : Fin 24) (s j : Fin 128) :
    View.ld x (rv n) (ix3 0 s j) = x (ix3 0 ⟨128 * (n.val / 4) + s.val, by omega⟩ ⟨128 * (n.val % 4) + j.val, by omega⟩) :=
  congrArg x (funext fun a => Fin.ext (by
    match a with
    | ⟨0, _⟩ => rfl
    | ⟨1, _⟩ => show 128 * (n.val / 4) + 1 * s.val = 128 * (n.val / 4) + s.val; omega
    | ⟨2, _⟩ => show 128 * (n.val % 4) + 1 * j.val = 128 * (n.val % 4) + j.val; omega))

theorem ld_table (x : Vec Ideal S1152x128 .bf16) (r : Fin 1152) (l : Fin 128) :
    View.ld x (Rect.unit (s := S1152x128) ![0, 0] S1152x128.size inb_S1152x128_S1152x128_0_0) (ix2 r l) = x (ix2 r l) :=
  congrArg x (funext fun a => Fin.ext (by
    match a with
    | ⟨0, _⟩ => show 0 + 1 * r.val = r.val; omega
    | ⟨1, _⟩ => show 0 + 1 * l.val = l.val; omega))

/-- The finite log decays. -/
def Finite (c : Dev nD) : Prop := ∀ y, ∃ r : ℝ, m ((c.tc : Thread nD τ).loc main_arg2) y = (r : EReal)

theorem decs_coe (c : Dev nD) (hf : Finite m c) (b : Fin 2) (h : Fin 4) (p : Fin 64) (s : ℕ) :
    keys (m ((c.tc : Thread nD τ).loc main_arg2)) b h p s = (decs (m ((c.tc : Thread nD τ).loc main_arg2)) b h p s : EReal) := by
  unfold decs
  obtain ⟨r, hr⟩ := hf (ix3 b (Fin.ofNat 8448 s) ⟨h.val * 64 + p.val, by omega⟩)
  have e : keys (m ((c.tc : Thread nD τ).loc main_arg2)) b h p s = (r : EReal) := hr
  rw [e, EReal.toReal_coe]

section point

variable (c : Dev nD) (t : Fin cfg0.N) (n : Fin 24) (hb : t.val / 11 < 2) (h : Fin 4) (hh : h.val = n.val % 4) (p : Fin 64)
include hh

theorem block_key (s : Fin 128) : View.ld (iblk m c 1 t) (rk n) (ix3 0 s ⟨h.val % 2 * 64 + p.val, by omega⟩)
    = keys (m ((c.tc : Thread nD τ).loc main_arg1)) ⟨t.val / 11, hb⟩ h p (768 * (t.val % 11) + 128 * (n.val / 4) + s.val) := by
  have hn := n.isLt
  have hs := s.isLt
  refine (ld_state_rows _ n s _).trans ((iblk_1 m c t _ _ hb (by show 768 * (t.val % 11) + (128 * (n.val / 4) + s.val) < 8448; omega)).trans ?_)
  refine congrArg (m ((c.tc : Thread nD τ).loc main_arg1)) (congrArg₂ (ix3 _) (Fin.ext ?_) (Fin.ext ?_))
  · show 768 * (t.val % 11) + (128 * (n.val / 4) + s.val) = (768 * (t.val % 11) + 128 * (n.val / 4) + s.val) % 8448; omega
  · show 128 * (n.val % 4 / 2) + (h.val % 2 * 64 + p.val) = h.val * 64 + p.val; omega

theorem block_dec (s : Fin 128) : View.ld (iblk m c 2 t) (rk n) (ix3 0 s ⟨h.val % 2 * 64 + p.val, by omega⟩)
    = keys (m ((c.tc : Thread nD τ).loc main_arg2)) ⟨t.val / 11, hb⟩ h p (768 * (t.val % 11) + 128 * (n.val / 4) + s.val) := by
  have hn := n.isLt
  have hs := s.isLt
  refine (ld_state_rows _ n s _).trans ((iblk_2 m c t _ _ hb (by show 768 * (t.val % 11) + (128 * (n.val / 4) + s.val) < 8448; omega)).trans ?_)
  refine congrArg (m ((c.tc : Thread nD τ).loc main_arg2)) (congrArg₂ (ix3 _) (Fin.ext ?_) (Fin.ext ?_))
  · show 768 * (t.val % 11) + (128 * (n.val / 4) + s.val) = (768 * (t.val % 11) + 128 * (n.val / 4) + s.val) % 8448; omega
  · show 128 * (n.val % 4 / 2) + (h.val % 2 * 64 + p.val) = h.val * 64 + p.val; omega

theorem block_val (s j : Fin 128) : View.ld (iblk m c 3 t) (rv n) (ix3 0 s j)
    = vals (m ((c.tc : Thread nD τ).loc main_arg3)) ⟨t.val / 11, hb⟩ h j (768 * (t.val % 11) + 128 * (n.val / 4) + s.val) := by
  have hn := n.isLt
  have hs := s.isLt
  refine (ld_vals _ n s _).trans ((iblk_3 m c t _ _ hb (by show 768 * (t.val % 11) + (128 * (n.val / 4) + s.val) < 8448; omega)).trans ?_)
  refine congrArg (m ((c.tc : Thread nD τ).loc main_arg3)) (congrArg₂ (ix3 _) (Fin.ext ?_) (Fin.ext ?_))
  · show 768 * (t.val % 11) + (128 * (n.val / 4) + s.val) = (768 * (t.val % 11) + 128 * (n.val / 4) + s.val) % 8448; omega
  · show 128 * (n.val % 4) + j.val = h.val * 128 + j.val; omega

end point

theorem assemble {E E' A : EReal} {v v' k k' e e' : Fin 128 → EReal} (hE : E = E') (hv : ∀ s, v s = v' s) (hk : ∀ s, k s = k' s) (he : ∀ s, e s = e' s) :
    Ideal.exp E * A + ∑ s, v s * (k s * Ideal.exp (e s)) = Ideal.exp E' * A + ∑ s, v' s * (k' s * Ideal.exp (e' s)) := by
  rw [hE, funext hv, funext hk, funext he]

/-- One store of the state takes its head one chunk further. -/
theorem step_good (c : Dev nD) (hf : Finite m c) (t : Fin cfg0.N) (hb : t.val / 11 < 2)
    (arg3 : Memref sig .tc .vmem S1x768x256 .f32) (harg3 : arg3.IsWhole) (arg4 : Memref sig .tc .vmem S1x768x256 .f32) (harg4 : arg4.IsWhole)
    (arg5 : Memref sig .tc .vmem S1x768x512 .bf16) (harg5 : arg5.IsWhole) (arg6 : Memref sig .tc .vmem S1152x128 .bf16) (harg6 : arg6.IsWhole)
    (n : Fin 24) (st : Vec Ideal S1x128x128 .f32) (hst : good m c ⟨t.val / 11, hb⟩ (768 * (t.val % 11)) (n.val % 4) (n.val / 4) st) :
    good m c ⟨t.val / 11, hb⟩ (768 * (t.val % 11)) (n.val % 4) (n.val / 4 + 1)
      (payN arg3 harg3 arg4 harg4 arg5 harg5 arg6 harg6 (iblk m c 1 t) (iblk m c 2 t) (iblk m c 3 t) (iblk m c 4 t) n st) := by
  intro hh p j
  have hn := n.isLt
  have hp := p.isLt
  have r127 : 127 < 1152 := by omega
  unfold payN
  rw [LD_eq, LD_eq, LD_eq, LD_eq, stepP_apply _ _ _ _ _ _ _ _ (mask_apply n.val _ (by show (n.val % 4 % 2 * 64 + p.val) / 64 = n.val % 2; omega)), hst hh p j]
  have hl : ∀ x : Fin 128, View.ld (iblk m c 2 t) (rk n) (ix3 0 x ⟨n.val % 4 % 2 * 64 + p.val, by omega⟩)
      = ((fun u => decs (m ((c.tc : Thread nD τ).loc main_arg2)) ⟨t.val / 11, hb⟩ ⟨n.val % 4, hh⟩ p (768 * (t.val % 11) + 128 * (n.val / 4) + u)) x.val : EReal) := fun x =>
    (block_dec m c t n hb ⟨n.val % 4, hh⟩ rfl p x).trans (decs_coe m c hf _ _ p _)
  have e127 := rowSum_real _ _ ⟨127, r127⟩ _ (fun u => decs (m ((c.tc : Thread nD τ).loc main_arg2)) ⟨t.val / 11, hb⟩ ⟨n.val % 4, hh⟩ p (768 * (t.val % 11) + 128 * (n.val / 4) + u)) (fun x => x ≤ 127) (fun x => (ld_table _ _ _).trans ((iblk_4 m c t _ _).trans (table_low _ ⟨127, by omega⟩ x))) hl
  rw [Finset.sum_congr rfl fun x hx => if_pos (by have := Finset.mem_range.mp hx; omega), ← before_add] at e127
  have e128 : ∀ s : Fin 128, _ := fun s => rowSum_real _ _ ⟨128 + s.val, by omega⟩ _ (fun u => decs (m ((c.tc : Thread nD τ).loc main_arg2)) ⟨t.val / 11, hb⟩ ⟨n.val % 4, hh⟩ p (768 * (t.val % 11) + 128 * (n.val / 4) + u)) (fun x => s.val < x) (fun x => (ld_table _ _ _).trans ((iblk_4 m c t _ _).trans (table_high _ s x))) hl
  refine (assemble e127 (fun s => block_val m c t n hb ⟨n.val % 4, hh⟩ rfl s j) (fun s => block_key m c t n hb ⟨n.val % 4, hh⟩ rfl p s)
    (fun s => (e128 s).trans (congrArg _ (after_sum (decs (m ((c.tc : Thread nD τ).loc main_arg2)) ⟨t.val / 11, hb⟩ ⟨n.val % 4, hh⟩ p) (768 * (t.val % 11) + 128 * (n.val / 4)) s.val 128 s.isLt)))).trans ?_
  unfold stateAt
  rw [show 768 * (t.val % 11) + 128 * (n.val / 4 + 1) = 768 * (t.val % 11) + 128 * (n.val / 4) + 128 by omega, decayed_add _ _ _ (768 * (t.val % 11) + 128 * (n.val / 4)) 128,
    ← Fin.sum_univ_eq_sum_range (fun s => vals (m ((c.tc : Thread nD τ).loc main_arg3)) ⟨t.val / 11, hb⟩ ⟨n.val % 4, hh⟩ j (768 * (t.val % 11) + 128 * (n.val / 4) + s)
      * (keys (m ((c.tc : Thread nD τ).loc main_arg1)) ⟨t.val / 11, hb⟩ ⟨n.val % 4, hh⟩ p (768 * (t.val % 11) + 128 * (n.val / 4) + s)
        * Ideal.exp ((before (decs (m ((c.tc : Thread nD τ).loc main_arg2)) ⟨t.val / 11, hb⟩ ⟨n.val % 4, hh⟩ p) (768 * (t.val % 11) + 128 * (n.val / 4) + 128) - before (decs (m ((c.tc : Thread nD τ).loc main_arg2)) ⟨t.val / 11, hb⟩ ⟨n.val % 4, hh⟩ p) (768 * (t.val % 11) + 128 * (n.val / 4) + s + 1) : ℝ) : EReal))) 128]

/-- All the stores of a point take every head a block further. -/
theorem carried_of (c : Dev nD) (hf : Finite m c) (t : Fin cfg0.N) (hb : t.val / 11 < 2)
    (arg3 : Memref sig .tc .vmem S1x768x256 .f32) (harg3 : arg3.IsWhole) (arg4 : Memref sig .tc .vmem S1x768x256 .f32) (harg4 : arg4.IsWhole)
    (arg5 : Memref sig .tc .vmem S1x768x512 .bf16) (harg5 : arg5.IsWhole) (arg6 : Memref sig .tc .vmem S1152x128 .bf16) (harg6 : arg6.IsWhole)
    (L0 : List (View.Piece (Elt Ideal) S4x128x128 .f32)) (R : (n : Fin 24) → List (View.Piece (Elt Ideal) S4x128x128 .f32) → Vec Ideal S1x128x128 .f32) (stored : Prop)
    (hR : ∀ (n : Fin 24) L, (stored ∨ 4 ≤ n.val → good m c ⟨t.val / 11, hb⟩ (768 * (t.val % 11)) (n.val % 4) (n.val / 4) (headOf L n.val)) → good m c ⟨t.val / 11, hb⟩ (768 * (t.val % 11)) (n.val % 4) (n.val / 4) (R n L))
    (h0 : stored → ∀ h < 4, good m c ⟨t.val / 11, hb⟩ (768 * (t.val % 11)) h 0 (headOf L0 h)) :
    carried m c ⟨t.val / 11, hb⟩ (768 * (t.val % 11) + 768)
      (View.canon (runOf (payN arg3 harg3 arg4 harg4 arg5 harg5 arg6 harg6 (iblk m c 1 t) (iblk m c 2 t) (iblk m c 3 t) (iblk m c 4 t)) L0 R 24 le_rfl)) := by
  intro h p j
  have hh := h.isLt
  have H := run_head (payN arg3 harg3 arg4 harg4 arg5 harg5 arg6 harg6 (iblk m c 1 t) (iblk m c 2 t) (iblk m c 3 t) (iblk m c 4 t)) L0 R stored
    (good m c ⟨t.val / 11, hb⟩ (768 * (t.val % 11))) (step_good m c hf t hb arg3 harg3 arg4 harg4 arg5 harg5 arg6 harg6) hR h0 24 le_rfl h.val hh (Or.inr (by omega))
  rw [show (24 + 3 - h.val) / 4 = 6 by omega] at H
  exact (congrArg (View.canon _) (emb_head h h.val (by omega) j _).symm).trans (H hh p j)

/-- The same from what the point before left. -/
theorem carried_step (c : Dev nD) (hf : Finite m c) (t : Fin cfg0.N) (hb : t.val / 11 < 2)
    (arg3 : Memref sig .tc .vmem S1x768x256 .f32) (harg3 : arg3.IsWhole) (arg4 : Memref sig .tc .vmem S1x768x256 .f32) (harg4 : arg4.IsWhole)
    (arg5 : Memref sig .tc .vmem S1x768x512 .bf16) (harg5 : arg5.IsWhole) (arg6 : Memref sig .tc .vmem S1152x128 .bf16) (harg6 : arg6.IsWhole)
    (arg10 : Memref sig .tc .vmem S4x128x128 .f32) (harg10 : arg10.IsWhole) (xs : Vec Ideal S4x128x128 .f32) (hx : carried m c ⟨t.val / 11, hb⟩ (768 * (t.val % 11)) xs) :
    carried m c ⟨t.val / 11, hb⟩ (768 * (t.val % 11) + 768)
      (View.canon (runOf (payN arg3 harg3 arg4 harg4 arg5 harg5 arg6 harg6 (iblk m c 1 t) (iblk m c 2 t) (iblk m c 3 t) (iblk m c 4 t)) [] (readCarried arg10 harg10 xs) 24 le_rfl)) := by
  refine carried_of m c hf t hb arg3 harg3 arg4 harg4 arg5 harg5 arg6 harg6 [] (readCarried arg10 harg10 xs) False (fun n L hL => ?_) False.elim
  by_cases hn : n.val < 4
  · rw [readCarried_low _ _ _ _ _ hn]
    intro hh p j
    have e : n.val / 4 = 0 := by omega
    rw [e]
    exact (congrArg xs (emb_head ⟨n.val % 4, hh⟩ n.val rfl j _)).trans (hx ⟨n.val % 4, hh⟩ p j)
  · rw [readCarried_high _ _ _ _ _ (by omega)]
    exact hL (Or.inr (by omega))

theorem state_first (c : Dev nD) (hf : Finite m c) (t : Fin cfg0.N) (hb : t.val / 11 < 2) (h0 : t.val % 11 = 0) :
    carried m c ⟨t.val / 11, hb⟩ (768 * (t.val % 11) + 768) (outsAt0 m c t.val t.isLt).2.2 := by
  rw [outsAt0_A m c t h0 (by omega)]
  dsimp only
  unfold sout0_A_0
  rw [View.read_writes_junk_eq_canon, run_A]
  refine carried_of m c hf t hb _ _ _ _ _ _ _ _ zeroed (readStored scM0_0) True (fun n L hL => ?_) fun _ h hh hh' p j => ?_
  · rw [readStored_eq]
    exact hL (Or.inl trivial)
  · rw [head_zeroed, pay6_apply, h0]
    exact (decayed_zero _ _ _).symm

theorem state_next (c : Dev nD) (hf : Finite m c) (t : Fin cfg0.N) (hb : t.val / 11 < 2) (h0 : ¬t.val % 11 = 0)
    (hx : carried m c ⟨t.val / 11, hb⟩ (768 * (t.val % 11)) (outsAt0 m c (t.val - 1) (Nat.lt_of_le_of_lt (Nat.sub_le _ _) t.isLt)).2.2) :
    carried m c ⟨t.val / 11, hb⟩ (768 * (t.val % 11) + 768) (outsAt0 m c t.val t.isLt).2.2 := by
  by_cases h1 : t.val % 11 = 10
  · rw [outsAt0_C m c t h0 h1]
    dsimp only
    unfold sout0_C_0
    rw [View.read_writes_junk_eq_canon, run_C]
    exact carried_step m c hf t hb _ _ _ _ _ _ _ _ _ _ _ hx
  · rw [outsAt0_B m c t h0 h1]
    dsimp only
    unfold sout0_B_0
    rw [View.read_writes_junk_eq_canon, run_B]
    exact carried_step m c hf t hb _ _ _ _ _ _ _ _ _ _ _ hx

/-- The state each point leaves. -/
theorem state_after (c : Dev nD) (hf : Finite m c) : ∀ (n : ℕ) (hn : n < cfg0.N) (hb : n / 11 < 2), carried m c ⟨n / 11, hb⟩ (768 * (n % 11) + 768) (outsAt0 m c n hn).2.2
  | 0, hn, hb => state_first m c hf ⟨0, hn⟩ hb rfl
  | n + 1, hn, hb => by
    by_cases h0 : (n + 1) % 11 = 0
    · exact state_first m c hf ⟨n + 1, hn⟩ hb h0
    · refine state_next m c hf ⟨n + 1, hn⟩ hb h0 ?_
      have ih := state_after c hf n (Nat.lt_of_succ_lt hn) (by omega)
      have e : (⟨n / 11, by omega⟩ : Fin 2) = ⟨(n + 1) / 11, hb⟩ := Fin.ext (by show n / 11 = (n + 1) / 11; omega)
      rw [e, show 768 * (n % 11) + 768 = 768 * ((n + 1) % 11) by omega] at ih
      exact ih

/-- The last point of a batch writes every head's state. -/
theorem block_7 (c : Dev nD) (hf : Finite m c) (t : Fin cfg0.N) (hb : t.val / 11 < 2) (h1 : t.val % 11 = 10) (h : Fin 4) (p : Fin 64) (j : Fin 128) :
    (outsAt0 m c t.val t.isLt).2.1 (ix4 0 h p j)
      = stateAt (m ((c.tc : Thread nD τ).loc main_arg1)) (m ((c.tc : Thread nD τ).loc main_arg2)) (m ((c.tc : Thread nD τ).loc main_arg3)) ⟨t.val / 11, hb⟩ h p j 8448 := by
  have h0 : ¬t.val % 11 = 0 := by omega
  have hs := state_after m c hf t.val t.isLt hb
  rw [outsAt0_C m c t h0 h1] at hs ⊢
  dsimp only at hs ⊢
  unfold sout0_C_0 at hs
  unfold out0_C_7
  rw [View.read_writes_junk_eq_canon] at hs ⊢
  rw [out_C]
  have hh := h.isLt
  refine View.canon_ofFn_unit_eq_of_forall (S := S1x4x64x128) (fun n => ![0, 3 - n.val, 0, 0]) S1x1x64x128.size inb_final _ _ _ ⟨⟨3 - h.val, by omega⟩, fun a => ?_⟩ fun n x hx => ?_
  · match a with
    | ⟨0, _⟩ => show 0 ≤ 0 ∧ 0 < 0 + 1; omega
    | ⟨1, _⟩ => show 3 - (3 - h.val) ≤ h.val ∧ h.val < 3 - (3 - h.val) + 1; omega
    | ⟨2, _⟩ => show 0 ≤ p.val ∧ p.val < 0 + 64; have := p.isLt; omega
    | ⟨3, _⟩ => show 0 ≤ j.val ∧ j.val < 0 + 128; have := j.isLt; omega
  · have e1 : h.val = 3 - n.val + (x 1).val := hx 1
    have e2 : p.val = 0 + (x 2).val := hx 2
    have e3 : j.val = 0 + (x 3).val := hx 3
    have l0 : (x 0).val < 1 := (x 0).isLt
    have l1 : (x 1).val < 1 := (x 1).isLt
    have hy : x = ix4 (0 : Fin 1) (0 : Fin 1) p j := funext fun a => Fin.ext (by
      match a with
      | ⟨0, _⟩ => show (x 0).val = 0; omega
      | ⟨1, _⟩ => show (x 1).val = 0; omega
      | ⟨2, _⟩ => show (x 2).val = p.val; omega
      | ⟨3, _⟩ => show (x 3).val = j.val; omega)
    have hn : 3 - n.val = h.val := by omega
    rw [hy, hn, outP_apply, View.readCov_eq_canon']
    refine (congrArg (View.canon _) (emb_head h h.val (by omega) j _)).trans ((hs h p j).trans ?_)
    rw [h1]

theorem final_7 (c : Dev nD) (hf : Finite m c) : (dats m 0 c).arrAt 7 cfg0.N
    = fun y => stateAt (m ((c.tc : Thread nD τ).loc main_arg1)) (m ((c.tc : Thread nD τ).loc main_arg2)) (m ((c.tc : Thread nD τ).loc main_arg3)) (y 0) (y 1) (y 2) (y 3) 8448 := by
  refine (dats m 0 c).arrAt_eq_of_covers 7 _ (by decide +kernel) fun t hf' y => ?_
  have ht : t.val < 22 := t.isLt
  have hb : t.val / 11 < 2 := by omega
  have h0 : (y 0).val < 1 := (y 0).isLt
  have he : (win0_7.blk t).view.emb y = ix4 (⟨t.val / 11, hb⟩ : Fin 2) (y 1) (y 2) (y 3) := funext fun a => Fin.ext (by
    match a with
    | ⟨0, _⟩ => blk_simp [index_7]
    | ⟨1, _⟩ => blk_simp [index_7]; rfl
    | ⟨2, _⟩ => blk_simp [index_7]; rfl
    | ⟨3, _⟩ => blk_simp [index_7]; rfl)
  have hy : y = ix4 (0 : Fin 1) (y 1) (y 2) (y 3) := funext fun a => Fin.ext (by
    match a with
    | ⟨0, _⟩ => show (y 0).val = 0; omega
    | ⟨1, _⟩ => rfl
    | ⟨2, _⟩ => rfl
    | ⟨3, _⟩ => rfl)
  blk_simp
  rw [after0_7, he]
  exact (congrArg _ hy).trans (block_7 m c hf t hb ((flush0_7 t).mp hf') (y 1) (y 2) (y 3))

/-- The run: the second result holds every batch's and head's state, and every argument is unchanged. -/
theorem run (hf : ∀ c, Finite m c) : θ_run defs (onTc (τ := τ) (main (F := Ideal))) ⟨m, fun _ => 0, ρ⟩ (fun r => ∀ c : Dev nD,
      r.2.mem ((c.tc : Thread nD τ).loc main_v9_1) = (fun y => stateAt (m ((c.tc : Thread nD τ).loc main_arg1)) (m ((c.tc : Thread nD τ).loc main_arg2)) (m ((c.tc : Thread nD τ).loc main_arg3)) (y 0) (y 1) (y 2) (y 3) 8448)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 7).trans (final_7 m c (hf c)), h.2 c⟩) (θ_run_and (run_main m ρ) (unchanged m ρ))

end kernel

theorem kernel_frame : Cert.quiescent_Kernel7 := fun m ρ _ => Cert.Kernel7.Gen.frame m ρ

theorem ideal_frame : Cert.quiescent_Kernel7Ideal := fun m ρ _ => Cert.Kernel7Ideal.Gen.frame m ρ

theorem reference_frame : Cert.quiescent_Reference7Ideal := fun m ρ _ =>
  (θ_run (Cert.Reference7Ideal.defs (F := Ideal)) _ _).mono
    (fun r h => ⟨fun c => (h c).2, sem_eq_zero_of_no_sems (by decide) r.2⟩) (Cert.Reference7Ideal.Value.run (F := Ideal) m ρ)

theorem state_agree (k lg : FVec Ideal Cert.Reference7Ideal.S2x8448x256 .f32) (v : FVec Ideal Cert.Reference7Ideal.S2x8448x512 .bf16) (hf : ∀ y, ∃ r : ℝ, lg y = (r : EReal)) :
    stateR k (sumsR lg) v = fun y => stateAt k lg v (y 0) (y 1) (y 2) (y 3) 8448 := by
  funext y
  refine (congrArg _ (eq_ix4 y)).trans (stateR_eq k lg v (y 0) (y 1) (y 2) (y 3) (decs lg (y 0) (y 1) (y 2)) fun u _ => ?_)
  obtain ⟨r, hr⟩ := hf (ix3 (y 0) (Fin.ofNat 8448 u) ⟨(y 1).val * 64 + (y 2).val, by have h1 : (y 1).val < 4 := (y 1).isLt; have h2 : (y 2).val < 64 := (y 2).isLt; omega⟩)
  refine hr.trans (congrArg _ ((congrArg EReal.toReal hr).trans (EReal.toReal_coe r)).symm)

/-- Both runs end with the same state. -/
theorem algebraic : Cert.algebraic_Kernel7Ideal_Reference7Ideal_pre_gla_inputs := by
  intro m ρ m' ρ' hpre hagree
  have hf : ∀ c, Finite m c := fun c y => finite_of _ _ _ _ _ _ (hpre c) y
  refine ⟨_, run m ρ hf,
    (θ_run (Cert.Reference7Ideal.defs (F := Ideal)) _ _).mono (fun _ h c => ⟨(h c).1.trans ?_, (h c).2⟩)
      (term_eq m' ρ')⟩
  rw [(hagree c).2.1, (hagree c).2.2.1, (hagree c).2.2.2.1]
  exact state_agree _ _ _ (hf c)
end Cert.Proof.Gla

end
-- ==== Proof.lean ====
/-
  The certificate of the causal attention kernel, of the feed-forward kernel, of the merge kernel, of the prompt's and the sample
  group's input projections, of the linear attention's step and of its final state over a prompt: each kernel runs, the idealised attention kernel is the kernel with its mask named, and over the extended reals each idealised kernel and its
  reference compute the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_fox_inputs
public import proofs.«01_k».proof.Proof.Gen.Pre_gla_inputs
public import proofs.«01_k».proof.Proof.KernelFrame
public import proofs.«01_k».proof.Proof.Launch
public import proofs.«01_k».proof.Proof.Reference
public import proofs.«01_k».proof.Proof.Ffn
public import proofs.«01_k».proof.Proof.Merge
public import proofs.«01_k».proof.Proof.Inproj
public import proofs.«01_k».proof.Proof.Sample
public import proofs.«01_k».proof.Proof.Decode
public import proofs.«01_k».proof.Proof.Gla
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem kernel_frame : Cert.quiescent_Kernel := fun m ρ _ => Kernel.frame_run m ρ

theorem ideal_frame : Cert.quiescent_KernelIdeal := fun m ρ _ =>
  (θ_run (Cert.KernelIdeal.defs (F := Ideal)) _ _).mono (fun _ h => ⟨fun c => (h.1 c).2, h.2⟩) (Launch.run m ρ)

theorem reference_frame : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Both runs end with the attention's quotients in the result array. -/
theorem algebraic : Cert.algebraic_KernelIdeal_ReferenceIdeal_pre_fox_inputs := by
  intro m ρ m' ρ' hpre hagree
  refine ⟨fun c => Launch.attended (Launch.arg0 m c) (Launch.arg1 m c) (Launch.arg2 m c),
    (θ_run (Cert.KernelIdeal.defs (F := Ideal)) _ _).mono (fun _ h => h.1) (Launch.run m ρ),
    (θ_run (Cert.ReferenceIdeal.defs (F := Ideal)) _ _).mono (fun _ h c => ⟨(h c).1.trans ?_, (h c).2⟩)
      (Cert.ReferenceIdeal.Value.run (F := Ideal) m' ρ')⟩
  refine (Reference.term_eq m' c).trans ?_
  rw [(hagree c).1, (hagree c).2.1, (hagree c).2.2]
  exact Reference.agree (Reference.inputs_of (hpre c).1 (hpre c).2.1 (hpre c).2.2.1 (hpre c).2.2.2)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_fox_inputs.Gen.facts, Cert.Pre_gla_inputs.Gen.facts,
    kernel_frame, ideal_frame, fun m ρ _ => ideal_frame m ρ trivial, reference_frame, fun m ρ _ => reference_frame m ρ trivial,
    Ffn.kernel_frame, Ffn.ideal_frame, Ffn.reference_frame, Merge.kernel_frame, Merge.ideal_frame, Merge.reference_frame,
    Inproj.kernel_frame, Inproj.ideal_frame, Inproj.reference_frame, Sample.kernel_frame, Sample.ideal_frame, Sample.reference_frame,
    Decode.kernel_frame, Decode.ideal_frame, Decode.reference_frame,
    Gla.kernel_frame, Gla.ideal_frame, fun m ρ _ => Gla.ideal_frame m ρ trivial, Gla.reference_frame, fun m ρ _ => Gla.reference_frame m ρ trivial,
    IdealRules.named_const.statement Cert.KernelIdeal.κ "mask" .f32 0xF149F2CA#32 ⊥ rfl, algebraic,
    trivial, Ffn.algebraic, trivial, Merge.algebraic, trivial, Inproj.algebraic, trivial, Sample.algebraic, trivial, Decode.algebraic, trivial, Gla.algebraic⟩

end Cert.Proof

end
